-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.2.2.2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.2.2.2.2.2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v111_0)) (v1 : (c : Dev Cert.KernelIdeal.nD) → Buf (Elt Ideal) ((c.tc : Thread Cert.KernelIdeal.nD Cert.KernelIdeal.τ).loc Cert.KernelIdeal.main_v111_1)) (v2 : (c : Dev Cert.KernelIdeal.nD) → Buf (Elt Ideal) ((c.tc : Thread Cert.KernelIdeal.nD Cert.KernelIdeal.τ).loc Cert.KernelIdeal.main_v111_2)) (v3 : (c : Dev Cert.KernelIdeal.nD) → Buf (Elt Ideal) ((c.tc : Thread Cert.KernelIdeal.nD Cert.KernelIdeal.τ).loc Cert.KernelIdeal.main_v111_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111_0) = v0 c
          ∧ r.2.mem ((c.tc : Thread Cert.KernelIdeal.nD Cert.KernelIdeal.τ).loc Cert.KernelIdeal.main_v111_1) = v1 c
          ∧ r.2.mem ((c.tc : Thread Cert.KernelIdeal.nD Cert.KernelIdeal.τ).loc Cert.KernelIdeal.main_v111_2) = v2 c
          ∧ r.2.mem ((c.tc : Thread Cert.KernelIdeal.nD Cert.KernelIdeal.τ).loc Cert.KernelIdeal.main_v111_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_2)) (v2 : (c : Dev Cert.Kernel7Ideal.nD) → Buf (Elt Ideal) ((c.tc : Thread Cert.Kernel7Ideal.nD Cert.Kernel7Ideal.τ).loc Cert.Kernel7Ideal.main_v2_3)) (v3 : (c : Dev Cert.Kernel7Ideal.nD) → Buf (Elt Ideal) ((c.tc : Thread Cert.Kernel7Ideal.nD Cert.Kernel7Ideal.τ).loc Cert.Kernel7Ideal.main_v2_4)) (v4 : (c : Dev Cert.Kernel7Ideal.nD) → Buf (Elt Ideal) ((c.tc : Thread Cert.Kernel7Ideal.nD Cert.Kernel7Ideal.τ).loc Cert.Kernel7Ideal.main_v2_5)) (v5 : (c : Dev Cert.Kernel7Ideal.nD) → Buf (Elt Ideal) ((c.tc : Thread Cert.Kernel7Ideal.nD Cert.Kernel7Ideal.τ).loc Cert.Kernel7Ideal.main_v2_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_2) = v1 c
          ∧ r.2.mem ((c.tc : Thread Cert.Kernel7Ideal.nD Cert.Kernel7Ideal.τ).loc Cert.Kernel7Ideal.main_v2_3) = v2 c
          ∧ r.2.mem ((c.tc : Thread Cert.Kernel7Ideal.nD Cert.Kernel7Ideal.τ).loc Cert.Kernel7Ideal.main_v2_4) = v3 c
          ∧ r.2.mem ((c.tc : Thread Cert.Kernel7Ideal.nD Cert.Kernel7Ideal.τ).loc Cert.Kernel7Ideal.main_v2_5) = v4 c
          ∧ r.2.mem ((c.tc : Thread Cert.Kernel7Ideal.nD Cert.Kernel7Ideal.τ).loc Cert.Kernel7Ideal.main_v2_6) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v85) = v0 c
          ∧ r.2.mem ((c.tc : Thread Cert.Reference7Ideal.nD Cert.Reference7Ideal.τ).loc Cert.Reference7Ideal.main_v86) = v1 c
          ∧ r.2.mem ((c.tc : Thread Cert.Reference7Ideal.nD Cert.Reference7Ideal.τ).loc Cert.Reference7Ideal.main_v62) = v2 c
          ∧ r.2.mem ((c.tc : Thread Cert.Reference7Ideal.nD Cert.Reference7Ideal.τ).loc Cert.Reference7Ideal.main_v87) = v3 c
          ∧ r.2.mem ((c.tc : Thread Cert.Reference7Ideal.nD Cert.Reference7Ideal.τ).loc Cert.Reference7Ideal.main_v68) = v4 c
          ∧ r.2.mem ((c.tc : Thread Cert.Reference7Ideal.nD Cert.Reference7Ideal.τ).loc Cert.Reference7Ideal.main_v46) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v45) = v0 c
          ∧ r.2.mem ((c.tc : Thread Cert.Reference9Ideal.nD Cert.Reference9Ideal.τ).loc Cert.Reference9Ideal.main_v31) = v1 c
          ∧ r.2.mem ((c.tc : Thread Cert.Reference9Ideal.nD Cert.Reference9Ideal.τ).loc Cert.Reference9Ideal.main_v44) = v2 c
          ∧ r.2.mem ((c.tc : Thread Cert.Reference9Ideal.nD Cert.Reference9Ideal.τ).loc Cert.Reference9Ideal.main_v46) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)) (v3 : (c : Dev Cert.Kernel10Ideal.nD) → Buf (Elt Ideal) ((c.tc : Thread Cert.Kernel10Ideal.nD Cert.Kernel10Ideal.τ).loc Cert.Kernel10Ideal.main_v2_3)) (v4 : (c : Dev Cert.Kernel10Ideal.nD) → Buf (Elt Ideal) ((c.tc : Thread Cert.Kernel10Ideal.nD Cert.Kernel10Ideal.τ).loc Cert.Kernel10Ideal.main_v2_4)) (v5 : (c : Dev Cert.Kernel10Ideal.nD) → Buf (Elt Ideal) ((c.tc : Thread Cert.Kernel10Ideal.nD Cert.Kernel10Ideal.τ).loc Cert.Kernel10Ideal.main_v2_5)) (v6 : (c : Dev Cert.Kernel10Ideal.nD) → Buf (Elt Ideal) ((c.tc : Thread Cert.Kernel10Ideal.nD Cert.Kernel10Ideal.τ).loc Cert.Kernel10Ideal.main_v2_6)) (v7 : (c : Dev Cert.Kernel10Ideal.nD) → Buf (Elt Ideal) ((c.tc : Thread Cert.Kernel10Ideal.nD Cert.Kernel10Ideal.τ).loc Cert.Kernel10Ideal.main_v2_7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_v2_3) = v3 c
          ∧ r.2.mem ((c.tc : Thread Cert.Kernel10Ideal.nD Cert.Kernel10Ideal.τ).loc Cert.Kernel10Ideal.main_v2_4) = v4 c
          ∧ r.2.mem ((c.tc : Thread Cert.Kernel10Ideal.nD Cert.Kernel10Ideal.τ).loc Cert.Kernel10Ideal.main_v2_5) = v5 c
          ∧ r.2.mem ((c.tc : Thread Cert.Kernel10Ideal.nD Cert.Kernel10Ideal.τ).loc Cert.Kernel10Ideal.main_v2_6) = v6 c
          ∧ r.2.mem ((c.tc : Thread Cert.Kernel10Ideal.nD Cert.Kernel10Ideal.τ).loc Cert.Kernel10Ideal.main_v2_7) = v7 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v105) = v0 c
          ∧ r.2.mem ((c.tc : Thread Cert.Reference10Ideal.nD Cert.Reference10Ideal.τ).loc Cert.Reference10Ideal.main_v106) = v1 c
          ∧ r.2.mem ((c.tc : Thread Cert.Reference10Ideal.nD Cert.Reference10Ideal.τ).loc Cert.Reference10Ideal.main_v107) = v2 c
          ∧ r.2.mem ((c.tc : Thread Cert.Reference10Ideal.nD Cert.Reference10Ideal.τ).loc Cert.Reference10Ideal.main_v70) = v3 c
          ∧ r.2.mem ((c.tc : Thread Cert.Reference10Ideal.nD Cert.Reference10Ideal.τ).loc Cert.Reference10Ideal.main_v108) = v4 c
          ∧ r.2.mem ((c.tc : Thread Cert.Reference10Ideal.nD Cert.Reference10Ideal.τ).loc Cert.Reference10Ideal.main_v49) = v5 c
          ∧ r.2.mem ((c.tc : Thread Cert.Reference10Ideal.nD Cert.Reference10Ideal.τ).loc Cert.Reference10Ideal.main_v68) = v6 c
          ∧ r.2.mem ((c.tc : Thread Cert.Reference10Ideal.nD Cert.Reference10Ideal.τ).loc Cert.Reference10Ideal.main_v88) = v7 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts) (hPre_finite7 : Cert.Pre_finite7.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S4096x1024 : Shape := ⟨2, ![4096, 1024]⟩
abbrev S8x4096 : Shape := ⟨2, ![8, 4096]⟩
abbrev S_ : Shape := ⟨0, ![]⟩

class Facts : Prop where
  bcast_S_S4096x1024 : S_.BroadcastsInDim S4096x1024 (![] : Fin 0 → Fin S4096x1024.rank)
  bcast_S_S8x4096 : S_.BroadcastsInDim S8x4096 (![] : Fin 0 → Fin S8x4096.rank)

variable [Facts]

def fn {F : FTy → Type} [FloatOps F] (main_arg0 : FVec F S4096x1024 .f32) (main_arg1 : FVec F S4096x1024 .f32) (main_arg2 : FVec F S4096x1024 .f32) (main_arg3 : FVec F S8x4096 .f32) (main_arg4 : FVec F S4096x1024 .f32) : IVec S4096x1024 1 × IVec S4096x1024 1 × IVec S4096x1024 1 × IVec S8x4096 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S8x4096 .f32 := Host.absf main_arg3
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite10.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)
  bcast_S_S1024x1024 : S_.BroadcastsInDim S1024x1024 (![] : Fin 0 → Fin S1024x1024.rank)
  bcast_S_S256x1024 : S_.BroadcastsInDim S256x1024 (![] : Fin 0 → Fin S256x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024 .f32) (main_arg8 : FVec F S1x1024 .f32) (main_v2 : IVec S4096x1024 1) (main_v5 : IVec S4096x256 1) (main_v8 : IVec S4096x1024 1) (main_v11 : IVec S4096x1024 1) (main_v14 : IVec S1024x1024 1) (main_v17 : IVec S256x1024 1) : IVec S4096x1024 1 × IVec S4096x256 1 × IVec S4096x1024 1 × IVec S4096x1024 1 × IVec S1024x1024 1 × IVec S256x1024 1 × IVec S1x1024 1 × IVec S1x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  (main_v2, main_v5, main_v8, main_v11, main_v14, main_v17, main_v20, main_v23, main_v26)

def fn {F : FTy → Type} [FloatOps F] (main_arg0 : FVec F S4096x1024 .f32) (main_arg1 : FVec F S4096x256 .f32) (main_arg2 : FVec F S4096x1024 .f32) (main_arg3 : FVec F S4096x1024 .f32) (main_arg4 : FVec F S1024x1024 .f32) (main_arg5 : FVec F S256x1024 .f32) (main_arg6 : FVec F S1x1024 .f32) (main_arg7 : FVec F S1x1024 .f32) (main_arg8 : FVec F S1x1024 .f32) : IVec S4096x1024 1 × IVec S4096x256 1 × IVec S4096x1024 1 × IVec S4096x1024 1 × IVec S1024x1024 1 × IVec S256x1024 1 × IVec S1x1024 1 × IVec S1x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S256x1024 .f32 := Host.absf main_arg5
  let main_cst_4 : FVec F S_ .f32 := constant S_ .f32 0x7F800000#32
  let main_v16 : FVec F S256x1024 .f32 := broadcastInDim S256x1024 ![] bcast_S_S256x1024 main_cst_4
  let main_v17 : IVec S256x1024 1 := cmpf .olt main_v15 main_v16
  fn_part1 (F := F) main_arg6 main_arg7 main_arg8 main_v2 main_v5 main_v8 main_v11 main_v14 main_v17
-- ==== Pre_finite2.lean ====
abbrev S4096x1024 : Shape := ⟨2, ![4096, 1024]⟩
abbrev S4096x128 : Shape := ⟨2, ![4096, 128]⟩
abbrev S1024x3200 : Shape := ⟨2, ![1024, 3200]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S4096x128 : S_.BroadcastsInDim S4096x128 (![] : Fin 0 → Fin S4096x128.rank)
  bcast_S_S1024x3200 : S_.BroadcastsInDim S1024x3200 (![] : Fin 0 → Fin S1024x3200.rank)
  bcast_S_S1x1024 : S_.BroadcastsInDim S1x1024 (![] : Fin 0 → Fin S1x1024.rank)

variable [Facts]

def fn_part1 {F : FTy → Type} [FloatOps F] (main_arg6 : FVec F S1024x3200 .f32) (main_arg8 : FVec F S1x1024 .f32) (main_v2 : IVec S4096x1024 1) (main_v5 : IVec S4096x1024 1) (main_v8 : IVec S4096x1024 1) (main_v11 : IVec S4096x1024 1) (main_v14 : IVec S4096x1024 1) (main_v17 : IVec S4096x128 1) : IVec S4096x1024 1 × IVec S4096x1024 1 × IVec S4096x1024 1 × IVec S4096x1024 1 × IVec S4096x1024 1 × IVec S4096x128 1 × IVec S1024x3200 1 × IVec S1x1024 1 :=
  let main_v18 : FVec F S1024x3200 .f32 := Host.absf main_arg6
  let main_cst_5 : FVec F S_ .f32 := constant S_ .f32 0x7F800000#32
  let main_v19 : FVec F S1024x3200 .f32 := broadcastInDim S1024x3200 ![] bcast_S_S1024x3200 main_cst_5
  let main_v20 : IVec S1024x3200 1 := cmpf .olt main_v18 main_v19
  let main_v21 : FVec F S1x1024 .f32 := Host.absf main_arg8
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  (main_v2, main_v5, main_v8, main_v11, main_v14, main_v17, main_v20, main_v23)

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S4096x128 .f32) (main_arg6 : FVec F S1024x3200 .f32) (main_arg7 : FVec F S4096x1024 .f32) (main_arg8 : FVec F S1x1024 .f32) : IVec S4096x1024 1 × IVec S4096x1024 1 × IVec S4096x1024 1 × IVec S4096x1024 1 × IVec S4096x1024 1 × IVec S4096x128 1 × IVec S1024x3200 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S4096x128 .f32 := Host.absf main_arg5
  let main_cst_4 : FVec F S_ .f32 := constant S_ .f32 0x7F800000#32
  let main_v16 : FVec F S4096x128 .f32 := broadcastInDim S4096x128 ![] bcast_S_S4096x128 main_cst_4
  let main_v17 : IVec S4096x128 1 := cmpf .olt main_v15 main_v16
  fn_part1 (F := F) main_arg6 main_arg8 main_v2 main_v5 main_v8 main_v11 main_v14 main_v17
-- ==== Pre_finite7.lean ====
abbrev S4096x1024 : Shape := ⟨2, ![4096, 1024]⟩
abbrev S4096x3200 : Shape := ⟨2, ![4096, 3200]⟩
abbrev S2048x1024 : Shape := ⟨2, ![2048, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S4096x3200 : S_.BroadcastsInDim S4096x3200 (![] : Fin 0 → Fin S4096x3200.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn_part1 {F : FTy → Type} [FloatOps F] (main_arg6 : FVec F S1x1024 .f32) (main_v2 : IVec S4096x1024 1) (main_v5 : IVec S4096x1024 1) (main_v8 : IVec S4096x3200 1) (main_v11 : IVec S4096x1024 1) (main_v14 : IVec S2048x1024 1) (main_v17 : IVec S1x1024 1) : IVec S4096x1024 1 × IVec S4096x1024 1 × IVec S4096x3200 1 × IVec S4096x1024 1 × IVec S2048x1024 1 × IVec S1x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S4096x3200 .f32) (main_arg3 : FVec F S4096x1024 .f32) (main_arg4 : FVec F S2048x1024 .f32) (main_arg5 : FVec F S1x1024 .f32) (main_arg6 : FVec F S1x1024 .f32) : IVec S4096x1024 1 × IVec S4096x1024 1 × IVec S4096x3200 1 × IVec S4096x1024 1 × IVec S2048x1024 1 × IVec S1x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x3200 .f32 := Host.absf main_arg2
  let main_cst_1 : FVec F S_ .f32 := constant S_ .f32 0x7F800000#32
  let main_v7 : FVec F S4096x3200 .f32 := broadcastInDim S4096x3200 ![] bcast_S_S4096x3200 main_cst_1
  let main_v8 : IVec S4096x3200 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Kernel.lean ====
abbrev S4096x1024 : Shape := ⟨2, ![4096, 1024]⟩
abbrev S8x4096 : Shape := ⟨2, ![8, 4096]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S8x1x4096 : Shape := ⟨3, ![8, 1, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096x1 : Shape := ⟨3, ![8, 4096, 1]⟩
abbrev S32768x128 : Shape := ⟨2, ![32768, 128]⟩
abbrev S4096x3072 : Shape := ⟨2, ![4096, 3072]⟩
abbrev S8x128 : Shape := ⟨2, ![8, 128]⟩
abbrev S4x64x1024 : Shape := ⟨3, ![4, 64, 1024]⟩
abbrev S1024x128 : Shape := ⟨2, ![1024, 128]⟩
abbrev S1x1024x128 : Shape := ⟨3, ![1, 1024, 128]⟩
abbrev S4096x128 : Shape := ⟨2, ![4096, 128]⟩
abbrev S1x4096x128 : Shape := ⟨3, ![1, 4096, 128]⟩
abbrev S1x8x1024 : Shape := ⟨3, ![1, 8, 1024]⟩
abbrev S1024x256 : Shape := ⟨2, ![1024, 256]⟩
abbrev S8x1024 : Shape := ⟨2, ![8, 1024]⟩
abbrev S512x128 : Shape := ⟨2, ![512, 128]⟩
abbrev S1x512x128 : Shape := ⟨3, ![1, 512, 128]⟩
abbrev S512x256 : Shape := ⟨2, ![512, 256]⟩
abbrev S512x512 : Shape := ⟨2, ![512, 512]⟩
abbrev S64x8x512 : Shape := ⟨3, ![64, 8, 512]⟩
abbrev S8x512 : Shape := ⟨2, ![8, 512]⟩
abbrev S512x1024 : Shape := ⟨2, ![512, 1024]⟩
abbrev S64x8x1024 : Shape := ⟨3, ![64, 8, 1024]⟩
abbrev S1024x1024 : Shape := ⟨2, ![1024, 1024]⟩
abbrev S128x8x1024 : Shape := ⟨3, ![128, 8, 1024]⟩
abbrev S1024 : Shape := ⟨1, ![1024]⟩
abbrev S1x1024 : Shape := ⟨2, ![1, 1024]⟩

abbrev nBuf : Space → Nat
  | .hbm => 152
  | .vmem => 26
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S8x4096, .f32⟩
  | 4 => ⟨S4096x1024, .f32⟩
  | 5 => ⟨S4096x8x128, .f32⟩
  | 6 => ⟨S8x4096x128, .f32⟩
  | 7 => ⟨S4096x8x128, .f32⟩
  | 8 => ⟨S8x4096x128, .f32⟩
  | 9 => ⟨S8x4096x4096, .f32⟩
  | 10 => ⟨S_, .f32⟩
  | 11 => ⟨S8x4096x4096, .f32⟩
  | 12 => ⟨S8x4096x4096, .f32⟩
  | 13 => ⟨S8x1x4096, .f32⟩
  | 14 => ⟨S8x4096x4096, .f32⟩
  | 15 => ⟨S8x4096x4096, .f32⟩
  | 16 => ⟨S4096, .i32⟩
  | 17 => ⟨S1x1x4096, .i32⟩
  | 18 => ⟨S4096, .i32⟩
  | 19 => ⟨S1x4096x1, .i32⟩
  | 20 => ⟨S1x4096x4096, .i32⟩
  | 21 => ⟨S1x4096x4096, .i32⟩
  | 22 => ⟨S1x4096x4096, .i1⟩
  | 23 => ⟨S_, .f32⟩
  | 24 => ⟨S_, .f32⟩
  | 25 => ⟨S8x4096x4096, .i1⟩
  | 26 => ⟨S8x4096x4096, .f32⟩
  | 27 => ⟨S8x4096x4096, .f32⟩
  | 28 => ⟨S_, .f32⟩
  | 29 => ⟨S8x4096, .f32⟩
  | 30 => ⟨S8x4096x1, .f32⟩
  | 31 => ⟨S8x4096x4096, .f32⟩
  | 32 => ⟨S8x4096x4096, .f32⟩
  | 33 => ⟨S8x4096x4096, .f32⟩
  | 34 => ⟨S_, .f32⟩
  | 35 => ⟨S8x4096, .f32⟩
  | 36 => ⟨S8x4096x1, .f32⟩
  | 37 => ⟨S8x4096x4096, .f32⟩
  | 38 => ⟨S8x4096x4096, .f32⟩
  | 39 => ⟨S4096x8x128, .f32⟩
  | 40 => ⟨S8x4096x128, .f32⟩
  | 41 => ⟨S8x4096x128, .f32⟩
  | 42 => ⟨S4096x8x128, .f32⟩
  | 43 => ⟨S8x4096x128, .f32⟩
  | 44 => ⟨S8x4096x128, .f32⟩
  | 45 => ⟨S_, .f32⟩
  | 46 => ⟨S8x4096, .f32⟩
  | 47 => ⟨S8x4096x1, .f32⟩
  | 48 => ⟨S8x4096x128, .f32⟩
  | 49 => ⟨S_, .f32⟩
  | 50 => ⟨S_, .f32⟩
  | 51 => ⟨S8x4096x1, .f32⟩
  | 52 => ⟨S8x4096x1, .f32⟩
  | 53 => ⟨S8x4096x1, .f32⟩
  | 54 => ⟨S8x4096x1, .f32⟩
  | 55 => ⟨S8x4096x1, .f32⟩
  | 56 => ⟨S8x4096x128, .f32⟩
  | 57 => ⟨S32768x128, .f32⟩
  | 58 => ⟨S32768x128, .i32⟩
  | 59 => ⟨S32768x128, .bf16⟩
  | 60 => ⟨S32768x128, .f32⟩
  | 61 => ⟨S32768x128, .f32⟩
  | 62 => ⟨S32768x128, .bf16⟩
  | 63 => ⟨S32768x128, .f32⟩
  | 64 => ⟨S32768x128, .f32⟩
  | 65 => ⟨S32768x128, .f32⟩
  | 66 => ⟨S32768x128, .bf16⟩
  | 67 => ⟨S32768x128, .f32⟩
  | 68 => ⟨S_, .i32⟩
  | 69 => ⟨S32768x128, .i32⟩
  | 70 => ⟨S32768x128, .i1⟩
  | 71 => ⟨S_, .i32⟩
  | 72 => ⟨S32768x128, .i32⟩
  | 73 => ⟨S32768x128, .i1⟩
  | 74 => ⟨S32768x128, .i1⟩
  | 75 => ⟨S_, .f32⟩
  | 76 => ⟨S_, .f32⟩
  | 77 => ⟨S32768x128, .f32⟩
  | 78 => ⟨S32768x128, .f32⟩
  | 79 => ⟨S32768x128, .f32⟩
  | 80 => ⟨S_, .i32⟩
  | 81 => ⟨S32768x128, .i32⟩
  | 82 => ⟨S32768x128, .i1⟩
  | 83 => ⟨S32768x128, .f32⟩
  | 84 => ⟨S32768x128, .f32⟩
  | 85 => ⟨S_, .i32⟩
  | 86 => ⟨S32768x128, .i32⟩
  | 87 => ⟨S32768x128, .i1⟩
  | 88 => ⟨S32768x128, .f32⟩
  | 89 => ⟨S_, .i32⟩
  | 90 => ⟨S32768x128, .i32⟩
  | 91 => ⟨S32768x128, .i1⟩
  | 92 => ⟨S32768x128, .f32⟩
  | 93 => ⟨S32768x128, .bf16⟩
  | 94 => ⟨S8x4096x128, .bf16⟩
  | 95 => ⟨S8x4096x1, .f32⟩
  | 96 => ⟨S8x4096x1, .f32⟩
  | 97 => ⟨S8x4096x1, .f32⟩
  | 98 => ⟨S8x4096x1, .f32⟩
  | 99 => ⟨S8x4096x128, .f32⟩
  | 100 => ⟨S32768x128, .f32⟩
  | 101 => ⟨S32768x128, .i32⟩
  | 102 => ⟨S32768x128, .bf16⟩
  | 103 => ⟨S32768x128, .f32⟩
  | 104 => ⟨S32768x128, .f32⟩
  | 105 => ⟨S32768x128, .bf16⟩
  | 106 => ⟨S32768x128, .f32⟩
  | 107 => ⟨S32768x128, .f32⟩
  | 108 => ⟨S32768x128, .f32⟩
  | 109 => ⟨S32768x128, .bf16⟩
  | 110 => ⟨S32768x128, .f32⟩
  | 111 => ⟨S_, .i32⟩
  | 112 => ⟨S32768x128, .i32⟩
  | 113 => ⟨S32768x128, .i1⟩
  | 114 => ⟨S_, .i32⟩
  | 115 => ⟨S32768x128, .i32⟩
  | 116 => ⟨S32768x128, .i1⟩
  | 117 => ⟨S32768x128, .i1⟩
  | 118 => ⟨S_, .f32⟩
  | 119 => ⟨S_, .f32⟩
  | 120 => ⟨S32768x128, .f32⟩
  | 121 => ⟨S32768x128, .f32⟩
  | 122 => ⟨S32768x128, .f32⟩
  | 123 => ⟨S_, .i32⟩
  | 124 => ⟨S32768x128, .i32⟩
  | 125 => ⟨S32768x128, .i1⟩
  | 126 => ⟨S32768x128, .f32⟩
  | 127 => ⟨S32768x128, .f32⟩
  | _ => ⟨S4096x1024, .f32⟩

abbrev hbmTy0_1 (i : Nat) : BufTy := match i % 128 with
  | 0 => ⟨S_, .i32⟩
  | 1 => ⟨S32768x128, .i32⟩
  | 2 => ⟨S32768x128, .i1⟩
  | 3 => ⟨S32768x128, .f32⟩
  | 4 => ⟨S_, .i32⟩
  | 5 => ⟨S32768x128, .i32⟩
  | 6 => ⟨S32768x128, .i1⟩
  | 7 => ⟨S32768x128, .f32⟩
  | 8 => ⟨S32768x128, .bf16⟩
  | 9 => ⟨S8x4096x128, .bf16⟩
  | 10 => ⟨S_, .f32⟩
  | 11 => ⟨S_, .f32⟩
  | 12 => ⟨S4096x1024, .f32⟩
  | 13 => ⟨S4096x1024, .f32⟩
  | 14 => ⟨S4096x3072, .f32⟩
  | 15 => ⟨S4096x3072, .bf16⟩
  | 16 => ⟨S4096x1024, .bf16⟩
  | 17 => ⟨S_, .f32⟩
  | 18 => ⟨S8x128, .f32⟩
  | 19 => ⟨S4096x1024, .bf16⟩
  | 20 => ⟨S4096x1024, .bf16⟩
  | 21 => ⟨S4096x1024, .bf16⟩
  | 22 => ⟨S4x64x1024, .f32⟩
  | 23 => ⟨S8x4096x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S4096x128, .bf16⟩
  | .local _ .vmem, ⟨7, _⟩ => ⟨S4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S4096x128, .bf16⟩
  | .local _ .vmem, ⟨11, _⟩ => ⟨S4096x128, .bf16⟩
  | .local _ .vmem, ⟨12, _⟩ => ⟨S1x4096x128, .f32⟩
  | .local _ .vmem, ⟨13, _⟩ => ⟨S1x4096x128, .f32⟩
  | .local _ .vmem, ⟨14, _⟩ => ⟨S8x128, .f32⟩
  | .local _ .vmem, ⟨15, _⟩ => ⟨S4096x128, .bf16⟩
  | .local _ .vmem, ⟨16, _⟩ => ⟨S4096x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1x8x1024, .f32⟩
  | .local _ .vmem, ⟨22, _⟩ => ⟨S1x8x1024, .f32⟩
  | .local _ .vmem, ⟨23, _⟩ => ⟨S1x4096x128, .f32⟩
  | .local _ .vmem, ⟨24, _⟩ => ⟨S1x4096x128, .f32⟩
  | .local _ .vmem, ⟨25, _⟩ => ⟨S4096x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c : Ref sig .tc := ⟨.hbm, 68, rfl⟩
abbrev main_v54 : Ref sig .tc := ⟨.hbm, 69, rfl⟩
abbrev main_v55 : Ref sig .tc := ⟨.hbm, 70, rfl⟩
abbrev main_c_5 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_cst_7 : Ref sig .tc := ⟨.hbm, 76, rfl⟩
abbrev main_call1_v0 : Ref sig .tc := ⟨.hbm, 77, rfl⟩
abbrev main_call1_v1 : Ref sig .tc := ⟨.hbm, 78, rfl⟩
abbrev main_v59 : Ref sig .tc := ⟨.hbm, 79, rfl⟩
abbrev main_c_8 : Ref sig .tc := ⟨.hbm, 80, rfl⟩
abbrev main_v60 : Ref sig .tc := ⟨.hbm, 81, rfl⟩
abbrev main_v61 : Ref sig .tc := ⟨.hbm, 82, rfl⟩
abbrev main_call2_v0 : Ref sig .tc := ⟨.hbm, 83, rfl⟩
abbrev main_v62 : Ref sig .tc := ⟨.hbm, 84, rfl⟩
abbrev main_c_9 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_c_11 : Ref sig .tc := ⟨.hbm, 111, rfl⟩
abbrev main_v87 : Ref sig .tc := ⟨.hbm, 112, rfl⟩
abbrev main_v88 : Ref sig .tc := ⟨.hbm, 113, rfl⟩
abbrev main_c_12 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_13 : Ref sig .tc := ⟨.hbm, 118, rfl⟩
abbrev main_cst_14 : Ref sig .tc := ⟨.hbm, 119, rfl⟩
abbrev main_call5_v0 : Ref sig .tc := ⟨.hbm, 120, rfl⟩
abbrev main_call5_v1 : Ref sig .tc := ⟨.hbm, 121, rfl⟩
abbrev main_v92 : Ref sig .tc := ⟨.hbm, 122, rfl⟩
abbrev main_c_15 : Ref sig .tc := ⟨.hbm, 123, rfl⟩
abbrev main_v93 : Ref sig .tc := ⟨.hbm, 124, rfl⟩
abbrev main_v94 : Ref sig .tc := ⟨.hbm, 125, rfl⟩
abbrev main_call6_v0 : Ref sig .tc := ⟨.hbm, 126, rfl⟩
abbrev main_v95 : Ref sig .tc := ⟨.hbm, 127, rfl⟩
abbrev main_c_16 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_17 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_18 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_19 : Ref sig .tc := ⟨.hbm, 145, rfl⟩
abbrev main_v110 : Ref sig .tc := ⟨.hbm, 146, rfl⟩
abbrev main_v111_0 : Ref sig .tc := ⟨.hbm, 147, rfl⟩
abbrev main_v111_1 : Ref sig .tc := ⟨.hbm, 148, rfl⟩
abbrev main_v111_2 : Ref sig .tc := ⟨.hbm, 149, rfl⟩
abbrev main_v111_3 : Ref sig .tc := ⟨.hbm, 150, rfl⟩
abbrev main_v111_4 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v15 : BitVec 32 := Scalar.muli arg1 c1024_i32
  let c0_i32_9 : BitVec 32 := 0#32
  let v16 : BitVec 32 := Scalar.addi v15 c0_i32_9
  v16
def k0_off1 (i : grid0.Coords) (c0_i32_9 : BitVec 32) : Fin 2 → Nat :=
  let arg1 : BitVec 32 := BitVec.ofNat 32 (i 1).val
  let c1024_i32 : BitVec 32 := 1024#32
  let v15 : BitVec 32 := Scalar.muli arg1 c1024_i32
  let v16 : BitVec 32 := Scalar.addi v15 c0_i32_9
  let v17 : BitVec 32 := v16
  let v18 : Index := Scalar.indexCast v17
  let c0_10 : Index := 0#32
  ![v18.toNat, 0]
def k0_off2 (i : grid0.Coords) (c0_i32_9 : BitVec 32) : Fin 3 → Nat :=
  let c0_12 : Index := 0#32
  let arg1 : BitVec 32 := BitVec.ofNat 32 (i 1).val
  let c1024_i32 : BitVec 32 := 1024#32
  let v15 : BitVec 32 := Scalar.muli arg1 c1024_i32
  let v16 : BitVec 32 := Scalar.addi v15 c0_i32_9
  let v17 : BitVec 32 := v16
  let v24 : Index := Scalar.indexCast v17
  let c0_13 : Index := 0#32
  ![0, v24.toNat, 0]
def k0_mult2 (i : grid0.Coords) : BitVec 32 :=
  let arg1 : BitVec 32 := BitVec.ofNat 32 (i 1).val
  let c1024_i32_41 : BitVec 32 := 1024#32
  let v130 : BitVec 32 := Scalar.muli arg1 c1024_i32_41
  let c512_i32 : BitVec 32 := 512#32
  let v131 : BitVec 32 := Scalar.addi v130 c512_i32
  v131
@[reducible] def k0_t1_loop (i : grid0.Coords) : Scf.Loop 32 :=
  let arg1 : BitVec 32 := BitVec.ofNat 32 (i 1).val
  let c1_i32 : BitVec 32 := 1#32
  let v260 : BitVec 32 := Scalar.addi arg1 c1_i32
  let c4_i32 : BitVec 32 := 4#32
  let v261 : BitVec 32 := Scalar.subi c4_i32 v260
  let c1_i32_70 : BitVec 32 := 1#32
  let v263 : BitVec 32 := Scalar.divsi v261 c1_i32_70
  let v264 : BitVec 32 := Scalar.muli v263 c1_i32_70
  let v265 : BitVec 32 := Scalar.addi v260 v264
  let c1_i32_71 : BitVec 32 := 1#32
  ⟨v260, v265, c1_i32_71⟩
def k0_mult3 (i : grid0.Coords) (k0_t1 : Fin (k0_t1_loop i).trips) : BitVec 32 :=
  let arg1 : BitVec 32 := BitVec.ofNat 32 (i 1).val
  let c1_i32 : BitVec 32 := 1#32
  let v260 : BitVec 32 := Scalar.addi arg1 c1_i32
  let c1_i32_71 : BitVec 32 := 1#32
  let arg16 : BitVec 32 := Scf.iv v260 c1_i32_71 k0_t1
  let c1024_i32_83 : BitVec 32 := 1024#32
  let v284 : BitVec 32 := Scalar.muli arg16 c1024_i32_83
  let c0_i32_84 : BitVec 32 := 0#32
  let v285 : BitVec 32 := Scalar.addi v284 c0_i32_84
  v285
def k0_off3 (i : grid0.Coords) (k0_t1 : Fin (k0_t1_loop i).trips) : Fin 2 → Nat :=
  let arg1 : BitVec 32 := BitVec.ofNat 32 (i 1).val
  let c1_i32 : BitVec 32 := 1#32
  let v260 : BitVec 32 := Scalar.addi arg1 c1_i32
  let c1_i32_71 : BitVec 32 := 1#32
  let arg16 : BitVec 32 := Scf.iv v260 c1_i32_71 k0_t1
  let c1024_i32_83 : BitVec 32 := 1024#32
  let v284 : BitVec 32 := Scalar.muli arg16 c1024_i32_83
  let c0_i32_84 : BitVec 32 := 0#32
  let v285 : BitVec 32 := Scalar.addi v284 c0_i32_84
  let v286 : BitVec 32 := v285
  let v287 : Index := Scalar.indexCast v286
  let c0_85 : Index := 0#32
  ![v287.toNat, 0]
def k0_off4 (i : grid0.Coords) (k0_t1 : Fin (k0_t1_loop i).trips) : Fin 3 → Nat :=
  let c0_87 : Index := 0#32
  let arg1 : BitVec 32 := BitVec.ofNat 32 (i 1).val
  let c1_i32 : BitVec 32 := 1#32
  let v260 : BitVec 32 := Scalar.addi arg1 c1_i32
  let c1_i32_71 : BitVec 32 := 1#32
  let arg16 : BitVec 32 := Scf.iv v260 c1_i32_71 k0_t1
  let c1024_i32_83 : BitVec 32 := 1024#32
  let v284 : BitVec 32 := Scalar.muli arg16 c1024_i32_83
  let c0_i32_84 : BitVec 32 := 0#32
  let v285 : BitVec 32 := Scalar.addi v284 c0_i32_84
  let v286 : BitVec 32 := v285
  let v293 : Index := Scalar.indexCast v286
  let c0_88 : Index := 0#32
  ![0, v293.toNat, 0]
@[reducible] def k0_t2_loop (i : grid0.Coords) : Scf.Loop 32 :=
  let arg1 : BitVec 32 := BitVec.ofNat 32 (i 1).val
  let c1_i32 : BitVec 32 := 1#32
  let v260 : BitVec 32 := Scalar.addi arg1 c1_i32
  let c4_i32 : BitVec 32 := 4#32
  let v261 : BitVec 32 := Scalar.subi c4_i32 v260
  let c1_i32_70 : BitVec 32 := 1#32
  let v263 : BitVec 32 := Scalar.divsi v261 c1_i32_70
  let v264 : BitVec 32 := Scalar.muli v263 c1_i32_70
  let v265 : BitVec 32 := Scalar.addi v260 v264
  let v262 : BitVec 32 := Scalar.addi v260 v261
  let c1_i32_72 : BitVec 32 := 1#32
  ⟨v265, v262, c1_i32_72⟩
def k0_mult4 (i : grid0.Coords) (k0_t2 : Fin (k0_t2_loop i).trips) : BitVec 32 :=
  let arg1 : BitVec 32 := BitVec.ofNat 32 (i 1).val
  let c1_i32 : BitVec 32 := 1#32
  let v260 : BitVec 32 := Scalar.addi arg1 c1_i32
  let c4_i32 : BitVec 32 := 4#32
  let v261 : BitVec 32 := Scalar.subi c4_i32 v260
  let c1_i32_70 : BitVec 32 := 1#32
  let v263 : BitVec 32 := Scalar.divsi v261 c1_i32_70
  let v264 : BitVec 32 := Scalar.muli v263 c1_i32_70
  let v265 : BitVec 32 := Scalar.addi v260 v264
  let c1_i32_72 : BitVec 32 := 1#32
  let arg16 : BitVec 32 := Scf.iv v265 c1_i32_72 k0_t2
  let c1024_i32_83 : BitVec 32 := 1024#32
  let v284 : BitVec 32 := Scalar.muli arg16 c1024_i32_83
  let c0_i32_84 : BitVec 32 := 0#32
  let v285 : BitVec 32 := Scalar.addi v284 c0_i32_84
  v285
def k0_off5 (i : grid0.Coords) (k0_t2 : Fin (k0_t2_loop i).trips) : Fin 2 → Nat :=
  let arg1 : BitVec 32 := BitVec.ofNat 32 (i 1).val
  let c1_i32 : BitVec 32 := 1#32
  let v260 : BitVec 32 := Scalar.addi arg1 c1_i32
  let c4_i32 : BitVec 32 := 4#32
  let v261 : BitVec 32 := Scalar.subi c4_i32 v260
  let c1_i32_70 : BitVec 32 := 1#32
  let v263 : BitVec 32 := Scalar.divsi v261 c1_i32_70
  let v264 : BitVec 32 := Scalar.muli v263 c1_i32_70
  let v265 : BitVec 32 := Scalar.addi v260 v264
  let c1_i32_72 : BitVec 32 := 1#32
  let arg16 : BitVec 32 := Scf.iv v265 c1_i32_72 k0_t2
  let c1024_i32_83 : BitVec 32 := 1024#32
  let v284 : BitVec 32 := Scalar.muli arg16 c1024_i32_83
  let c0_i32_84 : BitVec 32 := 0#32
  let v285 : BitVec 32 := Scalar.addi v284 c0_i32_84
  let v286 : BitVec 32 := v285
  let v287 : Index := Scalar.indexCast v286
  let c0_85 : Index := 0#32
  ![v287.toNat, 0]
def k0_off6 (i : grid0.Coords) (k0_t2 : Fin (k0_t2_loop i).trips) : Fin 3 → Nat :=
  let c0_87 : Index := 0#32
  let arg1 : BitVec 32 := BitVec.ofNat 32 (i 1).val
  let c1_i32 : BitVec 32 := 1#32
  let v260 : BitVec 32 := Scalar.addi arg1 c1_i32
  let c4_i32 : BitVec 32 := 4#32
  let v261 : BitVec 32 := Scalar.subi c4_i32 v260
  let c1_i32_70 : BitVec 32 := 1#32
  let v263 : BitVec 32 := Scalar.divsi v261 c1_i32_70
  let v264 : BitVec 32 := Scalar.muli v263 c1_i32_70
  let v265 : BitVec 32 := Scalar.addi v260 v264
  let c1_i32_72 : BitVec 32 := 1#32
  let arg16 : BitVec 32 := Scf.iv v265 c1_i32_72 k0_t2
  let c1024_i32_83 : BitVec 32 := 1024#32
  let v284 : BitVec 32 := Scalar.muli arg16 c1024_i32_83
  let c0_i32_84 : BitVec 32 := 0#32
  let v285 : BitVec 32 := Scalar.addi v284 c0_i32_84
  let v286 : BitVec 32 := v285
  let v293 : Index := Scalar.indexCast v286
  let c0_88 : Index := 0#32
  ![0, v293.toNat, 0]
def k0_cond2 (i : grid0.Coords) : BitVec 1 :=
  let arg1 : BitVec 32 := BitVec.ofNat 32 (i 1).val
  let c3_i32 : BitVec 32 := 3#32
  let v281 : BitVec 1 := Scalar.cmpi .eq arg1 c3_i32
  let v282 : BitVec 32 := Scalar.extui v281
  let c0_i32_82 : BitVec 32 := 0#32
  let v283 : BitVec 1 := Scalar.cmpi .ne v282 c0_i32_82
  v283

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S4096x1024 : Shape := ⟨2, ![4096, 1024]⟩
abbrev S8x4096 : Shape := ⟨2, ![8, 4096]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x128x4096 : Shape := ⟨3, ![8, 128, 4096]⟩
abbrev S8x4x1024 : Shape := ⟨3, ![8, 4, 1024]⟩
abbrev S4x8x1024 : Shape := ⟨3, ![4, 8, 1024]⟩
abbrev S4x8x8x1024 : Shape := ⟨4, ![4, 8, 8, 1024]⟩
abbrev S4x64x1024 : Shape := ⟨3, ![4, 64, 1024]⟩

abbrev nBuf : Space → Nat
  | .hbm => 129
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S8x4096, .f32⟩
  | 4 => ⟨S4096x1024, .f32⟩
  | 5 => ⟨S4096x8x128, .f32⟩
  | 6 => ⟨S8x4096x128, .f32⟩
  | 7 => ⟨S4096x8x128, .f32⟩
  | 8 => ⟨S8x4096x128, .f32⟩
  | 9 => ⟨S8x4096x4096, .f32⟩
  | 10 => ⟨S_, .f32⟩
  | 11 => ⟨S8x4096x4096, .f32⟩
  | 12 => ⟨S8x4096x4096, .f32⟩
  | 13 => ⟨S8x4096x1, .f32⟩
  | 14 => ⟨S8x1x4096, .f32⟩
  | 15 => ⟨S8x4096x4096, .f32⟩
  | 16 => ⟨S8x4096x4096, .f32⟩
  | 17 => ⟨S8x4096x4096, .f32⟩
  | 18 => ⟨S8x4096x4096, .f32⟩
  | 19 => ⟨S4096, .i32⟩
  | 20 => ⟨S1x1x4096, .i32⟩
  | 21 => ⟨S4096, .i32⟩
  | 22 => ⟨S1x4096x1, .i32⟩
  | 23 => ⟨S1x4096x4096, .i32⟩
  | 24 => ⟨S1x4096x4096, .i32⟩
  | 25 => ⟨S1x4096x4096, .i1⟩
  | 26 => ⟨S_, .f32⟩
  | 27 => ⟨S_, .f32⟩
  | 28 => ⟨S8x4096x4096, .i1⟩
  | 29 => ⟨S8x4096x4096, .f32⟩
  | 30 => ⟨S8x4096x4096, .f32⟩
  | 31 => ⟨S_, .f32⟩
  | 32 => ⟨S8x4096x4096, .f32⟩
  | 33 => ⟨S_, .f32⟩
  | 34 => ⟨S8x4096, .f32⟩
  | 35 => ⟨S8x4096x1, .f32⟩
  | 36 => ⟨S8x4096x4096, .f32⟩
  | 37 => ⟨S8x4096x4096, .i1⟩
  | 38 => ⟨S8x4096x4096, .f32⟩
  | 39 => ⟨S_, .f32⟩
  | 40 => ⟨S8x4096, .f32⟩
  | 41 => ⟨S_, .f32⟩
  | 42 => ⟨S8x4096, .f32⟩
  | 43 => ⟨S8x4096, .f32⟩
  | 44 => ⟨S_, .f32⟩
  | 45 => ⟨S8x4096, .f32⟩
  | 46 => ⟨S8x4096, .i1⟩
  | 47 => ⟨S_, .f32⟩
  | 48 => ⟨S8x4096, .f32⟩
  | 49 => ⟨S8x4096, .i1⟩
  | 50 => ⟨S_, .f32⟩
  | 51 => ⟨S8x4096, .f32⟩
  | 52 => ⟨S_, .f32⟩
  | 53 => ⟨S8x4096, .f32⟩
  | 54 => ⟨S_, .f32⟩
  | 55 => ⟨S8x4096, .f32⟩
  | 56 => ⟨S8x4096, .f32⟩
  | 57 => ⟨S8x4096, .f32⟩
  | 58 => ⟨S8x4096x1, .f32⟩
  | 59 => ⟨S8x4096x4096, .f32⟩
  | 60 => ⟨S8x4096x4096, .f32⟩
  | 61 => ⟨S8x4096x4096, .f32⟩
  | 62 => ⟨S_, .f32⟩
  | 63 => ⟨S8x4096, .f32⟩
  | 64 => ⟨S8x4096x1, .f32⟩
  | 65 => ⟨S8x4096x4096, .f32⟩
  | 66 => ⟨S8x4096x4096, .f32⟩
  | 67 => ⟨S8x4096x1, .f32⟩
  | 68 => ⟨S_, .f32⟩
  | 69 => ⟨S8x4096x1, .f32⟩
  | 70 => ⟨S8x4096x1, .f32⟩
  | 71 => ⟨S4096x8x128, .f32⟩
  | 72 => ⟨S8x4096x128, .f32⟩
  | 73 => ⟨S8x4096x128, .f32⟩
  | 74 => ⟨S4096x8x128, .f32⟩
  | 75 => ⟨S4096x1024, .f32⟩
  | 76 => ⟨S4096x8x128, .f32⟩
  | 77 => ⟨S8x4096x128, .f32⟩
  | 78 => ⟨S8x128x4096, .f32⟩
  | 79 => ⟨S8x4096x128, .f32⟩
  | 80 => ⟨S8x4096x4096, .f32⟩
  | 81 => ⟨S4096x8x128, .f32⟩
  | 82 => ⟨S4096x1024, .f32⟩
  | 83 => ⟨S8x4096x4096, .f32⟩
  | 84 => ⟨S8x4096x4096, .f32⟩
  | 85 => ⟨S8x4096x4096, .f32⟩
  | 86 => ⟨S_, .f32⟩
  | 87 => ⟨S8x4096, .f32⟩
  | 88 => ⟨S8x4096x1, .f32⟩
  | 89 => ⟨S8x4096x1, .f32⟩
  | 90 => ⟨S8x4096x4096, .f32⟩
  | 91 => ⟨S8x4096x4096, .f32⟩
  | 92 => ⟨S_, .f32⟩
  | 93 => ⟨S8x4096, .f32⟩
  | 94 => ⟨S8x4096x4096, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .f32⟩
  | 100 => ⟨S_, .f32⟩
  | 101 => ⟨S8x4096, .f32⟩
  | 102 => ⟨S8x4096x1, .f32⟩
  | 103 => ⟨S8x4096x4096, .f32⟩
  | 104 => ⟨S_, .f32⟩
  | 105 => ⟨S8x4096, .f32⟩
  | 106 => ⟨S8x1x4096, .f32⟩
  | 107 => ⟨S_, .f32⟩
  | 108 => ⟨S8x4096, .f32⟩
  | 109 => ⟨S_, .f32⟩
  | 110 => ⟨S8x4096, .f32⟩
  | 111 => ⟨S8x4096, .f32⟩
  | 112 => ⟨S_, .f32⟩
  | 113 => ⟨S8x4096x4096, .f32⟩
  | 114 => ⟨S8x4096x4096, .f32⟩
  | 115 => ⟨S8x4096x128, .f32⟩
  | 116 => ⟨S8x4096x128, .f32⟩
  | 117 => ⟨S4096x8x128, .f32⟩
  | 118 => ⟨S4096x1024, .f32⟩
  | 119 => ⟨S4096x8x128, .f32⟩
  | 120 => ⟨S4096x1024, .f32⟩
  | 121 => ⟨S8x4096, .f32⟩
  | 122 => ⟨S8x4x1024, .f32⟩
  | 123 => ⟨S4x8x1024, .f32⟩
  | 124 => ⟨S4x8x8x1024, .f32⟩
  | 125 => ⟨S4x64x1024, .f32⟩
  | 126 => ⟨S4096x1024, .bf16⟩
  | 127 => ⟨S4096x1024, .bf16⟩
  | _ => ⟨S4096x1024, .f32⟩

abbrev hbmTy0_1 (i : Nat) : BufTy := match i % 128 with
  | 0 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩

abbrev nD : Nat := 1
abbrev τ : Topo := Topo.v7x

variable {F : FTy → Type} [FloatOps F]
-- ==== Kernel2.lean ====
abbrev S4096x1024 : Shape := ⟨2, ![4096, 1024]⟩
abbrev S4096x128 : Shape := ⟨2, ![4096, 128]⟩
abbrev S1024x3200 : Shape := ⟨2, ![1024, 3200]⟩
abbrev S1x1024 : Shape := ⟨2, ![1, 1024]⟩
abbrev S3200x1024 : Shape := ⟨2, ![3200, 1024]⟩
abbrev S_ : Shape := ⟨0, ![]⟩
abbrev S8x128 : Shape := ⟨2, ![8, 128]⟩
abbrev S512x1024 : Shape := ⟨2, ![512, 1024]⟩
abbrev S512x128 : Shape := ⟨2, ![512, 128]⟩
abbrev S1024x1024 : Shape := ⟨2, ![1024, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩

abbrev nBuf : Space → Nat
  | .hbm => 19
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x128, .f32⟩
  | .hbm, ⟨6, _⟩ => ⟨S1024x3200, .f32⟩
  | .hbm, ⟨7, _⟩ => ⟨S4096x1024, .f32⟩
  | .hbm, ⟨8, _⟩ => ⟨S1x1024, .f32⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x128, .bf16⟩
  | .hbm, ⟨13, _⟩ => ⟨S3200x1024, .f32⟩
  | .hbm, ⟨14, _⟩ => ⟨S3200x1024, .bf16⟩
  | .hbm, ⟨15, _⟩ => ⟨S_, .f32⟩
  | .hbm, ⟨16, _⟩ => ⟨S8x128, .f32⟩
  | .hbm, ⟨17, _⟩ => ⟨S4096x1024, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x128, .bf16⟩
  | .local _ .vmem, ⟨11, _⟩ => ⟨S512x128, .bf16⟩
  | .local _ .vmem, ⟨12, _⟩ => ⟨S3200x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S8x128, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3200x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S4096x1024 : Shape := ⟨2, ![4096, 1024]⟩
abbrev S4096x128 : Shape := ⟨2, ![4096, 128]⟩
abbrev S1024x3200 : Shape := ⟨2, ![1024, 3200]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x3200 : Shape := ⟨2, ![4096, 3200]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x128, .f32⟩
  | .hbm, ⟨6, _⟩ => ⟨S1024x3200, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x3200, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x128, .f32⟩
  | .hbm, ⟨33, _⟩ => ⟨S_, .f32⟩
  | .hbm, ⟨34, _⟩ => ⟨S4096x3200, .f32⟩
  | .hbm, ⟨35, _⟩ => ⟨S_, .f32⟩
  | .hbm, ⟨36, _⟩ => ⟨S4096x3200, .f32⟩
  | .hbm, ⟨37, _⟩ => ⟨S4096x3200, .f32⟩
  | .hbm, ⟨38, _⟩ => ⟨S_, .f32⟩
  | .hbm, ⟨39, _⟩ => ⟨S4096x3200, .f32⟩
  | .hbm, ⟨40, _⟩ => ⟨S4096x3200, .f32⟩
  | .hbm, ⟨41, _⟩ => ⟨S_, .f32⟩
  | .hbm, ⟨42, _⟩ => ⟨S4096x3200, .f32⟩
  | .hbm, ⟨43, _⟩ => ⟨S4096x3200, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Kernel3.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S1024x6152 : Shape := ⟨2, ![1024, 6152]⟩
abbrev S6152x1024 : Shape := ⟨2, ![6152, 1024]⟩
abbrev S_ : Shape := ⟨0, ![]⟩
abbrev S8x128 : Shape := ⟨2, ![8, 128]⟩
abbrev S512x1024 : Shape := ⟨2, ![512, 1024]⟩
abbrev S3072x1024 : Shape := ⟨2, ![3072, 1024]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x6152, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S6152x1024, .f32⟩
  | .hbm, ⟨8, _⟩ => ⟨S6152x1024, .bf16⟩
  | .hbm, ⟨9, _⟩ => ⟨S_, .f32⟩
  | .hbm, ⟨10, _⟩ => ⟨S8x128, .f32⟩
  | .hbm, ⟨11, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S3072x1024, .bf16⟩
  | .local _ .vmem, ⟨7, _⟩ => ⟨S8x128, .f32⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4096x1024 : Shape := ⟨2, ![4096, 1024]⟩
abbrev S1024x6152 : Shape := ⟨2, ![1024, 6152]⟩
abbrev S_ : Shape := ⟨0, ![]⟩
abbrev S1024x1024 : Shape := ⟨2, ![1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x6152, .f32⟩
  | .hbm, ⟨4, _⟩ => ⟨S_, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x6152 : Shape := ⟨2, ![1024, 6152]⟩
abbrev S6152x1024 : Shape := ⟨2, ![6152, 1024]⟩
abbrev S_ : Shape := ⟨0, ![]⟩
abbrev S8x128 : Shape := ⟨2, ![8, 128]⟩
abbrev S4096x3072 : Shape := ⟨2, ![4096, 3072]⟩
abbrev S512x1024 : Shape := ⟨2, ![512, 1024]⟩
abbrev S3072x1024 : Shape := ⟨2, ![3072, 1024]⟩
abbrev S512x3072 : Shape := ⟨2, ![512, 3072]⟩
abbrev S512 : Shape := ⟨1, ![512]⟩
abbrev S512x1 : Shape := ⟨2, ![512, 1]⟩
abbrev S512x2048 : Shape := ⟨2, ![512, 2048]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6152, .f32⟩
  | .hbm, ⟨3, _⟩ => ⟨S6152x1024, .f32⟩
  | .hbm, ⟨4, _⟩ => ⟨S6152x1024, .bf16⟩
  | .hbm, ⟨5, _⟩ => ⟨S_, .f32⟩
  | .hbm, ⟨6, _⟩ => ⟨S8x128, .f32⟩
  | .hbm, ⟨7, _⟩ => ⟨S4096x1024, .bf16⟩
  | .hbm, ⟨8, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3072x1024, .bf16⟩
  | .local _ .vmem, ⟨4, _⟩ => ⟨S8x128, .f32⟩
  | .local _ .vmem, ⟨5, _⟩ => ⟨S512x1024, .bf16⟩
  | .local _ .vmem, ⟨6, _⟩ => ⟨S512x1024, .bf16⟩
  | .local _ .vmem, ⟨7, _⟩ => ⟨S512x3072, .bf16⟩
  | .local _ .vmem, ⟨8, _⟩ => ⟨S512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4096x1024 : Shape := ⟨2, ![4096, 1024]⟩
abbrev S1x1024 : Shape := ⟨2, ![1, 1024]⟩
abbrev S1024x6152 : Shape := ⟨2, ![1024, 6152]⟩
abbrev S_ : Shape := ⟨0, ![]⟩
abbrev S4096 : Shape := ⟨1, ![4096]⟩
abbrev S4096x1 : Shape := ⟨2, ![4096, 1]⟩
abbrev S4096x6152 : Shape := ⟨2, ![4096, 6152]⟩
abbrev S4096x2048 : Shape := ⟨2, ![4096, 2048]⟩
abbrev S4096x3072 : Shape := ⟨2, ![4096, 3072]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6152, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x6152, .f32⟩
  | .hbm, ⟨19, _⟩ => ⟨S4096x1024, .bf16⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x2048, .f32⟩
  | .hbm, ⟨25, _⟩ => ⟨S4096x3072, .f32⟩
  | .hbm, ⟨26, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel7.lean ====
abbrev S4096x1024 : Shape := ⟨2, ![4096, 1024]⟩
abbrev S4096x3200 : Shape := ⟨2, ![4096, 3200]⟩
abbrev S2048x1024 : Shape := ⟨2, ![2048, 1024]⟩
abbrev S1x1024 : Shape := ⟨2, ![1, 1024]⟩
abbrev S8x4096x128 : Shape := ⟨3, ![8, 4096, 128]⟩
abbrev S256x1024 : Shape := ⟨2, ![256, 1024]⟩
abbrev S8x256x128 : Shape := ⟨3, ![8, 256, 128]⟩
abbrev S256x2048 : Shape := ⟨2, ![256, 2048]⟩
abbrev S256 : Shape := ⟨1, ![256]⟩
abbrev S256x1 : Shape := ⟨2, ![256, 1]⟩
abbrev S1024 : Shape := ⟨1, ![1024]⟩
abbrev S256x128 : Shape := ⟨2, ![256, 128]⟩
abbrev S1x256x128 : Shape := ⟨3, ![1, 256, 128]⟩

abbrev nBuf : Space → Nat
  | .hbm => 16
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3200, .f32⟩
  | .hbm, ⟨3, _⟩ => ⟨S4096x1024, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S2048x1024, .bf16⟩
  | .hbm, ⟨9, _⟩ => ⟨S4096x1024, .bf16⟩
  | .hbm, ⟨10, _⟩ => ⟨S8x4096x128, .f32⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S1x1024, .f32⟩
  | .hbm, ⟨15, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S2048x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S8x256x128, .f32⟩
  | .local _ .vmem, ⟨16, _⟩ => ⟨S8x256x128, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S1x1024, .f32⟩
  | .local _ .vmem, ⟨24, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference7Ideal.lean ====
abbrev S4096x1024 : Shape := ⟨2, ![4096, 1024]⟩
abbrev S4096x3200 : Shape := ⟨2, ![4096, 3200]⟩
abbrev S2048x1024 : Shape := ⟨2, ![2048, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S1024 : Shape := ⟨1, ![1024]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S4096x1024, .f32⟩
  | 2 => ⟨S4096x3200, .f32⟩
  | 3 => ⟨S4096x1024, .f32⟩
  | 4 => ⟨S2048x1024, .f32⟩
  | 5 => ⟨S1x1024, .f32⟩
  | 6 => ⟨S1x1024, .f32⟩
  | 7 => ⟨S4096x1024, .f32⟩
  | 8 => ⟨S4096x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S4096x1024, .f32⟩
  | 65 => ⟨S4096x1024, .f32⟩
  | 66 => ⟨S_, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x2048, .f32⟩
  | 76 => ⟨S4096x1024, .f32⟩
  | 77 => ⟨S4096x2048, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S_, .f32⟩
  | 88 => ⟨S1024, .f32⟩
  | 89 => ⟨S1x1024, .f32⟩
  | 90 => ⟨S4096x1024, .f32⟩
  | 91 => ⟨S4096x1024, .f32⟩
  | 92 => ⟨S4096x1024, .f32⟩
  | 93 => ⟨S_, .f32⟩
  | 94 => ⟨S4096, .f32⟩
  | 95 => ⟨S4096x1, .f32⟩
  | 96 => ⟨S4096x1024, .f32⟩
  | 97 => ⟨S4096x1024, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S_, .f32⟩
  | 117 => ⟨S1024, .f32⟩
  | 118 => ⟨S1x1024, .f32⟩
  | 119 => ⟨S4096x1024, .f32⟩
  | 120 => ⟨S4096x1024, .f32⟩
  | 121 => ⟨S4096x1024, .f32⟩
  | 122 => ⟨S_, .f32⟩
  | 123 => ⟨S4096, .f32⟩
  | 124 => ⟨S4096x1, .f32⟩
  | 125 => ⟨S4096x1024, .f32⟩
  | 126 => ⟨S4096x1024, .f32⟩
  | 127 => ⟨S4096x1, .f32⟩
  | _ => ⟨S4096x1024, .f32⟩

abbrev hbmTy0_1 (i : Nat) : BufTy := match i % 128 with
  | 0 => ⟨S_, .f32⟩
  | 1 => ⟨S4096x1, .f32⟩
  | 2 => ⟨S4096x1, .f32⟩
  | 3 => ⟨S_, .f32⟩
  | 4 => ⟨S4096, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .bf16⟩
  | 11 => ⟨S4096x1024, .bf16⟩
  | 12 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v17_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v17_1 : Ref sig .tc := ⟨.hbm, 39, rfl⟩
abbrev main_v17_0 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_cst_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_v34_2 : Ref sig .tc := ⟨.hbm, 68, rfl⟩
abbrev main_call1_cst_1 : Ref sig .tc := ⟨.hbm, 69, rfl⟩
abbrev main_call1_v6 : Ref sig .tc := ⟨.hbm, 70, rfl⟩
abbrev main_call1_v7 : Ref sig .tc := ⟨.hbm, 71, rfl⟩
abbrev main_v34_1 : Ref sig .tc := ⟨.hbm, 72, rfl⟩
abbrev main_v34_0 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v43 : Ref sig .tc := ⟨.hbm, 85, rfl⟩
abbrev main_v44 : Ref sig .tc := ⟨.hbm, 86, rfl⟩
abbrev main_cst_7 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_8 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_9 : Ref sig .tc := ⟨.hbm, 99, rfl⟩
abbrev main_v55 : Ref sig .tc := ⟨.hbm, 100, rfl⟩
abbrev main_v56 : Ref sig .tc := ⟨.hbm, 101, rfl⟩
abbrev main_cst_10 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_v65 : Ref sig .tc := ⟨.hbm, 114, rfl⟩
abbrev main_v66 : Ref sig .tc := ⟨.hbm, 115, rfl⟩
abbrev main_cst_11 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_12 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_13 : Ref sig .tc := ⟨.hbm, 128, rfl⟩
abbrev main_v77 : Ref sig .tc := ⟨.hbm, 129, rfl⟩
abbrev main_v78 : Ref sig .tc := ⟨.hbm, 130, rfl⟩
abbrev main_cst_14 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩

abbrev nD : Nat := 1
abbrev τ : Topo := Topo.v7x

variable {F : FTy → Type} [FloatOps F]
-- ==== Kernel8.lean ====
abbrev S4096x1024 : Shape := ⟨2, ![4096, 1024]⟩
abbrev S1024x3200 : Shape := ⟨2, ![1024, 3200]⟩
abbrev S1x128 : Shape := ⟨2, ![1, 128]⟩
abbrev S3200x1024 : Shape := ⟨2, ![3200, 1024]⟩
abbrev S4096x3200 : Shape := ⟨2, ![4096, 3200]⟩
abbrev S8x4096x128 : Shape := ⟨3, ![8, 4096, 128]⟩
abbrev S512x1024 : Shape := ⟨2, ![512, 1024]⟩
abbrev S512x3200 : Shape := ⟨2, ![512, 3200]⟩
abbrev S8x512x128 : Shape := ⟨3, ![8, 512, 128]⟩
abbrev S512x128 : Shape := ⟨2, ![512, 128]⟩
abbrev S8x128 : Shape := ⟨2, ![8, 128]⟩
abbrev S512x1 : Shape := ⟨2, ![512, 1]⟩
abbrev S1x512x128 : Shape := ⟨3, ![1, 512, 128]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x3200, .f32⟩
  | .hbm, ⟨2, _⟩ => ⟨S1x128, .f32⟩
  | .hbm, ⟨3, _⟩ => ⟨S4096x1024, .bf16⟩
  | .hbm, ⟨4, _⟩ => ⟨S3200x1024, .f32⟩
  | .hbm, ⟨5, _⟩ => ⟨S3200x1024, .bf16⟩
  | .hbm, ⟨6, _⟩ => ⟨S4096x3200, .f32⟩
  | .hbm, ⟨7, _⟩ => ⟨S8x4096x128, .bf16⟩
  | .local _ .vmem, ⟨0, _⟩ => ⟨S512x1024, .bf16⟩
  | .local _ .vmem, ⟨1, _⟩ => ⟨S512x1024, .bf16⟩
  | .local _ .vmem, ⟨2, _⟩ => ⟨S3200x1024, .bf16⟩
  | .local _ .vmem, ⟨3, _⟩ => ⟨S1x128, .f32⟩
  | .local _ .vmem, ⟨4, _⟩ => ⟨S512x3200, .f32⟩
  | .local _ .vmem, ⟨5, _⟩ => ⟨S512x3200, .f32⟩
  | .local _ .vmem, ⟨6, _⟩ => ⟨S8x512x128, .bf16⟩
  | .local _ .vmem, ⟨7, _⟩ => ⟨S8x512x128, .bf16⟩
  | .local _ .vmem, ⟨8, _⟩ => ⟨S512x128, .f32⟩
  | .local _ .vmem, ⟨9, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S4096x1024 : Shape := ⟨2, ![4096, 1024]⟩
abbrev S1024x3200 : Shape := ⟨2, ![1024, 3200]⟩
abbrev S1x128 : Shape := ⟨2, ![1, 128]⟩
abbrev S4096x3200 : Shape := ⟨2, ![4096, 3200]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3200, .f32⟩
  | .hbm, ⟨2, _⟩ => ⟨S1x128, .f32⟩
  | .hbm, ⟨3, _⟩ => ⟨S4096x3200, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel9.lean ====
abbrev S4096x1024 : Shape := ⟨2, ![4096, 1024]⟩
abbrev S4096x3200 : Shape := ⟨2, ![4096, 3200]⟩
abbrev S1x1024 : Shape := ⟨2, ![1, 1024]⟩
abbrev S2048x1024 : Shape := ⟨2, ![2048, 1024]⟩
abbrev S4096x2048 : Shape := ⟨2, ![4096, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x3200, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S1x1024, .f32⟩
  | .hbm, ⟨8, _⟩ => ⟨S2048x1024, .bf16⟩
  | .hbm, ⟨9, _⟩ => ⟨S4096x2048, .bf16⟩
  | .hbm, ⟨10, _⟩ => ⟨S4096x1024, .f32⟩
  | .hbm, ⟨11, _⟩ => ⟨S4096x1024, .f32⟩
  | .hbm, ⟨12, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S2048x1024, .bf16⟩
  | .local _ .vmem, ⟨13, _⟩ => ⟨S1x1024, .f32⟩
  | .local _ .vmem, ⟨14, _⟩ => ⟨S256x2048, .bf16⟩
  | .local _ .vmem, ⟨15, _⟩ => ⟨S256x2048, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S4096x1024 : Shape := ⟨2, ![4096, 1024]⟩
abbrev S4096x3200 : Shape := ⟨2, ![4096, 3200]⟩
abbrev S1x1024 : Shape := ⟨2, ![1, 1024]⟩
abbrev S2048x1024 : Shape := ⟨2, ![2048, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x3200, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x2048, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x2048, .bf16⟩
  | .hbm, ⟨79, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_5 : Ref sig .tc := ⟨.hbm, 63, rfl⟩
abbrev main_v33 : Ref sig .tc := ⟨.hbm, 64, rfl⟩
abbrev main_v34 : Ref sig .tc := ⟨.hbm, 65, rfl⟩
abbrev main_cst_6 : Ref sig .tc := ⟨.hbm, 66, rfl⟩
abbrev main_v35 : Ref sig .tc := ⟨.hbm, 67, rfl⟩
abbrev main_v36 : Ref sig .tc := ⟨.hbm, 68, rfl⟩
abbrev main_cst_7 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩

abbrev nD : Nat := 1
abbrev τ : Topo := Topo.v7x

variable {F : FTy → Type} [FloatOps F]
-- ==== Kernel10.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1x1024 : Shape := ⟨2, ![1, 1024]⟩
abbrev S1x1 : Shape := ⟨2, ![1, 1]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1024 : Shape := ⟨1, ![1024]⟩

abbrev nBuf : Space → Nat
  | .hbm => 19
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S256x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S256x1024, .bf16⟩
  | .hbm, ⟨11, _⟩ => ⟨S1x1, .f32⟩
  | .hbm, ⟨12, _⟩ => ⟨S4096x1024, .bf16⟩
  | .hbm, ⟨13, _⟩ => ⟨S4096x1024, .bf16⟩
  | .hbm, ⟨14, _⟩ => ⟨S4096x1024, .f32⟩
  | .hbm, ⟨15, _⟩ => ⟨S4096x1024, .bf16⟩
  | .hbm, ⟨16, _⟩ => ⟨S1x1024, .f32⟩
  | .hbm, ⟨17, _⟩ => ⟨S1x1024, .f32⟩
  | .hbm, ⟨18, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S256x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev main_v2_6 : Ref sig .tc := ⟨.hbm, 17, rfl⟩
abbrev main_v2_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference10Ideal.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S4096x1024, .f32⟩
  | 1 => ⟨S4096x256, .f32⟩
  | 2 => ⟨S4096x1024, .f32⟩
  | 3 => ⟨S4096x1024, .f32⟩
  | 4 => ⟨S1024x1024, .f32⟩
  | 5 => ⟨S256x1024, .f32⟩
  | 6 => ⟨S1x1024, .f32⟩
  | 7 => ⟨S1x1024, .f32⟩
  | 8 => ⟨S1x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S4096x1024, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S_, .f32⟩
  | 52 => ⟨S4096, .f32⟩
  | 53 => ⟨S_, .f32⟩
  | 54 => ⟨S4096, .f32⟩
  | 55 => ⟨S4096, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S4096, .f32⟩
  | 64 => ⟨S_, .f32⟩
  | 65 => ⟨S4096, .f32⟩
  | 66 => ⟨S4096, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S_, .f32⟩
  | 73 => ⟨S1024, .f32⟩
  | 74 => ⟨S1x1024, .f32⟩
  | 75 => ⟨S4096x1024, .f32⟩
  | 76 => ⟨S4096x1024, .f32⟩
  | 77 => ⟨S4096x1024, .f32⟩
  | 78 => ⟨S_, .f32⟩
  | 79 => ⟨S4096, .f32⟩
  | 80 => ⟨S4096x1, .f32⟩
  | 81 => ⟨S4096x1024, .f32⟩
  | 82 => ⟨S4096x1024, .f32⟩
  | 83 => ⟨S4096x1, .f32⟩
  | 84 => ⟨S_, .f32⟩
  | 85 => ⟨S4096x1, .f32⟩
  | 86 => ⟨S4096x1, .f32⟩
  | 87 => ⟨S_, .f32⟩
  | 88 => ⟨S4096, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S_, .f32⟩
  | 96 => ⟨S1024, .f32⟩
  | 97 => ⟨S1x1024, .f32⟩
  | 98 => ⟨S4096x1024, .f32⟩
  | 99 => ⟨S4096x1024, .f32⟩
  | 100 => ⟨S4096x1024, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096x1, .f32⟩
  | 109 => ⟨S4096x1, .f32⟩
  | 110 => ⟨S4096x1, .f32⟩
  | 111 => ⟨S4096x1, .f32⟩
  | 112 => ⟨S_, .f32⟩
  | 113 => ⟨S4096x1, .f32⟩
  | 114 => ⟨S4096x1, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S_, .f32⟩
  | 121 => ⟨S1024, .f32⟩
  | 122 => ⟨S1x1024, .f32⟩
  | 123 => ⟨S4096x1024, .f32⟩
  | 124 => ⟨S4096x1024, .f32⟩
  | 125 => ⟨S4096x1024, .f32⟩
  | 126 => ⟨S_, .f32⟩
  | 127 => ⟨S4096, .f32⟩
  | _ => ⟨S4096x1024, .f32⟩

abbrev hbmTy0_1 (i : Nat) : BufTy := match i % 128 with
  | 0 => ⟨S4096x1, .f32⟩
  | 1 => ⟨S4096x1024, .f32⟩
  | 2 => ⟨S4096x1024, .f32⟩
  | 3 => ⟨S4096x1, .f32⟩
  | 4 => ⟨S_, .f32⟩
  | 5 => ⟨S4096x1, .f32⟩
  | 6 => ⟨S4096x1, .f32⟩
  | 7 => ⟨S_, .f32⟩
  | 8 => ⟨S4096, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S1x1, .f32⟩
  | 15 => ⟨S4096x1024, .bf16⟩
  | 16 => ⟨S4096x1024, .bf16⟩
  | 17 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_cst_11 : Ref sig .tc := ⟨.hbm, 60, rfl⟩
abbrev main_cst_12 : Ref sig .tc := ⟨.hbm, 61, rfl⟩
abbrev main_v39 : Ref sig .tc := ⟨.hbm, 62, rfl⟩
abbrev main_v40 : Ref sig .tc := ⟨.hbm, 63, rfl⟩
abbrev main_cst_13 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_15 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_16 : Ref sig .tc := ⟨.hbm, 84, rfl⟩
abbrev main_v58 : Ref sig .tc := ⟨.hbm, 85, rfl⟩
abbrev main_v59 : Ref sig .tc := ⟨.hbm, 86, rfl⟩
abbrev main_cst_17 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_18 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_19 : Ref sig .tc := ⟨.hbm, 101, rfl⟩
abbrev main_v72 : Ref sig .tc := ⟨.hbm, 102, rfl⟩
abbrev main_v73 : Ref sig .tc := ⟨.hbm, 103, rfl⟩
abbrev main_cst_20 : Ref sig .tc := ⟨.hbm, 104, rfl⟩
abbrev main_v74 : Ref sig .tc := ⟨.hbm, 105, rfl⟩
abbrev main_v75 : Ref sig .tc := ⟨.hbm, 106, rfl⟩
abbrev main_cst_21 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_22 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_23 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_24 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_25 : Ref sig .tc := ⟨.hbm, 132, rfl⟩
abbrev main_v97 : Ref sig .tc := ⟨.hbm, 133, rfl⟩
abbrev main_v98 : Ref sig .tc := ⟨.hbm, 134, rfl⟩
abbrev main_cst_26 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩

abbrev nD : Nat := 1
abbrev τ : Topo := Topo.v7x

variable {F : FTy → Type} [FloatOps F]
-- ==== Kernel11.lean ====
abbrev S4096x256 : Shape := ⟨2, ![4096, 256]⟩
abbrev S4096x1024 : Shape := ⟨2, ![4096, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S4096x1024, .bf16⟩
  | .hbm, ⟨3, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x128 : Shape := ⟨2, ![4096, 128]⟩
abbrev S4096x1024 : Shape := ⟨2, ![4096, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x1024, .f32⟩
  | .hbm, ⟨2, _⟩ => ⟨S4096x128, .bf16⟩
  | .hbm, ⟨3, _⟩ => ⟨S4096x1024, .bf16⟩
  | .hbm, ⟨4, _⟩ => ⟨S128x1024, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x128 : Shape := ⟨2, ![4096, 128]⟩
abbrev S4096x1024 : Shape := ⟨2, ![4096, 1024]⟩
abbrev S_ : Shape := ⟨0, ![]⟩
abbrev S128x1024 : Shape := ⟨2, ![128, 1024]⟩
abbrev S1024x128 : Shape := ⟨2, ![1024, 128]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x1024, .f32⟩
  | .hbm, ⟨2, _⟩ => ⟨S_, .f32⟩
  | .hbm, ⟨3, _⟩ => ⟨S128x1024, .f32⟩
  | .hbm, ⟨4, _⟩ => ⟨S1024x128, .f32⟩
  | .hbm, ⟨5, _⟩ => ⟨S4096x128, .f32⟩
  | .hbm, ⟨6, _⟩ => ⟨S128x1024, .f32⟩
  | .hbm, ⟨7, _⟩ => ⟨S1024x128, .f32⟩
  | .hbm, ⟨8, _⟩ => ⟨S128x1024, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Prenorm.lean ====
module

public import proofs.«01_k».proof.Proof.Gen.Kernel6Ideal.Value
public import Idealize.ShloMosaic.Lib.Pipeline.ValueKit
public import Idealize.ShloMosaic.Lib.Claim
public import proofs.«01_k».proof.Proof.Gen.Reference6Ideal.Run
public import proofs.«01_k».proof.Defs

@[expose] public section

set_option maxRecDepth 16384

noncomputable section

/-! # The kernel's norm of a row, and the row's product with the weights of the attention's projections -/

namespace Cert.Kernel6Ideal.Hand

open Cert.Kernel6Ideal Cert.Kernel6Ideal.Gen Cert.Kernel6Ideal.Value
open Idealize.ShloMosaic Idealize.ShloMosaic.TcCoe Idealize.ShloMosaic.Pipeline

/-- The reciprocal of a row's root mean square, the row's sum of squares given. -/
def rms (s : EReal) : EReal := Ideal.rsqrt (Ideal.div s (Ideal.ofBits .f32 0x44800000#32) + Ideal.ofBits .f32 0x358637BD#32)

theorem norm_at (x : FVec Ideal S512x1024 .f32) (g : FVec Ideal S1x1024 .f32) (i : Fin 512) (k : Fin 1024) : k0_pay1 (F := Ideal) x g (ix2 i k)
      = x (ix2 i k) * rms (∑ l : Fin 1024, x (ix2 i l) * x (ix2 i l)) * g (ix2 0 k) := by
  pointwise [k0_pay1]
  rfl

theorem prod_at (x : FVec Ideal S512x1024 .f32) (g : FVec Ideal S1x1024 .f32) (w : FVec Ideal S3072x1024 .bf16) (i : Fin 512) (n : Fin 3072) :
    k0_pay2 (F := Ideal) x g w (ix2 i n) = ∑ l : Fin 1024, k0_pay1 (F := Ideal) x g (ix2 i l) * w (ix2 n l) := by
  pointwise [k0_pay2]

theorem left_at (x : FVec Ideal S512x1024 .f32) (g : FVec Ideal S1x1024 .f32) (w : FVec Ideal S3072x1024 .bf16) (i : Fin 512) (n : Fin 1024) :
    k0_pay3 (F := Ideal) x g w (ix2 i n) = k0_pay2 (F := Ideal) x g w (ix2 i ⟨n.val, by omega⟩) * Ideal.ofBits .f32 0x3E0293EE#32 := by
  pointwise [k0_pay3]

theorem right_at (x : FVec Ideal S512x1024 .f32) (g : FVec Ideal S1x1024 .f32) (w : FVec Ideal S3072x1024 .bf16) (i : Fin 512) (n : Fin 2048) :
    k0_pay4 (F := Ideal) x g w (ix2 i n) = k0_pay2 (F := Ideal) x g w (ix2 i ⟨1024 + n.val, by omega⟩) := by
  pointwise [k0_pay4]

variable (m : (ℓ : Loc nD τ sig) → Buf (Elt Ideal) ℓ) (c : Dev nD) (t : Fin cfg0.N) (i : Fin 512)

abbrev AX : FVec Ideal S4096x1024 .f32 := m ((c.tc : Thread nD τ).loc main_arg0)
abbrev AG : FVec Ideal S1x1024 .f32 := m ((c.tc : Thread nD τ).loc main_arg1)
abbrev AW : FVec Ideal S1024x6152 .f32 := m ((c.tc : Thread nD τ).loc main_arg2)

/-- The normalised input. -/
def nrm (r : Fin 4096) (k : Fin 1024) : EReal :=
  AX m c (ix2 r k) * rms (∑ l : Fin 1024, AX m c (ix2 r l) * AX m c (ix2 r l)) * AG m c (ix2 0 k)

/-- Its projections; the first 1024 columns are scaled. -/
def proj (r : Fin 4096) (n : Fin 3072) : EReal :=
  if n.val < 1024 then (∑ l : Fin 1024, nrm m c r l * AW m c (ix2 l ⟨n.val, by omega⟩)) * Ideal.ofBits .f32 0x3E0293EE#32
  else ∑ l : Fin 1024, nrm m c r l * AW m c (ix2 l ⟨n.val, by omega⟩)

theorem idx : ∀ t : Fin cfg0.N, win0_0.index t = ![t.val, 0] ∧ win0_1.index t = ![0, 0] ∧ win0_2.index t = ![0, 0] ∧ win0_4.index t = ![t.val, 0]
    ∧ win0_5.index t = ![t.val, 0] :=
  (by decide +kernel : ∀ t : Fin grid0.N, _)

/-- Row `i` of the point's block is row `512 t + i` of the array. -/
def row (t : Fin cfg0.N) (i : Fin 512) : Fin 4096 := ⟨t.val * 512 + i.val, by have := lt_of_lt_of_eq t.isLt N_0; omega⟩

abbrev bX : FVec Ideal S512x1024 .f32 := iblk m c 0 t
abbrev bG : FVec Ideal S1x1024 .f32 := iblk m c 1 t
abbrev bW : FVec Ideal S3072x1024 .bf16 := X0_2 m c t

theorem bX_at (k : Fin 1024) : bX m c t (ix2 i k) = AX m c (ix2 (row t i) k) := by unfold row; blk_point [iblk, V, idx t]
theorem bG_at (u : Fin 1) (k : Fin 1024) : bG m c t (ix2 u k) = AG m c (ix2 0 k) := by blk_point [iblk, V, idx t]
theorem bW_at (n : Fin 3072) (k : Fin 1024) : bW m c t (ix2 n k) = AW m c (ix2 k ⟨n.val, by omega⟩) := by
  unfold bW X0_2 Window.fill
  rw [dif_pos (moved0_2 t _)]
  blk_point [iblk, idx t]

theorem block_nrm (k : Fin 1024) : k0_pay1 (F := Ideal) (bX m c t) (bG m c t) (ix2 i k) = nrm m c (row t i) k := by
  rw [norm_at, bG_at, bX_at]
  unfold nrm
  simp only [bX_at]

theorem block_prod (n : Fin 3072) : k0_pay2 (F := Ideal) (bX m c t) (bG m c t) (bW m c t) (ix2 i n)
    = ∑ l : Fin 1024, nrm m c (row t i) l * AW m c (ix2 l ⟨n.val, by omega⟩) := by
  rw [prod_at]
  exact Finset.sum_congr rfl fun l _ => congrArg₂ (· * ·) (block_nrm m c t i l) (bW_at m c t n l)

theorem array_nrm : (dats m 0 c).arrAt 4 (cfgs 0).N = (fun y : S4096x1024.Idx => nrm m c (y 0) (y 1)) := by
  refine (dats m 0 c).arrAt_eq_of_covers 4 _ (by decide +kernel) fun t hf y => ?_
  blk_simp
  rw [after0_4]
  have hb : (outsAt0 m c t).1 y = nrm m c (row t (y 0)) (y 1) := by
    unfold outsAt0; frame_out
    obtain ⟨i, k, rfl⟩ : ∃ (i : Fin 512) (k : Fin 1024), y = ix2 i k := ⟨y 0, y 1, by funext a; fin_cases a <;> rfl⟩
    exact block_nrm m c t i k
  refine hb.trans (congrArg₂ (nrm m c) (Fin.ext ?_) (Fin.ext ?_))
  · unfold row
    blk_simp [idx t]
  · blk_simp [idx t]

/-- Two stores side by side, read back. -/
theorem two_stores (R : FVec Ideal S512x2048 .bf16) (L : FVec Ideal S512x1024 .bf16) (n : Fin 3072) :
    View.canon (Val := Elt Ideal) [(⟨Rect.unit ![0, 1024] ![512, 2048] inb_S512x3072_S512x2048_0_1024, R⟩ : View.Piece (Elt Ideal) S512x3072 .bf16),
      ⟨Rect.unit ![0, 0] ![512, 1024] inb_S512x3072_S512x1024_0_0, L⟩] (ix2 i n)
    = if h : n.val < 1024 then L (ix2 i ⟨n.val, h⟩) else R (ix2 i ⟨n.val - 1024, by omega⟩) := by
  refine View.canon_eq_of_allAt _ _ _ ?_ (View.allAt_cons_unit _ _ _ _ _ ?_ (View.allAt_cons_unit _ _ _ _ _ ?_ (View.allAt_nil _ _)))
  · by_cases h : n.val < 1024
    · refine ⟨_, List.mem_cons_of_mem _ List.mem_cons_self, (Rect.mem_set_unit (inb := inb_S512x3072_S512x1024_0_0)).mpr fun a => ?_⟩
      fin_cases a
      · exact ⟨Nat.zero_le _, by show i.val < 0 + 512; omega⟩
      · exact ⟨Nat.zero_le _, by show n.val < 0 + 1024; omega⟩
    · refine ⟨_, List.mem_cons_self, (Rect.mem_set_unit (inb := inb_S512x3072_S512x2048_0_1024)).mpr fun a => ?_⟩
      fin_cases a
      · exact ⟨Nat.zero_le _, by show i.val < 0 + 512; omega⟩
      · exact ⟨by show 1024 ≤ n.val; omega, by show n.val < 1024 + 2048; omega⟩
  · intro x hx
    have h0 : i.val = 0 + (x 0).val := hx 0
    have h1 : n.val = 1024 + (x 1).val := hx 1
    rw [dif_neg (by omega)]
    refine congrArg R (funext fun a => Fin.ext ?_)
    fin_cases a
    · show (x 0).val = i.val
      omega
    · show (x 1).val = n.val - 1024
      omega
  · intro x hx
    have h0 : i.val = 0 + (x 0).val := hx 0
    have h1 : n.val = 0 + (x 1).val := hx 1
    have hl : (x 1).val < 1024 := (x 1).isLt
    rw [dif_pos (by omega)]
    refine congrArg L (funext fun a => Fin.ext ?_)
    fin_cases a
    · show (x 0).val = i.val
      omega
    · show (x 1).val = n.val
      omega

theorem array_proj : (dats m 0 c).arrAt 5 (cfgs 0).N = (fun y : S4096x3072.Idx => proj m c (y 0) (y 1)) := by
  refine (dats m 0 c).arrAt_eq_of_covers 5 _ (by decide +kernel) fun t hf y => ?_
  blk_simp
  rw [after0_5]
  have hb : (outsAt0 m c t).2 y = proj m c (row t (y 0)) (y 1) := by
    unfold outsAt0; frame_out
    obtain ⟨i, k, rfl⟩ : ∃ (i : Fin 512) (k : Fin 3072), y = ix2 i k := ⟨y 0, y 1, by funext a; fin_cases a <;> rfl⟩
    refine (two_stores i _ _ k).trans ?_
    show _ = proj m c (row t i) k
    unfold proj
    split
    · next h =>
      rw [left_at]
      exact congrArg (· * _) (block_prod m c t i _)
    · next h =>
      rw [right_at]
      refine (block_prod m c t i _).trans (Finset.sum_congr rfl fun l _ => congrArg (fun z => _ * AW m c (ix2 l z)) (Fin.ext ?_))
      show 1024 + (k.val - 1024) = k.val
      omega
  refine hb.trans (congrArg₂ (proj m c) (Fin.ext ?_) (Fin.ext ?_))
  · unfold row
    blk_simp [idx t]
  · blk_simp [idx t]

end Cert.Kernel6Ideal.Hand

/-! # The reference's -/

namespace Cert.Reference6Ideal.Hand

open Cert.Reference6Ideal Cert.Reference6Ideal.Gen Cert.Reference6Ideal.Value
open Idealize.ShloMosaic Idealize.ShloMosaic.TcCoe

/-- The normalised input, over the reference's arguments. -/
def nrm (x : FVec Ideal S4096x1024 .f32) (g : FVec Ideal S1x1024 .f32) : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0
    (Host.reduceAdd (mulf x x) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32)))))) (broadcastInDim S4096x1024 ![0, 1] bcast_S1x1024_S4096x1024_0_1 g)

theorem nrm_at (x : FVec Ideal S4096x1024 .f32) (g : FVec Ideal S1x1024 .f32) (r : Fin 4096) (k : Fin 1024) : nrm x g (ix2 r k)
    = x (ix2 r k) * Ideal.rsqrt (Ideal.div (∑ l : Fin 1024, x (ix2 r l) * x (ix2 r l)) (Ideal.ofBits .f32 0x44800000#32) + Ideal.ofBits .f32 0x358637BD#32) * g (ix2 0 k) := by
  pointwise [nrm]

def prod (x : FVec Ideal S4096x1024 .f32) (w : FVec Ideal S1024x6152 .f32) : FVec Ideal S4096x6152 .f32 :=
  Host.dotGeneral dot_S4096x1024_S1024x6152_S4096x6152_1_0_0_1_n_n none x w

theorem prod_at (x : FVec Ideal S4096x1024 .f32) (w : FVec Ideal S1024x6152 .f32) (r : Fin 4096) (n : Fin 6152) : prod x w (ix2 r n)
    = ∑ l : Fin 1024, x (ix2 r l) * w (ix2 l n) := by
  pointwise [prod]

def out (z : FVec Ideal S4096x6152 .f32) : FVec Ideal S4096x3072 .bf16 :=
  truncf .bf16 (concatenate S4096x3072 1 [⟨S4096x1024, (mulf (extractStridedSlice S4096x1024 ![0, 0] z slices_S4096x6152_S4096x1024_0_0)
    (broadcastInDim S4096x1024 ![] bcast_S_S4096x1024 (constant S_ .f32 0x3E0293EE#32)))⟩, ⟨S4096x2048, (extractStridedSlice S4096x2048 ![0, 1024] z slices_S4096x6152_S4096x2048_0_1024)⟩]
    concatenates_S4096x1024_S4096x2048_S4096x3072_d1) bitsLt_bf16_f32

theorem out_at (z : FVec Ideal S4096x6152 .f32) (r : Fin 4096) (n : Fin 3072) : out z (ix2 r n)
    = if n.val < 1024 then z (ix2 r ⟨n.val, by omega⟩) * Ideal.ofBits .f32 0x3E0293EE#32 else z (ix2 r ⟨n.val, by omega⟩) := by
  pointwise [out]
  split
  · rfl
  · next h =>
    refine congrArg (fun j => z (ix2 r j)) (Fin.ext ?_)
    show 1024 + (n.val - 1024) = n.val
    omega

end Cert.Reference6Ideal.Hand

/-! # The claim -/

namespace Cert.Prenorm

open Idealize.ShloMosaic Idealize.ShloMosaic.TcCoe Idealize.SL.Sem

theorem algebraic_prenorm : Cert.algebraic_Kernel6Ideal_Reference6Ideal (hKernel6Ideal := Cert.Kernel6Ideal.Gen.facts)
    (hReference6Ideal := Cert.Reference6Ideal.Gen.facts) := by
  intro m g m' g' _ hagree
  refine ⟨fun c y => Cert.Kernel6Ideal.Hand.nrm m c (y 0) (y 1), fun c y => Cert.Kernel6Ideal.Hand.proj m c (y 0) (y 1), ?_, ?_⟩
  · exact (θ_run _ _ _).mono (fun _ h c => ⟨(h c).1.trans (Cert.Kernel6Ideal.Hand.array_nrm m c), (h c).2.1.trans (Cert.Kernel6Ideal.Hand.array_proj m c), (h c).2.2⟩)
      (Cert.Kernel6Ideal.Value.run_blocks m g)
  · have hn : ∀ (c : Dev Cert.Kernel6Ideal.nD) (r : Fin 4096) (k : Fin 1024),
        Cert.Reference6Ideal.Hand.nrm (Cert.Kernel6Ideal.Hand.AX m c) (Cert.Kernel6Ideal.Hand.AG m c) (ix2 r k) = Cert.Kernel6Ideal.Hand.nrm m c r k := fun c r k =>
      Cert.Reference6Ideal.Hand.nrm_at _ _ r k
    refine (θ_run _ _ _).mono (fun _ h c => ⟨(h c).1.trans ?_, (h c).2.1.trans ?_, (h c).2.2⟩) (Cert.Reference6Ideal.Value.run m' g')
    · rw [(hagree c).1, (hagree c).2.1]
      funext y
      obtain ⟨r, e, rfl⟩ : ∃ (r : Fin 4096) (e : Fin 1024), y = ix2 r e := ⟨y 0, y 1, by funext a; fin_cases a <;> rfl⟩
      exact hn c r e
    · rw [(hagree c).1, (hagree c).2.1, (hagree c).2.2]
      funext y
      obtain ⟨r, e, rfl⟩ : ∃ (r : Fin 4096) (e : Fin 3072), y = ix2 r e := ⟨y 0, y 1, by funext a; fin_cases a <;> rfl⟩
      refine (Cert.Reference6Ideal.Hand.out_at (Cert.Reference6Ideal.Hand.prod (Cert.Reference6Ideal.Hand.nrm _ _) _) r e).trans ?_
      show _ = Cert.Kernel6Ideal.Hand.proj m c r e
      unfold Cert.Kernel6Ideal.Hand.proj
      rw [Cert.Reference6Ideal.Hand.prod_at]
      simp only [hn]

end Cert.Prenorm

end
-- ==== Proof.Rest.lean ====
module

public import proofs.«01_k».proof.Proof.Gen.Kernel8Ideal.Value
public import Idealize.ShloMosaic.Lib.Pipeline.ValueKit
public import Idealize.ShloMosaic.Lib.Claim
public import proofs.«01_k».proof.Proof.Gen.Reference8Ideal.Run
public import proofs.«01_k».proof.Defs

@[expose] public section

set_option maxRecDepth 16384

noncomputable section

/-! # The normed row's product with the weights of the remaining projections

A grid point holds 512 rows; the weights, transposed by the host, are whole at every point. The array of the products does not
read the sum that the kernel carries from point to point, so both of the kernel's cases leave the same product in it. -/

namespace Cert.Kernel8Ideal.Hand

open Cert.Kernel8Ideal Cert.Kernel8Ideal.Gen Cert.Kernel8Ideal.Value
open Idealize.ShloMosaic Idealize.ShloMosaic.TcCoe Idealize.ShloMosaic.Pipeline

theorem prod_at (x : FVec Ideal S512x1024 .bf16) (w : FVec Ideal S3200x1024 .bf16) (i : Fin 512) (n : Fin 3200) :
    k0_pay3 (F := Ideal) x w (ix2 i n) = ∑ l : Fin 1024, x (ix2 i l) * w (ix2 n l) := by
  pointwise [k0_pay3]

variable (m : (ℓ : Loc nD τ sig) → Buf (Elt Ideal) ℓ) (c : Dev nD) (t : Fin cfg0.N) (i : Fin 512)

abbrev AX : FVec Ideal S4096x1024 .f32 := m ((c.tc : Thread nD τ).loc main_arg0)
abbrev AW : FVec Ideal S1024x3200 .f32 := m ((c.tc : Thread nD τ).loc main_arg1)

/-- The product of row `r` with column `n` of the weights. -/
def proj (r : Fin 4096) (n : Fin 3200) : EReal := ∑ l : Fin 1024, AX m c (ix2 r l) * AW m c (ix2 l n)

theorem idx : ∀ t : Fin cfg0.N, win0_0.index t = ![t.val, 0] ∧ win0_1.index t = ![0, 0] ∧ win0_3.index t = ![t.val, 0] :=
  (by decide +kernel : ∀ t : Fin grid0.N, _)

/-- Row `i` of the point's block is row `512 t + i` of the array. -/
def row (t : Fin cfg0.N) (i : Fin 512) : Fin 4096 := ⟨t.val * 512 + i.val, by have := lt_of_lt_of_eq t.isLt N_0; omega⟩

abbrev bX : FVec Ideal S512x1024 .bf16 := iblk m c 0 t
abbrev bW : FVec Ideal S3200x1024 .bf16 := iblk m c 1 t

theorem bX_at (k : Fin 1024) : bX m c t (ix2 i k) = AX m c (ix2 (row t i) k) := by unfold row; blk_point [iblk, idx t]
theorem bW_at (n : Fin 3200) (k : Fin 1024) : bW m c t (ix2 n k) = AW m c (ix2 k n) := by blk_point [iblk, idx t]

theorem block (n : Fin 3200) : k0_pay3 (F := Ideal) (bX m c t) (bW m c t) (ix2 i n) = proj m c (row t i) n := by
  rw [prod_at]
  exact Finset.sum_congr rfl fun l _ => congrArg₂ (· * ·) (bX_at m c t i l) (bW_at m c t n l)

theorem array_proj : (dats m 0 c).arrAt 3 (cfgs 0).N = (fun y : S4096x3200.Idx => proj m c (y 0) (y 1)) := by
  refine (dats m 0 c).arrAt_eq_of_covers 3 _ (by decide +kernel) fun t hf y => ?_
  blk_simp
  rw [after0_3]
  have hb : (outsAt0 m c t.val t.isLt).1 y = proj m c (row t (y 0)) (y 1) := by
    obtain ⟨i, n, rfl⟩ : ∃ (i : Fin 512) (n : Fin 3200), y = ix2 i n := ⟨y 0, y 1, by funext a; fin_cases a <;> rfl⟩
    by_cases h0 : t.val % 8 = 0
    · rw [outsAt0_A m c t h0]; frame_out
      exact block m c t i n
    · rw [outsAt0_B m c t h0]; frame_out
      exact block m c t i n
  refine hb.trans (congrArg₂ (proj m c) (Fin.ext ?_) (Fin.ext ?_))
  · unfold row
    blk_simp [idx t]
  · blk_simp [idx t]

end Cert.Kernel8Ideal.Hand

/-! # The reference's -/

namespace Cert.Reference8Ideal.Hand

open Cert.Reference8Ideal Cert.Reference8Ideal.Gen Cert.Reference8Ideal.Value
open Idealize.ShloMosaic Idealize.ShloMosaic.TcCoe

def prod (x : FVec Ideal S4096x1024 .f32) (w : FVec Ideal S1024x3200 .f32) : FVec Ideal S4096x3200 .f32 :=
  Host.dotGeneral dot_S4096x1024_S1024x3200_S4096x3200_1_0_0_1_n_n none x w

theorem prod_at (x : FVec Ideal S4096x1024 .f32) (w : FVec Ideal S1024x3200 .f32) (r : Fin 4096) (n : Fin 3200) : prod x w (ix2 r n)
    = ∑ l : Fin 1024, x (ix2 r l) * w (ix2 l n) := by
  pointwise [prod]

end Cert.Reference8Ideal.Hand

/-! # The claim -/

namespace Cert.Rest

open Idealize.ShloMosaic Idealize.ShloMosaic.TcCoe Idealize.SL.Sem

theorem algebraic_rest : Cert.algebraic_Kernel8Ideal_Reference8Ideal (hKernel8Ideal := Cert.Kernel8Ideal.Gen.facts)
    (hReference8Ideal := Cert.Reference8Ideal.Gen.facts) := by
  intro m g m' g' _ hagree
  refine ⟨fun c y => Cert.Kernel8Ideal.Hand.proj m c (y 0) (y 1), ?_, ?_⟩
  · exact (θ_run _ _ _).mono (fun _ h c => ⟨(h c).1.trans (Cert.Kernel8Ideal.Hand.array_proj m c), (h c).2.2⟩)
      (Cert.Kernel8Ideal.Value.run_blocks m g)
  · refine (θ_run _ _ _).mono (fun _ h c => ⟨(h c).1.trans ?_, (h c).2⟩) (Cert.Reference8Ideal.Value.run m' g')
    rw [(hagree c).1, (hagree c).2.1]
    funext y
    obtain ⟨r, e, rfl⟩ : ∃ (r : Fin 4096) (e : Fin 3200), y = ix2 r e := ⟨y 0, y 1, by funext a; fin_cases a <;> rfl⟩
    exact Cert.Reference8Ideal.Hand.prod_at _ _ r e

end Cert.Rest

end
-- ==== Proof.Math.lean ====
module

public import Idealize.ShloMosaic.Lib.Pointwise

@[expose] public section

noncomputable section

namespace Cert.Attention

open Idealize.ShloMosaic

/-! # The attention's gradients over the reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Two sums of products of reals, factor by factor. -/
theorem sum_mul_coe {ι : Type} [Fintype ι] {f g : ι → EReal} (a b : ι → ℝ) (hf : ∀ i, f i = a i) (hg : ∀ i, g i = b i) :
    ∑ i, f i * g i = ((∑ i, a i * b i : ℝ) : EReal) := by
  rw [coe_sum]
  exact Finset.sum_congr rfl fun i _ => by rw [hf, hg, EReal.coe_mul]

theorem div_coe_coe (a : ℝ) {b : ℝ} (hb : b ≠ 0) : Ideal.div (a : EReal) (b : EReal) = ((a / b : ℝ) : EReal) := by
  rw [Ideal.div_coe hb, ← EReal.coe_mul]; congr 1; ring

theorem log_pos_coe {a : ℝ} (h : 0 < a) : Ideal.log (a : EReal) = (Real.log a : EReal) := by
  rw [Ideal.log_coe, if_neg (by exact_mod_cast not_le.mpr h)]

theorem two_pow (y : ℝ) : Real.rpow 2 (y / Real.log 2) = Real.exp y := by
  have h : (0 : ℝ) < Real.log 2 := Real.log_pos (by norm_num)
  show (2 : ℝ) ^ (y / Real.log 2) = _
  rw [Real.rpow_def_of_pos (by norm_num)]
  congr 1
  field_simp

/-- Negative infinity, two, and the score's scale, as the words that denote them. -/
theorem word_neg : Ideal.ofBits FTy.f32 4286578688#32 = ⊥ := by simp [Ideal.ofBits, Ideal.ieee]

theorem word_two : Ideal.ofBits FTy.f32 1073741824#32 = ((2 : ℝ) : EReal) := by
  simp [Ideal.ofBits, Ideal.ieee, -EReal.coe_mul]; norm_num

/-- The score's scale. -/
def scale : ℝ := 11863283 / 134217728

theorem word_scale : Ideal.ofBits FTy.f32 1035273459#32 = (scale : EReal) := by
  simp [Ideal.ofBits, Ideal.ieee, -EReal.coe_mul, scale]; norm_num

section Row

variable (i : Fin 4096) (u : Fin 4096 → ℝ)

/-- A row's mass: its keys are those that do not come after the query. -/
def rowMass : ℝ := ∑ k : Fin 4096, if k.val ≤ i.val then Real.exp (u k) else 0

def rowProb (k : Fin 4096) : ℝ := if k.val ≤ i.val then Real.exp (u k) / rowMass i u else 0

theorem rowMass_pos : 0 < rowMass i u :=
  Finset.sum_pos' (fun k _ => by split_ifs; exacts [(Real.exp_pos _).le, le_rfl]) ⟨i, Finset.mem_univ _, by rw [if_pos le_rfl]; exact Real.exp_pos _⟩

theorem rowMass_shift (a : ℝ) : rowMass i (fun k => u k + a) = rowMass i u * Real.exp a := by
  unfold rowMass
  rw [Finset.sum_mul]
  exact Finset.sum_congr rfl fun k _ => by split_ifs; exacts [Real.exp_add _ _, (zero_mul _).symm]

theorem rowProb_shift (a : ℝ) (k : Fin 4096) : rowProb i (fun k => u k + a) k = rowProb i u k := by
  unfold rowProb
  rw [rowMass_shift, Real.exp_add, mul_div_mul_right _ _ (Real.exp_pos a).ne']

theorem rowProb_sum : ∑ k, rowProb i u k = 1 := by
  have h := (rowMass_pos i u).ne'
  have e : ∀ k, rowProb i u k = (if k.val ≤ i.val then Real.exp (u k) else 0) / rowMass i u := fun k => by
    unfold rowProb; split_ifs; exacts [rfl, (zero_div _).symm]
  rw [Finset.sum_congr rfl fun k _ => e k, ← Finset.sum_div]
  exact div_self h

/-- The greatest of a row is a real number: the query's own key is among its keys. -/
theorem row_greatest : ∃ M : ℝ, Finset.fold max (⊥ : EReal) (fun k : Fin 4096 => if k.val ≤ i.val then (u k : EReal) else ⊥) Finset.univ = M := by
  obtain ⟨k, -, hk⟩ := Finset.exists_mem_eq_sup (Finset.univ : Finset (Fin 4096)) ⟨i, Finset.mem_univ _⟩ (fun k : Fin 4096 => if k.val ≤ i.val then (u k : EReal) else ⊥)
  have hs : Finset.fold max (⊥ : EReal) (fun k : Fin 4096 => if k.val ≤ i.val then (u k : EReal) else ⊥) Finset.univ = Finset.univ.sup (fun k : Fin 4096 => if k.val ≤ i.val then (u k : EReal) else ⊥) := rfl
  by_cases h : k.val ≤ i.val
  · exact ⟨u k, by rw [hs, hk, if_pos h]⟩
  · exfalso
    have := Finset.le_sup (f := fun k : Fin 4096 => if k.val ≤ i.val then (u k : EReal) else ⊥) (Finset.mem_univ i)
    rw [hk] at this
    simp only [if_neg h, le_refl, if_true] at this
    exact EReal.coe_ne_bot _ (le_bot_iff.mp this)

theorem row_exp (M : ℝ) (k : Fin 4096) : Ideal.exp ((if k.val ≤ i.val then (u k : EReal) else ⊥) - (M : EReal)) = ((if k.val ≤ i.val then Real.exp (u k + -M) else 0 : ℝ) : EReal) := by
  split_ifs
  · rw [← EReal.coe_sub, Ideal.exp_coe]; rfl
  · rw [EReal.bot_sub, Ideal.exp_bot]; rfl

end Row

section Heads

variable (q k v g : Fin 8 → Fin 4096 → Fin 128 → ℝ) (cc : Fin 8 → Fin 4096 → ℝ) (h : Fin 8)

/-- A score: the keys' bias is taken off; the queries' bias changes no weight. -/
def wR (i j : Fin 4096) : ℝ := (∑ x, q h i x * k h j x) * scale - cc h j

def pR (i j : Fin 4096) : ℝ := rowProb i (wR q k cc h i) j

/-- The gradient of a weight. -/
def gR (i j : Fin 4096) : ℝ := ∑ x, g h i x * v h j x

/-- The gradient of a score. -/
def dR (i j : Fin 4096) : ℝ := pR q k cc h i j * (gR v g h i j - ∑ l, pR q k cc h i l * gR v g h i l)

def dqR (i : Fin 4096) (e : Fin 128) : ℝ := ∑ j, dR q k v g cc h i j * scale * k h j e

def dkR (j : Fin 4096) (e : Fin 128) : ℝ := ∑ i, dR q k v g cc h i j * scale * q h i e

def dvR (j : Fin 4096) (e : Fin 128) : ℝ := ∑ i, pR q k cc h i j * g h i e

def dcR (j : Fin 4096) : ℝ := ∑ i, dR q k v g cc h i j

/-- A row of the scores' gradients sums to nothing: the weights of a row sum to one. -/
theorem dR_row (i : Fin 4096) : ∑ j, dR q k v g cc h i j = 0 := by
  unfold dR
  simp only [mul_sub, Finset.sum_sub_distrib]
  rw [← Finset.sum_mul, show ∑ j, pR q k cc h i j = 1 from rowProb_sum i _, one_mul, sub_self]

end Heads

end Cert.Attention

end
-- ==== Proof.Model.lean ====
module

public import proofs.«01_k».proof.Proof.Gen.KernelIdeal.Frame
public import proofs.«01_k».proof.Proof.Gen.KernelIdeal.Skeleton
public import Idealize.ShloMosaic.Lib.VecWindow
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.VecWindow Idealize.ShloMosaic.ValueIdx

/-! # The body as plain functions of its blocks

One grid point takes a tile of 1024 keys of one head and all the head's queries. It treats the tile on the diagonal in
two halves of 512 queries each, under the mask, and the tiles of 1024 queries below it one by one, without. Here each
of these steps is a function of the vectors it reads. -/

section Rows

variable {α : Type}

/-- 512 rows of a head's array, from row `r` on. -/
def rows512 (X : S4096x128.Idx → α) (r : ℕ) : S512x128.Idx → α :=
  fun y => X (ix2 ⟨(r + (y 0).val) % 4096, Nat.mod_lt _ (by decide)⟩ (y 1))

/-- 1024 rows of a head's array, from row `r` on. -/
def rows1024 (X : S4096x128.Idx → α) (r : ℕ) : S1024x128.Idx → α :=
  fun y => X (ix2 ⟨(r + (y 0).val) % 4096, Nat.mod_lt _ (by decide)⟩ (y 1))

/-- 512 rows of a head's array that carries the head's axis, from row `r` on. -/
def rows1x512 (X : S1x4096x128.Idx → α) (r : ℕ) : S1x512x128.Idx → α :=
  fun y => X (ix3 (y 0) ⟨(r + (y 1).val) % 4096, Nat.mod_lt _ (by decide)⟩ (y 2))

/-- 1024 rows of a head's array that carries the head's axis, from row `r` on. -/
def rows1x1024 (X : S1x4096x128.Idx → α) (r : ℕ) : S1x1024x128.Idx → α :=
  fun y => X (ix3 (y 0) ⟨(r + (y 1).val) % 4096, Nat.mod_lt _ (by decide)⟩ (y 2))

theorem window_rows512 (X : S4096x128.Idx → α) (r : ℕ) (inb : ∀ a, (![r, 0] : Fin 2 → ℕ) a + S512x128.size a ≤ S4096x128.size a) :
    window X ![r, 0] S512x128.size inb = rows512 X r := by
  funext y
  have h0 : r + 512 ≤ 4096 := inb 0
  have hy : (y 0).val < 512 := (y 0).isLt
  refine congrArg X (funext fun a => Fin.ext ?_)
  fin_cases a
  · show r + 1 * (y 0).val = (r + (y 0).val) % 4096
    omega
  · show 0 + 1 * (y 1).val = (y 1).val
    omega

theorem window_rows1024 (X : S4096x128.Idx → α) (r : ℕ) (inb : ∀ a, (![r, 0] : Fin 2 → ℕ) a + S1024x128.size a ≤ S4096x128.size a) :
    window X ![r, 0] S1024x128.size inb = rows1024 X r := by
  funext y
  have h0 : r + 1024 ≤ 4096 := inb 0
  have hy : (y 0).val < 1024 := (y 0).isLt
  refine congrArg X (funext fun a => Fin.ext ?_)
  fin_cases a
  · show r + 1 * (y 0).val = (r + (y 0).val) % 4096
    omega
  · show 0 + 1 * (y 1).val = (y 1).val
    omega

theorem window_rows1x512 (X : S1x4096x128.Idx → α) (r : ℕ) (inb : ∀ a, (![0, r, 0] : Fin 3 → ℕ) a + S1x512x128.size a ≤ S1x4096x128.size a) :
    window X ![0, r, 0] S1x512x128.size inb = rows1x512 X r := by
  funext y
  have h0 : r + 512 ≤ 4096 := inb 1
  have hy : (y 1).val < 512 := (y 1).isLt
  refine congrArg X (funext fun a => Fin.ext ?_)
  fin_cases a
  · show 0 + 1 * (y 0).val = (y 0).val
    omega
  · show r + 1 * (y 1).val = (r + (y 1).val) % 4096
    omega
  · show 0 + 1 * (y 2).val = (y 2).val
    omega

theorem window_rows1x1024 (X : S1x4096x128.Idx → α) (r : ℕ) (inb : ∀ a, (![0, r, 0] : Fin 3 → ℕ) a + S1x1024x128.size a ≤ S1x4096x128.size a) :
    window X ![0, r, 0] S1x1024x128.size inb = rows1x1024 X r := by
  funext y
  have h0 : r + 1024 ≤ 4096 := inb 1
  have hy : (y 1).val < 1024 := (y 1).isLt
  refine congrArg X (funext fun a => Fin.ext ?_)
  fin_cases a
  · show 0 + 1 * (y 0).val = (y 0).val
    omega
  · show r + 1 * (y 1).val = (r + (y 1).val) % 4096
    omega
  · show 0 + 1 * (y 2).val = (y 2).val
    omega

end Rows

variable {F : FTy → Type} [FloatOps F] [Named F]

/-- A row's number within a tile. -/
abbrev rowNo : IVec S1024x128 32 := iota .tc S1024x128 32 [0] iota_S1024x128_d0_w32

/-- A lane's number. -/
abbrev laneNo : IVec S1024x128 32 := iota .tc S1024x128 32 [1] iota_S1024x128_d1_w32

/-! ## The first half of the diagonal tile: queries 0 to 511 against keys 0 to 511 -/

section Half0

variable (kt vt : Vec F S1024x128 .bf16) (kx : Vec F S1x1024x128 .bf16)
variable (q d : Vec F S512x128 .bf16) (dl : Vec F S1x512x128 .f32) (ax : Vec F S1x512x128 .bf16)

/-- The scores, in powers of two. -/
abbrev u0 : FVec F S512x512 .f32 := k0_pay63 kt kx q ax

/-- The products of the output's gradient with the values. -/
abbrev dp0 : FVec F S512x512 .f32 := k0_pay64 vt d

/-- What the half adds to the gradient of the keys. -/
def dk0 : FVec F S1024x128 .f32 :=
  k0_pay81 (k0_pay60 q) (k0_pay62 dl) (dp0 vt d)
    (k0_pay66 rowNo laneNo (k0_pay62 dl) (u0 kt kx q ax) (dp0 vt d))
    (k0_pay68 rowNo laneNo (k0_pay62 dl) (u0 kt kx q ax) (dp0 vt d))
    (k0_pay70 rowNo laneNo (k0_pay62 dl) (u0 kt kx q ax) (dp0 vt d))
    (k0_pay71 (u0 kt kx q ax)) (k0_pay72 rowNo) (k0_pay73 laneNo)

/-- What the half adds to the gradient of the values. -/
def dv0 : FVec F S1024x128 .f32 :=
  k0_pay80 (k0_pay61 d)
    (k0_pay65 rowNo laneNo (u0 kt kx q ax)) (k0_pay67 rowNo laneNo (u0 kt kx q ax)) (k0_pay69 rowNo laneNo (u0 kt kx q ax))
    (k0_pay71 (u0 kt kx q ax)) (k0_pay72 rowNo) (k0_pay73 laneNo)

/-- What the half adds to the column sums, eight rows of them. -/
def dc0 : FVec F S8x1024 .f32 :=
  k0_pay79 (k0_pay62 dl) (dp0 vt d)
    (k0_pay66 rowNo laneNo (k0_pay62 dl) (u0 kt kx q ax) (dp0 vt d))
    (k0_pay68 rowNo laneNo (k0_pay62 dl) (u0 kt kx q ax) (dp0 vt d))
    (k0_pay70 rowNo laneNo (k0_pay62 dl) (u0 kt kx q ax) (dp0 vt d))
    (k0_pay71 (u0 kt kx q ax)) (k0_pay72 rowNo) (k0_pay73 laneNo)

/-- The queries' gradient in the half's rows, from what they held. -/
def dq0 (old : Vec F S512x128 .f32) : FVec F S512x128 .f32 :=
  k0_pay82 (k0_pay54 kt) (k0_pay62 dl) (dp0 vt d)
    (k0_pay66 rowNo laneNo (k0_pay62 dl) (u0 kt kx q ax) (dp0 vt d))
    (k0_pay68 rowNo laneNo (k0_pay62 dl) (u0 kt kx q ax) (dp0 vt d))
    (k0_pay70 rowNo laneNo (k0_pay62 dl) (u0 kt kx q ax) (dp0 vt d))
    (k0_pay71 (u0 kt kx q ax)) (k0_pay72 rowNo) (k0_pay73 laneNo) old

end Half0

/-! ## The second half of the diagonal tile: queries 512 to 1023 against all 1024 keys -/

section Half1

variable (k v : FVec F S1024x128 .bf16) (ka : FVec F S1024x256 .bf16)
variable (q d : Vec F S512x128 .bf16) (dl : Vec F S1x512x128 .f32) (ax : Vec F S1x512x128 .bf16)

/-- The gradient of the keys with the half added to `acc`. -/
def dk1 (acc : FVec F S1024x128 .f32) : FVec F S1024x128 .f32 :=
  k0_pay114 acc (k0_pay86 q)
    (k0_pay92 v ka q d dl ax) (k0_pay94 v ka q d dl ax) (k0_pay96 v ka q d dl ax) (k0_pay98 v ka q d dl ax)
    (k0_pay103 (k0_pay88 dl) (k0_pay90 v d) (k0_pay99 ka q ax) (k0_pay100 rowNo) (k0_pay101 laneNo))
    (k0_pay105 rowNo laneNo (k0_pay88 dl) (k0_pay89 ka q ax) (k0_pay90 v d))
    (k0_pay107 rowNo laneNo (k0_pay88 dl) (k0_pay89 ka q ax) (k0_pay90 v d))
    (k0_pay109 rowNo laneNo (k0_pay88 dl) (k0_pay89 ka q ax) (k0_pay90 v d))

/-- The gradient of the values with the half added to `acc`. -/
def dv1 (acc : FVec F S1024x128 .f32) : FVec F S1024x128 .f32 :=
  k0_pay115 acc (k0_pay87 d)
    (k0_pay91 ka q ax) (k0_pay93 ka q ax) (k0_pay95 ka q ax) (k0_pay97 ka q ax)
    (k0_pay102 (k0_pay99 ka q ax) (k0_pay100 rowNo) (k0_pay101 laneNo))
    (k0_pay104 rowNo laneNo (k0_pay89 ka q ax)) (k0_pay106 rowNo laneNo (k0_pay89 ka q ax)) (k0_pay108 rowNo laneNo (k0_pay89 ka q ax))

/-- The column sums with the half added to `acc`. -/
def dc1 (acc : FVec F S8x1024 .f32) : FVec F S8x1024 .f32 :=
  k0_pay116 acc
    (k0_pay92 v ka q d dl ax) (k0_pay94 v ka q d dl ax) (k0_pay96 v ka q d dl ax) (k0_pay98 v ka q d dl ax)
    (k0_pay103 (k0_pay88 dl) (k0_pay90 v d) (k0_pay99 ka q ax) (k0_pay100 rowNo) (k0_pay101 laneNo))
    (k0_pay105 rowNo laneNo (k0_pay88 dl) (k0_pay89 ka q ax) (k0_pay90 v d))
    (k0_pay107 rowNo laneNo (k0_pay88 dl) (k0_pay89 ka q ax) (k0_pay90 v d))
    (k0_pay109 rowNo laneNo (k0_pay88 dl) (k0_pay89 ka q ax) (k0_pay90 v d))

/-- The queries' gradient in the half's rows, from what they held. -/
def dq1 (old : Vec F S512x128 .f32) : FVec F S512x128 .f32 :=
  k0_pay113 k
    (k0_pay92 v ka q d dl ax) (k0_pay94 v ka q d dl ax) (k0_pay96 v ka q d dl ax) (k0_pay98 v ka q d dl ax)
    (k0_pay103 (k0_pay88 dl) (k0_pay90 v d) (k0_pay99 ka q ax) (k0_pay100 rowNo) (k0_pay101 laneNo))
    (k0_pay105 rowNo laneNo (k0_pay88 dl) (k0_pay89 ka q ax) (k0_pay90 v d))
    (k0_pay107 rowNo laneNo (k0_pay88 dl) (k0_pay89 ka q ax) (k0_pay90 v d))
    (k0_pay109 rowNo laneNo (k0_pay88 dl) (k0_pay89 ka q ax) (k0_pay90 v d)) old

end Half1

/-! ## A tile below the diagonal: 1024 queries against 1024 keys, no mask -/

section Full

variable (k v : FVec F S1024x128 .bf16) (ka : FVec F S1024x256 .bf16)
variable (q d : Vec F S1024x128 .bf16) (dl : Vec F S1x1024x128 .f32) (ax : Vec F S1x1024x128 .bf16)

/-- The gradient of the keys with the tile added to `acc`. -/
def dk2 (acc : FVec F S1024x128 .f32) : FVec F S1024x128 .f32 :=
  k0_pay125 acc (k0_pay16 q) (k0_pay18 dl) (k0_pay19 ka q ax) (k0_pay20 v d)
    (k0_pay22 v ka q d dl ax) (k0_pay24 v ka q d dl ax) (k0_pay26 v ka q d dl ax) (k0_pay28 v ka q d dl ax)
    (k0_pay30 v ka q d dl ax) (k0_pay32 v ka q d dl ax) (k0_pay33 ka q ax)

/-- The gradient of the values with the tile added to `acc`. -/
def dv2 (acc : FVec F S1024x128 .f32) : FVec F S1024x128 .f32 :=
  k0_pay126 acc (k0_pay17 d) (k0_pay19 ka q ax)
    (k0_pay21 ka q ax) (k0_pay23 ka q ax) (k0_pay25 ka q ax) (k0_pay27 ka q ax) (k0_pay29 ka q ax) (k0_pay31 ka q ax)
    (k0_pay33 ka q ax)

/-- The column sums with the tile added to `acc`. -/
def dc2 (acc : FVec F S8x1024 .f32) : FVec F S8x1024 .f32 :=
  k0_pay127 acc (k0_pay18 dl) (k0_pay19 ka q ax) (k0_pay20 v d)
    (k0_pay22 v ka q d dl ax) (k0_pay24 v ka q d dl ax) (k0_pay26 v ka q d dl ax) (k0_pay28 v ka q d dl ax)
    (k0_pay30 v ka q d dl ax) (k0_pay32 v ka q d dl ax) (k0_pay33 ka q ax)

/-- The queries' gradient in the tile's rows, from what they held. -/
def dq2 (old : Vec F S1024x128 .f32) : FVec F S1024x128 .f32 :=
  k0_pay124 k (k0_pay18 dl) (k0_pay19 ka q ax) (k0_pay20 v d)
    (k0_pay22 v ka q d dl ax) (k0_pay24 v ka q d dl ax) (k0_pay26 v ka q d dl ax) (k0_pay28 v ka q d dl ax)
    (k0_pay30 v ka q d dl ax) (k0_pay32 v ka q d dl ax) (k0_pay33 ka q ax) old

end Full

/-! ## The whole point -/

section Point

/-- The three sums a point carries: keys, values, columns. -/
abbrev Carry (F : FTy → Type) : Type := FVec F S1024x128 .f32 × FVec F S1024x128 .f32 × FVec F S8x1024 .f32

variable (Q D : S4096x128.Idx → Elt F .bf16) (DL : S1x4096x128.Idx → Elt F .f32) (AX : S1x4096x128.Idx → Elt F .bf16) (j : ℕ)

section Loop

variable (k v : FVec F S1024x128 .bf16) (ka : FVec F S1024x256 .bf16)

/-- The carry after `n` tiles below the diagonal of key tile `j`. -/
def carryLoop (init : Carry F) : ℕ → Carry F
  | 0 => init
  | n + 1 =>
    (dk2 v ka (rows1024 Q (1024 * j + 1024 * n + 1024)) (rows1024 D (1024 * j + 1024 * n + 1024)) (rows1x1024 DL (1024 * j + 1024 * n + 1024)) (rows1x1024 AX (1024 * j + 1024 * n + 1024)) (carryLoop init n).1,
     dv2 ka (rows1024 Q (1024 * j + 1024 * n + 1024)) (rows1024 D (1024 * j + 1024 * n + 1024)) (rows1x1024 AX (1024 * j + 1024 * n + 1024)) (carryLoop init n).2.1,
     dc2 v ka (rows1024 Q (1024 * j + 1024 * n + 1024)) (rows1024 D (1024 * j + 1024 * n + 1024)) (rows1x1024 DL (1024 * j + 1024 * n + 1024)) (rows1x1024 AX (1024 * j + 1024 * n + 1024)) (carryLoop init n).2.2)

/-- The queries' gradient after `n` tiles below the diagonal of key tile `j`. -/
def dqLoop (init : S4096x128.Idx → Elt F .f32) : ℕ → (S4096x128.Idx → Elt F .f32)
  | 0 => init
  | n + 1 => put (dqLoop init n) ![1024 * j + 1024 * n + 1024, 0] S1024x128.size
      (dq2 k v ka (rows1024 Q (1024 * j + 1024 * n + 1024)) (rows1024 D (1024 * j + 1024 * n + 1024)) (rows1x1024 DL (1024 * j + 1024 * n + 1024)) (rows1x1024 AX (1024 * j + 1024 * n + 1024)) (rows1024 (dqLoop init n) (1024 * j + 1024 * n + 1024)))

end Loop

variable (kt vt : Vec F S1024x128 .bf16) (kx : Vec F S1x1024x128 .bf16)

/-- The carry after the diagonal tile. -/
def carryDiag : Carry F :=
  (dk1 (k0_pay55 vt) (k0_pay56 kt kx) (rows512 Q (1024 * j + 512)) (rows512 D (1024 * j + 512)) (rows1x512 DL (1024 * j + 512)) (rows1x512 AX (1024 * j + 512))
      (k0_pay83 k0_pay57 (dk0 kt vt kx (rows512 Q (1024 * j)) (rows512 D (1024 * j)) (rows1x512 DL (1024 * j)) (rows1x512 AX (1024 * j)))),
   dv1 (k0_pay56 kt kx) (rows512 Q (1024 * j + 512)) (rows512 D (1024 * j + 512)) (rows1x512 AX (1024 * j + 512))
      (k0_pay84 k0_pay58 (dv0 kt kx (rows512 Q (1024 * j)) (rows512 D (1024 * j)) (rows1x512 AX (1024 * j)))),
   dc1 (k0_pay55 vt) (k0_pay56 kt kx) (rows512 Q (1024 * j + 512)) (rows512 D (1024 * j + 512)) (rows1x512 DL (1024 * j + 512)) (rows1x512 AX (1024 * j + 512))
      (k0_pay85 k0_pay59 (dc0 kt vt kx (rows512 Q (1024 * j)) (rows512 D (1024 * j)) (rows1x512 DL (1024 * j)) (rows1x512 AX (1024 * j)))))

/-- The queries' gradient after the first half of the diagonal tile. -/
def dqHalf (old : S4096x128.Idx → Elt F .f32) : S4096x128.Idx → Elt F .f32 :=
  put old ![1024 * j, 0] S512x128.size
    (dq0 kt vt kx (rows512 Q (1024 * j)) (rows512 D (1024 * j)) (rows1x512 DL (1024 * j)) (rows1x512 AX (1024 * j)) (rows512 old (1024 * j)))

/-- The queries' gradient after the diagonal tile. -/
def dqDiag (old : S4096x128.Idx → Elt F .f32) : S4096x128.Idx → Elt F .f32 :=
  put (dqHalf Q D DL AX j kt vt kx old) ![1024 * j + 512, 0] S512x128.size
    (dq1 (k0_pay54 kt) (k0_pay55 vt) (k0_pay56 kt kx) (rows512 Q (1024 * j + 512)) (rows512 D (1024 * j + 512)) (rows1x512 DL (1024 * j + 512)) (rows1x512 AX (1024 * j + 512))
      (rows512 old (1024 * j + 512)))

/-- The carry at the end of the point. -/
def carryEnd : Carry F :=
  carryLoop Q D DL AX j (k0_pay55 vt) (k0_pay56 kt kx) (carryDiag Q D DL AX j kt vt kx) (3 - j)

/-- The queries' gradient at the end of the point, from what it was at its start. -/
def dqEnd (old : S4096x128.Idx → Elt F .f32) : S4096x128.Idx → Elt F .f32 :=
  dqLoop Q D DL AX j (k0_pay54 kt) (k0_pay55 vt) (k0_pay56 kt kx) (dqDiag Q D DL AX j kt vt kx old) (3 - j)

end Point

end Cert.KernelIdeal.Hand

end
-- ==== Proof.Half0.lean ====
module

public import proofs.«01_k».proof.Proof.Model
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- The lane a key has in its group of 128. -/
def laneOf {n : ℕ} (k : Fin n) : Fin 128 := ⟨k.val % 128, Nat.mod_lt _ (by decide)⟩

theorem laneOf_eq {n : ℕ} (k : Fin n) (l : Fin 128) (h : k.val % 128 = l.val) : laneOf k = l := Fin.ext h

/-- A score under the mask, raised: nothing is left of it where the key comes after the query. -/
theorem exp2_masked (a b o p : ℕ) (ha : a < 2048) (hb : b < 2048) (ho : o < 2048) (hp : p < 2048) (x : EReal) :
    FloatOps.exp2 (F := Ideal) (φ := .f32) (Scalar.select
      (IntOp.cmpi CmpIPredicate.sge (IntOp.addi (BitVec.ofNat 32 a) (BitVec.ofNat 32 o)) (IntOp.addi (BitVec.ofNat 32 b) (BitVec.ofNat 32 p)))
      x (Named.named κ "mask" 0xF149F2CA#32)) = if b + p ≤ a + o then Ideal.exp2 x else 0 := by
  have h1 : (BitVec.ofNat 32 a + BitVec.ofNat 32 o).toInt = a + o := by
    have e : (BitVec.ofNat 32 (a + o)).toNat = a + o := by
      rw [BitVec.toNat_ofNat]; exact Nat.mod_eq_of_lt (by omega)
    rw [← BitVec.ofNat_add, BitVec.toInt_eq_toNat_of_lt (by omega), e]
    push_cast; rfl
  have h2 : (BitVec.ofNat 32 b + BitVec.ofNat 32 p).toInt = b + p := by
    have e : (BitVec.ofNat 32 (b + p)).toNat = b + p := by
      rw [BitVec.toNat_ofNat]; exact Nat.mod_eq_of_lt (by omega)
    rw [← BitVec.ofNat_add, BitVec.toInt_eq_toNat_of_lt (by omega), e]
    push_cast; rfl
  have hm : (Named.named κ "mask" 0xF149F2CA#32 : Ideal .f32) = (⊥ : EReal) := rfl
  rw [hm]
  by_cases h : b + p ≤ a + o
  · rw [if_pos h]
    have : IntOp.cmpi CmpIPredicate.sge (IntOp.addi (BitVec.ofNat 32 a) (BitVec.ofNat 32 o)) (IntOp.addi (BitVec.ofNat 32 b) (BitVec.ofNat 32 p)) = 1#1 := by
      show BitVec.ofBool (decide ((BitVec.ofNat 32 b + BitVec.ofNat 32 p).toInt ≤ (BitVec.ofNat 32 a + BitVec.ofNat 32 o).toInt)) = 1#1
      rw [h1, h2, decide_eq_true (by omega)]; rfl
    rw [this]; rfl
  · rw [if_neg h]
    have : IntOp.cmpi CmpIPredicate.sge (IntOp.addi (BitVec.ofNat 32 a) (BitVec.ofNat 32 o)) (IntOp.addi (BitVec.ofNat 32 b) (BitVec.ofNat 32 p)) = 0#1 := by
      show BitVec.ofBool (decide ((BitVec.ofNat 32 b + BitVec.ofNat 32 p).toInt ≤ (BitVec.ofNat 32 a + BitVec.ofNat 32 o).toInt)) = 0#1
      rw [h1, h2, decide_eq_false (by omega)]; rfl
    rw [this]; rfl

/-- A score in powers of two: a query's row against a key's, with the lanes of the biases. -/
def score (kt : Vec Ideal S1024x128 .bf16) (kx : Vec Ideal S1x1024x128 .bf16) (q ax : Fin 128 → EReal) (k : Fin 1024) : EReal :=
  (∑ l : Fin 128, q l * kt (ix2 k l)) + ∑ l : Fin 128, ax l * kx (ix3 0 k l)

/-- A weight: the raised score where the key does not come after the query. -/
def weight (kt : Vec Ideal S1024x128 .bf16) (kx : Vec Ideal S1x1024x128 .bf16) (q ax : Fin 128 → EReal) (k : Fin 1024) (b : Prop) [Decidable b] : EReal :=
  if b then Ideal.exp2 (score kt kx q ax k) else 0

/-- What a weight is multiplied by in the scores' gradient. -/
def gap (vt : Vec Ideal S1024x128 .bf16) (d dl : Fin 128 → EReal) (k : Fin 1024) : EReal :=
  (∑ l : Fin 128, d l * vt (ix2 k l)) - dl (laneOf k)

theorem weight_of {kt : Vec Ideal S1024x128 .bf16} {kx : Vec Ideal S1x1024x128 .bf16} {q ax : Fin 128 → EReal} {k : Fin 1024} {b : Prop} [Decidable b] (h : b) :
    weight kt kx q ax k b = Ideal.exp2 (score kt kx q ax k) := if_pos h

theorem weight_not {kt : Vec Ideal S1024x128 .bf16} {kx : Vec Ideal S1x1024x128 .bf16} {q ax : Fin 128 → EReal} {k : Fin 1024} {b : Prop} [Decidable b] (h : ¬b) :
    weight kt kx q ax k b = 0 := if_neg h

/-- A half's weight: the raised score, nothing where the key comes after the query. -/
def p0 (U : Vec Ideal S512x512 .f32) (r k : Fin 512) : EReal := if k.val ≤ r.val then Ideal.exp2 (U (ix2 r k)) else 0

theorem p0_block0 (U : Vec Ideal S512x512 .f32) (r : Fin 512) (l : Fin 128) :
    k0_pay65 (F := Ideal) rowNo laneNo U (ix2 r l) = if l.val + 0 ≤ r.val then Ideal.exp2 (U (ix2 r ⟨0 + l.val, by omega⟩)) else 0 := by
  pointwise [k0_pay65, rowNo, laneNo]
  rw [exp2_masked _ _ 0 0 (by omega) (by omega) (by omega) (by omega)]
  simp only [Nat.add_zero]

theorem p0_block1 (U : Vec Ideal S512x512 .f32) (r : Fin 512) (l : Fin 128) :
    k0_pay67 (F := Ideal) rowNo laneNo U (ix2 r l) = if l.val + 128 ≤ r.val then Ideal.exp2 (U (ix2 r ⟨128 + l.val, by omega⟩)) else 0 := by
  pointwise [k0_pay67, rowNo, laneNo]
  rw [exp2_masked _ _ 0 128 (by omega) (by omega) (by omega) (by omega)]
  rfl

theorem p0_block2 (U : Vec Ideal S512x512 .f32) (r : Fin 512) (l : Fin 128) :
    k0_pay69 (F := Ideal) rowNo laneNo U (ix2 r l) = if l.val + 256 ≤ r.val then Ideal.exp2 (U (ix2 r ⟨256 + l.val, by omega⟩)) else 0 := by
  pointwise [k0_pay69, rowNo, laneNo]
  rw [exp2_masked _ _ 0 256 (by omega) (by omega) (by omega) (by omega)]
  rfl

theorem p0_block3 (U : Vec Ideal S512x512 .f32) (r : Fin 512) (l : Fin 128) :
    k0_pay74 (F := Ideal) (k0_pay71 U) (k0_pay72 rowNo) (k0_pay73 laneNo) (ix2 r l) = if l.val + 384 ≤ r.val then Ideal.exp2 (U (ix2 r ⟨384 + l.val, by omega⟩)) else 0 := by
  pointwise [k0_pay74, k0_pay71, k0_pay72, k0_pay73, rowNo, laneNo]
  rw [exp2_masked _ _ 0 384 (by omega) (by omega) (by omega) (by omega)]
  rfl

/-- A key below 512 by its group and its lane. -/
theorem split512 (k : Fin 512) : ∃ (b : Fin 4) (l : Fin 128), k = ⟨128 * b.val + l.val, by omega⟩ :=
  ⟨⟨k.val / 128, by omega⟩, ⟨k.val % 128, by omega⟩, Fin.ext (by show k.val = 128 * (k.val / 128) + k.val % 128; omega)⟩

theorem p0_cat (U : Vec Ideal S512x512 .f32) (r k : Fin 512) :
    concatenate S512x512 1 [⟨S512x128, k0_pay65 (F := Ideal) rowNo laneNo U⟩, ⟨S512x128, k0_pay67 rowNo laneNo U⟩, ⟨S512x128, k0_pay69 rowNo laneNo U⟩,
      ⟨S512x128, k0_pay74 (k0_pay71 U) (k0_pay72 rowNo) (k0_pay73 laneNo)⟩] concatenates_S512x128_S512x128_S512x128_S512x128_S512x512_d1 (ix2 r k)
      = p0 U r k := by
  pointwise []
  obtain ⟨b, l, rfl⟩ := split512 k
  fin_cases b <;> simp +arith [p0_block0, p0_block1, p0_block2, p0_block3, p0]

theorem ds0_at (U DP : Vec Ideal S512x512 .f32) (dl : Vec Ideal S512x128 .f32) (r k : Fin 512) :
    k0_pay77 (F := Ideal) dl DP (k0_pay66 rowNo laneNo dl U DP) (k0_pay68 rowNo laneNo dl U DP) (k0_pay70 rowNo laneNo dl U DP)
      (k0_pay71 U) (k0_pay72 rowNo) (k0_pay73 laneNo) (ix2 r k) = p0 U r k * (DP (ix2 r k) - dl (ix2 r (laneOf k))) := by
  pointwise [k0_pay77, k0_pay66, k0_pay68, k0_pay70, k0_pay75]
  obtain ⟨b, l, rfl⟩ := split512 k
  fin_cases b <;> simp +arith [p0_block0, p0_block1, p0_block2, p0_block3, p0]
  all_goals rw [laneOf_eq _ l (by simp [Nat.add_mod, Nat.mod_eq_of_lt l.isLt])]

theorem u0_at (kt : Vec Ideal S1024x128 .bf16) (kx : Vec Ideal S1x1024x128 .bf16) (q : Vec Ideal S512x128 .bf16) (ax : Vec Ideal S1x512x128 .bf16) (r k : Fin 512) :
    k0_pay63 (F := Ideal) kt kx q ax (ix2 r k) = score kt kx (fun l => q (ix2 r l)) (fun l => ax (ix3 0 r l)) ⟨k.val, by omega⟩ := by
  pointwise [k0_pay63, k0_pay60, k0_pay56, k0_pay54, score]

theorem dp0_at (vt : Vec Ideal S1024x128 .bf16) (d : Vec Ideal S512x128 .bf16) (r k : Fin 512) :
    k0_pay64 (F := Ideal) vt d (ix2 r k) = ∑ l : Fin 128, d (ix2 r l) * vt (ix2 ⟨k.val, by omega⟩ l) := by
  pointwise [k0_pay64, k0_pay61, k0_pay55]

section Sums

variable (kt vt : Vec Ideal S1024x128 .bf16) (kx : Vec Ideal S1x1024x128 .bf16)
variable (q d : Vec Ideal S512x128 .bf16) (dl : Vec Ideal S1x512x128 .f32) (ax : Vec Ideal S1x512x128 .bf16)

/-- A weight of the first half. -/
def wt0 (r : Fin 512) (k : Fin 1024) : EReal := weight kt kx (fun l => q (ix2 r l)) (fun l => ax (ix3 0 r l)) k (k.val ≤ r.val)

/-- An entry of the scores' gradient in the first half. -/
def ds0 (r : Fin 512) (k : Fin 1024) : EReal := wt0 kt kx q ax r k * gap vt (fun l => d (ix2 r l)) (fun l => dl (ix3 0 r l)) k

theorem wt0_late (r : Fin 512) (k : Fin 1024) (h : 512 ≤ k.val) : wt0 kt kx q ax r k = 0 := weight_not (by omega)

theorem p0_wt0 (r k : Fin 512) : p0 (u0 (F := Ideal) kt kx q ax) r k = wt0 kt kx q ax r ⟨k.val, by omega⟩ := by
  unfold p0 wt0 weight u0
  rw [u0_at]

theorem ds0_entry (r k : Fin 512) :
    p0 (u0 (F := Ideal) kt kx q ax) r k * (dp0 (F := Ideal) vt d (ix2 r k) - k0_pay62 (F := Ideal) dl (ix2 r (laneOf k)))
      = ds0 kt vt kx q d dl ax r ⟨k.val, by omega⟩ := by
  rw [p0_wt0]
  unfold ds0 gap dp0
  rw [dp0_at]
  pointwise [k0_pay62]
  rfl

theorem dk0_at (k : Fin 1024) (e : Fin 128) :
    dk0 (F := Ideal) kt vt kx q d dl ax (ix2 k e) = ∑ r : Fin 512, ds0 kt vt kx q d dl ax r k * q (ix2 r e) := by
  pointwise [dk0, k0_pay81, k0_pay78, k0_pay60]
  split
  · refine Finset.sum_congr rfl fun r _ => ?_
    rw [ds0_at, ds0_entry]
  · refine (Finset.sum_eq_zero fun r _ => ?_).symm
    rw [ds0, wt0_late _ _ _ _ _ _ (by omega), zero_mul, zero_mul]

theorem dv0_at (k : Fin 1024) (e : Fin 128) :
    dv0 (F := Ideal) kt kx q d ax (ix2 k e) = ∑ r : Fin 512, wt0 kt kx q ax r k * d (ix2 r e) := by
  have hc := p0_cat (u0 (F := Ideal) kt kx q ax)
  pointwise [dv0, k0_pay80, k0_pay61]
  pointwise [] at hc
  split
  · refine Finset.sum_congr rfl fun r _ => ?_
    rw [hc r ⟨k.val, by omega⟩, p0_wt0]
  · refine (Finset.sum_eq_zero fun r _ => ?_).symm
    rw [wt0_late _ _ _ _ _ _ (by omega), zero_mul]

theorem dc0_at (k : Fin 1024) (e : Fin 8) :
    dc0 (F := Ideal) kt vt kx q d dl ax (ix2 e k) = ∑ x : Fin 64, ds0 kt vt kx q d dl ax ⟨x.val * 8 + e.val, by omega⟩ k := by
  pointwise [dc0, k0_pay79]
  split
  · refine Finset.sum_congr rfl fun r _ => ?_
    rw [ds0_at, ds0_entry]
  · refine (Finset.sum_eq_zero fun r _ => ?_).symm
    rw [ds0, wt0_late _ _ _ _ _ _ (by omega), zero_mul]

/-- The scale of the scores, as the program holds it. -/
def sigma : EReal := Ideal.ofBits FTy.f32 1035273459#32

theorem dq0_at (old : Vec Ideal S512x128 .f32) (r : Fin 512) (e : Fin 128) :
    dq0 (F := Ideal) kt vt kx q d dl ax old (ix2 r e)
      = old (ix2 r e) + (∑ k : Fin 1024, ds0 kt vt kx q d dl ax r k * kt (ix2 k e)) * sigma := by
  have hs : (∑ k : Fin 1024, ds0 kt vt kx q d dl ax r k * kt (ix2 k e))
      = ∑ k : Fin 512, ds0 kt vt kx q d dl ax r ⟨k.val, by omega⟩ * kt (ix2 ⟨k.val, by omega⟩ e) := by
    refine (Fin.sum_univ_add (a := 512) (b := 512) fun k => ds0 kt vt kx q d dl ax r k * kt (ix2 k e)).trans ?_
    refine (congrArg₂ (· + ·) rfl (Finset.sum_eq_zero fun k _ => ?_)).trans (add_zero _)
    rw [ds0, wt0_late _ _ _ _ _ _ (by simp), zero_mul, zero_mul]
  rw [hs]
  pointwise [dq0, k0_pay82, k0_pay78, k0_pay54, sigma]
  simp only [ds0_at, ds0_entry]

end Sums

end Cert.KernelIdeal.Hand

end
-- ==== Proof.Half1.lean ====
module

public import proofs.«01_k».proof.Proof.Half0
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable (kt vt : Vec Ideal S1024x128 .bf16) (kx : Vec Ideal S1x1024x128 .bf16)
variable (q d : Vec Ideal S512x128 .bf16) (dl : Vec Ideal S1x512x128 .f32) (ax : Vec Ideal S1x512x128 .bf16)

theorem u1_at (r : Fin 512) (k : Fin 1024) :
    k0_pay89 (F := Ideal) (k0_pay56 kt kx) q ax (ix2 r k) = score kt kx (fun l => q (ix2 r l)) (fun l => ax (ix3 0 r l)) k := by
  pointwise [k0_pay89, k0_pay86, k0_pay54, k0_pay56, score]

theorem dp1_at (r : Fin 512) (k : Fin 1024) :
    k0_pay90 (F := Ideal) (k0_pay55 vt) d (ix2 r k) = ∑ l : Fin 128, d (ix2 r l) * vt (ix2 k l) := by
  pointwise [k0_pay90, k0_pay87, k0_pay55]

variable (ka : Vec Ideal S1024x256 .bf16) (v : Vec Ideal S1024x128 .bf16)

theorem p1_block0 (r : Fin 512) (l : Fin 128) :
    k0_pay91 (F := Ideal) ka q ax (ix2 r l)
      = if l.val + 0 ≤ r.val + 512 then Ideal.exp2 (k0_pay89 (F := Ideal) ka q ax (ix2 r ⟨0 + l.val, by omega⟩)) else 0 := by
  pointwise [k0_pay91]
  exact (if_pos (by omega)).symm

theorem p1_block1 (r : Fin 512) (l : Fin 128) :
    k0_pay93 (F := Ideal) ka q ax (ix2 r l)
      = if l.val + 128 ≤ r.val + 512 then Ideal.exp2 (k0_pay89 (F := Ideal) ka q ax (ix2 r ⟨128 + l.val, by omega⟩)) else 0 := by
  pointwise [k0_pay93]
  exact (if_pos (by omega)).symm

theorem p1_block2 (r : Fin 512) (l : Fin 128) :
    k0_pay95 (F := Ideal) ka q ax (ix2 r l)
      = if l.val + 256 ≤ r.val + 512 then Ideal.exp2 (k0_pay89 (F := Ideal) ka q ax (ix2 r ⟨256 + l.val, by omega⟩)) else 0 := by
  pointwise [k0_pay95]
  exact (if_pos (by omega)).symm

theorem p1_block3 (r : Fin 512) (l : Fin 128) :
    k0_pay97 (F := Ideal) ka q ax (ix2 r l)
      = if l.val + 384 ≤ r.val + 512 then Ideal.exp2 (k0_pay89 (F := Ideal) ka q ax (ix2 r ⟨384 + l.val, by omega⟩)) else 0 := by
  pointwise [k0_pay97]
  exact (if_pos (by omega)).symm

theorem p1_block4 (r : Fin 512) (l : Fin 128) :
    k0_pay102 (F := Ideal) (k0_pay99 ka q ax) (k0_pay100 rowNo) (k0_pay101 laneNo) (ix2 r l)
      = if l.val + 512 ≤ r.val + 512 then Ideal.exp2 (k0_pay89 (F := Ideal) ka q ax (ix2 r ⟨512 + l.val, by omega⟩)) else 0 := by
  pointwise [k0_pay102, rowNo, laneNo, k0_pay99, k0_pay100, k0_pay101]
  rw [exp2_masked _ _ 512 512 (by omega) (by omega) (by omega) (by omega)]
  exact if_congr (by omega) rfl rfl

theorem p1_block5 (r : Fin 512) (l : Fin 128) :
    k0_pay104 (F := Ideal) rowNo laneNo (k0_pay89 ka q ax) (ix2 r l)
      = if l.val + 640 ≤ r.val + 512 then Ideal.exp2 (k0_pay89 (F := Ideal) ka q ax (ix2 r ⟨640 + l.val, by omega⟩)) else 0 := by
  pointwise [k0_pay104, rowNo, laneNo, k0_pay99, k0_pay100, k0_pay101]
  rw [exp2_masked _ _ 512 640 (by omega) (by omega) (by omega) (by omega)]
  exact if_congr (by omega) rfl rfl

theorem p1_block6 (r : Fin 512) (l : Fin 128) :
    k0_pay106 (F := Ideal) rowNo laneNo (k0_pay89 ka q ax) (ix2 r l)
      = if l.val + 768 ≤ r.val + 512 then Ideal.exp2 (k0_pay89 (F := Ideal) ka q ax (ix2 r ⟨768 + l.val, by omega⟩)) else 0 := by
  pointwise [k0_pay106, rowNo, laneNo, k0_pay99, k0_pay100, k0_pay101]
  rw [exp2_masked _ _ 512 768 (by omega) (by omega) (by omega) (by omega)]
  exact if_congr (by omega) rfl rfl

theorem p1_block7 (r : Fin 512) (l : Fin 128) :
    k0_pay108 (F := Ideal) rowNo laneNo (k0_pay89 ka q ax) (ix2 r l)
      = if l.val + 896 ≤ r.val + 512 then Ideal.exp2 (k0_pay89 (F := Ideal) ka q ax (ix2 r ⟨896 + l.val, by omega⟩)) else 0 := by
  pointwise [k0_pay108, rowNo, laneNo, k0_pay99, k0_pay100, k0_pay101]
  rw [exp2_masked _ _ 512 896 (by omega) (by omega) (by omega) (by omega)]
  exact if_congr (by omega) rfl rfl

/-- A key below 1024 by its group and its lane. -/
theorem split1024 (k : Fin 1024) : ∃ (b : Fin 8) (l : Fin 128), k = ⟨128 * b.val + l.val, by omega⟩ :=
  ⟨⟨k.val / 128, by omega⟩, ⟨k.val % 128, by omega⟩, Fin.ext (by show k.val = 128 * (k.val / 128) + k.val % 128; omega)⟩

/-- A half's weight: the raised score, nothing where the key comes after the query. -/
def p1 (r : Fin 512) (k : Fin 1024) : EReal := if k.val ≤ r.val + 512 then Ideal.exp2 (k0_pay89 (F := Ideal) ka q ax (ix2 r k)) else 0

theorem p1_cat (r : Fin 512) (k : Fin 1024) :
    concatenate S512x1024 1 [⟨S512x128, k0_pay91 (F := Ideal) ka q ax⟩, ⟨S512x128, k0_pay93 ka q ax⟩, ⟨S512x128, k0_pay95 ka q ax⟩, ⟨S512x128, k0_pay97 ka q ax⟩,
      ⟨S512x128, k0_pay102 (k0_pay99 ka q ax) (k0_pay100 rowNo) (k0_pay101 laneNo)⟩, ⟨S512x128, k0_pay104 rowNo laneNo (k0_pay89 ka q ax)⟩,
      ⟨S512x128, k0_pay106 rowNo laneNo (k0_pay89 ka q ax)⟩, ⟨S512x128, k0_pay108 rowNo laneNo (k0_pay89 ka q ax)⟩]
      concatenates_S512x128_S512x128_S512x128_S512x128_S512x128_S512x128_S512x128_S512x128_S512x1024_d1 (ix2 r k) = p1 q ax ka r k := by
  pointwise []
  obtain ⟨b, l, rfl⟩ := split1024 k
  fin_cases b <;> simp +arith [p1_block0, p1_block1, p1_block2, p1_block3, p1_block4, p1_block5, p1_block6, p1_block7, p1]

theorem ds1_at (r : Fin 512) (k : Fin 1024) :
    k0_pay111 (F := Ideal) (k0_pay92 v ka q d dl ax) (k0_pay94 v ka q d dl ax) (k0_pay96 v ka q d dl ax) (k0_pay98 v ka q d dl ax)
      (k0_pay103 (k0_pay88 dl) (k0_pay90 v d) (k0_pay99 ka q ax) (k0_pay100 rowNo) (k0_pay101 laneNo))
      (k0_pay105 rowNo laneNo (k0_pay88 dl) (k0_pay89 ka q ax) (k0_pay90 v d))
      (k0_pay107 rowNo laneNo (k0_pay88 dl) (k0_pay89 ka q ax) (k0_pay90 v d))
      (k0_pay109 rowNo laneNo (k0_pay88 dl) (k0_pay89 ka q ax) (k0_pay90 v d)) (ix2 r k)
      = p1 q ax ka r k * (k0_pay90 (F := Ideal) v d (ix2 r k) - dl (ix3 0 r (laneOf k))) := by
  pointwise [k0_pay111, k0_pay92, k0_pay94, k0_pay96, k0_pay98, k0_pay103, k0_pay105, k0_pay107, k0_pay109, k0_pay88]
  obtain ⟨b, l, rfl⟩ := split1024 k
  fin_cases b <;> simp +arith [p1_block0, p1_block1, p1_block2, p1_block3, p1_block4, p1_block5, p1_block6, p1_block7, p1]
  all_goals rw [laneOf_eq _ l (by simp [Nat.add_mod, Nat.mod_eq_of_lt l.isLt])]

/-- A weight of the second half. -/
def wt1 (r : Fin 512) (k : Fin 1024) : EReal := weight kt kx (fun l => q (ix2 r l)) (fun l => ax (ix3 0 r l)) k (k.val ≤ r.val + 512)

/-- An entry of the scores' gradient in the second half. -/
def ds1 (r : Fin 512) (k : Fin 1024) : EReal := wt1 kt kx q ax r k * gap vt (fun l => d (ix2 r l)) (fun l => dl (ix3 0 r l)) k

theorem p1_wt1 (r : Fin 512) (k : Fin 1024) : p1 q ax (k0_pay56 (F := Ideal) kt kx) r k = wt1 kt kx q ax r k := by
  unfold p1 wt1 weight
  rw [u1_at]

theorem ds1_entry (r : Fin 512) (k : Fin 1024) :
    p1 q ax (k0_pay56 (F := Ideal) kt kx) r k * (k0_pay90 (F := Ideal) (k0_pay55 vt) d (ix2 r k) - dl (ix3 0 r (laneOf k)))
      = ds1 kt vt kx q d dl ax r k := by
  rw [p1_wt1]
  unfold ds1 gap
  rw [dp1_at]

theorem ds1_full (r : Fin 512) (k : Fin 1024) :
    k0_pay111 (F := Ideal) (k0_pay92 (k0_pay55 vt) (k0_pay56 kt kx) q d dl ax) (k0_pay94 (k0_pay55 vt) (k0_pay56 kt kx) q d dl ax) (k0_pay96 (k0_pay55 vt) (k0_pay56 kt kx) q d dl ax) (k0_pay98 (k0_pay55 vt) (k0_pay56 kt kx) q d dl ax)
      (k0_pay103 (k0_pay88 dl) (k0_pay90 (k0_pay55 vt) d) (k0_pay99 (k0_pay56 kt kx) q ax) (k0_pay100 rowNo) (k0_pay101 laneNo))
      (k0_pay105 rowNo laneNo (k0_pay88 dl) (k0_pay89 (k0_pay56 kt kx) q ax) (k0_pay90 (k0_pay55 vt) d))
      (k0_pay107 rowNo laneNo (k0_pay88 dl) (k0_pay89 (k0_pay56 kt kx) q ax) (k0_pay90 (k0_pay55 vt) d))
      (k0_pay109 rowNo laneNo (k0_pay88 dl) (k0_pay89 (k0_pay56 kt kx) q ax) (k0_pay90 (k0_pay55 vt) d)) (ix2 r k)
      = ds1 kt vt kx q d dl ax r k :=
  (ds1_at _ _ _ _ _ _ _ _).trans (ds1_entry _ _ _ _ _ _ _ _ _)

theorem dk1_at (acc : Vec Ideal S1024x128 .f32) (k : Fin 1024) (e : Fin 128) :
    dk1 (F := Ideal) (k0_pay55 vt) (k0_pay56 kt kx) q d dl ax acc (ix2 k e) = acc (ix2 k e) + ∑ r : Fin 512, ds1 kt vt kx q d dl ax r k * q (ix2 r e) := by
  pointwise [dk1, k0_pay114, k0_pay112, k0_pay86]
  simp only [ds1_full]

theorem dv1_at (acc : Vec Ideal S1024x128 .f32) (k : Fin 1024) (e : Fin 128) :
    dv1 (F := Ideal) (k0_pay56 kt kx) q d ax acc (ix2 k e) = acc (ix2 k e) + ∑ r : Fin 512, wt1 kt kx q ax r k * d (ix2 r e) := by
  have hc := p1_cat q ax (k0_pay56 (F := Ideal) kt kx)
  pointwise [dv1, k0_pay115, k0_pay87]
  pointwise [] at hc
  simp only [hc, p1_wt1]

theorem dc1_at (acc : Vec Ideal S8x1024 .f32) (k : Fin 1024) (e : Fin 8) :
    dc1 (F := Ideal) (k0_pay55 vt) (k0_pay56 kt kx) q d dl ax acc (ix2 e k)
      = acc (ix2 e k) + ∑ x : Fin 64, ds1 kt vt kx q d dl ax ⟨x.val * 8 + e.val, by omega⟩ k := by
  pointwise [dc1, k0_pay116]
  simp only [ds1_full]

theorem dq1_at (old : Vec Ideal S512x128 .f32) (r : Fin 512) (e : Fin 128) :
    dq1 (F := Ideal) (k0_pay54 kt) (k0_pay55 vt) (k0_pay56 kt kx) q d dl ax old (ix2 r e)
      = old (ix2 r e) + (∑ k : Fin 1024, ds1 kt vt kx q d dl ax r k * kt (ix2 k e)) * sigma := by
  pointwise [dq1, k0_pay113, k0_pay112, k0_pay54, sigma]
  simp only [ds1_full]

end Cert.KernelIdeal.Hand

end
-- ==== Proof.Full.lean ====
module

public import proofs.«01_k».proof.Proof.Half1
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable (kt vt : Vec Ideal S1024x128 .bf16) (kx : Vec Ideal S1x1024x128 .bf16)
variable (q d : Vec Ideal S1024x128 .bf16) (dl : Vec Ideal S1x1024x128 .f32) (ax : Vec Ideal S1x1024x128 .bf16)

theorem u2_at (r k : Fin 1024) :
    k0_pay19 (F := Ideal) (k0_pay56 kt kx) q ax (ix2 r k) = score kt kx (fun l => q (ix2 r l)) (fun l => ax (ix3 0 r l)) k := by
  pointwise [k0_pay19, k0_pay16, k0_pay54, k0_pay56, score]

theorem dp2_at (r k : Fin 1024) :
    k0_pay20 (F := Ideal) (k0_pay55 vt) d (ix2 r k) = ∑ l : Fin 128, d (ix2 r l) * vt (ix2 k l) := by
  pointwise [k0_pay20, k0_pay17, k0_pay55]

variable (ka : Vec Ideal S1024x256 .bf16) (v : Vec Ideal S1024x128 .bf16)

/-- The raised score. -/
theorem p2_cat (r k : Fin 1024) :
    concatenate S1024x1024 1 [⟨S1024x128, k0_pay21 (F := Ideal) ka q ax⟩, ⟨S1024x128, k0_pay23 ka q ax⟩, ⟨S1024x128, k0_pay25 ka q ax⟩, ⟨S1024x128, k0_pay27 ka q ax⟩,
      ⟨S1024x128, k0_pay29 ka q ax⟩, ⟨S1024x128, k0_pay31 ka q ax⟩, ⟨S1024x128, k0_pay117 (k0_pay33 ka q ax)⟩, ⟨S1024x128, k0_pay119 (k0_pay19 ka q ax)⟩]
      concatenates_S1024x128_S1024x128_S1024x128_S1024x128_S1024x128_S1024x128_S1024x128_S1024x128_S1024x1024_d1 (ix2 r k)
      = Ideal.exp2 (k0_pay19 (F := Ideal) ka q ax (ix2 r k)) := by
  pointwise [k0_pay21, k0_pay23, k0_pay25, k0_pay27, k0_pay29, k0_pay31, k0_pay117, k0_pay119, k0_pay33]
  obtain ⟨b, l, rfl⟩ := split1024 k
  fin_cases b <;> simp +arith
  all_goals rfl

theorem ds2_at (r k : Fin 1024) :
    k0_pay122 (F := Ideal) (k0_pay18 dl) (k0_pay19 ka q ax) (k0_pay20 v d)
      (k0_pay22 v ka q d dl ax) (k0_pay24 v ka q d dl ax) (k0_pay26 v ka q d dl ax) (k0_pay28 v ka q d dl ax)
      (k0_pay30 v ka q d dl ax) (k0_pay32 v ka q d dl ax) (k0_pay33 ka q ax) (ix2 r k)
      = Ideal.exp2 (k0_pay19 (F := Ideal) ka q ax (ix2 r k)) * (k0_pay20 (F := Ideal) v d (ix2 r k) - dl (ix3 0 r (laneOf k))) := by
  pointwise [k0_pay122, k0_pay22, k0_pay24, k0_pay26, k0_pay28, k0_pay30, k0_pay32, k0_pay118, k0_pay120, k0_pay18,
    k0_pay21, k0_pay23, k0_pay25, k0_pay27, k0_pay29, k0_pay31, k0_pay117, k0_pay119, k0_pay33]
  obtain ⟨b, l, rfl⟩ := split1024 k
  fin_cases b <;> simp +arith
  all_goals rw [laneOf_eq _ l (by simp [Nat.add_mod, Nat.mod_eq_of_lt l.isLt])]
  all_goals rfl

/-- A weight of a tile below the diagonal. -/
def wt2 (r k : Fin 1024) : EReal := weight kt kx (fun l => q (ix2 r l)) (fun l => ax (ix3 0 r l)) k (k.val ≤ r.val + 1024)

/-- An entry of the scores' gradient in a tile below the diagonal. -/
def ds2 (r k : Fin 1024) : EReal := wt2 kt kx q ax r k * gap vt (fun l => d (ix2 r l)) (fun l => dl (ix3 0 r l)) k

theorem p2_wt2 (r k : Fin 1024) : Ideal.exp2 (k0_pay19 (F := Ideal) (k0_pay56 kt kx) q ax (ix2 r k)) = wt2 kt kx q ax r k := by
  unfold wt2
  rw [weight_of (by omega), u2_at]

theorem ds2_entry (r k : Fin 1024) :
    Ideal.exp2 (k0_pay19 (F := Ideal) (k0_pay56 kt kx) q ax (ix2 r k)) * (k0_pay20 (F := Ideal) (k0_pay55 vt) d (ix2 r k) - dl (ix3 0 r (laneOf k)))
      = ds2 kt vt kx q d dl ax r k := by
  rw [p2_wt2]
  unfold ds2 gap
  rw [dp2_at]

theorem ds2_full (r k : Fin 1024) :
    k0_pay122 (F := Ideal) (k0_pay18 dl) (k0_pay19 (k0_pay56 kt kx) q ax) (k0_pay20 (k0_pay55 vt) d)
      (k0_pay22 (k0_pay55 vt) (k0_pay56 kt kx) q d dl ax) (k0_pay24 (k0_pay55 vt) (k0_pay56 kt kx) q d dl ax) (k0_pay26 (k0_pay55 vt) (k0_pay56 kt kx) q d dl ax) (k0_pay28 (k0_pay55 vt) (k0_pay56 kt kx) q d dl ax)
      (k0_pay30 (k0_pay55 vt) (k0_pay56 kt kx) q d dl ax) (k0_pay32 (k0_pay55 vt) (k0_pay56 kt kx) q d dl ax) (k0_pay33 (k0_pay56 kt kx) q ax) (ix2 r k)
      = ds2 kt vt kx q d dl ax r k :=
  (ds2_at _ _ _ _ _ _ _ _).trans (ds2_entry _ _ _ _ _ _ _ _ _)

theorem dk2_at (acc : Vec Ideal S1024x128 .f32) (k : Fin 1024) (e : Fin 128) :
    dk2 (F := Ideal) (k0_pay55 vt) (k0_pay56 kt kx) q d dl ax acc (ix2 k e) = acc (ix2 k e) + ∑ r : Fin 1024, ds2 kt vt kx q d dl ax r k * q (ix2 r e) := by
  pointwise [dk2, k0_pay125, k0_pay123, k0_pay16]
  simp only [ds2_full]

theorem dv2_at (acc : Vec Ideal S1024x128 .f32) (k : Fin 1024) (e : Fin 128) :
    dv2 (F := Ideal) (k0_pay56 kt kx) q d ax acc (ix2 k e) = acc (ix2 k e) + ∑ r : Fin 1024, wt2 kt kx q ax r k * d (ix2 r e) := by
  have hc := p2_cat q ax (k0_pay56 (F := Ideal) kt kx)
  pointwise [dv2, k0_pay126, k0_pay17]
  pointwise [] at hc
  simp only [hc, p2_wt2]

theorem dc2_at (acc : Vec Ideal S8x1024 .f32) (k : Fin 1024) (e : Fin 8) :
    dc2 (F := Ideal) (k0_pay55 vt) (k0_pay56 kt kx) q d dl ax acc (ix2 e k)
      = acc (ix2 e k) + ∑ x : Fin 128, ds2 kt vt kx q d dl ax ⟨x.val * 8 + e.val, by omega⟩ k := by
  pointwise [dc2, k0_pay127]
  simp only [ds2_full]

theorem dq2_at (old : Vec Ideal S1024x128 .f32) (r : Fin 1024) (e : Fin 128) :
    dq2 (F := Ideal) (k0_pay54 kt) (k0_pay55 vt) (k0_pay56 kt kx) q d dl ax old (ix2 r e)
      = old (ix2 r e) + (∑ k : Fin 1024, ds2 kt vt kx q d dl ax r k * kt (ix2 k e)) * sigma := by
  pointwise [dq2, k0_pay124, k0_pay123, k0_pay54, sigma]
  simp only [ds2_full]

end Cert.KernelIdeal.Hand

end
-- ==== Proof.Point.lean ====
module

public import proofs.«01_k».proof.Proof.Full

@[expose] public section

set_option maxRecDepth 16384

noncomputable section

namespace Cert.KernelIdeal.Hand

open Cert.KernelIdeal Cert.KernelIdeal.Gen
open Idealize.ShloMosaic Idealize.ShloMosaic.TcCoe Idealize.ShloMosaic.VecWindow

/-! # A point's results, as sums over all the queries

The diagonal tile's halves and the tiles below it are pieces of one sum over the queries: a weight is nothing where the
key comes after the query. -/

variable (Q D : Vec Ideal S4096x128 .bf16) (DL : Vec Ideal S1x4096x128 .f32) (AX : Vec Ideal S1x4096x128 .bf16) (j : ℕ)
variable (kt vt : Vec Ideal S1024x128 .bf16) (kx : Vec Ideal S1x1024x128 .bf16)

/-- A query's row in the head's arrays. -/
def rowOf (i : ℕ) : Fin 4096 := ⟨i % 4096, Nat.mod_lt _ (by decide)⟩

theorem rowOf_val (i : Fin 4096) : rowOf i.val = i := Fin.ext (Nat.mod_eq_of_lt i.isLt)

/-- The weight of key `k` of tile `j` for query `i`. -/
def wt (i : ℕ) (k : Fin 1024) : EReal :=
  weight kt kx (fun l => Q (ix2 (rowOf i) l)) (fun l => AX (ix3 0 (rowOf i) l)) k (1024 * j + k.val ≤ i)

/-- The gradient of the score of key `k` of tile `j` for query `i`. -/
def ds (i : ℕ) (k : Fin 1024) : EReal :=
  wt Q AX j kt kx i k * gap vt (fun l => D (ix2 (rowOf i) l)) (fun l => DL (ix3 0 (rowOf i) l)) k

theorem wt_early (i : ℕ) (k : Fin 1024) (h : i < 1024 * j + k.val) : wt Q AX j kt kx i k = 0 := weight_not (by omega)

theorem ds_early (i : ℕ) (k : Fin 1024) (h : i < 1024 * j + k.val) : ds Q D DL AX j kt vt kx i k = 0 := by
  rw [ds, wt_early _ _ _ _ _ _ _ h, zero_mul]

theorem wt0_eq (r : Fin 512) (k : Fin 1024) :
    wt0 kt kx (rows512 Q (1024 * j)) (rows1x512 AX (1024 * j)) r k = wt Q AX j kt kx (1024 * j + r.val) k :=
  if_congr (by omega) rfl rfl

theorem ds0_eq (r : Fin 512) (k : Fin 1024) :
    ds0 kt vt kx (rows512 Q (1024 * j)) (rows512 D (1024 * j)) (rows1x512 DL (1024 * j)) (rows1x512 AX (1024 * j)) r k
      = ds Q D DL AX j kt vt kx (1024 * j + r.val) k :=
  congrArg₂ (· * ·) (wt0_eq Q AX j kt kx r k) rfl

theorem wt1_eq (r : Fin 512) (k : Fin 1024) :
    wt1 kt kx (rows512 Q (1024 * j + 512)) (rows1x512 AX (1024 * j + 512)) r k = wt Q AX j kt kx (1024 * j + 512 + r.val) k :=
  if_congr (by omega) rfl rfl

theorem ds1_eq (r : Fin 512) (k : Fin 1024) :
    ds1 kt vt kx (rows512 Q (1024 * j + 512)) (rows512 D (1024 * j + 512)) (rows1x512 DL (1024 * j + 512)) (rows1x512 AX (1024 * j + 512)) r k
      = ds Q D DL AX j kt vt kx (1024 * j + 512 + r.val) k :=
  congrArg₂ (· * ·) (wt1_eq Q AX j kt kx r k) rfl

theorem wt2_eq (n : ℕ) (r k : Fin 1024) :
    wt2 kt kx (rows1024 Q (1024 * j + 1024 * n + 1024)) (rows1x1024 AX (1024 * j + 1024 * n + 1024)) r k
      = wt Q AX j kt kx (1024 * j + 1024 * n + 1024 + r.val) k :=
  if_congr (by omega) rfl rfl

theorem ds2_eq (n : ℕ) (r k : Fin 1024) :
    ds2 kt vt kx (rows1024 Q (1024 * j + 1024 * n + 1024)) (rows1024 D (1024 * j + 1024 * n + 1024)) (rows1x1024 DL (1024 * j + 1024 * n + 1024))
        (rows1x1024 AX (1024 * j + 1024 * n + 1024)) r k
      = ds Q D DL AX j kt vt kx (1024 * j + 1024 * n + 1024 + r.val) k :=
  congrArg₂ (· * ·) (wt2_eq Q AX j kt kx n r k) rfl

theorem rows512_at (X : Vec Ideal S4096x128 .bf16) (a : ℕ) (r : Fin 512) (e : Fin 128) : rows512 X a (ix2 r e) = X (ix2 (rowOf (a + r.val)) e) := rfl

theorem rows1024_at (X : Vec Ideal S4096x128 .bf16) (a : ℕ) (r : Fin 1024) (e : Fin 128) : rows1024 X a (ix2 r e) = X (ix2 (rowOf (a + r.val)) e) := rfl

/-- Two halves of 512 summed are the first 1024. -/
theorem sum_halves (g : ℕ → EReal) (a : ℕ) :
    (∑ r : Fin 512, g (a + r.val)) + ∑ r : Fin 512, g (a + 512 + r.val) = ∑ i ∈ Finset.range 1024, g (a + i) := by
  rw [show (1024 : ℕ) = 512 + 512 from rfl, Finset.sum_range_add, Finset.sum_range, Finset.sum_range]
  simp only [Nat.add_assoc]

/-- A tile of 1024 more. -/
theorem sum_tile (g : ℕ → EReal) (a n : ℕ) :
    (∑ i ∈ Finset.range (1024 * n + 1024), g (a + i)) + ∑ r : Fin 1024, g (a + 1024 * n + 1024 + r.val)
      = ∑ i ∈ Finset.range (1024 * (n + 1) + 1024), g (a + i) := by
  rw [show 1024 * (n + 1) + 1024 = (1024 * n + 1024) + 1024 from by ring, Finset.sum_range_add _ (1024 * n + 1024) 1024, Finset.sum_range (n := 1024)]
  simp only [Nat.add_assoc]

/-- Nothing before the diagonal: the sum over all the queries. -/
theorem sum_all (g : ℕ → EReal) (hj : j ≤ 3) (h : ∀ i, i < 1024 * j → g i = 0) :
    (∑ i ∈ Finset.range (1024 * (3 - j) + 1024), g (1024 * j + i)) = ∑ i : Fin 4096, g i.val := by
  rw [← Finset.sum_range, show 4096 = 1024 * j + (1024 * (3 - j) + 1024) from by omega, Finset.sum_range_add _ (1024 * j),
    Finset.sum_eq_zero (fun i hi => h i (Finset.mem_range.mp hi)), zero_add]

theorem carryDiag_dk (k : Fin 1024) (e : Fin 128) :
    (carryDiag (F := Ideal) Q D DL AX j kt vt kx).1 (ix2 k e)
      = ∑ i ∈ Finset.range 1024, ds Q D DL AX j kt vt kx (1024 * j + i) k * Q (ix2 (rowOf (1024 * j + i)) e) := by
  rw [← sum_halves (fun i => ds Q D DL AX j kt vt kx i k * Q (ix2 (rowOf i) e)), carryDiag]
  refine (dk1_at _ _ _ _ _ _ _ _ _ _).trans ?_
  pointwise [k0_pay83, k0_pay57]
  rw [dk0_at]
  exact congrArg₂ (· + ·) (Finset.sum_congr rfl fun r _ => congrArg (· * _) (ds0_eq Q D DL AX j kt vt kx r k))
    (Finset.sum_congr rfl fun r _ => congrArg (· * _) (ds1_eq Q D DL AX j kt vt kx r k))

theorem carryDiag_dv (k : Fin 1024) (e : Fin 128) :
    (carryDiag (F := Ideal) Q D DL AX j kt vt kx).2.1 (ix2 k e)
      = ∑ i ∈ Finset.range 1024, wt Q AX j kt kx (1024 * j + i) k * D (ix2 (rowOf (1024 * j + i)) e) := by
  rw [← sum_halves (fun i => wt Q AX j kt kx i k * D (ix2 (rowOf i) e)), carryDiag]
  refine (dv1_at _ _ _ _ _ _ _ _).trans ?_
  pointwise [k0_pay84, k0_pay58]
  rw [dv0_at]
  exact congrArg₂ (· + ·) (Finset.sum_congr rfl fun r _ => congrArg (· * _) (wt0_eq Q AX j kt kx r k))
    (Finset.sum_congr rfl fun r _ => congrArg (· * _) (wt1_eq Q AX j kt kx r k))

theorem carryDiag_dc (e : Fin 8) (k : Fin 1024) :
    (carryDiag (F := Ideal) Q D DL AX j kt vt kx).2.2 (ix2 e k)
      = ∑ x ∈ Finset.range 128, ds Q D DL AX j kt vt kx (1024 * j + (x * 8 + e.val)) k := by
  rw [show 128 = 64 + 64 from rfl, Finset.sum_range_add, Finset.sum_range, Finset.sum_range, carryDiag]
  refine (dc1_at _ _ _ _ _ _ _ _ _ _).trans ?_
  pointwise [k0_pay85, k0_pay59]
  rw [dc0_at]
  exact congrArg₂ (· + ·) (Finset.sum_congr rfl fun x _ => ds0_eq Q D DL AX j kt vt kx _ k)
    (Finset.sum_congr rfl fun x _ => (ds1_eq Q D DL AX j kt vt kx _ k).trans
      (congrArg (ds Q D DL AX j kt vt kx · k) (by show 1024 * j + 512 + (x.val * 8 + e.val) = _; ring)))

theorem carryLoop_dk (k : Fin 1024) (e : Fin 128) (n : ℕ) :
    (carryLoop (F := Ideal) Q D DL AX j (k0_pay55 vt) (k0_pay56 kt kx) (carryDiag Q D DL AX j kt vt kx) n).1 (ix2 k e)
      = ∑ i ∈ Finset.range (1024 * n + 1024), ds Q D DL AX j kt vt kx (1024 * j + i) k * Q (ix2 (rowOf (1024 * j + i)) e) := by
  induction n with
  | zero => exact carryDiag_dk Q D DL AX j kt vt kx k e
  | succ n ih =>
    rw [← sum_tile (fun i => ds Q D DL AX j kt vt kx i k * Q (ix2 (rowOf i) e)), carryLoop]
    refine (dk2_at _ _ _ _ _ _ _ _ _ _).trans ?_
    rw [ih]
    exact congrArg (_ + ·) (Finset.sum_congr rfl fun r _ => congrArg (· * _) (ds2_eq Q D DL AX j kt vt kx n r k))

theorem carryLoop_dv (k : Fin 1024) (e : Fin 128) (n : ℕ) :
    (carryLoop (F := Ideal) Q D DL AX j (k0_pay55 vt) (k0_pay56 kt kx) (carryDiag Q D DL AX j kt vt kx) n).2.1 (ix2 k e)
      = ∑ i ∈ Finset.range (1024 * n + 1024), wt Q AX j kt kx (1024 * j + i) k * D (ix2 (rowOf (1024 * j + i)) e) := by
  induction n with
  | zero => exact carryDiag_dv Q D DL AX j kt vt kx k e
  | succ n ih =>
    rw [← sum_tile (fun i => wt Q AX j kt kx i k * D (ix2 (rowOf i) e)), carryLoop]
    refine (dv2_at _ _ _ _ _ _ _ _).trans ?_
    rw [ih]
    exact congrArg (_ + ·) (Finset.sum_congr rfl fun r _ => congrArg (· * _) (wt2_eq Q AX j kt kx n r k))

theorem carryLoop_dc (e : Fin 8) (k : Fin 1024) (n : ℕ) :
    (carryLoop (F := Ideal) Q D DL AX j (k0_pay55 vt) (k0_pay56 kt kx) (carryDiag Q D DL AX j kt vt kx) n).2.2 (ix2 e k)
      = ∑ x ∈ Finset.range (128 * n + 128), ds Q D DL AX j kt vt kx (1024 * j + (x * 8 + e.val)) k := by
  induction n with
  | zero => exact carryDiag_dc Q D DL AX j kt vt kx e k
  | succ n ih =>
    rw [show 128 * (n + 1) + 128 = (128 * n + 128) + 128 from by ring, Finset.sum_range_add, Finset.sum_range (n := 128), carryLoop]
    refine (dc2_at _ _ _ _ _ _ _ _ _ _).trans ?_
    rw [ih]
    exact congrArg (_ + ·) (Finset.sum_congr rfl fun x _ => (ds2_eq Q D DL AX j kt vt kx n _ k).trans
      (congrArg (ds Q D DL AX j kt vt kx · k) (by show 1024 * j + 1024 * n + 1024 + (x.val * 8 + e.val) = _; ring)))

/-- The keys' gradient a point hands on, before its factor. -/
theorem carryEnd_dk (hj : j ≤ 3) (k : Fin 1024) (e : Fin 128) :
    (carryEnd (F := Ideal) Q D DL AX j kt vt kx).1 (ix2 k e) = ∑ i : Fin 4096, ds Q D DL AX j kt vt kx i.val k * Q (ix2 i e) := by
  rw [carryEnd, carryLoop_dk, sum_all j (fun i => ds Q D DL AX j kt vt kx i k * Q (ix2 (rowOf i) e)) hj fun i hi => by
    rw [ds_early _ _ _ _ _ _ _ _ _ _ (by omega), zero_mul]]
  simp only [rowOf_val]

/-- The values' gradient a point hands on. -/
theorem carryEnd_dv (hj : j ≤ 3) (k : Fin 1024) (e : Fin 128) :
    (carryEnd (F := Ideal) Q D DL AX j kt vt kx).2.1 (ix2 k e) = ∑ i : Fin 4096, wt Q AX j kt kx i.val k * D (ix2 i e) := by
  rw [carryEnd, carryLoop_dv, sum_all j (fun i => wt Q AX j kt kx i k * D (ix2 (rowOf i) e)) hj fun i hi => by
    rw [wt_early _ _ _ _ _ _ _ (by omega), zero_mul]]
  simp only [rowOf_val]

/-- A sum by residues modulo eight. -/
theorem sum_groups (g : ℕ → EReal) (n : ℕ) :
    (∑ e : Fin 8, ∑ x ∈ Finset.range n, g (x * 8 + e.val)) = ∑ i ∈ Finset.range (8 * n), g i := by
  induction n with
  | zero => simp
  | succ n ih =>
    rw [show 8 * (n + 1) = 8 * n + 8 from by ring, Finset.sum_range_add, ← ih, Finset.sum_range (n := 8), ← Finset.sum_add_distrib]
    simp only [Finset.sum_range_succ, Nat.mul_comm n 8]

/-- The column sums a point hands on, all eight rows of them the same. -/
theorem carryEnd_dc (hj : j ≤ 3) (e : Fin 8) (k : Fin 1024) :
    k0_pay14 (F := Ideal) (carryEnd Q D DL AX j kt vt kx).2.2 (ix3 0 e k) = ∑ i : Fin 4096, ds Q D DL AX j kt vt kx i.val k := by
  pointwise [k0_pay14]
  simp only [carryEnd, carryLoop_dc]
  rw [sum_groups (fun i => ds Q D DL AX j kt vt kx (1024 * j + i) k), show 8 * (128 * (3 - j) + 128) = 1024 * (3 - j) + 1024 from by ring]
  exact sum_all j (fun i => ds Q D DL AX j kt vt kx i k) hj fun i hi => ds_early _ _ _ _ _ _ _ _ _ _ (by omega)

end Cert.KernelIdeal.Hand

end
-- ==== Proof.PointQ.lean ====
module

public import proofs.«01_k».proof.Proof.Point

@[expose] public section

set_option maxRecDepth 16384

noncomputable section

namespace Cert.KernelIdeal.Hand

open Cert.KernelIdeal Cert.KernelIdeal.Gen
open Idealize.ShloMosaic Idealize.ShloMosaic.TcCoe Idealize.ShloMosaic.VecWindow

/-! # What a point adds to the queries' gradient -/

theorem put512_at (X : Vec Ideal S4096x128 .f32) (a : ℕ) (w : Vec Ideal S512x128 .f32) (i : Fin 4096) (e : Fin 128) :
    put X ![a, 0] S512x128.size w (ix2 i e) = if h : a ≤ i.val ∧ i.val < a + 512 then w (ix2 ⟨i.val - a, by omega⟩ e) else X (ix2 i e) := by
  unfold put
  by_cases h : a ≤ i.val ∧ i.val < a + 512
  · have h' : ∀ x, (![a, 0] : Fin 2 → ℕ) x ≤ ((ix2 i e : S4096x128.Idx) x).val ∧ ((ix2 i e : S4096x128.Idx) x).val < (![a, 0] : Fin 2 → ℕ) x + S512x128.size x := by
      intro x
      fin_cases x
      · exact h
      · exact ⟨Nat.zero_le _, by show e.val < 0 + 128; omega⟩
    rw [dif_pos h, dif_pos h']
    refine congrArg w (funext fun x => Fin.ext ?_)
    fin_cases x <;> rfl
  · have h' : ¬∀ x, (![a, 0] : Fin 2 → ℕ) x ≤ ((ix2 i e : S4096x128.Idx) x).val ∧ ((ix2 i e : S4096x128.Idx) x).val < (![a, 0] : Fin 2 → ℕ) x + S512x128.size x :=
      fun h' => h (h' 0)
    rw [dif_neg h, dif_neg h']

theorem put1024_at (X : Vec Ideal S4096x128 .f32) (a : ℕ) (w : Vec Ideal S1024x128 .f32) (i : Fin 4096) (e : Fin 128) :
    put X ![a, 0] S1024x128.size w (ix2 i e) = if h : a ≤ i.val ∧ i.val < a + 1024 then w (ix2 ⟨i.val - a, by omega⟩ e) else X (ix2 i e) := by
  unfold put
  by_cases h : a ≤ i.val ∧ i.val < a + 1024
  · have h' : ∀ x, (![a, 0] : Fin 2 → ℕ) x ≤ ((ix2 i e : S4096x128.Idx) x).val ∧ ((ix2 i e : S4096x128.Idx) x).val < (![a, 0] : Fin 2 → ℕ) x + S1024x128.size x := by
      intro x
      fin_cases x
      · exact h
      · exact ⟨Nat.zero_le _, by show e.val < 0 + 128; omega⟩
    rw [dif_pos h, dif_pos h']
    refine congrArg w (funext fun x => Fin.ext ?_)
    fin_cases x <;> rfl
  · have h' : ¬∀ x, (![a, 0] : Fin 2 → ℕ) x ≤ ((ix2 i e : S4096x128.Idx) x).val ∧ ((ix2 i e : S4096x128.Idx) x).val < (![a, 0] : Fin 2 → ℕ) x + S1024x128.size x :=
      fun h' => h (h' 0)
    rw [dif_neg h, dif_neg h']

variable (Q D : Vec Ideal S4096x128 .bf16) (DL : Vec Ideal S1x4096x128 .f32) (AX : Vec Ideal S1x4096x128 .bf16) (j : ℕ)
variable (kt vt : Vec Ideal S1024x128 .bf16) (kx : Vec Ideal S1x1024x128 .bf16) (old : Vec Ideal S4096x128 .f32)

/-- What key tile `j` adds to the queries' gradient at row `i`. -/
def dqAdd (i : ℕ) (e : Fin 128) : EReal := (∑ k : Fin 1024, ds Q D DL AX j kt vt kx i k * kt (ix2 k e)) * sigma

theorem dqAdd_early (i : ℕ) (e : Fin 128) (h : i < 1024 * j) : dqAdd Q D DL AX j kt vt kx i e = 0 := by
  unfold dqAdd
  rw [Finset.sum_eq_zero fun k _ => by rw [ds_early _ _ _ _ _ _ _ _ _ _ (by omega), zero_mul], zero_mul]

theorem dqHalf_at (i : Fin 4096) (e : Fin 128) :
    dqHalf (F := Ideal) Q D DL AX j kt vt kx old (ix2 i e)
      = if i.val < 1024 * j + 512 then old (ix2 i e) + dqAdd Q D DL AX j kt vt kx i.val e else old (ix2 i e) := by
  refine (put512_at _ _ _ i e).trans ?_
  by_cases h : 1024 * j ≤ i.val ∧ i.val < 1024 * j + 512
  · have hi : 1024 * j + (i.val - 1024 * j) = i.val := by omega
    rw [dif_pos h, if_pos h.2]
    refine (dq0_at _ _ _ _ _ _ _ _ _ _).trans ?_
    refine congrArg₂ (· + ·) (congrArg old ?_) (congrArg (· * sigma) (Finset.sum_congr rfl fun k _ => congrArg (· * _) ?_))
    · show ix2 (rowOf (1024 * j + (i.val - 1024 * j))) e = _
      rw [hi, rowOf_val]
    · refine (ds0_eq Q D DL AX j kt vt kx _ k).trans (congrArg (ds Q D DL AX j kt vt kx · k) hi)
  · rw [dif_neg h]
    split
    · rw [dqAdd_early _ _ _ _ _ _ _ _ _ _ (by omega), add_zero]
    · rfl

theorem dqDiag_at (i : Fin 4096) (e : Fin 128) :
    dqDiag (F := Ideal) Q D DL AX j kt vt kx old (ix2 i e)
      = if i.val < 1024 * j + 1024 then old (ix2 i e) + dqAdd Q D DL AX j kt vt kx i.val e else old (ix2 i e) := by
  refine (put512_at _ _ _ i e).trans ?_
  by_cases h : 1024 * j + 512 ≤ i.val ∧ i.val < 1024 * j + 512 + 512
  · have hi : 1024 * j + 512 + (i.val - (1024 * j + 512)) = i.val := by omega
    rw [dif_pos h, if_pos (by omega)]
    refine (dq1_at _ _ _ _ _ _ _ _ _ _).trans ?_
    refine congrArg₂ (· + ·) (congrArg old ?_) (congrArg (· * sigma) (Finset.sum_congr rfl fun k _ => congrArg (· * _) ?_))
    · show ix2 (rowOf (1024 * j + 512 + (i.val - (1024 * j + 512)))) e = _
      rw [hi, rowOf_val]
    · refine (ds1_eq Q D DL AX j kt vt kx _ k).trans (congrArg (ds Q D DL AX j kt vt kx · k) hi)
  · rw [dif_neg h]
    refine (dqHalf_at Q D DL AX j kt vt kx old i e).trans (if_congr (by omega) rfl rfl)

theorem dqLoop_at (i : Fin 4096) (e : Fin 128) (n : ℕ) :
    dqLoop (F := Ideal) Q D DL AX j (k0_pay54 kt) (k0_pay55 vt) (k0_pay56 kt kx) (dqDiag Q D DL AX j kt vt kx old) n (ix2 i e)
      = if i.val < 1024 * j + 1024 * n + 1024 then old (ix2 i e) + dqAdd Q D DL AX j kt vt kx i.val e else old (ix2 i e) := by
  induction n with
  | zero => exact dqDiag_at Q D DL AX j kt vt kx old i e
  | succ n ih =>
    refine (put1024_at _ _ _ i e).trans ?_
    by_cases h : 1024 * j + 1024 * n + 1024 ≤ i.val ∧ i.val < 1024 * j + 1024 * n + 1024 + 1024
    · have hi : 1024 * j + 1024 * n + 1024 + (i.val - (1024 * j + 1024 * n + 1024)) = i.val := by omega
      rw [dif_pos h, if_pos (by omega)]
      refine (dq2_at _ _ _ _ _ _ _ _ _ _).trans ?_
      refine congrArg₂ (· + ·) ?_ (congrArg (· * sigma) (Finset.sum_congr rfl fun k _ => congrArg (· * _) ?_))
      · have hr : rowOf (1024 * j + 1024 * n + 1024 + (i.val - (1024 * j + 1024 * n + 1024))) = i := by rw [hi, rowOf_val]
        refine (congrArg (fun r => dqLoop (F := Ideal) Q D DL AX j (k0_pay54 kt) (k0_pay55 vt) (k0_pay56 kt kx) (dqDiag Q D DL AX j kt vt kx old) n (ix2 r e)) hr).trans ?_
        exact ih.trans (if_neg (by omega))
      · refine (ds2_eq Q D DL AX j kt vt kx n _ k).trans (congrArg (ds Q D DL AX j kt vt kx · k) hi)
    · rw [dif_neg h]
      exact ih.trans (if_congr (by omega) rfl rfl)

/-- A point adds to every row what its tile's keys give there. -/
theorem dqEnd_at (hj : j ≤ 3) (i : Fin 4096) (e : Fin 128) :
    dqEnd (F := Ideal) Q D DL AX j kt vt kx old (ix2 i e) = old (ix2 i e) + dqAdd Q D DL AX j kt vt kx i.val e :=
  (dqLoop_at Q D DL AX j kt vt kx old i e (3 - j)).trans (if_pos (by omega))

end Cert.KernelIdeal.Hand

end
-- ==== Proof.Run.lean ====
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.KernelIdeal

open Idealize.ShloMosaic

/-! The equations of the three pieces of the body that name no constant, over the instances these pieces take. -/

set_option maxRecDepth 65536 in
theorem k0_part3_eq_skeleton {F : FTy → Type} [FloatOps F] : k0_part3 (F := F) = Gen.k0_part3_skel (F := F) := rfl

set_option maxRecDepth 65536 in
theorem k0_part6_eq_skeleton {F : FTy → Type} [FloatOps F] : k0_part6 (F := F) = Gen.k0_part6_skel (F := F) := rfl

set_option maxRecDepth 65536 in
theorem k0_part8_eq_skeleton {F : FTy → Type} [FloatOps F] : k0_part8 (F := F) = Gen.k0_part8_skel (F := F) := rfl

end Cert.KernelIdeal

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body at a grid point of the case `first`: the pieces it writes are what the run finds. -/
@[irreducible] def run_first (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : (Scalar.cmpi .ne (Scalar.extui (Scalar.cmpi .eq (BitVec.ofNat 32 (i 1).val) 0#32)) 0#32 = 1#1)) (h2 : ¬ k0_cond2 i = 1#1) :
    Σ' (L11 : BufTy.Contents (Elt F) arg14.view.ty → BufTy.Contents (Elt F) arg15.view.ty → List (View.Piece (Elt F) S1024x128 .bf16)), Σ' (L12 : BufTy.Contents (Elt F) arg14.view.ty → BufTy.Contents (Elt F) arg15.view.ty → List (View.Piece (Elt F) S1024x128 .bf16)), Σ' (L13 : BufTy.Contents (Elt F) arg14.view.ty → BufTy.Contents (Elt F) arg15.view.ty → List (View.Piece (Elt F) S1x8x1024 .f32)), Σ' (L14 : BufTy.Contents (Elt F) arg14.view.ty → BufTy.Contents (Elt F) arg15.view.ty → BufTy.Contents (Elt F) arg14.view.ty), { L15 : BufTy.Contents (Elt F) arg14.view.ty → BufTy.Contents (Elt F) arg15.view.ty → BufTy.Contents (Elt F) arg15.view.ty // ∀ (E : Set ℕ) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (Q : sProp 𝕄),
      iprop(((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) ∗ Q)
      ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop(((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} (arg11.view.writes (Elt F) f11 (L11 f14 f15))) ∗ (arg12.view.loc (c : Thread nD τ) ↦[arg12.view.set]{fullShare} (arg12.view.writes (Elt F) f12 (L12 f14 f15))) ∗ (arg13.view.loc (c : Thread nD τ) ↦[arg13.view.set]{fullShare} (arg13.view.writes (Elt F) f13 (L13 f14 f15))) ∗ (arg14.view.loc (c : Thread nD τ) ↦[arg14.view.set]{fullShare} (L14 f14 f15)) ∗ (arg15.view.loc (c : Thread nD τ) ↦[arg15.view.set]{fullShare} (L15 f14 f15))) ∗ Q)) } := by
  refine ⟨?_, ?_, ?_, ?_, ?_, fun E f10 f11 f12 f13 f14 f15 Q => ?run⟩
  case run =>
    rw [cc0_attn_bwd_eq_skeleton]; sl_unfold [cc0_attn_bwd_skel]
    iintro ⟨⟨H2, H3, H4, H5, H6, H7, H8, H9, H10, H11, H12, H13, H14, H15⟩, HQ⟩
    sl_exec_parts
    sl_step
    sl_close

/-- The body at a grid point of the case `mid`: the pieces it writes are what the run finds. -/
@[irreducible] def run_mid (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : ¬ (Scalar.cmpi .ne (Scalar.extui (Scalar.cmpi .eq (BitVec.ofNat 32 (i 1).val) 0#32)) 0#32 = 1#1)) (h2 : ¬ k0_cond2 i = 1#1) :
    Σ' (L11 : BufTy.Contents (Elt F) arg14.view.ty → BufTy.Contents (Elt F) arg15.view.ty → List (View.Piece (Elt F) S1024x128 .bf16)), Σ' (L12 : BufTy.Contents (Elt F) arg14.view.ty → BufTy.Contents (Elt F) arg15.view.ty → List (View.Piece (Elt F) S1024x128 .bf16)), Σ' (L13 : BufTy.Contents (Elt F) arg14.view.ty → BufTy.Contents (Elt F) arg15.view.ty → List (View.Piece (Elt F) S1x8x1024 .f32)), Σ' (L14 : BufTy.Contents (Elt F) arg14.view.ty → BufTy.Contents (Elt F) arg15.view.ty → List (View.Piece (Elt F) S1x4096x128 .f32)), { L15 : BufTy.Contents (Elt F) arg14.view.ty → BufTy.Contents (Elt F) arg15.view.ty → List (View.Piece (Elt F) S4096x128 .f32) // ∀ (E : Set ℕ) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (Q : sProp 𝕄),
      iprop(((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) ∗ Q)
      ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop(((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} (arg11.view.writes (Elt F) f11 (L11 f14 f15))) ∗ (arg12.view.loc (c : Thread nD τ) ↦[arg12.view.set]{fullShare} (arg12.view.writes (Elt F) f12 (L12 f14 f15))) ∗ (arg13.view.loc (c : Thread nD τ) ↦[arg13.view.set]{fullShare} (arg13.view.writes (Elt F) f13 (L13 f14 f15))) ∗ (arg14.view.loc (c : Thread nD τ) ↦[arg14.view.set]{fullShare} (arg14.view.writes (Elt F) f14 (L14 f14 f15))) ∗ (arg15.view.loc (c : Thread nD τ) ↦[arg15.view.set]{fullShare} (arg15.view.writes (Elt F) f15 (L15 f14 f15)))) ∗ Q)) } := by
  refine ⟨?_, ?_, ?_, ?_, ?_, fun E f10 f11 f12 f13 f14 f15 Q => ?run⟩
  case run =>
    rw [cc0_attn_bwd_eq_skeleton]; sl_unfold [cc0_attn_bwd_skel]
    iintro ⟨⟨H2, H3, H4, H5, H6, H7, H8, H9, H10, H11, H12, H13, H14, H15⟩, HQ⟩
    sl_exec_parts
    sl_step
    sl_close

/-- The body at a grid point of the case `last`: the pieces it writes are what the run finds. -/
@[irreducible] def run_last (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : ¬ (Scalar.cmpi .ne (Scalar.extui (Scalar.cmpi .eq (BitVec.ofNat 32 (i 1).val) 0#32)) 0#32 = 1#1)) (h2 : k0_cond2 i = 1#1) :
    Σ' (L10 : BufTy.Contents (Elt F) arg14.view.ty → BufTy.Contents (Elt F) arg15.view.ty → List (View.Piece (Elt F) S4096x128 .bf16)), Σ' (L11 : BufTy.Contents (Elt F) arg14.view.ty → BufTy.Contents (Elt F) arg15.view.ty → List (View.Piece (Elt F) S1024x128 .bf16)), Σ' (L12 : BufTy.Contents (Elt F) arg14.view.ty → BufTy.Contents (Elt F) arg15.view.ty → List (View.Piece (Elt F) S1024x128 .bf16)), Σ' (L13 : BufTy.Contents (Elt F) arg14.view.ty → BufTy.Contents (Elt F) arg15.view.ty → List (View.Piece (Elt F) S1x8x1024 .f32)), Σ' (L14 : BufTy.Contents (Elt F) arg14.view.ty → BufTy.Contents (Elt F) arg15.view.ty → List (View.Piece (Elt F) S1x4096x128 .f32)), { L15 : BufTy.Contents (Elt F) arg14.view.ty → BufTy.Contents (Elt F) arg15.view.ty → List (View.Piece (Elt F) S4096x128 .f32) // ∀ (E : Set ℕ) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (Q : sProp 𝕄),
      iprop(((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) ∗ Q)
      ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop(((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} (arg10.view.writes (Elt F) f10 (L10 f14 f15))) ∗ (arg11.view.loc (c : Thread nD τ) ↦[arg11.view.set]{fullShare} (arg11.view.writes (Elt F) f11 (L11 f14 f15))) ∗ (arg12.view.loc (c : Thread nD τ) ↦[arg12.view.set]{fullShare} (arg12.view.writes (Elt F) f12 (L12 f14 f15))) ∗ (arg13.view.loc (c : Thread nD τ) ↦[arg13.view.set]{fullShare} (arg13.view.writes (Elt F) f13 (L13 f14 f15))) ∗ (arg14.view.loc (c : Thread nD τ) ↦[arg14.view.set]{fullShare} (arg14.view.writes (Elt F) f14 (L14 f14 f15))) ∗ (arg15.view.loc (c : Thread nD τ) ↦[arg15.view.set]{fullShare} (arg15.view.writes (Elt F) f15 (L15 f14 f15)))) ∗ Q)) } := by
  refine ⟨?_, ?_, ?_, ?_, ?_, ?_, fun E f10 f11 f12 f13 f14 f15 Q => ?run⟩
  case run =>
    rw [cc0_attn_bwd_eq_skeleton]; sl_unfold [cc0_attn_bwd_skel]
    iintro ⟨⟨H2, H3, H4, H5, H6, H7, H8, H9, H10, H11, H12, H13, H14, H15⟩, HQ⟩
    sl_exec_parts
    sl_step
    sl_close

end Cert.KernelIdeal.Hand

end
-- ==== Proof.LoopReads.lean ====
module

public import proofs.«01_k».proof.Proof.Model
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.VecWindow

variable {F : FTy → Type} [FloatOps F] [Named F]

/-! # What the loops leave -/

section Reads

variable {κ : Kind} {sp : Space} {e : EltTy}

theorem read_tile (v : View sig κ sp S4096x128 e) (X : v.ty.Contents (Elt F)) (i : grid0.Coords) (k : Fin (k0_t1_loop i).trips) :
    v.readAt (Elt F) (Rect.unit (s := S4096x128) (k0_off3 i k) S1024x128.size (k0_off3_inb i k)).toLoadRect X
      = rows1024 (v.read (Elt F) X) (1024 * (i 1).val + 1024 * k.val + 1024) :=
  (View.readAt_unit v X (k0_off3_inb i k) (k0_off3_eq i k) (k0_off3_eq i k ▸ k0_off3_inb i k)).trans (window_rows1024 _ _ _)

theorem read_tile3 (v : View sig κ sp S1x4096x128 e) (X : v.ty.Contents (Elt F)) (i : grid0.Coords) (k : Fin (k0_t1_loop i).trips) :
    v.readAt (Elt F) (Rect.unit (s := S1x4096x128) (k0_off4 i k) S1x1024x128.size (k0_off4_inb i k)).toLoadRect X
      = rows1x1024 (v.read (Elt F) X) (1024 * (i 1).val + 1024 * k.val + 1024) :=
  (View.readAt_unit v X (k0_off4_inb i k) (k0_off4_eq i k) (k0_off4_eq i k ▸ k0_off4_inb i k)).trans (window_rows1x1024 _ _ _)

theorem read_lower (v : View sig κ sp S4096x128 e) (X : v.ty.Contents (Elt F)) (i : grid0.Coords) :
    v.readAt (Elt F) (Rect.unit (s := S4096x128) (k0_off1 i 0#32) S512x128.size (k0_off1_inb i 0)).toLoadRect X
      = rows512 (v.read (Elt F) X) (1024 * (i 1).val) :=
  (View.readAt_unit v X (k0_off1_inb i 0) (k0_off1_eq i 0) (k0_off1_eq i 0 ▸ k0_off1_inb i 0)).trans (window_rows512 _ _ _)

theorem read_upper (v : View sig κ sp S4096x128 e) (X : v.ty.Contents (Elt F)) (i : grid0.Coords) :
    v.readAt (Elt F) (Rect.unit (s := S4096x128) (k0_off1 i 512#32) S512x128.size (k0_off1_inb i 1)).toLoadRect X
      = rows512 (v.read (Elt F) X) (1024 * (i 1).val + 512) :=
  (View.readAt_unit v X (k0_off1_inb i 1) (k0_off1_eq i 1) (k0_off1_eq i 1 ▸ k0_off1_inb i 1)).trans (window_rows512 _ _ _)

theorem read_lower3 (v : View sig κ sp S1x4096x128 e) (X : v.ty.Contents (Elt F)) (i : grid0.Coords) :
    v.readAt (Elt F) (Rect.unit (s := S1x4096x128) (k0_off2 i 0#32) S1x512x128.size (k0_off2_inb i 0)).toLoadRect X
      = rows1x512 (v.read (Elt F) X) (1024 * (i 1).val) :=
  (View.readAt_unit v X (k0_off2_inb i 0) (k0_off2_eq i 0) (k0_off2_eq i 0 ▸ k0_off2_inb i 0)).trans (window_rows1x512 _ _ _)

theorem read_upper3 (v : View sig κ sp S1x4096x128 e) (X : v.ty.Contents (Elt F)) (i : grid0.Coords) :
    v.readAt (Elt F) (Rect.unit (s := S1x4096x128) (k0_off2 i 512#32) S1x512x128.size (k0_off2_inb i 1)).toLoadRect X
      = rows1x512 (v.read (Elt F) X) (1024 * (i 1).val + 512) :=
  (View.readAt_unit v X (k0_off2_inb i 1) (k0_off2_eq i 1) (k0_off2_eq i 1 ▸ k0_off2_inb i 1)).trans (window_rows1x512 _ _ _)

end Reads

/-- Below key tile `j` there are `3 - j` query tiles. -/
theorem trips_below (i : grid0.Coords) : (k0_t1_loop i).trips = 3 - (i 1).val := by
  have h : ∀ i : grid0.Coords, (k0_t1_loop i).trips = 3 - (i 1).val := by decide +kernel
  exact h i

/-- The loop's second part has no trip. -/
theorem trips_none (i : grid0.Coords) : (k0_t2_loop i).trips = 0 := by
  have h : ∀ i : grid0.Coords, (k0_t2_loop i).trips = 0 := by decide +kernel
  exact h i

/-- The loop's second part leaves everything as it is. -/
theorem loop_none (𝒱 : Variants) (c : Dev nD) (bd : Option 𝒱.V) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (v4 : FVec F S1024x128 .bf16) (v6 : FVec F S1024x128 .bf16) (v9 : FVec F S1024x256 .bf16) (v265 : BitVec 32) (c1_i32_72 : BitVec 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1024x128 .f32 × FVec F S1024x128 .f32 × FVec F S8x1024 .f32) :
    st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 v4 v6 v9 v265 c1_i32_72 X_arg5 X_arg6 X_arg7 X_arg8 G_arg14 G_arg15 init (k0_t2_loop i).trips = (init, [], []) := by
  rw [trips_none i]
  rfl

/-- What one trip yields. -/
theorem trip_carry (𝒱 : Variants) (c : Dev nD) (bd : Option 𝒱.V) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (arg1 : BitVec 32) (v4 : FVec F S1024x128 .bf16) (v6 : FVec F S1024x128 .bf16) (v9 : FVec F S1024x256 .bf16) (v127 : FVec F S1024x128 .f32) (v128 : FVec F S1024x128 .f32) (v129 : FVec F S8x1024 .f32) (v132 : BitVec 32) (v135 : FVec F S512x128 .bf16) (v138 : FVec F S512x128 .bf16) (v149 : FVec F S512x128 .f32) (v152 : FVec F S512x128 .f32) (v154 : FVec F S512x128 .f32) (v157 : FVec F S512x128 .f32) (v159 : FVec F S512x128 .f32) (v162 : FVec F S512x128 .f32) (v164 : FVec F S512x128 .f32) (v167 : FVec F S512x128 .f32) (v178 : FVec F S512x128 .f32) (v181 : FVec F S512x128 .f32) (v192 : FVec F S512x128 .f32) (v195 : FVec F S512x128 .f32) (v206 : FVec F S512x128 .f32) (v209 : FVec F S512x128 .f32) (v220 : FVec F S512x128 .f32) (v223 : FVec F S512x128 .f32) (v260 : BitVec 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin (k0_t1_loop i).trips) (acc : Carry F) (f14 : BufTy.Contents (Elt F) arg14.view.ty) (f15 : BufTy.Contents (Elt F) arg15.view.ty) :
    tripR_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v9 v127 v128 v129 v132 v135 v138 v149 v152 v154 v157 v159 v162 v164 v167 v178 v181 v192 v195 v206 v209 v220 v223 v260 X_arg5 X_arg6 X_arg7 X_arg8 k acc f14 f15
      = (dk2 v6 v9 (rows1024 (arg5.view.read (Elt F) X_arg5) (1024 * (i 1).val + 1024 * k.val + 1024)) (rows1024 (arg7.view.read (Elt F) X_arg7) (1024 * (i 1).val + 1024 * k.val + 1024)) (rows1x1024 (arg8.view.read (Elt F) X_arg8) (1024 * (i 1).val + 1024 * k.val + 1024)) (rows1x1024 (arg6.view.read (Elt F) X_arg6) (1024 * (i 1).val + 1024 * k.val + 1024)) acc.1, dv2 v9 (rows1024 (arg5.view.read (Elt F) X_arg5) (1024 * (i 1).val + 1024 * k.val + 1024)) (rows1024 (arg7.view.read (Elt F) X_arg7) (1024 * (i 1).val + 1024 * k.val + 1024)) (rows1x1024 (arg6.view.read (Elt F) X_arg6) (1024 * (i 1).val + 1024 * k.val + 1024)) acc.2.1, dc2 v6 v9 (rows1024 (arg5.view.read (Elt F) X_arg5) (1024 * (i 1).val + 1024 * k.val + 1024)) (rows1024 (arg7.view.read (Elt F) X_arg7) (1024 * (i 1).val + 1024 * k.val + 1024)) (rows1x1024 (arg8.view.read (Elt F) X_arg8) (1024 * (i 1).val + 1024 * k.val + 1024)) (rows1x1024 (arg6.view.read (Elt F) X_arg6) (1024 * (i 1).val + 1024 * k.val + 1024)) acc.2.2) := by
  rw [← read_tile, ← read_tile, ← read_tile3, ← read_tile3]
  unfold tripR_k0_t1 trip_k0_t1
  rfl

/-- What one trip stores in the queries' gradient. -/
theorem trip_pieces (𝒱 : Variants) (c : Dev nD) (bd : Option 𝒱.V) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (arg1 : BitVec 32) (v4 : FVec F S1024x128 .bf16) (v6 : FVec F S1024x128 .bf16) (v9 : FVec F S1024x256 .bf16) (v127 : FVec F S1024x128 .f32) (v128 : FVec F S1024x128 .f32) (v129 : FVec F S8x1024 .f32) (v132 : BitVec 32) (v135 : FVec F S512x128 .bf16) (v138 : FVec F S512x128 .bf16) (v149 : FVec F S512x128 .f32) (v152 : FVec F S512x128 .f32) (v154 : FVec F S512x128 .f32) (v157 : FVec F S512x128 .f32) (v159 : FVec F S512x128 .f32) (v162 : FVec F S512x128 .f32) (v164 : FVec F S512x128 .f32) (v167 : FVec F S512x128 .f32) (v178 : FVec F S512x128 .f32) (v181 : FVec F S512x128 .f32) (v192 : FVec F S512x128 .f32) (v195 : FVec F S512x128 .f32) (v206 : FVec F S512x128 .f32) (v209 : FVec F S512x128 .f32) (v220 : FVec F S512x128 .f32) (v223 : FVec F S512x128 .f32) (v260 : BitVec 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin (k0_t1_loop i).trips) (acc : Carry F) (f14 : BufTy.Contents (Elt F) arg14.view.ty) (f15 : BufTy.Contents (Elt F) arg15.view.ty) :
    (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v9 v127 v128 v129 v132 v135 v138 v149 v152 v154 v157 v159 v162 v164 v167 v178 v181 v192 v195 v206 v209 v220 v223 v260 X_arg5 X_arg6 X_arg7 X_arg8 k acc f14 f15).2
      = [⟨Rect.unit (s := S4096x128) (k0_off3 i k) S1024x128.size (k0_off3_inb i k),
          dq2 v4 v6 v9 (rows1024 (arg5.view.read (Elt F) X_arg5) (1024 * (i 1).val + 1024 * k.val + 1024)) (rows1024 (arg7.view.read (Elt F) X_arg7) (1024 * (i 1).val + 1024 * k.val + 1024)) (rows1x1024 (arg8.view.read (Elt F) X_arg8) (1024 * (i 1).val + 1024 * k.val + 1024)) (rows1x1024 (arg6.view.read (Elt F) X_arg6) (1024 * (i 1).val + 1024 * k.val + 1024)) (rows1024 (arg15.view.read (Elt F) f15) (1024 * (i 1).val + 1024 * k.val + 1024))⟩] := by
  rw [← read_tile, ← read_tile, ← read_tile3, ← read_tile3, ← read_tile]
  unfold tripL_k0_t1 trip_k0_t1
  rfl

/-- The loop's carry and what it leaves in the queries' gradient, after `n` trips. -/
theorem loop_reads (𝒱 : Variants) (c : Dev nD) (bd : Option 𝒱.V) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (arg1 : BitVec 32) (v4 : FVec F S1024x128 .bf16) (v6 : FVec F S1024x128 .bf16) (v9 : FVec F S1024x256 .bf16) (v127 : FVec F S1024x128 .f32) (v128 : FVec F S1024x128 .f32) (v129 : FVec F S8x1024 .f32) (v132 : BitVec 32) (v135 : FVec F S512x128 .bf16) (v138 : FVec F S512x128 .bf16) (v149 : FVec F S512x128 .f32) (v152 : FVec F S512x128 .f32) (v154 : FVec F S512x128 .f32) (v157 : FVec F S512x128 .f32) (v159 : FVec F S512x128 .f32) (v162 : FVec F S512x128 .f32) (v164 : FVec F S512x128 .f32) (v167 : FVec F S512x128 .f32) (v178 : FVec F S512x128 .f32) (v181 : FVec F S512x128 .f32) (v192 : FVec F S512x128 .f32) (v195 : FVec F S512x128 .f32) (v206 : FVec F S512x128 .f32) (v209 : FVec F S512x128 .f32) (v220 : FVec F S512x128 .f32) (v223 : FVec F S512x128 .f32) (v260 : BitVec 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G14 : BufTy.Contents (Elt F) arg14.view.ty) (G15 : BufTy.Contents (Elt F) arg15.view.ty) (init : Carry F) (n : ℕ) (hn : n ≤ (k0_t1_loop i).trips) :
    (st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v9 v127 v128 v129 v132 v135 v138 v149 v152 v154 v157 v159 v162 v164 v167 v178 v181 v192 v195 v206 v209 v220 v223 v260 X_arg5 X_arg6 X_arg7 X_arg8 G14 G15 init n).1
        = carryLoop (arg5.view.read (Elt F) X_arg5) (arg7.view.read (Elt F) X_arg7) (arg8.view.read (Elt F) X_arg8) (arg6.view.read (Elt F) X_arg6) (i 1).val v6 v9 init n
      ∧ arg15.view.read (Elt F) (arg15.view.writes (Elt F) G15 (st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v9 v127 v128 v129 v132 v135 v138 v149 v152 v154 v157 v159 v162 v164 v167 v178 v181 v192 v195 v206 v209 v220 v223 v260 X_arg5 X_arg6 X_arg7 X_arg8 G14 G15 init n).2.2)
        = dqLoop (arg5.view.read (Elt F) X_arg5) (arg7.view.read (Elt F) X_arg7) (arg8.view.read (Elt F) X_arg8) (arg6.view.read (Elt F) X_arg6) (i 1).val v4 v6 v9 (arg15.view.read (Elt F) G15) n := by
  induction n with
  | zero => exact ⟨rfl, rfl⟩
  | succ n ih =>
    obtain ⟨ihc, ihq⟩ := ih (by omega)
    rw [st_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v9 v127 v128 v129 v132 v135 v138 v149 v152 v154 v157 v159 v162 v164 v167 v178 v181 v192 v195 v206 v209 v220 v223 v260 X_arg5 X_arg6 X_arg7 X_arg8 G14 G15 init ⟨n, hn⟩]
    generalize st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v9 v127 v128 v129 v132 v135 v138 v149 v152 v154 v157 v159 v162 v164 v167 v178 v181 v192 v195 v206 v209 v220 v223 v260 X_arg5 X_arg6 X_arg7 X_arg8 G14 G15 init n = S at ihc ihq ⊢
    refine ⟨?_, ?_⟩
    · dsimp only
      rw [trip_carry, ihc]
      rfl
    · refine (congrArg (fun L => arg15.view.read (Elt F) (arg15.view.writes (Elt F) G15 (L ++ S.2.2))) (trip_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v4 v6 v9 v127 v128 v129 v132 v135 v138 v149 v152 v154 v157 v159 v162 v164 v167 v178 v181 v192 v195 v206 v209 v220 v223 v260 X_arg5 X_arg6 X_arg7 X_arg8 ⟨n, hn⟩ S.1 _ _)).trans ?_
      dsimp only [List.singleton_append]
      rw [View.read_writes_cons_put _ _ _ _ _ (k0_off3_eq i ⟨n, hn⟩), ihq]
      rfl

end Cert.KernelIdeal.Hand

end
-- ==== Proof.PointReads.lean ====
module

public import proofs.«01_k».proof.Proof.Run
public import proofs.«01_k».proof.Proof.LoopReads

@[expose] public section

set_option maxRecDepth 16384

noncomputable section

namespace Cert.KernelIdeal.Hand

open Cert.KernelIdeal Cert.KernelIdeal.Gen
open Idealize.ShloMosaic Idealize.ShloMosaic.TcCoe Idealize.ShloMosaic.VecWindow

variable {F : FTy → Type} [FloatOps F] [Named F]

/-! # What a point leaves, as functions of its blocks -/

section Reads

variable {κ : Kind} {sp : Space} {e : EltTy}

theorem read_keys (v : View sig κ sp S1024x128 e) (X : v.ty.Contents (Elt F)) :
    v.readAt (Elt F) (Rect.unit (s := S1024x128) ![0, 0] S1024x128.size inb_S1024x128_S1024x128_0_0).toLoadRect X = v.read (Elt F) X :=
  View.readAt_full v X _

theorem read_keys3 (v : View sig κ sp S1x1024x128 e) (X : v.ty.Contents (Elt F)) :
    v.readAt (Elt F) (Rect.unit (s := S1x1024x128) ![0, 0, 0] S1x1024x128.size inb_S1x1024x128_S1x1024x128_0_0_0).toLoadRect X = v.read (Elt F) X :=
  View.readAt_full v X _

/-- The upper half's rows are untouched by what is put into the lower half's. -/
theorem rows512_put_lower {α : Type} (X : S4096x128.Idx → α) (j : Fin 4) (w) :
    rows512 (put X ![1024 * j.val, 0] S512x128.size w) (1024 * j.val + 512) = rows512 X (1024 * j.val + 512) := by
  have hj := j.isLt
  have inb : ∀ a, (![1024 * j.val + 512, 0] : Fin 2 → ℕ) a + S512x128.size a ≤ S4096x128.size a := by
    intro a
    fin_cases a
    · show 1024 * j.val + 512 + 512 ≤ 4096
      omega
    · show 0 + 128 ≤ 128
      omega
  rw [← window_rows512 _ _ inb, ← window_rows512 _ _ inb]
  refine window_put_of_disjoint _ _ _ _ _ _ _ 0 (Or.inr ?_)
  show 1024 * j.val + 512 ≤ 1024 * j.val + 512
  exact le_rfl

end Reads

theorem off_lower (i : grid0.Coords) : k0_off1 i 0#32 = ![1024 * (i 1).val, 0] := k0_off1_eq i 0

theorem off_upper (i : grid0.Coords) : k0_off1 i 512#32 = ![1024 * (i 1).val + 512, 0] := k0_off1_eq i 1

/-- The gradient of the keys a point of the case `first` writes. -/
theorem first_keys (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : (Scalar.cmpi .ne (Scalar.extui (Scalar.cmpi .eq (BitVec.ofNat 32 (i 1).val) 0#32)) 0#32 = 1#1)) (h2 : ¬ k0_cond2 i = 1#1) (f14 : BufTy.Contents (Elt F) arg14.view.ty) (f15 : BufTy.Contents (Elt F) arg15.view.ty) (f : BufTy.Contents (Elt F) arg11.view.ty) :
    arg11.view.read (Elt F) (arg11.view.writes (Elt F) f ((run_first c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 h1 h2).1 f14 f15))
      = k0_pay12 (carryEnd (arg5.view.read (Elt F) X5) (arg7.view.read (Elt F) X7) (arg8.view.read (Elt F) X8) (arg6.view.read (Elt F) X6) (i 1).val (arg2.view.read (Elt F) X2) (arg3.view.read (Elt F) X3) (arg4.view.read (Elt F) X4)).1 := by
  unfold run_first
  dsimp only
  rw [View.read_writes_full]
  refine congrArg k0_pay12 ((congrArg (fun S : Carry F × List (View.Piece (Elt F) S1x4096x128 .f32) × List (View.Piece (Elt F) S4096x128 .f32) => S.1.1) (loop_none _ _ _ _ _ _ _ _ _ _ _ _ _ _ _ _ _ _ _ _ _ _ _ _ _ _ _ _ _ _ _ _ _ _ _ _ _ _ _ _ _ _ _ _)).trans ?_)
  dsimp only
  unfold run_first.sl.r_43
  refine (congrArg (fun C : Carry F => C.1) (loop_reads _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (k0_t1_loop i).trips le_rfl).1).trans ?_
  rw [trips_below i]
  unfold carryEnd carryDiag
  rw [← read_keys arg2.view X2, ← read_keys arg3.view X3, ← read_keys3 arg4.view X4, ← read_lower arg5.view X5, ← read_upper arg5.view X5,
    ← read_lower arg7.view X7, ← read_upper arg7.view X7, ← read_lower3 arg8.view X8, ← read_upper3 arg8.view X8,
    ← read_lower3 arg6.view X6, ← read_upper3 arg6.view X6]
  rfl

/-- The gradient of the values a point of the case `first` writes. -/
theorem first_values (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : (Scalar.cmpi .ne (Scalar.extui (Scalar.cmpi .eq (BitVec.ofNat 32 (i 1).val) 0#32)) 0#32 = 1#1)) (h2 : ¬ k0_cond2 i = 1#1) (f14 : BufTy.Contents (Elt F) arg14.view.ty) (f15 : BufTy.Contents (Elt F) arg15.view.ty) (f : BufTy.Contents (Elt F) arg12.view.ty) :
    arg12.view.read (Elt F) (arg12.view.writes (Elt F) f ((run_first c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 h1 h2).2.1 f14 f15))
      = k0_pay13 (carryEnd (arg5.view.read (Elt F) X5) (arg7.view.read (Elt F) X7) (arg8.view.read (Elt F) X8) (arg6.view.read (Elt F) X6) (i 1).val (arg2.view.read (Elt F) X2) (arg3.view.read (Elt F) X3) (arg4.view.read (Elt F) X4)).2.1 := by
  unfold run_first
  dsimp only
  rw [View.read_writes_full]
  refine congrArg k0_pay13 ((congrArg (fun S : Carry F × List (View.Piece (Elt F) S1x4096x128 .f32) × List (View.Piece (Elt F) S4096x128 .f32) => S.1.2.1) (loop_none _ _ _ _ _ _ _ _ _ _ _ _ _ _ _ _ _ _ _ _ _ _ _ _ _ _ _ _ _ _ _ _ _ _ _ _ _ _ _ _ _ _ _ _)).trans ?_)
  dsimp only
  unfold run_first.sl.r_44
  refine (congrArg (fun C : Carry F => C.2.1) (loop_reads _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (k0_t1_loop i).trips le_rfl).1).trans ?_
  rw [trips_below i]
  unfold carryEnd carryDiag
  rw [← read_keys arg2.view X2, ← read_keys arg3.view X3, ← read_keys3 arg4.view X4, ← read_lower arg5.view X5, ← read_upper arg5.view X5,
    ← read_lower arg7.view X7, ← read_upper arg7.view X7, ← read_lower3 arg8.view X8, ← read_upper3 arg8.view X8,
    ← read_lower3 arg6.view X6, ← read_upper3 arg6.view X6]
  rfl

/-- The gradient of the columns a point of the case `first` writes. -/
theorem first_columns (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : (Scalar.cmpi .ne (Scalar.extui (Scalar.cmpi .eq (BitVec.ofNat 32 (i 1).val) 0#32)) 0#32 = 1#1)) (h2 : ¬ k0_cond2 i = 1#1) (f14 : BufTy.Contents (Elt F) arg14.view.ty) (f15 : BufTy.Contents (Elt F) arg15.view.ty) (f : BufTy.Contents (Elt F) arg13.view.ty) :
    arg13.view.read (Elt F) (arg13.view.writes (Elt F) f ((run_first c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 h1 h2).2.2.1 f14 f15))
      = k0_pay14 (carryEnd (arg5.view.read (Elt F) X5) (arg7.view.read (Elt F) X7) (arg8.view.read (Elt F) X8) (arg6.view.read (Elt F) X6) (i 1).val (arg2.view.read (Elt F) X2) (arg3.view.read (Elt F) X3) (arg4.view.read (Elt F) X4)).2.2 := by
  unfold run_first
  dsimp only
  rw [View.read_writes_full]
  refine congrArg k0_pay14 ((congrArg (fun S : Carry F × List (View.Piece (Elt F) S1x4096x128 .f32) × List (View.Piece (Elt F) S4096x128 .f32) => S.1.2.2) (loop_none _ _ _ _ _ _ _ _ _ _ _ _ _ _ _ _ _ _ _ _ _ _ _ _ _ _ _ _ _ _ _ _ _ _ _ _ _ _ _ _ _ _ _ _)).trans ?_)
  dsimp only
  unfold run_first.sl.r_45
  refine (congrArg (fun C : Carry F => C.2.2) (loop_reads _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (k0_t1_loop i).trips le_rfl).1).trans ?_
  rw [trips_below i]
  unfold carryEnd carryDiag
  rw [← read_keys arg2.view X2, ← read_keys arg3.view X3, ← read_keys3 arg4.view X4, ← read_lower arg5.view X5, ← read_upper arg5.view X5,
    ← read_lower arg7.view X7, ← read_upper arg7.view X7, ← read_lower3 arg8.view X8, ← read_upper3 arg8.view X8,
    ← read_lower3 arg6.view X6, ← read_upper3 arg6.view X6]
  rfl

/-- The queries' gradient after a point of the case `first`. -/
theorem first_queries (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : (Scalar.cmpi .ne (Scalar.extui (Scalar.cmpi .eq (BitVec.ofNat 32 (i 1).val) 0#32)) 0#32 = 1#1)) (h2 : ¬ k0_cond2 i = 1#1) (f14 : BufTy.Contents (Elt F) arg14.view.ty) (f15 : BufTy.Contents (Elt F) arg15.view.ty) :
    arg15.view.read (Elt F) ((run_first c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 h1 h2).2.2.2.2.1 f14 f15) = dqEnd (arg5.view.read (Elt F) X5) (arg7.view.read (Elt F) X7) (arg8.view.read (Elt F) X8) (arg6.view.read (Elt F) X6) (i 1).val (arg2.view.read (Elt F) X2) (arg3.view.read (Elt F) X3) (arg4.view.read (Elt F) X4) k0_pay52 := by
  unfold run_first
  dsimp only
  erw [loop_none]
  dsimp only
  rw [List.nil_append, View.writes_append]
  refine (loop_reads _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (k0_t1_loop i).trips le_rfl).2.trans ?_
  rw [trips_below i, View.read_writes_cons_put _ _ _ _ _ (off_upper i)]
  unfold run_first.sl.H15_2
  rw [View.read_writes_cons_put _ _ _ _ _ (off_lower i)]
  unfold dqEnd dqDiag dqHalf
  have hz : arg15.view.read (Elt F) (arg15.view.writes (Elt F) arg15.view.junk (run_first.sl.H15_1 (F := F))) = k0_pay52 := View.read_writes_full _ _ _ _ _
  have hu := read_upper (F := F) arg15.view (arg15.view.writes (Elt F) arg15.view.junk (run_first.sl.H15_2 i arg2 arg3 arg4 arg5 arg6 arg7 arg8 arg15 X2 X3 X4 X5 X6 X7 X8)) i
  unfold run_first.sl.H15_2 at hu
  rw [View.read_writes_cons_put _ _ _ _ _ (off_lower i), rows512_put_lower _ (i 1), hz] at hu
  have hl := read_lower (F := F) arg15.view (arg15.view.writes (Elt F) arg15.view.junk (run_first.sl.H15_1 (F := F))) i
  rw [hz] at hl
  rw [hz, ← hu, ← hl]
  rw [← read_keys arg2.view X2, ← read_keys arg3.view X3, ← read_keys3 arg4.view X4, ← read_lower arg5.view X5, ← read_upper arg5.view X5,
    ← read_lower arg7.view X7, ← read_upper arg7.view X7, ← read_lower3 arg8.view X8, ← read_upper3 arg8.view X8,
    ← read_lower3 arg6.view X6, ← read_upper3 arg6.view X6]
  rfl

/-- The gradient of the keys a point of the case `mid` writes. -/
theorem mid_keys (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : ¬ (Scalar.cmpi .ne (Scalar.extui (Scalar.cmpi .eq (BitVec.ofNat 32 (i 1).val) 0#32)) 0#32 = 1#1)) (h2 : ¬ k0_cond2 i = 1#1) (f14 : BufTy.Contents (Elt F) arg14.view.ty) (f15 : BufTy.Contents (Elt F) arg15.view.ty) (f : BufTy.Contents (Elt F) arg11.view.ty) :
    arg11.view.read (Elt F) (arg11.view.writes (Elt F) f ((run_mid c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 h1 h2).1 f14 f15))
      = k0_pay12 (carryEnd (arg5.view.read (Elt F) X5) (arg7.view.read (Elt F) X7) (arg8.view.read (Elt F) X8) (arg6.view.read (Elt F) X6) (i 1).val (arg2.view.read (Elt F) X2) (arg3.view.read (Elt F) X3) (arg4.view.read (Elt F) X4)).1 := by
  unfold run_mid
  dsimp only
  rw [View.read_writes_full]
  refine congrArg k0_pay12 ((congrArg (fun S : Carry F × List (View.Piece (Elt F) S1x4096x128 .f32) × List (View.Piece (Elt F) S4096x128 .f32) => S.1.1) (loop_none _ _ _ _ _ _ _ _ _ _ _ _ _ _ _ _ _ _ _ _ _ _ _ _ _ _ _ _ _ _ _ _ _ _ _ _ _ _ _ _ _ _ _ _)).trans ?_)
  dsimp only
  unfold run_mid.sl.r_43
  refine (congrArg (fun C : Carry F => C.1) (loop_reads _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (k0_t1_loop i).trips le_rfl).1).trans ?_
  rw [trips_below i]
  unfold carryEnd carryDiag
  rw [← read_keys arg2.view X2, ← read_keys arg3.view X3, ← read_keys3 arg4.view X4, ← read_lower arg5.view X5, ← read_upper arg5.view X5,
    ← read_lower arg7.view X7, ← read_upper arg7.view X7, ← read_lower3 arg8.view X8, ← read_upper3 arg8.view X8,
    ← read_lower3 arg6.view X6, ← read_upper3 arg6.view X6]
  rfl

/-- The gradient of the values a point of the case `mid` writes. -/
theorem mid_values (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : ¬ (Scalar.cmpi .ne (Scalar.extui (Scalar.cmpi .eq (BitVec.ofNat 32 (i 1).val) 0#32)) 0#32 = 1#1)) (h2 : ¬ k0_cond2 i = 1#1) (f14 : BufTy.Contents (Elt F) arg14.view.ty) (f15 : BufTy.Contents (Elt F) arg15.view.ty) (f : BufTy.Contents (Elt F) arg12.view.ty) :
    arg12.view.read (Elt F) (arg12.view.writes (Elt F) f ((run_mid c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 h1 h2).2.1 f14 f15))
      = k0_pay13 (carryEnd (arg5.view.read (Elt F) X5) (arg7.view.read (Elt F) X7) (arg8.view.read (Elt F) X8) (arg6.view.read (Elt F) X6) (i 1).val (arg2.view.read (Elt F) X2) (arg3.view.read (Elt F) X3) (arg4.view.read (Elt F) X4)).2.1 := by
  unfold run_mid
  dsimp only
  rw [View.read_writes_full]
  refine congrArg k0_pay13 ((congrArg (fun S : Carry F × List (View.Piece (Elt F) S1x4096x128 .f32) × List (View.Piece (Elt F) S4096x128 .f32) => S.1.2.1) (loop_none _ _ _ _ _ _ _ _ _ _ _ _ _ _ _ _ _ _ _ _ _ _ _ _ _ _ _ _ _ _ _ _ _ _ _ _ _ _ _ _ _ _ _ _)).trans ?_)
  dsimp only
  unfold run_mid.sl.r_44
  refine (congrArg (fun C : Carry F => C.2.1) (loop_reads _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (k0_t1_loop i).trips le_rfl).1).trans ?_
  rw [trips_below i]
  unfold carryEnd carryDiag
  rw [← read_keys arg2.view X2, ← read_keys arg3.view X3, ← read_keys3 arg4.view X4, ← read_lower arg5.view X5, ← read_upper arg5.view X5,
    ← read_lower arg7.view X7, ← read_upper arg7.view X7, ← read_lower3 arg8.view X8, ← read_upper3 arg8.view X8,
    ← read_lower3 arg6.view X6, ← read_upper3 arg6.view X6]
  rfl

/-- The gradient of the columns a point of the case `mid` writes. -/
theorem mid_columns (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : ¬ (Scalar.cmpi .ne (Scalar.extui (Scalar.cmpi .eq (BitVec.ofNat 32 (i 1).val) 0#32)) 0#32 = 1#1)) (h2 : ¬ k0_cond2 i = 1#1) (f14 : BufTy.Contents (Elt F) arg14.view.ty) (f15 : BufTy.Contents (Elt F) arg15.view.ty) (f : BufTy.Contents (Elt F) arg13.view.ty) :
    arg13.view.read (Elt F) (arg13.view.writes (Elt F) f ((run_mid c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 h1 h2).2.2.1 f14 f15))
      = k0_pay14 (carryEnd (arg5.view.read (Elt F) X5) (arg7.view.read (Elt F) X7) (arg8.view.read (Elt F) X8) (arg6.view.read (Elt F) X6) (i 1).val (arg2.view.read (Elt F) X2) (arg3.view.read (Elt F) X3) (arg4.view.read (Elt F) X4)).2.2 := by
  unfold run_mid
  dsimp only
  rw [View.read_writes_full]
  refine congrArg k0_pay14 ((congrArg (fun S : Carry F × List (View.Piece (Elt F) S1x4096x128 .f32) × List (View.Piece (Elt F) S4096x128 .f32) => S.1.2.2) (loop_none _ _ _ _ _ _ _ _ _ _ _ _ _ _ _ _ _ _ _ _ _ _ _ _ _ _ _ _ _ _ _ _ _ _ _ _ _ _ _ _ _ _ _ _)).trans ?_)
  dsimp only
  unfold run_mid.sl.r_45
  refine (congrArg (fun C : Carry F => C.2.2) (loop_reads _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (k0_t1_loop i).trips le_rfl).1).trans ?_
  rw [trips_below i]
  unfold carryEnd carryDiag
  rw [← read_keys arg2.view X2, ← read_keys arg3.view X3, ← read_keys3 arg4.view X4, ← read_lower arg5.view X5, ← read_upper arg5.view X5,
    ← read_lower arg7.view X7, ← read_upper arg7.view X7, ← read_lower3 arg8.view X8, ← read_upper3 arg8.view X8,
    ← read_lower3 arg6.view X6, ← read_upper3 arg6.view X6]
  rfl

/-- The queries' gradient after a point of the case `mid`. -/
theorem mid_queries (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : ¬ (Scalar.cmpi .ne (Scalar.extui (Scalar.cmpi .eq (BitVec.ofNat 32 (i 1).val) 0#32)) 0#32 = 1#1)) (h2 : ¬ k0_cond2 i = 1#1) (f14 : BufTy.Contents (Elt F) arg14.view.ty) (f15 : BufTy.Contents (Elt F) arg15.view.ty) :
    arg15.view.read (Elt F) (arg15.view.writes (Elt F) f15 ((run_mid c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 h1 h2).2.2.2.2.1 f14 f15)) = dqEnd (arg5.view.read (Elt F) X5) (arg7.view.read (Elt F) X7) (arg8.view.read (Elt F) X8) (arg6.view.read (Elt F) X6) (i 1).val (arg2.view.read (Elt F) X2) (arg3.view.read (Elt F) X3) (arg4.view.read (Elt F) X4) (arg15.view.read (Elt F) f15) := by
  unfold run_mid
  dsimp only
  erw [loop_none]
  dsimp only
  rw [List.nil_append, View.writes_append]
  refine (loop_reads _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (k0_t1_loop i).trips le_rfl).2.trans ?_
  rw [trips_below i, View.read_writes_cons_put _ _ _ _ _ (off_upper i)]
  unfold run_mid.sl.H15_1
  rw [View.read_writes_cons_put _ _ _ _ _ (off_lower i)]
  unfold dqEnd dqDiag dqHalf
  rw [View.writes_nil, ← read_keys arg2.view X2, ← read_keys arg3.view X3, ← read_keys3 arg4.view X4, ← read_lower arg5.view X5, ← read_upper arg5.view X5,
    ← read_lower arg7.view X7, ← read_upper arg7.view X7, ← read_lower3 arg8.view X8, ← read_upper3 arg8.view X8,
    ← read_lower3 arg6.view X6, ← read_upper3 arg6.view X6, ← read_lower arg15.view f15, ← read_upper arg15.view f15]
  rfl

/-- The gradient of the keys a point of the case `last` writes. -/
theorem last_keys (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : ¬ (Scalar.cmpi .ne (Scalar.extui (Scalar.cmpi .eq (BitVec.ofNat 32 (i 1).val) 0#32)) 0#32 = 1#1)) (h2 : k0_cond2 i = 1#1) (f14 : BufTy.Contents (Elt F) arg14.view.ty) (f15 : BufTy.Contents (Elt F) arg15.view.ty) (f : BufTy.Contents (Elt F) arg11.view.ty) :
    arg11.view.read (Elt F) (arg11.view.writes (Elt F) f ((run_last c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 h1 h2).2.1 f14 f15))
      = k0_pay12 (carryEnd (arg5.view.read (Elt F) X5) (arg7.view.read (Elt F) X7) (arg8.view.read (Elt F) X8) (arg6.view.read (Elt F) X6) (i 1).val (arg2.view.read (Elt F) X2) (arg3.view.read (Elt F) X3) (arg4.view.read (Elt F) X4)).1 := by
  unfold run_last
  dsimp only
  rw [View.read_writes_full]
  refine congrArg k0_pay12 ((congrArg (fun S : Carry F × List (View.Piece (Elt F) S1x4096x128 .f32) × List (View.Piece (Elt F) S4096x128 .f32) => S.1.1) (loop_none _ _ _ _ _ _ _ _ _ _ _ _ _ _ _ _ _ _ _ _ _ _ _ _ _ _ _ _ _ _ _ _ _ _ _ _ _ _ _ _ _ _ _ _)).trans ?_)
  dsimp only
  unfold run_last.sl.r_43
  refine (congrArg (fun C : Carry F => C.1) (loop_reads _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (k0_t1_loop i).trips le_rfl).1).trans ?_
  rw [trips_below i]
  unfold carryEnd carryDiag
  rw [← read_keys arg2.view X2, ← read_keys arg3.view X3, ← read_keys3 arg4.view X4, ← read_lower arg5.view X5, ← read_upper arg5.view X5,
    ← read_lower arg7.view X7, ← read_upper arg7.view X7, ← read_lower3 arg8.view X8, ← read_upper3 arg8.view X8,
    ← read_lower3 arg6.view X6, ← read_upper3 arg6.view X6]
  rfl

/-- The gradient of the values a point of the case `last` writes. -/
theorem last_values (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : ¬ (Scalar.cmpi .ne (Scalar.extui (Scalar.cmpi .eq (BitVec.ofNat 32 (i 1).val) 0#32)) 0#32 = 1#1)) (h2 : k0_cond2 i = 1#1) (f14 : BufTy.Contents (Elt F) arg14.view.ty) (f15 : BufTy.Contents (Elt F) arg15.view.ty) (f : BufTy.Contents (Elt F) arg12.view.ty) :
    arg12.view.read (Elt F) (arg12.view.writes (Elt F) f ((run_last c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 h1 h2).2.2.1 f14 f15))
      = k0_pay13 (carryEnd (arg5.view.read (Elt F) X5) (arg7.view.read (Elt F) X7) (arg8.view.read (Elt F) X8) (arg6.view.read (Elt F) X6) (i 1).val (arg2.view.read (Elt F) X2) (arg3.view.read (Elt F) X3) (arg4.view.read (Elt F) X4)).2.1 := by
  unfold run_last
  dsimp only
  rw [View.read_writes_full]
  refine congrArg k0_pay13 ((congrArg (fun S : Carry F × List (View.Piece (Elt F) S1x4096x128 .f32) × List (View.Piece (Elt F) S4096x128 .f32) => S.1.2.1) (loop_none _ _ _ _ _ _ _ _ _ _ _ _ _ _ _ _ _ _ _ _ _ _ _ _ _ _ _ _ _ _ _ _ _ _ _ _ _ _ _ _ _ _ _ _)).trans ?_)
  dsimp only
  unfold run_last.sl.r_44
  refine (congrArg (fun C : Carry F => C.2.1) (loop_reads _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (k0_t1_loop i).trips le_rfl).1).trans ?_
  rw [trips_below i]
  unfold carryEnd carryDiag
  rw [← read_keys arg2.view X2, ← read_keys arg3.view X3, ← read_keys3 arg4.view X4, ← read_lower arg5.view X5, ← read_upper arg5.view X5,
    ← read_lower arg7.view X7, ← read_upper arg7.view X7, ← read_lower3 arg8.view X8, ← read_upper3 arg8.view X8,
    ← read_lower3 arg6.view X6, ← read_upper3 arg6.view X6]
  rfl

/-- The gradient of the columns a point of the case `last` writes. -/
theorem last_columns (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : ¬ (Scalar.cmpi .ne (Scalar.extui (Scalar.cmpi .eq (BitVec.ofNat 32 (i 1).val) 0#32)) 0#32 = 1#1)) (h2 : k0_cond2 i = 1#1) (f14 : BufTy.Contents (Elt F) arg14.view.ty) (f15 : BufTy.Contents (Elt F) arg15.view.ty) (f : BufTy.Contents (Elt F) arg13.view.ty) :
    arg13.view.read (Elt F) (arg13.view.writes (Elt F) f ((run_last c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 h1 h2).2.2.2.1 f14 f15))
      = k0_pay14 (carryEnd (arg5.view.read (Elt F) X5) (arg7.view.read (Elt F) X7) (arg8.view.read (Elt F) X8) (arg6.view.read (Elt F) X6) (i 1).val (arg2.view.read (Elt F) X2) (arg3.view.read (Elt F) X3) (arg4.view.read (Elt F) X4)).2.2 := by
  unfold run_last
  dsimp only
  rw [View.read_writes_full]
  refine congrArg k0_pay14 ((congrArg (fun S : Carry F × List (View.Piece (Elt F) S1x4096x128 .f32) × List (View.Piece (Elt F) S4096x128 .f32) => S.1.2.2) (loop_none _ _ _ _ _ _ _ _ _ _ _ _ _ _ _ _ _ _ _ _ _ _ _ _ _ _ _ _ _ _ _ _ _ _ _ _ _ _ _ _ _ _ _ _)).trans ?_)
  dsimp only
  unfold run_last.sl.r_45
  refine (congrArg (fun C : Carry F => C.2.2) (loop_reads _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (k0_t1_loop i).trips le_rfl).1).trans ?_
  rw [trips_below i]
  unfold carryEnd carryDiag
  rw [← read_keys arg2.view X2, ← read_keys arg3.view X3, ← read_keys3 arg4.view X4, ← read_lower arg5.view X5, ← read_upper arg5.view X5,
    ← read_lower arg7.view X7, ← read_upper arg7.view X7, ← read_lower3 arg8.view X8, ← read_upper3 arg8.view X8,
    ← read_lower3 arg6.view X6, ← read_upper3 arg6.view X6]
  rfl

/-- The queries' gradient after a point of the case `last`. -/
theorem last_queries (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : ¬ (Scalar.cmpi .ne (Scalar.extui (Scalar.cmpi .eq (BitVec.ofNat 32 (i 1).val) 0#32)) 0#32 = 1#1)) (h2 : k0_cond2 i = 1#1) (f14 : BufTy.Contents (Elt F) arg14.view.ty) (f15 : BufTy.Contents (Elt F) arg15.view.ty) :
    arg15.view.read (Elt F) (arg15.view.writes (Elt F) f15 ((run_last c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 h1 h2).2.2.2.2.2.1 f14 f15)) = dqEnd (arg5.view.read (Elt F) X5) (arg7.view.read (Elt F) X7) (arg8.view.read (Elt F) X8) (arg6.view.read (Elt F) X6) (i 1).val (arg2.view.read (Elt F) X2) (arg3.view.read (Elt F) X3) (arg4.view.read (Elt F) X4) (arg15.view.read (Elt F) f15) := by
  unfold run_last
  dsimp only
  erw [loop_none]
  dsimp only
  rw [List.nil_append, View.writes_append]
  refine (loop_reads _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (k0_t1_loop i).trips le_rfl).2.trans ?_
  rw [trips_below i, View.read_writes_cons_put _ _ _ _ _ (off_upper i)]
  unfold run_last.sl.H15_1
  rw [View.read_writes_cons_put _ _ _ _ _ (off_lower i)]
  unfold dqEnd dqDiag dqHalf
  rw [View.writes_nil, ← read_keys arg2.view X2, ← read_keys arg3.view X3, ← read_keys3 arg4.view X4, ← read_lower arg5.view X5, ← read_upper arg5.view X5,
    ← read_lower arg7.view X7, ← read_upper arg7.view X7, ← read_lower3 arg8.view X8, ← read_upper3 arg8.view X8,
    ← read_lower3 arg6.view X6, ← read_upper3 arg6.view X6, ← read_lower arg15.view f15, ← read_upper arg15.view f15]
  rfl

/-- The queries' gradient the last key tile's point rounds and writes out. -/
theorem last_written (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (h1 : ¬ (Scalar.cmpi .ne (Scalar.extui (Scalar.cmpi .eq (BitVec.ofNat 32 (i 1).val) 0#32)) 0#32 = 1#1)) (h2 : k0_cond2 i = 1#1) (f14 : BufTy.Contents (Elt F) arg14.view.ty) (f15 : BufTy.Contents (Elt F) arg15.view.ty) (f : BufTy.Contents (Elt F) arg10.view.ty) :
    arg10.view.read (Elt F) (arg10.view.writes (Elt F) f ((run_last c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 h1 h2).1 f14 f15)) = k0_pay15 (dqEnd (arg5.view.read (Elt F) X5) (arg7.view.read (Elt F) X7) (arg8.view.read (Elt F) X8) (arg6.view.read (Elt F) X6) (i 1).val (arg2.view.read (Elt F) X2) (arg3.view.read (Elt F) X3) (arg4.view.read (Elt F) X4) (arg15.view.read (Elt F) f15)) := by
  refine Eq.trans ?_ (congrArg k0_pay15 (last_queries c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 h1 h2 f14 f15))
  unfold run_last
  dsimp only
  rw [View.read_writes_full]
  refine congrArg k0_pay15 ?_
  exact View.readAt_full _ _ _

end Cert.KernelIdeal.Hand

end
-- ==== Proof.Body.lean ====
module

public import proofs.«01_k».proof.Proof.PointReads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The proof data of the pipeline

Four points make up a head. The scratch buffer carries the queries' gradient from one to the next; a head's first point
starts it from zeros and its last point rounds it into the output's block. -/

/-- The queries' gradient after point `t`, from what it was before. -/
def queriesFrom (c : Dev nD) (t : Fin cfg0.N) (old : Vec F S4096x128 .f32) : Vec F S4096x128 .f32 :=
  dqEnd (iblk m c 3 t) (iblk m c 5 t) (iblk m c 6 t) (iblk m c 4 t) (grid0.coords t 1).val (iblk m c 0 t) (iblk m c 1 t) (iblk m c 2 t) old

/-- The queries' gradient after the first `n` points. -/
def queriesAt (c : Dev nD) : ℕ → Vec F S4096x128 .f32
  | 0 => k0_pay52
  | n + 1 => if h : n < cfg0.N then queriesFrom m c ⟨n, h⟩ (if n % 4 = 0 then k0_pay52 else queriesAt c n) else k0_pay52

theorem queriesAt_succ (c : Dev nD) (t : Fin cfg0.N) :
    queriesAt m c (t.val + 1) = queriesFrom m c t (if t.val % 4 = 0 then k0_pay52 else queriesAt m c t.val) := by
  rw [queriesAt, dif_pos t.isLt]

/-- The sums of point `t`'s key tile over the query rows. -/
def carryAt (c : Dev nD) (t : Fin cfg0.N) : Carry F :=
  carryEnd (iblk m c 3 t) (iblk m c 5 t) (iblk m c 6 t) (iblk m c 4 t) (grid0.coords t 1).val (iblk m c 0 t) (iblk m c 1 t) (iblk m c 2 t)

/-- The proof data: each input's buffer holds its block, each output's what the point writes, and the scratch buffer
    holds the queries' gradient so far, except at a head's start, where its contents do not matter. Of the thirteenth
    window, whose array the claims do not read, nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay15 (queriesAt m c (t.val + 1))
    | ⟨9, _⟩ => k0_pay12 (carryAt m c t).1
    | ⟨10, _⟩ => k0_pay13 (carryAt m c t).2.1
    | ⟨11, _⟩ => k0_pay14 (carryAt m c t).2.2
    | ⟨12, _⟩ => iblk m c 12 t
  Φ t := iprop((∃ X : Vec F S4096x128 .f32, ⌜t.val % 4 ≠ 0 → X = queriesAt m c t.val⌝ ∗ owns (c : Thread nD τ) (Memref.whole cc0_scratch0) fullShare X) ∗ ∃ r, prngReg c r)
  q w := Pipeline.shareOf spec0 w
  owed _ := 0

/-- The window whose contents nothing is said of. -/
def unread (w : Fin 13) : Bool := w == 12

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => by dsimp only [dats]) t d

theorem before_1 (c : Dev nD) (t : Fin cfg0.N) (d) : (dats m 0 c).before 1 t d = iblk m c 1 t :=
  before0_1_of m (dats m 0 c) (A_eq m c 1) (fun _ => by dsimp only [dats]) t d

theorem before_2 (c : Dev nD) (t : Fin cfg0.N) (d) : (dats m 0 c).before 2 t d = iblk m c 2 t :=
  before0_2_of m (dats m 0 c) (A_eq m c 2) (fun _ => by dsimp only [dats]) t d

theorem before_3 (c : Dev nD) (t : Fin cfg0.N) (d) : (dats m 0 c).before 3 t d = iblk m c 3 t :=
  before0_3_of m (dats m 0 c) (A_eq m c 3) (fun _ => by dsimp only [dats]) t d

theorem before_4 (c : Dev nD) (t : Fin cfg0.N) (d) : (dats m 0 c).before 4 t d = iblk m c 4 t :=
  before0_4_of m (dats m 0 c) (A_eq m c 4) (fun _ => by dsimp only [dats]) t d

theorem before_5 (c : Dev nD) (t : Fin cfg0.N) (d) : (dats m 0 c).before 5 t d = iblk m c 5 t :=
  before0_5_of m (dats m 0 c) (A_eq m c 5) (fun _ => by dsimp only [dats]) t d

theorem before_6 (c : Dev nD) (t : Fin cfg0.N) (d) : (dats m 0 c).before 6 t d = iblk m c 6 t :=
  before0_6_of m (dats m 0 c) (A_eq m c 6) (fun _ => by dsimp only [dats]) t d

theorem before_7 (c : Dev nD) (t : Fin cfg0.N) (d) : (dats m 0 c).before 7 t d = iblk m c 7 t :=
  before0_7_of m (dats m 0 c) (A_eq m c 7) (fun _ => by dsimp only [dats]) t d

/-- What the body leaves of the queries' output: what it found, or at a head's last point the rounded gradient. -/
def leaves8 (c : Dev nD) (t : Fin cfg0.N) : sProp 𝕄 :=
  match cfg0.idle 8 (cfg0.grid.coords t) with
  | true =>
    match (cfg0.win 8).flush t with
    | false => iprop(∃ d, owns (c : Thread nD τ) ((cfg0.win 8).stage (cfg0.slots t 8)) fullShare ((dats m 0 c).before 8 t d))
    | true => owns (c : Thread nD τ) ((cfg0.win 8).stage (cfg0.slots t 8)) fullShare ((dats m 0 c).after 8 t)
  | false => owns (c : Thread nD τ) ((cfg0.win 8).stage (cfg0.slots t 8)) fullShare ((dats m 0 c).after 8 t)

theorem idle_8 : ∀ t : Fin grid0.N, cfg0.idle 8 (grid0.coords t) = !(decide (t.val % 4 = 3)) := by decide +kernel

theorem flush_8 : ∀ t : Fin cfg0.N, (cfg0.win 8).flush t = decide (t.val % 4 = 3) := fun t =>
  Bool.eq_iff_iff.mpr ((flush0_8 t).trans (decide_eq_true_iff).symm)

theorem leaves8_inner (c : Dev nD) (t : Fin cfg0.N) (h : ¬ t.val % 4 = 3) :
    leaves8 m c t = iprop(∃ d, owns (c : Thread nD τ) (st0_8 t) fullShare ((dats m 0 c).before 8 t d)) := by
  unfold leaves8
  rw [idle_8, flush_8, decide_eq_false h]
  rfl

theorem leaves8_last (c : Dev nD) (t : Fin cfg0.N) (h : t.val % 4 = 3) :
    leaves8 m c t = owns (c : Thread nD τ) (st0_8 t) fullShare (k0_pay15 (queriesAt m c (t.val + 1))) := by
  unfold leaves8
  rw [idle_8, decide_eq_true h]
  rfl

theorem first_iff : ∀ t : Fin grid0.N,
    (Scalar.cmpi .ne (Scalar.extui (Scalar.cmpi .eq (BitVec.ofNat 32 ((grid0.coords t) 1).val) 0#32)) 0#32 = 1#1) ↔ t.val % 4 = 0 := by
  decide +kernel

theorem last_iff : ∀ t : Fin grid0.N, k0_cond2 (grid0.coords t) = 1#1 ↔ t.val % 4 = 3 := by decide +kernel

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ X, owns (c : Thread nD τ) (st0_12 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ leaves8 m c t
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, owns (c : Thread nD τ) (st0_12 t) fullShare X))

set_option maxHeartbeats 4000000 in
/-- The body at a point of the case `first`. -/
theorem sound_first (c : Dev nD) (t : Fin cfg0.N) (h : t.val % 4 = 0) :
    bodyPre m c t ⊢ wp frame (wpE (defs₀ (F := F)) Variants.none c none) Set.univ (bodyAt0 t) (fun _ => bodyPost m c t) := by
  unfold bodyPre bodyPost bodyAt0
  rw [show (dats m 0 c).Φ t.succ = iprop((∃ X : Vec F S4096x128 .f32, ⌜t.succ.val % 4 ≠ 0 → X = queriesAt m c t.succ.val⌝ ∗ owns (c : Thread nD τ) (Memref.whole cc0_scratch0) fullShare X) ∗ ∃ r, prngReg c r) from rfl,
    show (dats m 0 c).Φ t.castSucc = iprop((∃ X : Vec F S4096x128 .f32, ⌜t.castSucc.val % 4 ≠ 0 → X = queriesAt m c t.castSucc.val⌝ ∗ owns (c : Thread nD τ) (Memref.whole cc0_scratch0) fullShare X) ∗ ∃ r, prngReg c r) from rfl]
  rw [Fin.val_succ, Fin.val_castSucc]
  unfold Dat.owesAt Pipeline.owesWithin
  rw [show (dats m 0 c).owed t.castSucc = 0 from rfl, show (dats m 0 c).owed t.succ = 0 from rfl]
  rw [leaves8_inner m c t (by omega)]
  unfold owns
  iintro ⟨⟨⟨%X, %hX, ⟨%f15, %e15, H15⟩⟩, Hg⟩, ⟨%W, -, HW⟩, ⟨%d0, ⟨%f0, %e0, H0⟩⟩, ⟨%d1, ⟨%f1, %e1, H1⟩⟩, ⟨%d2, ⟨%f2, %e2, H2⟩⟩, ⟨%d3, ⟨%f3, %e3, H3⟩⟩, ⟨%d4, ⟨%f4, %e4, H4⟩⟩, ⟨%d5, ⟨%f5, %e5, H5⟩⟩, ⟨%d6, ⟨%f6, %e6, H6⟩⟩, ⟨%d7, ⟨%f7, %e7, H7⟩⟩, ⟨%d8, ⟨%f8, %e8, H8⟩⟩, ⟨%d9, ⟨%f9, %e9, H9⟩⟩, ⟨%d10, ⟨%f10, %e10, H10⟩⟩, ⟨%d11, ⟨%f11, %e11, H11⟩⟩, ⟨%d12, ⟨%f12, %e12, H12⟩⟩⟩
  rw [before_0 m c t] at e0
  rw [before_1 m c t] at e1
  rw [before_2 m c t] at e2
  rw [before_3 m c t] at e3
  rw [before_4 m c t] at e4
  rw [before_5 m c t] at e5
  rw [before_6 m c t] at e6
  rw [before_7 m c t] at e7
  iapply (triple_restated ((run_first c (grid0.coords t) _ _ _ _ _ _ _ _ _ _ _ _ _ _ _ _ _ _ _ _ _ _ _ _ _ _ _ _ f0 f1 f2 f3 f4 f5 f6 f7 ((first_iff t).mpr h) (fun e => absurd ((last_iff t).mp e) (by omega))).2.2.2.2.2 Set.univ f8 f9 f10 f11 f12 f15 iprop((∃ r, prngReg c r) ∗ owes (c : Thread nD τ) 0 W)) rfl .rfl (fun _ => ?_))
  · iintro ⟨⟨H0, H1, H2, H3, H4, H5, H6, H7, H8, H9, H10, H11, H12, H15⟩, Hg, HW⟩
    isplitl [H15 Hg]
    · isplitl [H15]
      · iexists (queriesAt m c (t.val + 1))
        isplitr
        · ipureintro
          exact fun _ => rfl
        iexists _
        isplitr
        swap
        · iexact H15
        ipureintro
        refine (first_queries c (grid0.coords t) _ _ _ _ _ _ _ _ _ _ _ _ _ _ _ _ _ _ _ _ _ _ _ _ _ _ _ _ f0 f1 f2 f3 f4 f5 f6 f7 ((first_iff t).mpr h) (fun e => absurd ((last_iff t).mp e) (by omega)) f12 f15).trans ?_
        rw [e3, e5, e6, e4, e0, e1, e2]
        rw [queriesAt_succ, if_pos h]
        rfl
      iexact Hg
    isplitl [HW]
    · iexists W
      isplitr
      · ipureintro
        exact fun _ _ => Or.inl trivial
      iexact HW
    isplitl [H0]
    · iexists f0
      isplitr
      swap
      · iexact H0
      ipureintro
      exact e0
    isplitl [H1]
    · iexists f1
      isplitr
      swap
      · iexact H1
      ipureintro
      exact e1
    isplitl [H2]
    · iexists f2
      isplitr
      swap
      · iexact H2
      ipureintro
      exact e2
    isplitl [H3]
    · iexists f3
      isplitr
      swap
      · iexact H3
      ipureintro
      exact e3
    isplitl [H4]
    · iexists f4
      isplitr
      swap
      · iexact H4
      ipureintro
      exact e4
    isplitl [H5]
    · iexists f5
      isplitr
      swap
      · iexact H5
      ipureintro
      exact e5
    isplitl [H6]
    · iexists f6
      isplitr
      swap
      · iexact H6
      ipureintro
      exact e6
    isplitl [H7]
    · iexists f7
      isplitr
      swap
      · iexact H7
      ipureintro
      exact e7
    isplitl [H8]
    · iexists d8, f8
      isplitr
      swap
      · iexact H8
      ipureintro
      exact e8
    isplitl [H9]
    · iexists _
      isplitr
      swap
      · iexact H9
      ipureintro
      refine (first_keys c (grid0.coords t) _ _ _ _ _ _ _ _ _ _ _ _ _ _ _ _ _ _ _ _ _ _ _ _ _ _ _ _ f0 f1 f2 f3 f4 f5 f6 f7 ((first_iff t).mpr h) (fun e => absurd ((last_iff t).mp e) (by omega)) f12 f15 f9).trans ?_
      rw [e3, e5, e6, e4, e0, e1, e2]
      rfl
    isplitl [H10]
    · iexists _
      isplitr
      swap
      · iexact H10
      ipureintro
      refine (first_values c (grid0.coords t) _ _ _ _ _ _ _ _ _ _ _ _ _ _ _ _ _ _ _ _ _ _ _ _ _ _ _ _ f0 f1 f2 f3 f4 f5 f6 f7 ((first_iff t).mpr h) (fun e => absurd ((last_iff t).mp e) (by omega)) f12 f15 f10).trans ?_
      rw [e3, e5, e6, e4, e0, e1, e2]
      rfl
    isplitl [H11]
    · iexists _
      isplitr
      swap
      · iexact H11
      ipureintro
      refine (first_columns c (grid0.coords t) _ _ _ _ _ _ _ _ _ _ _ _ _ _ _ _ _ _ _ _ _ _ _ _ _ _ _ _ f0 f1 f2 f3 f4 f5 f6 f7 ((first_iff t).mpr h) (fun e => absurd ((last_iff t).mp e) (by omega)) f12 f15 f11).trans ?_
      rw [e3, e5, e6, e4, e0, e1, e2]
      rfl
    iexists _, _
    isplitr
    swap
    · iexact H12
    ipureintro
    rfl
  isplitl [H0 H1 H2 H3 H4 H5 H6 H7 H8 H9 H10 H11 H12 H15]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H15
  isplitl [Hg]
  · iexact Hg
  iexact HW

set_option maxHeartbeats 4000000 in
/-- The body at a point of the case `mid`. -/
theorem sound_mid (c : Dev nD) (t : Fin cfg0.N) (h0 : ¬ t.val % 4 = 0) (h3 : ¬ t.val % 4 = 3) :
    bodyPre m c t ⊢ wp frame (wpE (defs₀ (F := F)) Variants.none c none) Set.univ (bodyAt0 t) (fun _ => bodyPost m c t) := by
  unfold bodyPre bodyPost bodyAt0
  rw [show (dats m 0 c).Φ t.succ = iprop((∃ X : Vec F S4096x128 .f32, ⌜t.succ.val % 4 ≠ 0 → X = queriesAt m c t.succ.val⌝ ∗ owns (c : Thread nD τ) (Memref.whole cc0_scratch0) fullShare X) ∗ ∃ r, prngReg c r) from rfl,
    show (dats m 0 c).Φ t.castSucc = iprop((∃ X : Vec F S4096x128 .f32, ⌜t.castSucc.val % 4 ≠ 0 → X = queriesAt m c t.castSucc.val⌝ ∗ owns (c : Thread nD τ) (Memref.whole cc0_scratch0) fullShare X) ∗ ∃ r, prngReg c r) from rfl]
  rw [Fin.val_succ, Fin.val_castSucc]
  unfold Dat.owesAt Pipeline.owesWithin
  rw [show (dats m 0 c).owed t.castSucc = 0 from rfl, show (dats m 0 c).owed t.succ = 0 from rfl]
  rw [leaves8_inner m c t (by omega)]
  unfold owns
  iintro ⟨⟨⟨%X, %hX, ⟨%f15, %e15, H15⟩⟩, Hg⟩, ⟨%W, -, HW⟩, ⟨%d0, ⟨%f0, %e0, H0⟩⟩, ⟨%d1, ⟨%f1, %e1, H1⟩⟩, ⟨%d2, ⟨%f2, %e2, H2⟩⟩, ⟨%d3, ⟨%f3, %e3, H3⟩⟩, ⟨%d4, ⟨%f4, %e4, H4⟩⟩, ⟨%d5, ⟨%f5, %e5, H5⟩⟩, ⟨%d6, ⟨%f6, %e6, H6⟩⟩, ⟨%d7, ⟨%f7, %e7, H7⟩⟩, ⟨%d8, ⟨%f8, %e8, H8⟩⟩, ⟨%d9, ⟨%f9, %e9, H9⟩⟩, ⟨%d10, ⟨%f10, %e10, H10⟩⟩, ⟨%d11, ⟨%f11, %e11, H11⟩⟩, ⟨%d12, ⟨%f12, %e12, H12⟩⟩⟩
  rw [before_0 m c t] at e0
  rw [before_1 m c t] at e1
  rw [before_2 m c t] at e2
  rw [before_3 m c t] at e3
  rw [before_4 m c t] at e4
  rw [before_5 m c t] at e5
  rw [before_6 m c t] at e6
  rw [before_7 m c t] at e7
  iapply (triple_restated ((run_mid c (grid0.coords t) _ _ _ _ _ _ _ _ _ _ _ _ _ _ _ _ _ _ _ _ _ _ _ _ _ _ _ _ f0 f1 f2 f3 f4 f5 f6 f7 (fun e => h0 ((first_iff t).mp e)) (fun e => h3 ((last_iff t).mp e))).2.2.2.2.2 Set.univ f8 f9 f10 f11 f12 f15 iprop((∃ r, prngReg c r) ∗ owes (c : Thread nD τ) 0 W)) rfl .rfl (fun _ => ?_))
  · iintro ⟨⟨H0, H1, H2, H3, H4, H5, H6, H7, H8, H9, H10, H11, H12, H15⟩, Hg, HW⟩
    isplitl [H15 Hg]
    · isplitl [H15]
      · iexists (queriesAt m c (t.val + 1))
        isplitr
        · ipureintro
          exact fun _ => rfl
        iexists _
        isplitr
        swap
        · iexact H15
        ipureintro
        refine (mid_queries c (grid0.coords t) _ _ _ _ _ _ _ _ _ _ _ _ _ _ _ _ _ _ _ _ _ _ _ _ _ _ _ _ f0 f1 f2 f3 f4 f5 f6 f7 (fun e => h0 ((first_iff t).mp e)) (fun e => h3 ((last_iff t).mp e)) f12 f15).trans ?_
        rw [e3, e5, e6, e4, e0, e1, e2]
        rw [queriesAt_succ, if_neg (show ¬ t.val % 4 = 0 by omega), e15, hX (by omega)]
        rfl
      iexact Hg
    isplitl [HW]
    · iexists W
      isplitr
      · ipureintro
        exact fun _ _ => Or.inl trivial
      iexact HW
    isplitl [H0]
    · iexists f0
      isplitr
      swap
      · iexact H0
      ipureintro
      exact e0
    isplitl [H1]
    · iexists f1
      isplitr
      swap
      · iexact H1
      ipureintro
      exact e1
    isplitl [H2]
    · iexists f2
      isplitr
      swap
      · iexact H2
      ipureintro
      exact e2
    isplitl [H3]
    · iexists f3
      isplitr
      swap
      · iexact H3
      ipureintro
      exact e3
    isplitl [H4]
    · iexists f4
      isplitr
      swap
      · iexact H4
      ipureintro
      exact e4
    isplitl [H5]
    · iexists f5
      isplitr
      swap
      · iexact H5
      ipureintro
      exact e5
    isplitl [H6]
    · iexists f6
      isplitr
      swap
      · iexact H6
      ipureintro
      exact e6
    isplitl [H7]
    · iexists f7
      isplitr
      swap
      · iexact H7
      ipureintro
      exact e7
    isplitl [H8]
    · iexists d8, f8
      isplitr
      swap
      · iexact H8
      ipureintro
      exact e8
    isplitl [H9]
    · iexists _
      isplitr
      swap
      · iexact H9
      ipureintro
      refine (mid_keys c (grid0.coords t) _ _ _ _ _ _ _ _ _ _ _ _ _ _ _ _ _ _ _ _ _ _ _ _ _ _ _ _ f0 f1 f2 f3 f4 f5 f6 f7 (fun e => h0 ((first_iff t).mp e)) (fun e => h3 ((last_iff t).mp e)) f12 f15 f9).trans ?_
      rw [e3, e5, e6, e4, e0, e1, e2]
      rfl
    isplitl [H10]
    · iexists _
      isplitr
      swap
      · iexact H10
      ipureintro
      refine (mid_values c (grid0.coords t) _ _ _ _ _ _ _ _ _ _ _ _ _ _ _ _ _ _ _ _ _ _ _ _ _ _ _ _ f0 f1 f2 f3 f4 f5 f6 f7 (fun e => h0 ((first_iff t).mp e)) (fun e => h3 ((last_iff t).mp e)) f12 f15 f10).trans ?_
      rw [e3, e5, e6, e4, e0, e1, e2]
      rfl
    isplitl [H11]
    · iexists _
      isplitr
      swap
      · iexact H11
      ipureintro
      refine (mid_columns c (grid0.coords t) _ _ _ _ _ _ _ _ _ _ _ _ _ _ _ _ _ _ _ _ _ _ _ _ _ _ _ _ f0 f1 f2 f3 f4 f5 f6 f7 (fun e => h0 ((first_iff t).mp e)) (fun e => h3 ((last_iff t).mp e)) f12 f15 f11).trans ?_
      rw [e3, e5, e6, e4, e0, e1, e2]
      rfl
    iexists _, _
    isplitr
    swap
    · iexact H12
    ipureintro
    rfl
  isplitl [H0 H1 H2 H3 H4 H5 H6 H7 H8 H9 H10 H11 H12 H15]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H15
  isplitl [Hg]
  · iexact Hg
  iexact HW

set_option maxHeartbeats 4000000 in
/-- The body at a point of the case `last`. -/
theorem sound_last (c : Dev nD) (t : Fin cfg0.N) (h : t.val % 4 = 3) :
    bodyPre m c t ⊢ wp frame (wpE (defs₀ (F := F)) Variants.none c none) Set.univ (bodyAt0 t) (fun _ => bodyPost m c t) := by
  unfold bodyPre bodyPost bodyAt0
  rw [show (dats m 0 c).Φ t.succ = iprop((∃ X : Vec F S4096x128 .f32, ⌜t.succ.val % 4 ≠ 0 → X = queriesAt m c t.succ.val⌝ ∗ owns (c : Thread nD τ) (Memref.whole cc0_scratch0) fullShare X) ∗ ∃ r, prngReg c r) from rfl,
    show (dats m 0 c).Φ t.castSucc = iprop((∃ X : Vec F S4096x128 .f32, ⌜t.castSucc.val % 4 ≠ 0 → X = queriesAt m c t.castSucc.val⌝ ∗ owns (c : Thread nD τ) (Memref.whole cc0_scratch0) fullShare X) ∗ ∃ r, prngReg c r) from rfl]
  rw [Fin.val_succ, Fin.val_castSucc]
  unfold Dat.owesAt Pipeline.owesWithin
  rw [show (dats m 0 c).owed t.castSucc = 0 from rfl, show (dats m 0 c).owed t.succ = 0 from rfl]
  rw [leaves8_last m c t h]
  unfold owns
  iintro ⟨⟨⟨%X, %hX, ⟨%f15, %e15, H15⟩⟩, Hg⟩, ⟨%W, -, HW⟩, ⟨%d0, ⟨%f0, %e0, H0⟩⟩, ⟨%d1, ⟨%f1, %e1, H1⟩⟩, ⟨%d2, ⟨%f2, %e2, H2⟩⟩, ⟨%d3, ⟨%f3, %e3, H3⟩⟩, ⟨%d4, ⟨%f4, %e4, H4⟩⟩, ⟨%d5, ⟨%f5, %e5, H5⟩⟩, ⟨%d6, ⟨%f6, %e6, H6⟩⟩, ⟨%d7, ⟨%f7, %e7, H7⟩⟩, ⟨%d8, ⟨%f8, %e8, H8⟩⟩, ⟨%d9, ⟨%f9, %e9, H9⟩⟩, ⟨%d10, ⟨%f10, %e10, H10⟩⟩, ⟨%d11, ⟨%f11, %e11, H11⟩⟩, ⟨%d12, ⟨%f12, %e12, H12⟩⟩⟩
  rw [before_0 m c t] at e0
  rw [before_1 m c t] at e1
  rw [before_2 m c t] at e2
  rw [before_3 m c t] at e3
  rw [before_4 m c t] at e4
  rw [before_5 m c t] at e5
  rw [before_6 m c t] at e6
  rw [before_7 m c t] at e7
  iapply (triple_restated ((run_last c (grid0.coords t) _ _ _ _ _ _ _ _ _ _ _ _ _ _ _ _ _ _ _ _ _ _ _ _ _ _ _ _ f0 f1 f2 f3 f4 f5 f6 f7 (fun e => absurd ((first_iff t).mp e) (by omega)) ((last_iff t).mpr h)).2.2.2.2.2.2 Set.univ f8 f9 f10 f11 f12 f15 iprop((∃ r, prngReg c r) ∗ owes (c : Thread nD τ) 0 W)) rfl .rfl (fun _ => ?_))
  · iintro ⟨⟨H0, H1, H2, H3, H4, H5, H6, H7, H8, H9, H10, H11, H12, H15⟩, Hg, HW⟩
    isplitl [H15 Hg]
    · isplitl [H15]
      · iexists (queriesAt m c (t.val + 1))
        isplitr
        · ipureintro
          exact fun _ => rfl
        iexists _
        isplitr
        swap
        · iexact H15
        ipureintro
        refine (last_queries c (grid0.coords t) _ _ _ _ _ _ _ _ _ _ _ _ _ _ _ _ _ _ _ _ _ _ _ _ _ _ _ _ f0 f1 f2 f3 f4 f5 f6 f7 (fun e => absurd ((first_iff t).mp e) (by omega)) ((last_iff t).mpr h) f12 f15).trans ?_
        rw [e3, e5, e6, e4, e0, e1, e2]
        rw [queriesAt_succ, if_neg (show ¬ t.val % 4 = 0 by omega), e15, hX (by omega)]
        rfl
      iexact Hg
    isplitl [HW]
    · iexists W
      isplitr
      · ipureintro
        exact fun _ _ => Or.inl trivial
      iexact HW
    isplitl [H0]
    · iexists f0
      isplitr
      swap
      · iexact H0
      ipureintro
      exact e0
    isplitl [H1]
    · iexists f1
      isplitr
      swap
      · iexact H1
      ipureintro
      exact e1
    isplitl [H2]
    · iexists f2
      isplitr
      swap
      · iexact H2
      ipureintro
      exact e2
    isplitl [H3]
    · iexists f3
      isplitr
      swap
      · iexact H3
      ipureintro
      exact e3
    isplitl [H4]
    · iexists f4
      isplitr
      swap
      · iexact H4
      ipureintro
      exact e4
    isplitl [H5]
    · iexists f5
      isplitr
      swap
      · iexact H5
      ipureintro
      exact e5
    isplitl [H6]
    · iexists f6
      isplitr
      swap
      · iexact H6
      ipureintro
      exact e6
    isplitl [H7]
    · iexists f7
      isplitr
      swap
      · iexact H7
      ipureintro
      exact e7
    isplitl [H8]
    · iexists _
      isplitr
      swap
      · iexact H8
      ipureintro
      refine (last_written c (grid0.coords t) _ _ _ _ _ _ _ _ _ _ _ _ _ _ _ _ _ _ _ _ _ _ _ _ _ _ _ _ f0 f1 f2 f3 f4 f5 f6 f7 (fun e => absurd ((first_iff t).mp e) (by omega)) ((last_iff t).mpr h) f12 f15 f8).trans ?_
      rw [e3, e5, e6, e4, e0, e1, e2]
      rw [queriesAt_succ, if_neg (show ¬ t.val % 4 = 0 by omega), e15, hX (by omega)]
      rfl
    isplitl [H9]
    · iexists _
      isplitr
      swap
      · iexact H9
      ipureintro
      refine (last_keys c (grid0.coords t) _ _ _ _ _ _ _ _ _ _ _ _ _ _ _ _ _ _ _ _ _ _ _ _ _ _ _ _ f0 f1 f2 f3 f4 f5 f6 f7 (fun e => absurd ((first_iff t).mp e) (by omega)) ((last_iff t).mpr h) f12 f15 f9).trans ?_
      rw [e3, e5, e6, e4, e0, e1, e2]
      rfl
    isplitl [H10]
    · iexists _
      isplitr
      swap
      · iexact H10
      ipureintro
      refine (last_values c (grid0.coords t) _ _ _ _ _ _ _ _ _ _ _ _ _ _ _ _ _ _ _ _ _ _ _ _ _ _ _ _ f0 f1 f2 f3 f4 f5 f6 f7 (fun e => absurd ((first_iff t).mp e) (by omega)) ((last_iff t).mpr h) f12 f15 f10).trans ?_
      rw [e3, e5, e6, e4, e0, e1, e2]
      rfl
    isplitl [H11]
    · iexists _
      isplitr
      swap
      · iexact H11
      ipureintro
      refine (last_columns c (grid0.coords t) _ _ _ _ _ _ _ _ _ _ _ _ _ _ _ _ _ _ _ _ _ _ _ _ _ _ _ _ f0 f1 f2 f3 f4 f5 f6 f7 (fun e => absurd ((first_iff t).mp e) (by omega)) ((last_iff t).mpr h) f12 f15 f11).trans ?_
      rw [e3, e5, e6, e4, e0, e1, e2]
      rfl
    iexists _, _
    isplitr
    swap
    · iexact H12
    ipureintro
    rfl
  isplitl [H0 H1 H2 H3 H4 H5 H6 H7 H8 H9 H10 H11 H12 H15]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H15
  isplitl [Hg]
  · iexact Hg
  iexact HW

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_first m c t h0
  by_cases h3 : t.val % 4 = 3
  · exact sound_last m c t h3
  exact sound_mid m c t h0 h3

theorem defs₀_row (t : Fin cfg0.N) :
    defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ unread := fun t => by
  rw [bigSep_W0, bigSep_W0, defs₀_row]
  exact triple_restated (sound_body m c t) rfl .rfl fun _ => .rfl

theorem enters (c : Dev nD) : Pipeline.ΦA spec0 c ⊢ (dats (F := F) m 0 c).Φ 0 := by
  rw [show (dats m 0 c).Φ 0 = iprop((∃ X : Vec F S4096x128 .f32, ⌜(0 : Fin (cfg0.N + 1)).val % 4 ≠ 0 → X = queriesAt m c (0 : Fin (cfg0.N + 1)).val⌝ ∗ owns (c : Thread nD τ) (Memref.whole cc0_scratch0) fullShare X) ∗ ∃ r, prngReg c r) from rfl]
  unfold Pipeline.ΦA
  rw [scopedRest0_eq]
  simp only [owns_whole]
  iintro ⟨⟨%f, H⟩, Hg⟩
  isplitl [H]
  · iexists f
    isplitr
    · ipureintro
      exact fun h => absurd rfl h
    iexact H
  iexact Hg

theorem leaves (c : Dev nD) : (dats (F := F) m 0 c).Φ (Fin.last cfg0.N) ⊢ Pipeline.ΦA spec0 c := by
  rw [show (dats m 0 c).Φ (Fin.last cfg0.N) = iprop((∃ X : Vec F S4096x128 .f32, ⌜(Fin.last cfg0.N).val % 4 ≠ 0 → X = queriesAt m c (Fin.last cfg0.N).val⌝ ∗ owns (c : Thread nD τ) (Memref.whole cc0_scratch0) fullShare X) ∗ ∃ r, prngReg c r) from rfl]
  unfold Pipeline.ΦA
  rw [scopedRest0_eq]
  simp only [owns_whole]
  iintro ⟨⟨%X, -, H⟩, Hg⟩
  isplitl [H]
  · iexists X
    iexact H
  iexact Hg

set_option backward.isDefEq.respectTransparency.types false in
/-- Every run ends with each output but the thirteenth at the contents the proof data name. -/
theorem run_post : θ_run defs (onTc (τ := τ) (main (F := F))) (s₀ m ρ)
    (fun r => Pipeline.RDat.FramePost cfg0 (fun c => (dats m 0 c).toRForget unread) (V m) r ∧ r.2.sem = fun _ => 0) :=
  Pipeline.θ_run_frame_track_forget_shared (Q' := _) cfgs (dats m) (0 : Fin 1) launch₀0 defs₀ Variants.none unread m ρ main
    (hbody := fun c => (body_obligation m c).loose) (hq := fun _ _ _ => rfl)
    (howed := fun _ _ => rfl) (V := V m) (hmain := hmain m Variants.none) (hA := A_eq m)
    (hin := enters m) (hout := leaves m)

end Cert.KernelIdeal.Hand

end
-- ==== Proof.Ends.lean ====
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

variable (m : (ℓ : Loc nD τ sig) → Buf (Elt F) ℓ) (ρ : Dev nD → PrngReg)

/-- Every run ends: the four results at the contents the proof data name, the arguments as launched, the semaphores at
    zero. -/
theorem run_main : θ_run defs (onTc (τ := τ) (main (F := F))) ⟨m, fun _ => 0, ρ⟩ (fun r => (∀ c : Dev nD,
      r.2.mem ((c.tc : Thread nD τ).loc main_v111_0) = (dats m 0 c).arrAt 8 cfg0.N
      ∧ r.2.mem ((c.tc : Thread nD τ).loc main_v111_1) = (dats m 0 c).arrAt 9 cfg0.N
      ∧ r.2.mem ((c.tc : Thread nD τ).loc main_v111_2) = (dats m 0 c).arrAt 10 cfg0.N
      ∧ r.2.mem ((c.tc : Thread nD τ).loc main_v111_3) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((dats m 0 c).toRForget_arrAt_iff (fgt := unread) (w := 8) rfl _ _).mp ((h.1 c).1 8),
      ((dats m 0 c).toRForget_arrAt_iff (fgt := unread) (w := 9) rfl _ _).mp ((h.1 c).1 9),
      ((dats m 0 c).toRForget_arrAt_iff (fgt := unread) (w := 10) rfl _ _).mp ((h.1 c).1 10),
      ((dats m 0 c).toRForget_arrAt_iff (fgt := unread) (w := 11) rfl _ _).mp ((h.1 c).1 11),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_post m ρ)

end Cert.KernelIdeal.Hand

end
-- ==== Proof.Arrays.lean ====
module

public import proofs.«01_k».proof.Proof.PointQ
public import proofs.«01_k».proof.Proof.Ends
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Pipeline

/-! # The result arrays, index by index -/

variable (m : (ℓ : Loc nD τ sig) → Buf (Elt Ideal) ℓ) (c : Dev nD)

/-- The head of a grid point. -/
def headOf (t : Fin cfg0.N) : Fin 8 := ⟨t.val / 4, by have h : t.val < 32 := t.isLt; omega⟩

/-- The key tile of a grid point. -/
def tileOf (t : Fin cfg0.N) : Fin 4 := ⟨t.val % 4, Nat.mod_lt _ (by decide)⟩

theorem places : ∀ t : Fin grid0.N,
    win0_0.index t = ![t.val % 4, 8 + t.val / 4] ∧ win0_1.index t = ![t.val % 4, 16 + t.val / 4] ∧ win0_2.index t = ![t.val / 4, t.val % 4, 0]
    ∧ win0_3.index t = ![0, t.val / 4] ∧ win0_4.index t = ![t.val / 4, 0, 0] ∧ win0_5.index t = ![0, t.val / 4] ∧ win0_6.index t = ![t.val / 4, 0, 0]
    ∧ win0_8.index t = ![0, t.val / 4] ∧ win0_9.index t = ![t.val % 4, t.val / 4] ∧ win0_10.index t = ![t.val % 4, t.val / 4]
    ∧ win0_11.index t = ![t.val % 4, t.val / 4, 0] ∧ ((grid0.coords t) 1).val = t.val % 4 := by decide +kernel

/-- A head's columns of an array of heads side by side, `b` heads on. -/
def col (b : ℕ) (hb : b ≤ 16) (h : Fin 8) (e : Fin 128) : Fin 3072 := ⟨128 * (b + h.val) + e.val, by omega⟩

def col1 (h : Fin 8) (e : Fin 128) : Fin 1024 := ⟨128 * h.val + e.val, by omega⟩

def keyOf (j : Fin 4) (k : Fin 1024) : Fin 4096 := ⟨1024 * j.val + k.val, by omega⟩

theorem read_k (t : Fin cfg0.N) (k : Fin 1024) (e : Fin 128) :
    iblk m c 0 t (ix2 k e) = (V m c main_v108 : Vec Ideal S4096x3072 .bf16) (ix2 (keyOf (tileOf t) k) (col 8 (by decide) (headOf t) e)) := by
  have ht : t.val < 32 := t.isLt
  simp only [keyOf, tileOf, col, col1, headOf]
  blk_ext [iblk, (places t).1]

theorem read_v (t : Fin cfg0.N) (k : Fin 1024) (e : Fin 128) :
    iblk m c 1 t (ix2 k e) = (V m c main_v108 : Vec Ideal S4096x3072 .bf16) (ix2 (keyOf (tileOf t) k) (col 16 (by decide) (headOf t) e)) := by
  have ht : t.val < 32 := t.isLt
  simp only [keyOf, tileOf, col, col1, headOf]
  blk_ext [iblk, (places t).2.1]

theorem read_kx (t : Fin cfg0.N) (k : Fin 1024) (e : Fin 128) :
    iblk m c 2 t (ix3 0 k e) = (V m c main_v103 : Vec Ideal S8x4096x128 .bf16) (ix3 (headOf t) (keyOf (tileOf t) k) e) := by
  have ht : t.val < 32 := t.isLt
  simp only [keyOf, tileOf, col, col1, headOf]
  blk_ext [iblk, (places t).2.2.1]

theorem read_q (t : Fin cfg0.N) (i : Fin 4096) (e : Fin 128) :
    iblk m c 3 t (ix2 i e) = (V m c main_v108 : Vec Ideal S4096x3072 .bf16) (ix2 i (col 0 (by decide) (headOf t) e)) := by
  have ht : t.val < 32 := t.isLt
  simp only [keyOf, tileOf, col, col1, headOf]
  blk_ext [iblk, (places t).2.2.2.1]

theorem read_ax (t : Fin cfg0.N) (i : Fin 4096) (e : Fin 128) :
    iblk m c 4 t (ix3 0 i e) = (V m c main_v70 : Vec Ideal S8x4096x128 .bf16) (ix3 (headOf t) i e) := by
  have ht : t.val < 32 := t.isLt
  simp only [keyOf, tileOf, col, col1, headOf]
  blk_ext [iblk, (places t).2.2.2.2.1]

theorem read_do (t : Fin cfg0.N) (i : Fin 4096) (e : Fin 128) :
    iblk m c 5 t (ix2 i e) = (V m c main_v109 : Vec Ideal S4096x1024 .bf16) (ix2 i (col1 (headOf t) e)) := by
  have ht : t.val < 32 := t.isLt
  simp only [keyOf, tileOf, col, col1, headOf]
  blk_ext [iblk, (places t).2.2.2.2.2.1]

theorem read_dl (t : Fin cfg0.N) (i : Fin 4096) (e : Fin 128) :
    iblk m c 6 t (ix3 0 i e) = (V m c main_v35 : Vec Ideal S8x4096x128 .f32) (ix3 (headOf t) i e) := by
  have ht : t.val < 32 := t.isLt
  simp only [keyOf, tileOf, col, col1, headOf]
  blk_ext [iblk, (places t).2.2.2.2.2.2.1]

section Heads

variable (zq : Vec Ideal S4096x3072 .bf16) (gy : Vec Ideal S4096x1024 .bf16) (ax kx : Vec Ideal S8x4096x128 .bf16) (dl : Vec Ideal S8x4096x128 .f32)

/-- The weight of key `k` for query `i` in head `h`. -/
def hW (h : Fin 8) (i k : Fin 4096) : EReal :=
  if k.val ≤ i.val then Ideal.exp2 ((∑ l : Fin 128, zq (ix2 i (col 0 (by decide) h l)) * zq (ix2 k (col 8 (by decide) h l)))
    + ∑ l : Fin 128, ax (ix3 h i l) * kx (ix3 h k l)) else 0

/-- The gradient of the score of key `k` for query `i` in head `h`. -/
def hDS (h : Fin 8) (i k : Fin 4096) : EReal :=
  hW zq ax kx h i k * ((∑ l : Fin 128, gy (ix2 i (col1 h l)) * zq (ix2 k (col 16 (by decide) h l))) - dl (ix3 h i (laneOf k)))

/-- The keys' gradient. -/
def hDK (h : Fin 8) (k : Fin 4096) (e : Fin 128) : EReal :=
  (∑ i : Fin 4096, hDS zq gy ax kx dl h i k * zq (ix2 i (col 0 (by decide) h e))) * ((Real.log 2 : ℝ) : EReal)

/-- The values' gradient. -/
def hDV (h : Fin 8) (k : Fin 4096) (e : Fin 128) : EReal := ∑ i : Fin 4096, hW zq ax kx h i k * gy (ix2 i (col1 h e))

/-- The column sums. -/
def hDC (h : Fin 8) (k : Fin 4096) : EReal := ∑ i : Fin 4096, hDS zq gy ax kx dl h i k

/-- What a key tile adds to the queries' gradient. -/
def hDQpart (h : Fin 8) (i : Fin 4096) (e : Fin 128) (j : Fin 4) : EReal :=
  (∑ k : Fin 1024, hDS zq gy ax kx dl h i (keyOf j k) * zq (ix2 (keyOf j k) (col 8 (by decide) h e))) * sigma

/-- The queries' gradient, key tile by key tile. -/
def hDQ (h : Fin 8) (i : Fin 4096) (e : Fin 128) : EReal := ∑ j : Fin 4, hDQpart zq gy ax kx dl h i e j

end Heads

theorem laneOf_keyOf (j : Fin 4) (k : Fin 1024) : laneOf (keyOf j k) = laneOf k :=
  Fin.ext (by show (1024 * j.val + k.val) % 128 = k.val % 128; omega)

/-- The arrays the call reads. -/
abbrev ZQ : Vec Ideal S4096x3072 .bf16 := V m c main_v108
abbrev GY : Vec Ideal S4096x1024 .bf16 := V m c main_v109
abbrev AXS : Vec Ideal S8x4096x128 .bf16 := V m c main_v70
abbrev KXS : Vec Ideal S8x4096x128 .bf16 := V m c main_v103
abbrev DLT : Vec Ideal S8x4096x128 .f32 := V m c main_v35

theorem wt_point (t : Fin cfg0.N) (i : Fin 4096) (k : Fin 1024) :
    wt (iblk m c 3 t) (iblk m c 4 t) (grid0.coords t 1).val (iblk m c 0 t) (iblk m c 2 t) i.val k
      = hW (ZQ m c) (AXS m c) (KXS m c) (headOf t) i (keyOf (tileOf t) k) := by
  unfold wt weight score hW
  refine if_congr (by rw [(places t).2.2.2.2.2.2.2.2.2.2.2]; rfl) (congrArg Ideal.exp2 (congrArg₂ (· + ·) (Finset.sum_congr rfl fun l _ => ?_) (Finset.sum_congr rfl fun l _ => ?_))) rfl
  · exact congrArg₂ (· * ·) ((congrArg (fun r => iblk m c 3 t (ix2 r l)) (rowOf_val i)).trans (read_q m c t i l)) (read_k m c t k l)
  · exact congrArg₂ (· * ·) ((congrArg (fun r => iblk m c 4 t (ix3 0 r l)) (rowOf_val i)).trans (read_ax m c t i l)) (read_kx m c t k l)

theorem ds_point (t : Fin cfg0.N) (i : Fin 4096) (k : Fin 1024) :
    ds (iblk m c 3 t) (iblk m c 5 t) (iblk m c 6 t) (iblk m c 4 t) (grid0.coords t 1).val (iblk m c 0 t) (iblk m c 1 t) (iblk m c 2 t) i.val k
      = hDS (ZQ m c) (GY m c) (AXS m c) (KXS m c) (DLT m c) (headOf t) i (keyOf (tileOf t) k) := by
  unfold ds gap hDS
  refine congrArg₂ (· * ·) (wt_point m c t i k) (congrArg₂ (· - ·) (Finset.sum_congr rfl fun l _ => ?_) ?_)
  · exact congrArg₂ (· * ·) ((congrArg (fun r => iblk m c 5 t (ix2 r l)) (rowOf_val i)).trans (read_do m c t i l)) (read_v m c t k l)
  · rw [laneOf_keyOf]
    exact (congrArg (fun r => iblk m c 6 t (ix3 0 r (laneOf k))) (rowOf_val i)).trans (read_dl m c t i (laneOf k))

theorem tile_le (t : Fin cfg0.N) : (grid0.coords t 1).val ≤ 3 := by
  rw [(places t).2.2.2.2.2.2.2.2.2.2.2]; omega

theorem point_dk (t : Fin cfg0.N) (k : Fin 1024) (e : Fin 128) :
    k0_pay12 (F := Ideal) (carryAt m c t).1 (ix2 k e) = hDK (ZQ m c) (GY m c) (AXS m c) (KXS m c) (DLT m c) (headOf t) (keyOf (tileOf t) k) e := by
  pointwise [k0_pay12]
  exact congrArg (· * ((Real.log 2 : ℝ) : EReal)) ((carryEnd_dk _ _ _ _ _ _ _ _ (tile_le t) k e).trans
    (Finset.sum_congr rfl fun i _ => congrArg₂ (· * ·) (ds_point m c t i k) (read_q m c t i e)))

theorem point_dv (t : Fin cfg0.N) (k : Fin 1024) (e : Fin 128) :
    k0_pay13 (F := Ideal) (carryAt m c t).2.1 (ix2 k e) = hDV (ZQ m c) (GY m c) (AXS m c) (KXS m c) (headOf t) (keyOf (tileOf t) k) e := by
  pointwise [k0_pay13]
  exact (carryEnd_dv _ _ _ _ _ _ _ _ (tile_le t) k e).trans
    (Finset.sum_congr rfl fun i _ => congrArg₂ (· * ·) (wt_point m c t i k) (read_do m c t i e))

theorem point_dc (t : Fin cfg0.N) (x : Fin 8) (k : Fin 1024) :
    k0_pay14 (F := Ideal) (carryAt m c t).2.2 (ix3 0 x k) = hDC (ZQ m c) (GY m c) (AXS m c) (KXS m c) (DLT m c) (headOf t) (keyOf (tileOf t) k) :=
  (carryEnd_dc _ _ _ _ _ _ _ _ (tile_le t) x k).trans (Finset.sum_congr rfl fun i _ => ds_point m c t i k)

theorem queriesFrom_at (t : Fin cfg0.N) (old : Vec Ideal S4096x128 .f32) (i : Fin 4096) (e : Fin 128) :
    queriesFrom m c t old (ix2 i e) = old (ix2 i e) + hDQpart (ZQ m c) (GY m c) (AXS m c) (KXS m c) (DLT m c) (headOf t) i e (tileOf t) :=
  (dqEnd_at _ _ _ _ _ _ _ _ old (tile_le t) i e).trans (congrArg (old (ix2 i e) + ·) (congrArg (· * sigma)
    (Finset.sum_congr rfl fun k _ => congrArg₂ (· * ·) (ds_point m c t i k) (read_k m c t k e))))

theorem queriesAt_at (h : Fin 8) (i : Fin 4096) (e : Fin 128) (n : ℕ) (hn : n < 4) :
    queriesAt m c (4 * h.val + n + 1) (ix2 i e)
      = ∑ j ∈ Finset.range (n + 1), if hj : j < 4 then hDQpart (ZQ m c) (GY m c) (AXS m c) (KXS m c) (DLT m c) h i e ⟨j, hj⟩ else 0 := by
  induction n with
  | zero =>
    have ht : 4 * h.val + 0 < 32 := by omega
    rw [Finset.sum_range_succ, dif_pos hn]
    refine (congrFun (queriesAt_succ m c ⟨4 * h.val + 0, ht⟩) _).trans ((queriesFrom_at m c _ _ i e).trans ?_)
    rw [show headOf ⟨4 * h.val + 0, ht⟩ = h from Fin.ext (by show (4 * h.val + 0) / 4 = h.val; omega),
      show tileOf ⟨4 * h.val + 0, ht⟩ = ⟨0, hn⟩ from Fin.ext (by show (4 * h.val + 0) % 4 = 0; omega),
      if_pos (by show (4 * h.val + 0) % 4 = 0; omega)]
    refine congrArg (· + _) ?_
    pointwise [k0_pay52]
    simp
  | succ n ih =>
    have ht : 4 * h.val + (n + 1) < 32 := by omega
    rw [Finset.sum_range_succ, dif_pos hn]
    refine (congrFun (queriesAt_succ m c ⟨4 * h.val + (n + 1), ht⟩) _).trans ((queriesFrom_at m c _ _ i e).trans ?_)
    rw [show headOf ⟨4 * h.val + (n + 1), ht⟩ = h from Fin.ext (by show (4 * h.val + (n + 1)) / 4 = h.val; omega),
      show tileOf ⟨4 * h.val + (n + 1), ht⟩ = ⟨n + 1, hn⟩ from Fin.ext (by show (4 * h.val + (n + 1)) % 4 = n + 1; omega),
      if_neg (by show ¬(4 * h.val + (n + 1)) % 4 = 0; omega)]
    exact congrArg (· + _) (ih (by omega))

theorem point_dq (t : Fin cfg0.N) (ht : t.val % 4 = 3) (i : Fin 4096) (e : Fin 128) :
    k0_pay15 (F := Ideal) (queriesAt m c (t.val + 1)) (ix2 i e) = hDQ (ZQ m c) (GY m c) (AXS m c) (KXS m c) (DLT m c) (headOf t) i e := by
  pointwise [k0_pay15]
  have h := queriesAt_at m c (headOf t) i e 3 (by decide)
  rw [show 4 * (headOf t).val + 3 = t.val from by show 4 * (t.val / 4) + 3 = t.val; omega] at h
  rw [h, Finset.sum_range]
  exact Finset.sum_congr rfl fun j _ => dif_pos j.isLt

end Cert.KernelIdeal.Hand

end
-- ==== Proof.Results.lean ====
module

public import proofs.«01_k».proof.Proof.Arrays

@[expose] public section

set_option maxRecDepth 16384

noncomputable section

namespace Cert.KernelIdeal.Hand

open Cert.KernelIdeal Cert.KernelIdeal.Gen
open Idealize.ShloMosaic Idealize.ShloMosaic.TcCoe Idealize.ShloMosaic.Pipeline

/-! # The four arrays the call leaves -/

variable (m : (ℓ : Loc nD τ sig) → Buf (Elt Ideal) ℓ) (c : Dev nD)

/-- The head and the lane of a column. -/
def headAt (y : Fin 1024) : Fin 8 := ⟨y.val / 128, by omega⟩

def laneAt (y : Fin 1024) : Fin 128 := ⟨y.val % 128, Nat.mod_lt _ (by decide)⟩

theorem headAt_col1 (h : Fin 8) (e : Fin 128) : headAt (col1 h e) = h := Fin.ext (by show (128 * h.val + e.val) / 128 = h.val; omega)

theorem laneAt_col1 (h : Fin 8) (e : Fin 128) : laneAt (col1 h e) = e := Fin.ext (by show (128 * h.val + e.val) % 128 = e.val; omega)

/-- The keys' gradients as one array. -/
def arrDK : Vec Ideal S4096x1024 .bf16 := fun y =>
  hDK (ZQ m c) (GY m c) (AXS m c) (KXS m c) (DLT m c) (headAt (y 1)) (y 0) (laneAt (y 1))

/-- The values' gradients as one array. -/
def arrDV : Vec Ideal S4096x1024 .bf16 := fun y =>
  hDV (ZQ m c) (GY m c) (AXS m c) (KXS m c) (headAt (y 1)) (y 0) (laneAt (y 1))

/-- The queries' gradients as one array. -/
def arrDQ : Vec Ideal S4096x1024 .bf16 := fun y =>
  hDQ (ZQ m c) (GY m c) (AXS m c) (KXS m c) (DLT m c) (headAt (y 1)) (y 0) (laneAt (y 1))

/-- The column sums as one array: each head's sums eight times over. -/
def arrDC : Vec Ideal S4x64x1024 .f32 := fun y =>
  hDC (ZQ m c) (GY m c) (AXS m c) (KXS m c) (DLT m c) ⟨(y 1).val / 8, by have h : (y 1).val < 64 := (y 1).isLt; omega⟩ (keyOf (y 0) (y 2))

theorem array_dk : (dats m 0 c).arrAt 9 cfg0.N = arrDK m c := by
  refine (dats m 0 c).arrAt_eq_of_covers 9 _ (by decide +kernel) fun t hf y => ?_
  blk_simp
  have ht : t.val < 32 := t.isLt
  obtain ⟨k, e, rfl⟩ : ∃ (k : Fin 1024) (e : Fin 128), y = ix2 k e := ⟨y 0, y 1, by funext a; fin_cases a <;> rfl⟩
  refine (point_dk m c t k e).trans ?_
  rw [show (win0_9.blk t).view.emb (ix2 k e) = (ix2 (keyOf (tileOf t) k) (col1 (headOf t) e) : S4096x1024.Idx) from by
    simp only [keyOf, tileOf, col1, headOf]
    blk_ext [(places t).2.2.2.2.2.2.2.2.1]]
  exact congrArg₂ (fun h l => hDK (ZQ m c) (GY m c) (AXS m c) (KXS m c) (DLT m c) h (keyOf (tileOf t) k) l) (headAt_col1 _ _).symm (laneAt_col1 _ _).symm

theorem array_dv : (dats m 0 c).arrAt 10 cfg0.N = arrDV m c := by
  refine (dats m 0 c).arrAt_eq_of_covers 10 _ (by decide +kernel) fun t hf y => ?_
  blk_simp
  have ht : t.val < 32 := t.isLt
  obtain ⟨k, e, rfl⟩ : ∃ (k : Fin 1024) (e : Fin 128), y = ix2 k e := ⟨y 0, y 1, by funext a; fin_cases a <;> rfl⟩
  refine (point_dv m c t k e).trans ?_
  rw [show (win0_10.blk t).view.emb (ix2 k e) = (ix2 (keyOf (tileOf t) k) (col1 (headOf t) e) : S4096x1024.Idx) from by
    simp only [keyOf, tileOf, col1, headOf]
    blk_ext [(places t).2.2.2.2.2.2.2.2.2.1]]
  exact congrArg₂ (fun h l => hDV (ZQ m c) (GY m c) (AXS m c) (KXS m c) h (keyOf (tileOf t) k) l) (headAt_col1 _ _).symm (laneAt_col1 _ _).symm

theorem array_dc : (dats m 0 c).arrAt 11 cfg0.N = arrDC m c := by
  refine (dats m 0 c).arrAt_eq_of_covers 11 _ (by decide +kernel) fun t hf y => ?_
  blk_simp
  have ht : t.val < 32 := t.isLt
  obtain ⟨x, k, rfl⟩ : ∃ (x : Fin 8) (k : Fin 1024), y = ix3 0 x k := ⟨y 1, y 2, by funext a; fin_cases a <;> first | rfl | exact Subsingleton.elim (α := Fin 1) _ _⟩
  refine (point_dc m c t x k).trans ?_
  rw [show (win0_11.blk t).view.emb (ix3 0 x k) = (ix3 (tileOf t) ⟨8 * (headOf t).val + x.val, by omega⟩ k : S4x64x1024.Idx) from by
    simp only [tileOf, headOf]
    blk_ext [(places t).2.2.2.2.2.2.2.2.2.2.1]]
  exact congrArg (fun h => hDC (ZQ m c) (GY m c) (AXS m c) (KXS m c) (DLT m c) h (keyOf (tileOf t) k))
    (Fin.ext (by show (headOf t).val = (8 * (headOf t).val + x.val) / 8; omega))

theorem array_dq : (dats m 0 c).arrAt 8 cfg0.N = arrDQ m c := by
  refine (dats m 0 c).arrAt_eq_of_covers 8 _ (by decide +kernel) fun t hf y => ?_
  blk_simp
  have ht : t.val < 32 := t.isLt
  obtain ⟨i, e, rfl⟩ : ∃ (i : Fin 4096) (e : Fin 128), y = ix2 i e := ⟨y 0, y 1, by funext a; fin_cases a <;> rfl⟩
  refine (point_dq m c t (of_decide_eq_true ((flush_8 t).symm.trans hf)) i e).trans ?_
  rw [show (win0_8.blk t).view.emb (ix2 i e) = (ix2 i (col1 (headOf t) e) : S4096x1024.Idx) from by
    simp only [col1, headOf]
    blk_ext [(places t).2.2.2.2.2.2.2.1]]
  exact congrArg₂ (fun h l => hDQ (ZQ m c) (GY m c) (AXS m c) (KXS m c) (DLT m c) h i l) (headAt_col1 _ _).symm (laneAt_col1 _ _).symm

end Cert.KernelIdeal.Hand

end
-- ==== Proof.Host.lean ====
module

public import proofs.«01_k».proof.Proof.Arrays
public import Idealize.ShloMosaic.Lib.Claim
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Pipeline

/-! # The arrays the host makes before the call -/

variable (m : (ℓ : Loc nD τ sig) → Buf (Elt Ideal) ℓ) (c : Dev nD)

/-- The host's operations before the call, in order. -/
def chunks : List (List (HloOp τ sig (Elt Ideal))) :=
  [hostOps0, hostOps0_1, hostOps0_2.take 10, (hostOps0_2.take 29).drop 10, hostOps0_2.drop 29, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18.take 6, hostOps0_18.drop 6]

/-- The contents at the call are what the operations from a chunk on make of what the ones before leave. -/
theorem fromChunk (n : ℕ) : ∃ σ, ∀ b : Ref sig .tc, V m c b = StableHlo.after (chunks.drop n).flatten σ (Proc.devRef .tc b) :=
  ⟨StableHlo.after (chunks.take n).flatten (fun b => m (c, b)), fun b => by
    rw [← StableHlo.after_append, ← List.flatten_append, List.take_append_drop]; rfl⟩

/-- The arguments, as the host finds them. -/
abbrev AQ : Vec Ideal S4096x1024 .f32 := V m c main_arg0
abbrev AK : Vec Ideal S4096x1024 .f32 := V m c main_arg1
abbrev AV : Vec Ideal S4096x1024 .f32 := V m c main_arg2
abbrev AC : Vec Ideal S8x4096 .f32 := V m c main_arg3
abbrev AG : Vec Ideal S4096x1024 .f32 := V m c main_arg4

/-- The host's masked scores, a row's greatest, a row's mass, what a row is lowered by, and the logarithm of two. -/
abbrev HS : Vec Ideal S8x4096x4096 .f32 := V m c main_v17
abbrev HM : Vec Ideal S8x4096x1 .f32 := V m c main_v19
abbrev HL : Vec Ideal S8x4096x1 .f32 := V m c main_v24
abbrev HA : Vec Ideal S8x4096x128 .f32 := V m c main_v42
abbrev LG : Vec Ideal S_ .f32 := V m c main_v36
abbrev QS : Vec Ideal S4096x1024 .f32 := V m c main_v106

theorem toInt_small (n : ℕ) (h : n < 4096) : (BitVec.ofNat 32 n).toInt = n := by
  have e : (BitVec.ofNat 32 n).toNat = n := by rw [BitVec.toNat_ofNat]; exact Nat.mod_eq_of_lt (by omega)
  rw [BitVec.toInt_eq_toNat_of_lt (by omega), e]

theorem select_le {α : Type} (k i : ℕ) (hk : k < 4096) (hi : i < 4096) (x y : α) :
    Scalar.select (IntOp.cmpi CmpIPredicate.sle (BitVec.ofNat 32 k) (BitVec.ofNat 32 i)) x y = if k ≤ i then x else y := by
  have : IntOp.cmpi CmpIPredicate.sle (BitVec.ofNat 32 k) (BitVec.ofNat 32 i) = BitVec.ofBool (decide (k ≤ i)) := by
    show BitVec.ofBool (decide ((BitVec.ofNat 32 k).toInt ≤ (BitVec.ofNat 32 i).toInt)) = _
    rw [toInt_small k hk, toInt_small i hi]
    exact congrArg BitVec.ofBool (decide_eq_decide.mpr (by omega))
  rw [this]
  by_cases h : k ≤ i
  · rw [if_pos h, decide_eq_true h]; rfl
  · rw [if_neg h, decide_eq_false h]; rfl

/-- A number spread over lanes: itself at `at`, what a narrower format leaves of it after, and ones elsewhere. -/
def bias (spot ones : ℕ) (B : EReal) (e : ℕ) : EReal :=
  if e = spot + 2 then (B - B) - (B - B) else if e = spot + 1 then B - B else if e = spot then B else if ones ≤ e ∧ e < ones + 3 then 1 else 0

theorem select_lane {α : Type} (n : Fin 8) (e : Fin 128) (x y : α) :
    Scalar.select (IntOp.cmpi CmpIPredicate.eq (BitVec.ofNat 32 e.val) (BitVec.ofNat 32 n.val)) x y = if e.val = n.val then x else y := by
  have : ∀ (n : Fin 8) (e : Fin 128), IntOp.cmpi CmpIPredicate.eq (BitVec.ofNat 32 e.val) (BitVec.ofNat 32 n.val) = if e.val = n.val then 1#1 else 0#1 := by
    decide +kernel
  rw [this]
  by_cases h : e.val = n.val
  · rw [if_pos h, if_pos h]; rfl
  · rw [if_neg h, if_neg h]; rfl

theorem select_lanes {α : Type} (a b : Fin 8) (e : Fin 128) (x y : α) :
    Scalar.select (IntOp.andi (IntOp.cmpi CmpIPredicate.sge (BitVec.ofNat 32 e.val) (BitVec.ofNat 32 a.val)) (IntOp.cmpi CmpIPredicate.slt (BitVec.ofNat 32 e.val) (BitVec.ofNat 32 b.val))) x y
      = if a.val ≤ e.val ∧ e.val < b.val then x else y := by
  have : ∀ (a b : Fin 8) (e : Fin 128), IntOp.andi (IntOp.cmpi CmpIPredicate.sge (BitVec.ofNat 32 e.val) (BitVec.ofNat 32 a.val)) (IntOp.cmpi CmpIPredicate.slt (BitVec.ofNat 32 e.val) (BitVec.ofNat 32 b.val))
      = if a.val ≤ e.val ∧ e.val < b.val then 1#1 else 0#1 := by
    decide +kernel
  rw [this]
  by_cases h : a.val ≤ e.val ∧ e.val < b.val
  · rw [if_pos h, if_pos h]; rfl
  · rw [if_neg h, if_neg h]; rfl

theorem row_div (h : Fin 8) (i : Fin 4096) (p : (h.val * 4096 + i.val) / 4096 < 8) : (⟨(h.val * 4096 + i.val) / 4096, p⟩ : Fin 8) = h := Fin.ext (by show _ / _ = _; omega)

theorem row_mod (h : Fin 8) (i : Fin 4096) (p : (h.val * 4096 + i.val) % 4096 < 4096) : (⟨(h.val * 4096 + i.val) % 4096, p⟩ : Fin 4096) = i := Fin.ext (by show _ % _ = _; omega)

theorem col1_eq (h : Fin 8) (e : Fin 128) (p : h.val * 128 + e.val < 1024) : (⟨h.val * 128 + e.val, p⟩ : Fin 1024) = col1 h e := Fin.ext (by show _ + _ = 128 * h.val + e.val; omega)

theorem gy_at (i : Fin 4096) (e : Fin 1024) : GY m c (ix2 i e) = AG m c (ix2 i e) := by
  obtain ⟨σ, hσ⟩ := fromChunk m c 21
  unfold AG GY
  simp only [hσ]
  simp only [chunks, List.drop, List.take, List.flatten_cons, List.flatten_nil, hostOps0_18, List.cons_append, List.nil_append, List.append_nil]
  entry_read
  clear hσ
  pointwise

theorem log2_at : LG m c ix0 = Ideal.log (Ideal.ofBits FTy.f32 1073741824#32) := by
  obtain ⟨σ, hσ⟩ := fromChunk m c 3
  unfold LG
  simp only [hσ]
  simp only [chunks, List.drop, List.take, List.flatten_cons, List.flatten_nil, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append, List.append_nil]
  entry_read
  clear hσ
  pointwise

/-- The last operations: the queries, the keys and the values side by side. -/
theorem joined : V m c main_v107 = concatenate S4096x3072 1 [⟨S4096x1024, (V m c main_v106 : (⟨S4096x1024, .f32⟩ : BufTy).Contents (Elt Ideal))⟩, ⟨S4096x1024, (V m c main_arg1 : (⟨S4096x1024, .f32⟩ : BufTy).Contents (Elt Ideal))⟩, ⟨S4096x1024, (V m c main_arg2 : (⟨S4096x1024, .f32⟩ : BufTy).Contents (Elt Ideal))⟩] concatenates_S4096x1024_S4096x1024_S4096x1024_S4096x3072_d1 := by
  obtain ⟨σ, hσ⟩ := fromChunk m c 21
  have kept (b : Ref sig .tc) (h : b ≠ main_v107 ∧ b ≠ main_v108 ∧ b ≠ main_v109 ∧ b ≠ main_cst_19 ∧ b ≠ main_v110) : V m c b = σ (Proc.devRef .tc b) := by
    rw [hσ]
    refine StableHlo.after_of_forall_not_mem _ _ (List.forall_iff_forall_mem.mp ?_)
    simp only [chunks, List.drop, List.flatten_cons, List.flatten_nil, List.append_nil, hostOps0_18, List.Forall, StableHlo.nullary_writes, StableHlo.unary_writes, StableHlo.nary_writes, Finset.mem_singleton]
    exact ⟨StableHlo.devRef_ne_of_ne h.1, StableHlo.devRef_ne_of_ne h.2.1, StableHlo.devRef_ne_of_ne h.2.2.1, StableHlo.devRef_ne_of_ne h.2.2.2.1, StableHlo.devRef_ne_of_ne h.2.2.2.2⟩
  rw [kept main_v106 (by decide), kept main_arg1 (by decide), kept main_arg2 (by decide), hσ]
  simp only [chunks, List.drop, List.flatten_cons, List.flatten_nil, List.append_nil, hostOps0_18]
  rw [StableHlo.after_cons, StableHlo.after_of_forall_not_mem, StableHlo.nary_result]
  · rfl
  · refine List.forall_iff_forall_mem.mp ?_
    simp only [List.Forall, StableHlo.nullary_writes, StableHlo.unary_writes, Finset.mem_singleton]
    exact ⟨StableHlo.devRef_ne_of_ne (by decide), StableHlo.devRef_ne_of_ne (by decide), StableHlo.devRef_ne_of_ne (by decide), StableHlo.devRef_ne_of_ne (by decide)⟩

theorem narrowed : (ZQ m c : Vec Ideal S4096x3072 .bf16) = (V m c main_v107 : Vec Ideal S4096x3072 .f32) := by
  obtain ⟨σ, hσ⟩ := fromChunk m c 21
  unfold ZQ
  simp only [hσ]
  simp only [chunks, List.drop, List.take, List.flatten_cons, List.flatten_nil, hostOps0_18, List.cons_append, List.nil_append, List.append_nil]
  entry_read
  clear hσ
  rfl

theorem scaled_at (i : Fin 4096) (e : Fin 1024) : QS m c (ix2 i e)
    = AQ m c (ix2 i e) * Ideal.div (Ideal.ofBits FTy.f32 1035273459#32) (LG m c ix0) := by
  obtain ⟨σ, hσ⟩ := fromChunk m c 20
  unfold LG QS AQ
  simp only [hσ]
  simp only [chunks, List.drop, List.take, List.flatten_cons, List.flatten_nil, hostOps0_18, List.cons_append, List.nil_append, List.append_nil]
  entry_read
  clear hσ
  pointwise

section Side

variable (X A B : Vec Ideal S4096x1024 .f32) (i : Fin 4096) (h : Fin 8) (e : Fin 128)

theorem joined_first : (concatenate S4096x3072 1 [⟨S4096x1024, (X : (⟨S4096x1024, .f32⟩ : BufTy).Contents (Elt Ideal))⟩, ⟨S4096x1024, (A : (⟨S4096x1024, .f32⟩ : BufTy).Contents (Elt Ideal))⟩, ⟨S4096x1024, (B : (⟨S4096x1024, .f32⟩ : BufTy).Contents (Elt Ideal))⟩] concatenates_S4096x1024_S4096x1024_S4096x1024_S4096x3072_d1 : Vec Ideal S4096x3072 .f32) (ix2 i (col 0 (by decide) h e)) = X (ix2 i (col1 h e)) := by
  pointwise
  have h0 : (col 0 (by decide) h e).val = 128 * h.val + e.val := by show 128 * (0 + h.val) + e.val = _; omega
  rw [dif_pos (by omega)]
  exact congrArg (fun l => X (ix2 i l)) (Fin.ext h0)

theorem joined_second : (concatenate S4096x3072 1 [⟨S4096x1024, (X : (⟨S4096x1024, .f32⟩ : BufTy).Contents (Elt Ideal))⟩, ⟨S4096x1024, (A : (⟨S4096x1024, .f32⟩ : BufTy).Contents (Elt Ideal))⟩, ⟨S4096x1024, (B : (⟨S4096x1024, .f32⟩ : BufTy).Contents (Elt Ideal))⟩] concatenates_S4096x1024_S4096x1024_S4096x1024_S4096x3072_d1 : Vec Ideal S4096x3072 .f32) (ix2 i (col 8 (by decide) h e)) = A (ix2 i (col1 h e)) := by
  pointwise
  have h0 : (col 8 (by decide) h e).val = 1024 + (128 * h.val + e.val) := by show 128 * (8 + h.val) + e.val = _; omega
  rw [dif_neg (by omega), dif_pos (by omega)]
  exact congrArg (fun l => A (ix2 i l)) (Fin.ext (by show (col 8 (by decide) h e).val - 1024 = 128 * h.val + e.val; omega))

theorem joined_third : (concatenate S4096x3072 1 [⟨S4096x1024, (X : (⟨S4096x1024, .f32⟩ : BufTy).Contents (Elt Ideal))⟩, ⟨S4096x1024, (A : (⟨S4096x1024, .f32⟩ : BufTy).Contents (Elt Ideal))⟩, ⟨S4096x1024, (B : (⟨S4096x1024, .f32⟩ : BufTy).Contents (Elt Ideal))⟩] concatenates_S4096x1024_S4096x1024_S4096x1024_S4096x3072_d1 : Vec Ideal S4096x3072 .f32) (ix2 i (col 16 (by decide) h e)) = B (ix2 i (col1 h e)) := by
  pointwise
  have h0 : (col 16 (by decide) h e).val = 2048 + (128 * h.val + e.val) := by show 128 * (16 + h.val) + e.val = _; omega
  rw [dif_neg (by omega), dif_neg (by omega)]
  exact congrArg (fun l => B (ix2 i l)) (Fin.ext (by show (col 16 (by decide) h e).val - 1024 - 1024 = 128 * h.val + e.val; omega))

end Side

theorem zq_q (i : Fin 4096) (h : Fin 8) (e : Fin 128) : ZQ m c (ix2 i (col 0 (by decide) h e))
    = AQ m c (ix2 i (col1 h e)) * Ideal.div (Ideal.ofBits FTy.f32 1035273459#32) (LG m c ix0) :=
  (congrFun (narrowed m c) _).trans ((congrFun (joined m c) _).trans ((joined_first _ _ _ i h e).trans (scaled_at m c i _)))

theorem zq_k (i : Fin 4096) (h : Fin 8) (e : Fin 128) : ZQ m c (ix2 i (col 8 (by decide) h e)) = AK m c (ix2 i (col1 h e)) :=
  (congrFun (narrowed m c) _).trans ((congrFun (joined m c) _).trans (joined_second _ _ _ i h e))

theorem zq_v (i : Fin 4096) (h : Fin 8) (e : Fin 128) : ZQ m c (ix2 i (col 16 (by decide) h e)) = AV m c (ix2 i (col1 h e)) :=
  (congrFun (narrowed m c) _).trans ((congrFun (joined m c) _).trans (joined_third _ _ _ i h e))

theorem top_at (h : Fin 8) (i : Fin 4096) : HM m c (ix3 h i 0)
    = Finset.fold max (Ideal.ofBits FTy.f32 4286578688#32) (fun k : Fin 4096 => HS m c (ix3 h i k)) Finset.univ := by
  obtain ⟨σ, hσ⟩ := fromChunk m c 2
  unfold HS HM
  simp only [hσ]
  simp only [chunks, List.drop, List.take, List.flatten_cons, List.flatten_nil, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append, List.append_nil]
  entry_read
  clear hσ
  pointwise

theorem mass_at (h : Fin 8) (i : Fin 4096) : HL m c (ix3 h i 0)
    = ∑ k : Fin 4096, Ideal.exp (HS m c (ix3 h i k) - HM m c (ix3 h i 0)) := by
  obtain ⟨σ, hσ⟩ := fromChunk m c 2
  unfold HS HM HL
  simp only [hσ]
  simp only [chunks, List.drop, List.take, List.flatten_cons, List.flatten_nil, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append, List.append_nil]
  entry_read
  clear hσ
  pointwise

theorem level_at (h : Fin 8) (i : Fin 4096) (e : Fin 128) : HA m c (ix3 h i e)
    = -Ideal.div (HM m c (ix3 h i 0) + Ideal.log (HL m c (ix3 h i 0))) (LG m c ix0) := by
  obtain ⟨σ, hσ⟩ := fromChunk m c 3
  unfold HM HL HA LG
  simp only [hσ]
  simp only [chunks, List.drop, List.take, List.flatten_cons, List.flatten_nil, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append, List.append_nil]
  entry_read
  clear hσ
  pointwise

theorem dl_at (h : Fin 8) (i : Fin 4096) (e : Fin 128) : DLT m c (ix3 h i e)
    = ∑ x : Fin 128, AG m c (ix2 i (col1 h x)) * ∑ k : Fin 4096, Ideal.div (Ideal.exp (HS m c (ix3 h i k) - HM m c (ix3 h i 0)))
        (HL m c (ix3 h i 0)) * AV m c (ix2 k (col1 h x)) := by
  obtain ⟨σ, hσ⟩ := fromChunk m c 2
  unfold HS HM HL AV AG DLT
  simp only [hσ]
  simp only [chunks, List.drop, List.take, List.flatten_cons, List.flatten_nil, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append, List.append_nil]
  entry_read
  clear hσ
  pointwise
  simp only [col1_eq]

theorem masked_at (h : Fin 8) (i k : Fin 4096) : HS m c (ix3 h i k)
    = if k.val ≤ i.val then (∑ x : Fin 128, AQ m c (ix2 i (col1 h x)) * AK m c (ix2 k (col1 h x))) * Ideal.ofBits FTy.f32 1035273459#32 - AC m c (ix2 h k)
      else Ideal.ofBits FTy.f32 4286578688#32 := by
  obtain ⟨σ, hσ⟩ := fromChunk m c 0
  unfold HS AQ AK AC
  simp only [hσ]
  simp only [chunks, List.drop, List.take, List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append, List.append_nil]
  entry_read
  clear hσ
  simp -implicitDefEqProofs only [StableHlo.TRef.toBuf, StableHlo.TRef.ofBuf, cast_cast, cast_eq]
  pointwise
  simp only [col1_eq]
  exact select_le _ _ k.isLt i.isLt _ _

theorem ax_at (h : Fin 8) (i : Fin 4096) (e : Fin 128) : AXS m c (ix3 h i e) = bias 3 0 (HA m c (ix3 h i e)) e.val := by
  obtain ⟨σ, hσ⟩ := fromChunk m c 4
  unfold HA AXS
  simp only [hσ]
  simp only [chunks, List.drop, List.take, List.flatten_cons, List.flatten_nil, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append, List.append_nil]
  entry_read
  clear hσ
  simp -implicitDefEqProofs only [StableHlo.TRef.toBuf, StableHlo.TRef.ofBuf, cast_cast, cast_eq]
  pointwise
  simp only [row_div, row_mod]
  exact (select_lane 5 e _ _).trans (if_congr Iff.rfl rfl ((select_lane 4 e _ _).trans (if_congr Iff.rfl rfl ((select_lane 3 e _ _).trans (if_congr Iff.rfl rfl (select_lanes 0 3 e _ _))))))

theorem kx_at (h : Fin 8) (i : Fin 4096) (e : Fin 128) : KXS m c (ix3 h i e) = bias 0 3 (-Ideal.div (AC m c (ix2 h i)) (LG m c ix0)) e.val := by
  obtain ⟨σ, hσ⟩ := fromChunk m c 12
  unfold LG AC KXS
  simp only [hσ]
  simp only [chunks, List.drop, List.take, List.flatten_cons, List.flatten_nil, hostOps0_10, hostOps0_11, hostOps0_12, hostOps0_13, hostOps0_14, hostOps0_15, hostOps0_16, hostOps0_17, hostOps0_18, List.cons_append, List.nil_append, List.append_nil]
  entry_read
  clear hσ
  simp -implicitDefEqProofs only [StableHlo.TRef.toBuf, StableHlo.TRef.ofBuf, cast_cast, cast_eq]
  pointwise
  simp only [row_div, row_mod]
  exact (select_lane 2 e _ _).trans (if_congr Iff.rfl rfl ((select_lane 1 e _ _).trans (if_congr Iff.rfl rfl ((select_lane 0 e _ _).trans (if_congr Iff.rfl rfl (select_lanes 3 6 e _ _))))))

end Cert.KernelIdeal.Hand

end
-- ==== Proof.KernelReal.lean ====
module

public import proofs.«01_k».proof.Proof.Results
public import proofs.«01_k».proof.Proof.Host
public import proofs.«01_k».proof.Proof.Math

@[expose] public section

set_option maxRecDepth 16384

noncomputable section

namespace Cert.KernelIdeal.Hand

open Cert.KernelIdeal Cert.KernelIdeal.Gen Cert.Attention
open Idealize.ShloMosaic Idealize.ShloMosaic.TcCoe Idealize.ShloMosaic.Pipeline

/-! # The kernel's results over the reals -/

/-- The two bias tables hold one number each and ones for the other's: their row product is the two numbers' sum. -/
def biasR (spot ones : ℕ) (B : ℝ) (e : ℕ) : ℝ :=
  if e = spot + 2 then 0 else if e = spot + 1 then 0 else if e = spot then B else if ones ≤ e ∧ e < ones + 3 then 1 else 0

theorem bias_real (spot ones : ℕ) (B : ℝ) (e : ℕ) : bias spot ones (B : EReal) e = (biasR spot ones B e : EReal) := by
  have h : (B : EReal) - (B : EReal) = ((0 : ℝ) : EReal) := by rw [← EReal.coe_sub, sub_self]
  unfold bias biasR
  rw [h]
  split_ifs <;> first | rfl | (rw [← EReal.coe_sub, sub_self])

theorem bias_sum (A B : ℝ) : ∑ l : Fin 128, biasR 3 0 A l.val * biasR 0 3 B l.val = A + B := by
  have e : ∀ l : Fin 128, biasR 3 0 A l.val * biasR 0 3 B l.val = (if l = (3 : Fin 128) then A else 0) + (if l = (0 : Fin 128) then B else 0) := fun l => by
    have e3 : (l = (3 : Fin 128)) ↔ l.val = 3 := Fin.ext_iff
    have e0 : (l = (0 : Fin 128)) ↔ l.val = 0 := Fin.ext_iff
    simp only [e3, e0, biasR]
    by_cases h0 : l.val = 0
    · simp [h0]
    by_cases h1 : l.val = 1
    · simp [h1]
    by_cases h2 : l.val = 2
    · simp [h2]
    by_cases h3 : l.val = 3
    · simp [h3]
    by_cases h4 : l.val = 4
    · simp [h4]
    by_cases h5 : l.val = 5
    · simp [h5]
    have n1 : ¬ l.val < 3 := by omega
    have n2 : ¬ (3 ≤ l.val ∧ l.val < 6) := by omega
    simp [h0, h1, h2, h3, h4, h5, n1, n2]
  rw [Finset.sum_congr rfl fun l _ => e l, Finset.sum_add_distrib, Finset.sum_ite_eq', Finset.sum_ite_eq']
  simp

variable (m : (ℓ : Loc nD τ sig) → Buf (Elt Ideal) ℓ) (c : Dev nD)
variable (q k v g : Fin 8 → Fin 4096 → Fin 128 → ℝ) (cc : Fin 8 → Fin 4096 → ℝ)

/-- The arguments are real numbers. -/
structure Reals : Prop where
  q : ∀ h i e, AQ m c (ix2 i (col1 h e)) = (q h i e : EReal)
  k : ∀ h i e, AK m c (ix2 i (col1 h e)) = (k h i e : EReal)
  v : ∀ h i e, AV m c (ix2 i (col1 h e)) = (v h i e : EReal)
  g : ∀ h i e, AG m c (ix2 i (col1 h e)) = (g h i e : EReal)
  c : ∀ h i, AC m c (ix2 h i) = (cc h i : EReal)

theorem log2_pos : 0 < Real.log 2 := Real.log_pos (by norm_num)

theorem log2_real : LG m c ix0 = (Real.log 2 : EReal) := by
  rw [log2_at, word_two, log_pos_coe (by norm_num)]

variable {m c q k v g cc} (A : Reals m c q k v g cc) (h : Fin 8)
include A

theorem masked_real (i j : Fin 4096) : HS m c (ix3 h i j) = if j.val ≤ i.val then (wR q k cc h i j : EReal) else ⊥ := by
  rw [masked_at, sum_mul_coe _ _ (A.q h i) (A.k h j), A.c, word_scale, word_neg, ← EReal.coe_mul, ← EReal.coe_sub]
  rfl

/-- A row's greatest, its exponentials and its mass. -/
theorem row_real (i : Fin 4096) : ∃ M : ℝ, HM m c (ix3 h i 0) = (M : EReal)
    ∧ (∀ j, Ideal.exp (HS m c (ix3 h i j) - HM m c (ix3 h i 0)) = ((if j.val ≤ i.val then Real.exp (wR q k cc h i j + -M) else 0 : ℝ) : EReal))
    ∧ HL m c (ix3 h i 0) = (rowMass i (fun j => wR q k cc h i j + -M) : EReal) := by
  obtain ⟨M, hM⟩ := row_greatest i (wR q k cc h i)
  have hT : HM m c (ix3 h i 0) = (M : EReal) := by
    rw [top_at, word_neg, ← hM]
    exact congrArg (fun f => Finset.fold max (⊥ : EReal) f Finset.univ) (funext fun j => masked_real A h i j)
  have hE : ∀ j, Ideal.exp (HS m c (ix3 h i j) - HM m c (ix3 h i 0)) = ((if j.val ≤ i.val then Real.exp (wR q k cc h i j + -M) else 0 : ℝ) : EReal) := fun j => by
    rw [hT, masked_real A, row_exp i (wR q k cc h i)]
  refine ⟨M, hT, hE, ?_⟩
  rw [mass_at]; unfold rowMass; rw [coe_sum]
  exact Finset.sum_congr rfl fun j _ => hE j

theorem weight_div (i j : Fin 4096) (a : ℝ) :
    (if j.val ≤ i.val then Real.exp (wR q k cc h i j + a) else 0 : ℝ) / rowMass i (fun j => wR q k cc h i j + a) = pR q k cc h i j := by
  unfold pR
  rw [← rowProb_shift i (wR q k cc h i) a j]
  unfold rowProb
  split_ifs
  · rfl
  · rw [zero_div]

/-- The kernel's weight: two to the power of the scaled score less the row's level. -/
theorem w_real (i j : Fin 4096) : hW (ZQ m c) (AXS m c) (KXS m c) h i j = (pR q k cc h i j : EReal) := by
  obtain ⟨M, hM, -, hL⟩ := row_real A h i
  have l2 := log2_pos.ne'
  have hpos := rowMass_pos i (fun j => wR q k cc h i j + -M)
  unfold hW
  rw [← weight_div A h i j (-M)]
  by_cases hj : j.val ≤ i.val
  · rw [if_pos hj, if_pos hj,
      sum_mul_coe (fun l => q h i l * (scale / Real.log 2)) (fun l => k h j l)
        (fun l => by rw [zq_q, A.q, word_scale, log2_real, div_coe_coe _ l2, ← EReal.coe_mul]) (fun l => by rw [zq_k, A.k]),
      sum_mul_coe (fun l : Fin 128 => biasR 3 0 (-((M + Real.log (rowMass i (fun j => wR q k cc h i j + -M))) / Real.log 2)) l.val)
        (fun l : Fin 128 => biasR 0 3 (-(cc h j / Real.log 2)) l.val)
        (fun l => by rw [ax_at, level_at, hM, hL, log_pos_coe hpos, log2_real, ← EReal.coe_add, div_coe_coe _ l2, ← EReal.coe_neg, bias_real])
        (fun l => by rw [kx_at, A.c, log2_real, div_coe_coe _ l2, ← EReal.coe_neg, bias_real]),
      bias_sum, ← EReal.coe_add, Ideal.exp2_coe]
    refine congrArg Real.toEReal ?_
    rw [show ∑ l, q h i l * (scale / Real.log 2) * k h j l + (-((M + Real.log (rowMass i (fun j => wR q k cc h i j + -M))) / Real.log 2) + -(cc h j / Real.log 2))
        = (wR q k cc h i j + -M - Real.log (rowMass i (fun j => wR q k cc h i j + -M))) / Real.log 2 from by
      rw [show ∑ l, q h i l * (scale / Real.log 2) * k h j l = (∑ l, q h i l * k h j l) * scale / Real.log 2 from by
        rw [Finset.sum_mul, Finset.sum_div]; exact Finset.sum_congr rfl fun l _ => by ring]
      unfold wR; ring]
    rw [two_pow, Real.exp_sub, Real.exp_log hpos]
  · rw [if_neg hj, if_neg hj, zero_div, EReal.coe_zero]

/-- The row's inner product of the output's gradient with the output. -/
theorem dl_real (i : Fin 4096) (e : Fin 128) : DLT m c (ix3 h i e) = ((∑ j, pR q k cc h i j * gR v g h i j : ℝ) : EReal) := by
  obtain ⟨M, hM, hE, hL⟩ := row_real A h i
  have hpos := rowMass_pos i (fun j => wR q k cc h i j + -M)
  rw [dl_at, sum_mul_coe (g h i) (fun x => ∑ j, pR q k cc h i j * v h j x) (A.g h i) (fun x =>
    sum_mul_coe (pR q k cc h i) (fun j => v h j x) (fun j => by rw [hE, hL, div_coe_coe _ hpos.ne', weight_div A]) (fun j => A.v h j x))]
  refine congrArg Real.toEReal ?_
  unfold gR
  simp only [Finset.mul_sum]
  rw [Finset.sum_comm]
  exact Finset.sum_congr rfl fun j _ => Finset.sum_congr rfl fun x _ => by ring

theorem ds_real (i j : Fin 4096) : hDS (ZQ m c) (GY m c) (AXS m c) (KXS m c) (DLT m c) h i j = (dR q k v g cc h i j : EReal) := by
  unfold hDS
  rw [w_real A, sum_mul_coe _ _ (fun l => by rw [gy_at, A.g]) (fun l => by rw [zq_v, A.v]), dl_real A, ← EReal.coe_sub, ← EReal.coe_mul]
  rfl

theorem dk_real (j : Fin 4096) (e : Fin 128) : hDK (ZQ m c) (GY m c) (AXS m c) (KXS m c) (DLT m c) h j e = (dkR q k v g cc h j e : EReal) := by
  have l2 := log2_pos.ne'
  unfold hDK
  rw [sum_mul_coe (fun i => dR q k v g cc h i j) (fun i => q h i e * (scale / Real.log 2)) (fun i => ds_real A h i j)
    (fun i => by rw [zq_q, A.q, word_scale, log2_real, div_coe_coe _ l2, ← EReal.coe_mul]), ← EReal.coe_mul]
  refine congrArg Real.toEReal ?_
  unfold dkR
  rw [Finset.sum_mul]
  exact Finset.sum_congr rfl fun i _ => by field_simp

theorem dv_real (j : Fin 4096) (e : Fin 128) : hDV (ZQ m c) (GY m c) (AXS m c) (KXS m c) h j e = (dvR q k g cc h j e : EReal) := by
  unfold hDV
  exact sum_mul_coe _ _ (fun i => w_real A h i j) (fun i => by rw [gy_at, A.g])

theorem dc_real (j : Fin 4096) : hDC (ZQ m c) (GY m c) (AXS m c) (KXS m c) (DLT m c) h j = (dcR q k v g cc h j : EReal) := by
  unfold hDC dcR
  rw [coe_sum]
  exact Finset.sum_congr rfl fun i _ => ds_real A h i j

omit A in
/-- A sum over the keys, tile by tile. -/
theorem sum_tiles (f : Fin 4096 → ℝ) : ∑ b : Fin 4, ∑ j : Fin 1024, f (keyOf b j) = ∑ j, f j := by
  rw [← Fintype.sum_prod_type' (fun b j => f (keyOf b j))]
  refine Fintype.sum_equiv (finProdFinEquiv (m := 4) (n := 1024)) _ _ fun p => congrArg f (Fin.ext ?_)
  show 1024 * p.1.val + p.2.val = p.2.val + 1024 * p.1.val
  omega

theorem dq_real (i : Fin 4096) (e : Fin 128) : hDQ (ZQ m c) (GY m c) (AXS m c) (KXS m c) (DLT m c) h i e = (dqR q k v g cc h i e : EReal) := by
  have part : ∀ b : Fin 4, hDQpart (ZQ m c) (GY m c) (AXS m c) (KXS m c) (DLT m c) h i e b
      = ((∑ j : Fin 1024, dR q k v g cc h i (keyOf b j) * scale * k h (keyOf b j) e : ℝ) : EReal) := fun b => by
    unfold hDQpart sigma
    rw [sum_mul_coe (fun j => dR q k v g cc h i (keyOf b j)) (fun j => k h (keyOf b j) e) (fun j => ds_real A h i _) (fun j => by rw [zq_k, A.k]), word_scale, ← EReal.coe_mul]
    refine congrArg Real.toEReal ?_
    rw [Finset.sum_mul]
    exact Finset.sum_congr rfl fun j _ => by ring
  unfold hDQ dqR
  rw [Finset.sum_congr rfl fun b _ => part b, ← coe_sum, sum_tiles (fun j => dR q k v g cc h i j * scale * k h j e)]

end Cert.KernelIdeal.Hand

end
-- ==== Proof.Refs.lean ====
module

public import proofs.«01_k».proof.Proof.Gen.ReferenceIdeal.Run
public import Idealize.ShloMosaic.Lib.Claim
public import Idealize.ShloMosaic.Lib.Pointwise

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe

/-! # The reference's values, operation by operation -/

variable (m : (ℓ : Loc nD τ sig) → Buf (Elt Ideal) ℓ) (c : Dev nD)

/-- What a buffer holds when the reference has run. -/
abbrev R (b : Ref sig .tc) : Buf (Elt Ideal) ((c.tc : Thread nD τ).loc b) := StableHlo.after (ops (F := Ideal)) (StableHlo.launchContents m c) (Proc.devRef .tc b)

/-- The operations from the `n`-th on, over what the ones before leave. -/
theorem fromOp (n : ℕ) : ∃ σ, ∀ b : Ref sig .tc, R m c b = StableHlo.after ((ops (F := Ideal)).drop n) σ (Proc.devRef .tc b) :=
  ⟨StableHlo.after ((ops (F := Ideal)).take n) (StableHlo.launchContents m c), fun b => by
    rw [← StableHlo.after_append, List.take_append_drop]⟩

abbrev AQ : Vec Ideal S4096x1024 .f32 := R m c main_arg0
abbrev AK : Vec Ideal S4096x1024 .f32 := R m c main_arg1
abbrev AV : Vec Ideal S4096x1024 .f32 := R m c main_arg2
abbrev AC : Vec Ideal S8x4096 .f32 := R m c main_arg3
abbrev AG : Vec Ideal S4096x1024 .f32 := R m c main_arg4

/-- The masked scores, the mask, a row's greatest twice, the exponentials, a row's mass, its inverse square, the probabilities, the products of gradients and values, the scores' gradients, and the heads. -/
abbrev RS : Vec Ideal S8x4096x4096 .f32 := R m c main_v20_0
abbrev RW : Vec Ideal S8x4096x4096 .i1 := R m c main_v20_1
abbrev RT : Vec Ideal S8x4096 .f32 := R m c main_v21
abbrev RM : Vec Ideal S8x4096 .f32 := R m c main_v28
abbrev RE : Vec Ideal S8x4096x4096 .f32 := R m c main_v41
abbrev RL : Vec Ideal S8x4096x1 .f32 := R m c main_v43
abbrev RI : Vec Ideal S8x4096x1 .f32 := R m c main_v48
abbrev RP : Vec Ideal S8x4096x4096 .f32 := R m c main_v45
abbrev RG : Vec Ideal S8x4096x4096 .f32 := R m c main_v58
abbrev RD : Vec Ideal S8x4096x4096 .f32 := R m c main_v73
abbrev RQ : Vec Ideal S8x4096x128 .f32 := R m c main_v1
abbrev RK : Vec Ideal S8x4096x128 .f32 := R m c main_v3
abbrev ODQ : Vec Ideal S4096x1024 .bf16 := R m c main_v95
abbrev ODK : Vec Ideal S4096x1024 .bf16 := R m c main_v96
abbrev ODV : Vec Ideal S4096x1024 .bf16 := R m c main_v97
abbrev ODC : Vec Ideal S4x64x1024 .f32 := R m c main_v94

/-- A head's column. -/
def col1 (h : Fin 8) (e : Fin 128) : Fin 1024 := ⟨128 * h.val + e.val, by omega⟩

def keyOf (j : Fin 4) (k : Fin 1024) : Fin 4096 := ⟨1024 * j.val + k.val, by omega⟩

theorem col1_eq (h : Fin 8) (e : Fin 128) (p : h.val * 128 + e.val < 1024) : (⟨h.val * 128 + e.val, p⟩ : Fin 1024) = col1 h e := Fin.ext (by show _ + _ = 128 * h.val + e.val; omega)

theorem keyOf_eq (j : Fin 4) (k : Fin 1024) (p : j.val * 1024 + k.val < 4096) : (⟨j.val * 1024 + k.val, p⟩ : Fin 4096) = keyOf j k := Fin.ext (by show _ + _ = 1024 * j.val + k.val; omega)

theorem col1_div (h : Fin 8) (e : Fin 128) (p : (col1 h e).val / 128 < 8) : (⟨(col1 h e).val / 128, p⟩ : Fin 8) = h := Fin.ext (by show (128 * h.val + e.val) / 128 = _; omega)

theorem col1_mod (h : Fin 8) (e : Fin 128) (p : (col1 h e).val % 128 < 128) : (⟨(col1 h e).val % 128, p⟩ : Fin 128) = e := Fin.ext (by show (128 * h.val + e.val) % 128 = _; omega)

theorem col1_self (h : Fin 8) (e : Fin 128) (p : (col1 h e).val / 128 * 128 + (col1 h e).val % 128 < 1024) : (⟨(col1 h e).val / 128 * 128 + (col1 h e).val % 128, p⟩ : Fin 1024) = col1 h e := Fin.ext (by show (128 * h.val + e.val) / 128 * 128 + (128 * h.val + e.val) % 128 = 128 * h.val + e.val; omega)

theorem toInt_small (n : ℕ) (h : n < 4096) : (BitVec.ofNat 32 n).toInt = n := by
  have e : (BitVec.ofNat 32 n).toNat = n := by rw [BitVec.toNat_ofNat]; exact Nat.mod_eq_of_lt (by omega)
  rw [BitVec.toInt_eq_toNat_of_lt (by omega), e]

theorem before_eq (k i : ℕ) (hk : k < 4096) (hi : i < 4096) :
    IntOp.cmpi CmpIPredicate.sle (BitVec.ofNat 32 k) (BitVec.ofNat 32 i) = BitVec.ofBool (decide (k ≤ i)) := by
  show BitVec.ofBool (decide ((BitVec.ofNat 32 k).toInt ≤ (BitVec.ofNat 32 i).toInt)) = _
  rw [toInt_small k hk, toInt_small i hi]
  exact congrArg BitVec.ofBool (decide_eq_decide.mpr (by omega))

theorem select_of {α : Type} (b : Prop) [Decidable b] (x y : α) : Scalar.select (BitVec.ofBool (decide b)) x y = if b then x else y := by
  by_cases h : b
  · rw [if_pos h, decide_eq_true h]; rfl
  · rw [if_neg h, decide_eq_false h]; rfl

theorem masked_at (h : Fin 8) (i k : Fin 4096) : RS m c (ix3 h i k)
    = if k.val ≤ i.val then (∑ x : Fin 128, AQ m c (ix2 i (col1 h x)) * AK m c (ix2 k (col1 h x))) * Ideal.ofBits FTy.f32 1035273459#32 + (AC m c (ix2 h i) - AC m c (ix2 h k)) else Ideal.ofBits FTy.f32 4286578688#32 := by
  obtain ⟨σ, hσ⟩ := fromOp m c 0
  unfold RS AQ AK AC
  simp only [hσ]
  simp only [ops, List.drop]
  entry_read
  clear hσ
  simp -implicitDefEqProofs only [StableHlo.TRef.toBuf, StableHlo.TRef.ofBuf, cast_cast, cast_eq]
  pointwise
  simp only [col1_eq]
  rw [before_eq _ _ k.isLt i.isLt]
  exact select_of _ _ _

theorem mask_at (h : Fin 8) (i k : Fin 4096) : RW m c (ix3 h i k) = BitVec.ofBool (decide (k.val ≤ i.val)) := by
  obtain ⟨σ, hσ⟩ := fromOp m c 0
  unfold RW
  simp only [hσ]
  simp only [ops, List.drop]
  entry_read
  clear hσ
  simp -implicitDefEqProofs only [StableHlo.TRef.toBuf, StableHlo.TRef.ofBuf, cast_cast, cast_eq]
  pointwise
  exact before_eq _ _ k.isLt i.isLt

theorem greatest_at (h : Fin 8) (i : Fin 4096) : RT m c (ix2 h i) = Finset.fold max (Ideal.ofBits FTy.f32 4286578688#32) (fun k : Fin 4096 => RS m c (ix3 h i k)) Finset.univ := by
  obtain ⟨σ, hσ⟩ := fromOp m c 28
  unfold RS RT
  simp only [hσ]
  simp only [ops, List.drop]
  entry_read
  clear hσ
  pointwise

theorem top_at (h : Fin 8) (i : Fin 4096) : RM m c (ix2 h i) = max (Ideal.ofBits FTy.f32 4286578688#32) (RT m c (ix2 h i)) := by
  obtain ⟨σ, hσ⟩ := fromOp m c 36
  unfold RM RT
  simp only [hσ]
  simp only [ops, List.drop]
  entry_read
  clear hσ
  pointwise

theorem exp_at (h : Fin 8) (i k : Fin 4096) : RE m c (ix3 h i k) = Ideal.exp (RS m c (ix3 h i k) - RM m c (ix2 h i)) := by
  obtain ⟨σ, hσ⟩ := fromOp m c 53
  unfold RS RM RE
  simp only [hσ]
  simp only [ops, List.drop]
  entry_read
  clear hσ
  pointwise

theorem mass_at (h : Fin 8) (i : Fin 4096) : RL m c (ix3 h i 0) = ∑ k : Fin 4096, RE m c (ix3 h i k) := by
  obtain ⟨σ, hσ⟩ := fromOp m c 57
  unfold RE RL
  simp only [hσ]
  simp only [ops, List.drop]
  entry_read
  clear hσ
  pointwise

theorem prob_at (h : Fin 8) (i k : Fin 4096) : RP m c (ix3 h i k) = Ideal.div (RE m c (ix3 h i k)) (RL m c (ix3 h i 0)) := by
  obtain ⟨σ, hσ⟩ := fromOp m c 60
  unfold RE RL RP
  simp only [hσ]
  simp only [ops, List.drop]
  entry_read
  clear hσ
  pointwise

theorem inv_at (h : Fin 8) (i : Fin 4096) : RI m c (ix3 h i 0) = Ideal.div 1 (RL m c (ix3 h i 0) * RL m c (ix3 h i 0)) := by
  obtain ⟨σ, hσ⟩ := fromOp m c 62
  unfold RL RI
  simp only [hσ]
  simp only [ops, List.drop]
  entry_read
  clear hσ
  pointwise

theorem gap_at (h : Fin 8) (i k : Fin 4096) : RG m c (ix3 h i k) = ∑ x : Fin 128, AG m c (ix2 i (col1 h x)) * AV m c (ix2 k (col1 h x)) := by
  obtain ⟨σ, hσ⟩ := fromOp m c 66
  unfold RG AV AG
  simp only [hσ]
  simp only [ops, List.drop]
  entry_read
  clear hσ
  pointwise
  simp only [col1_eq]

theorem ds_at (h : Fin 8) (i k : Fin 4096) : RD m c (ix3 h i k)
    = if k.val ≤ i.val then (Ideal.div (RG m c (ix3 h i k)) (RL m c (ix3 h i 0)) + ∑ _x : Fin 1, -∑ x : Fin 4096, RG m c (ix3 h i x) * RI m c (ix3 h i 0) * RE m c (ix3 h i x)) * RE m c (ix3 h i k) else 0 := by
  obtain ⟨σ, hσ⟩ := fromOp m c 76
  rw [← select_of, ← mask_at m c h i k]
  unfold RE RL RD RG RI RW
  simp only [hσ]
  simp only [ops, List.drop]
  entry_read
  clear hσ
  simp -implicitDefEqProofs only [StableHlo.TRef.toBuf, StableHlo.TRef.ofBuf, cast_cast, cast_eq]
  pointwise

theorem heads_q (h : Fin 8) (i : Fin 4096) (e : Fin 128) : RQ m c (ix3 h i e) = AQ m c (ix2 i (col1 h e)) := by
  obtain ⟨σ, hσ⟩ := fromOp m c 0
  unfold RQ AQ
  simp only [hσ]
  simp only [ops, List.drop]
  entry_read
  clear hσ
  pointwise
  simp only [col1_eq]

theorem heads_k (h : Fin 8) (i : Fin 4096) (e : Fin 128) : RK m c (ix3 h i e) = AK m c (ix2 i (col1 h e)) := by
  obtain ⟨σ, hσ⟩ := fromOp m c 0
  unfold RK AK
  simp only [hσ]
  simp only [ops, List.drop]
  entry_read
  clear hσ
  pointwise
  simp only [col1_eq]

theorem dq_at (i : Fin 4096) (h : Fin 8) (e : Fin 128) : ODQ m c (ix2 i (col1 h e)) = ∑ k : Fin 4096, RD m c (ix3 h i k) * Ideal.ofBits FTy.f32 1035273459#32 * RK m c (ix3 h k e) := by
  obtain ⟨σ, hσ⟩ := fromOp m c 95
  unfold RD RK ODQ
  simp only [hσ]
  simp only [ops, List.drop]
  entry_read
  clear hσ
  pointwise
  simp only [col1_div, col1_mod]

theorem dk_at (k : Fin 4096) (h : Fin 8) (e : Fin 128) : ODK m c (ix2 k (col1 h e)) = ∑ i : Fin 4096, RD m c (ix3 h i k) * Ideal.ofBits FTy.f32 1035273459#32 * RQ m c (ix3 h i e) := by
  obtain ⟨σ, hσ⟩ := fromOp m c 95
  unfold RD RQ ODK
  simp only [hσ]
  simp only [ops, List.drop]
  entry_read
  clear hσ
  pointwise
  simp only [col1_div, col1_mod]

theorem dv_at (k : Fin 4096) (h : Fin 8) (e : Fin 128) : ODV m c (ix2 k (col1 h e)) = ∑ i : Fin 4096, AG m c (ix2 i (col1 h e)) * RP m c (ix3 h i k) := by
  obtain ⟨σ, hσ⟩ := fromOp m c 66
  unfold RP ODV AG
  simp only [hσ]
  simp only [ops, List.drop]
  entry_read
  clear hσ
  pointwise
  simp only [col1_div, col1_mod, col1_self]

theorem dc_at (j : Fin 4) (h x : Fin 8) (k : Fin 1024) : ODC m c (ix3 j ⟨8 * h.val + x.val, by omega⟩ k)
    = -(∑ _y : Fin 1, ∑ i : Fin 4096, -RD m c (ix3 h i (keyOf j k)) + ∑ _y : Fin 1, ∑ i : Fin 4096, RD m c (ix3 h (keyOf j k) i)) := by
  obtain ⟨σ, hσ⟩ := fromOp m c 95
  unfold RD ODC
  simp only [hσ]
  simp only [ops, List.drop]
  entry_read
  clear hσ
  pointwise
  simp only [keyOf_eq]

end Cert.ReferenceIdeal.Hand

end
-- ==== Proof.RefReal.lean ====
module

public import proofs.«01_k».proof.Proof.Refs
public import proofs.«01_k».proof.Proof.Math

@[expose] public section

set_option maxRecDepth 16384

noncomputable section

namespace Cert.ReferenceIdeal.Hand

open Cert.ReferenceIdeal Cert.ReferenceIdeal.Gen Cert.ReferenceIdeal.Value Cert.Attention
open Idealize.ShloMosaic Idealize.ShloMosaic.TcCoe

/-! # The reference's results over the reals -/

variable (m : (ℓ : Loc nD τ sig) → Buf (Elt Ideal) ℓ) (c : Dev nD)
variable (q k v g : Fin 8 → Fin 4096 → Fin 128 → ℝ) (cc : Fin 8 → Fin 4096 → ℝ)

/-- The arguments are real numbers. -/
structure Reals : Prop where
  q : ∀ h i e, AQ m c (ix2 i (col1 h e)) = (q h i e : EReal)
  k : ∀ h i e, AK m c (ix2 i (col1 h e)) = (k h i e : EReal)
  v : ∀ h i e, AV m c (ix2 i (col1 h e)) = (v h i e : EReal)
  g : ∀ h i e, AG m c (ix2 i (col1 h e)) = (g h i e : EReal)
  c : ∀ h i, AC m c (ix2 h i) = (cc h i : EReal)

variable {m c q k v g cc} (A : Reals m c q k v g cc) (h : Fin 8)
include A

omit A in
theorem shift_eq (a b d : ℝ) : a + (b - d) = a - d + b := by ring

theorem masked_real (i j : Fin 4096) : RS m c (ix3 h i j) = if j.val ≤ i.val then ((wR q k cc h i j + cc h i : ℝ) : EReal) else ⊥ := by
  rw [masked_at, sum_mul_coe _ _ (A.q h i) (A.k h j), A.c, A.c, word_scale, word_neg, ← EReal.coe_mul, ← EReal.coe_sub, ← EReal.coe_add]
  unfold wR
  refine if_congr Iff.rfl (congrArg Real.toEReal (shift_eq _ _ _)) rfl

/-- The exponentials of a row, each up to the row's shift. -/
theorem exp_real (i : Fin 4096) : ∃ a : ℝ, ∀ j, RE m c (ix3 h i j) = ((if j.val ≤ i.val then Real.exp (wR q k cc h i j + a) else 0 : ℝ) : EReal) := by
  obtain ⟨M, hM⟩ := row_greatest i (fun j => wR q k cc h i j + cc h i)
  have hT : RT m c (ix2 h i) = (M : EReal) := by
    rw [greatest_at, word_neg, ← hM]
    exact congrArg (fun f => Finset.fold max (⊥ : EReal) f Finset.univ) (funext fun j => masked_real A h i j)
  refine ⟨cc h i - M, fun j => ?_⟩
  rw [exp_at, top_at, hT, word_neg, max_eq_right bot_le, masked_real A, row_exp i (fun j => wR q k cc h i j + cc h i)]
  refine congrArg Real.toEReal (if_congr Iff.rfl (congrArg Real.exp ?_) rfl)
  rw [sub_eq_add_neg, add_assoc]

theorem gap_real (i j : Fin 4096) : RG m c (ix3 h i j) = (gR v g h i j : EReal) := by
  rw [gap_at, sum_mul_coe _ _ (A.g h i) (A.v h j)]; rfl

theorem mass_real (i : Fin 4096) (a : ℝ) (ha : ∀ j, RE m c (ix3 h i j) = ((if j.val ≤ i.val then Real.exp (wR q k cc h i j + a) else 0 : ℝ) : EReal)) :
    RL m c (ix3 h i 0) = (rowMass i (fun j => wR q k cc h i j + a) : EReal) := by
  rw [mass_at]; unfold rowMass; rw [coe_sum]
  exact Finset.sum_congr rfl fun j _ => ha j

/-- An exponential is its weight times the row's mass. -/
theorem weight_mass (i j : Fin 4096) (a : ℝ) :
    (if j.val ≤ i.val then Real.exp (wR q k cc h i j + a) else 0 : ℝ) = pR q k cc h i j * rowMass i (fun j => wR q k cc h i j + a) := by
  have hL := (rowMass_pos i (fun j => wR q k cc h i j + a)).ne'
  unfold pR
  rw [← rowProb_shift i (wR q k cc h i) a j]
  unfold rowProb
  split_ifs
  · rw [div_mul_cancel₀ _ hL]
  · rw [zero_mul]

theorem prob_real (i j : Fin 4096) : RP m c (ix3 h i j) = (pR q k cc h i j : EReal) := by
  obtain ⟨a, ha⟩ := exp_real A h i
  have hL := (rowMass_pos i (fun j => wR q k cc h i j + a)).ne'
  rw [prob_at, mass_real A h i a ha, ha, div_coe_coe _ hL, weight_mass A h i j a, mul_div_cancel_right₀ _ hL]

theorem ds_real (i j : Fin 4096) : RD m c (ix3 h i j) = (dR q k v g cc h i j : EReal) := by
  obtain ⟨a, ha⟩ := exp_real A h i
  have hL := (rowMass_pos i (fun j => wR q k cc h i j + a)).ne'
  have hI : RI m c (ix3 h i 0) = ((1 / (rowMass i (fun j => wR q k cc h i j + a) * rowMass i (fun j => wR q k cc h i j + a)) : ℝ) : EReal) := by
    rw [inv_at, mass_real A h i a ha, ← EReal.coe_mul, ← EReal.coe_one, div_coe_coe _ (mul_ne_zero hL hL)]
  have hS : (∑ x : Fin 4096, RG m c (ix3 h i x) * RI m c (ix3 h i 0) * RE m c (ix3 h i x))
      = (((∑ x, pR q k cc h i x * gR v g h i x) / rowMass i (fun j => wR q k cc h i j + a) : ℝ) : EReal) := by
    rw [Finset.sum_div, coe_sum]
    refine Finset.sum_congr rfl fun x _ => ?_
    rw [gap_real A, hI, ha, weight_mass A h i x a, ← EReal.coe_mul, ← EReal.coe_mul]
    refine congrArg Real.toEReal ?_
    field_simp
  rw [ds_at]
  by_cases hj : j.val ≤ i.val
  · rw [if_pos hj, Finset.sum_const, Finset.card_univ, Fintype.card_fin, one_smul, hS, gap_real A, mass_real A h i a ha, div_coe_coe _ hL, ha, weight_mass A h i j a,
      ← EReal.coe_neg, ← EReal.coe_add, ← EReal.coe_mul]
    unfold dR
    refine congrArg Real.toEReal ?_
    field_simp
    ring
  · rw [if_neg hj]
    unfold dR pR rowProb
    rw [if_neg hj, zero_mul, EReal.coe_zero]

theorem dq_real (i : Fin 4096) (e : Fin 128) : ODQ m c (ix2 i (col1 h e)) = (dqR q k v g cc h i e : EReal) := by
  rw [dq_at]
  exact sum_mul_coe _ _ (fun j => by rw [ds_real A, word_scale, ← EReal.coe_mul]) (fun j => by rw [heads_k, A.k])

theorem dk_real (j : Fin 4096) (e : Fin 128) : ODK m c (ix2 j (col1 h e)) = (dkR q k v g cc h j e : EReal) := by
  rw [dk_at]
  exact sum_mul_coe _ _ (fun i => by rw [ds_real A, word_scale, ← EReal.coe_mul]) (fun i => by rw [heads_q, A.q])

theorem dv_real (j : Fin 4096) (e : Fin 128) : ODV m c (ix2 j (col1 h e)) = (dvR q k g cc h j e : EReal) := by
  rw [dv_at, sum_mul_coe _ _ (fun i => A.g h i e) (fun i => prob_real A h i j)]
  unfold dvR
  simp only [mul_comm]

theorem dc_real (b : Fin 4) (x : Fin 8) (j : Fin 1024) : ODC m c (ix3 b ⟨8 * h.val + x.val, by omega⟩ j) = (dcR q k v g cc h (keyOf b j) : EReal) := by
  rw [dc_at, Finset.sum_const, Finset.card_univ, Fintype.card_fin, one_smul, Finset.sum_const, Finset.card_univ, Fintype.card_fin, one_smul,
    Finset.sum_congr rfl fun i _ => ds_real A h (keyOf b j) i, ← coe_sum, dR_row, EReal.coe_zero, add_zero,
    Finset.sum_congr rfl fun i _ => congrArg (fun z : EReal => -z) (ds_real A h i (keyOf b j)),
    Finset.sum_congr rfl fun i _ => (EReal.coe_neg (dR q k v g cc h i (keyOf b j))).symm, ← coe_sum, ← EReal.coe_neg, Finset.sum_neg_distrib, neg_neg]
  rfl

end Cert.ReferenceIdeal.Hand

end
-- ==== Proof.Meet.lean ====
module

public import proofs.«01_k».proof.Defs
public import proofs.«01_k».proof.Proof.KernelReal
public import proofs.«01_k».proof.Proof.RefReal

@[expose] public section

set_option maxRecDepth 16384

noncomputable section

/-! # The reference's arguments and its run -/

namespace Cert.ReferenceIdeal.Hand

open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ) (ρ : Dev nD → PrngReg) (c : Dev nD)

theorem arg0 : R m c main_arg0 = m ((c.tc : Thread nD τ).loc main_arg0) := by
  simp only [R, ops, StableHlo.TRef.nullary, StableHlo.TRef.ternary, StableHlo.TRef.unary, StableHlo.TRef.toBuf, StableHlo.TRef.ofBuf, cast_eq]; after_results_simp

theorem arg1 : R m c main_arg1 = m ((c.tc : Thread nD τ).loc main_arg1) := by
  simp only [R, ops, StableHlo.TRef.nullary, StableHlo.TRef.ternary, StableHlo.TRef.unary, StableHlo.TRef.toBuf, StableHlo.TRef.ofBuf, cast_eq]; after_results_simp

theorem arg2 : R m c main_arg2 = m ((c.tc : Thread nD τ).loc main_arg2) := by
  simp only [R, ops, StableHlo.TRef.nullary, StableHlo.TRef.ternary, StableHlo.TRef.unary, StableHlo.TRef.toBuf, StableHlo.TRef.ofBuf, cast_eq]; after_results_simp

theorem arg3 : R m c main_arg3 = m ((c.tc : Thread nD τ).loc main_arg3) := by
  simp only [R, ops, StableHlo.TRef.nullary, StableHlo.TRef.ternary, StableHlo.TRef.unary, StableHlo.TRef.toBuf, StableHlo.TRef.ofBuf, cast_eq]; after_results_simp

theorem arg4 : R m c main_arg4 = m ((c.tc : Thread nD τ).loc main_arg4) := by
  simp only [R, ops, StableHlo.TRef.nullary, StableHlo.TRef.ternary, StableHlo.TRef.unary, StableHlo.TRef.toBuf, StableHlo.TRef.ofBuf, cast_eq]; after_results_simp

theorem run_ref : θ_run defs (onTc (τ := τ) (main (F := Ideal))) ⟨m, fun _ => 0, ρ⟩ fun r => ∀ c : Dev nD,
      r.2.mem ((c.tc : Thread nD τ).loc main_v95) = ODQ m c
      ∧ r.2.mem ((c.tc : Thread nD τ).loc main_v96) = ODK m c
      ∧ r.2.mem ((c.tc : Thread nD τ).loc main_v97) = ODV m c
      ∧ r.2.mem ((c.tc : Thread nD τ).loc main_v94) = ODC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h c main_v95, h c main_v96, h c main_v97, h c main_v94,
    (h c main_arg0).trans (arg0 m c), (h c main_arg1).trans (arg1 m c), (h c main_arg2).trans (arg2 m c),
    (h c main_arg3).trans (arg3 m c), (h c main_arg4).trans (arg4 m c)⟩)
    (StableHlo.run_seq scopedRefs_eq scopedSems_eq defs main (fun _ => ops) main_eq (fun _ => ops_sub) m ρ)

end Cert.ReferenceIdeal.Hand

/-! # The precondition -/

namespace Cert.Pre_finite.Hand

open Cert.Pre_finite Idealize.ShloMosaic

theorem facts : Facts := ⟨by decide, by decide⟩

theorem finite_real (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  have hl : max x (-x) < ⊤ := by
    by_contra hn
    rw [ht] at h
    have h0 : Ideal.cmp .olt (max x (-x)) ⊤ = BitVec.ofBool (decide (max x (-x) < (⊤ : EReal))) := rfl
    rw [h0, decide_eq_false hn] at h
    exact absurd h (by decide)
  have h1 : x ≠ ⊤ := (lt_of_le_of_lt (le_max_left _ _) hl).ne
  have h2 : x ≠ ⊥ := fun hb => (lt_of_le_of_lt (le_max_right _ _) hl).ne (by rw [hb, EReal.neg_bot])
  exact ⟨x.toReal, (EReal.coe_toReal h1 h2).symm⟩

/-- Arguments the precondition holds of are real numbers at every index. -/
theorem real_args [Facts] (a b d : FVec Ideal S4096x1024 .f32) (e : FVec Ideal S8x4096 .f32) (f : FVec Ideal S4096x1024 .f32)
    (h : (fn (F := Ideal) a b d e f).1 = (fun _ => 1#1) ∧ (fn (F := Ideal) a b d e f).2.1 = (fun _ => 1#1) ∧ (fn (F := Ideal) a b d e f).2.2.1 = (fun _ => 1#1)
      ∧ (fn (F := Ideal) a b d e f).2.2.2.1 = (fun _ => 1#1) ∧ (fn (F := Ideal) a b d e f).2.2.2.2 = (fun _ => 1#1)) :
    (∀ y, ∃ r : ℝ, a y = (r : EReal)) ∧ (∀ y, ∃ r : ℝ, b y = (r : EReal)) ∧ (∀ y, ∃ r : ℝ, d y = (r : EReal)) ∧ (∀ y, ∃ r : ℝ, e y = (r : EReal))
      ∧ ∀ y, ∃ r : ℝ, f y = (r : EReal) :=
  ⟨fun y => finite_real _ (congrFun h.1 y), fun y => finite_real _ (congrFun h.2.1 y), fun y => finite_real _ (congrFun h.2.2.1 y),
    fun y => finite_real _ (congrFun h.2.2.2.1 y), fun y => finite_real _ (congrFun h.2.2.2.2 y)⟩

end Cert.Pre_finite.Hand

/-! # The two programs' results are one -/

namespace Cert.Attention

open Idealize.ShloMosaic Idealize.ShloMosaic.TcCoe

abbrev K.Mem := (ℓ : Loc Cert.KernelIdeal.nD Cert.KernelIdeal.τ Cert.KernelIdeal.sig) → Buf (Elt Ideal) ℓ

abbrev R.Mem := (ℓ : Loc Cert.ReferenceIdeal.nD Cert.ReferenceIdeal.τ Cert.ReferenceIdeal.sig) → Buf (Elt Ideal) ℓ

variable {m : K.Mem} {m' : R.Mem} {c : Dev Cert.KernelIdeal.nD} {q k v g : Fin 8 → Fin 4096 → Fin 128 → ℝ} {cc : Fin 8 → Fin 4096 → ℝ}
variable (A : Cert.KernelIdeal.Hand.Reals m c q k v g cc) (B : Cert.ReferenceIdeal.Hand.Reals m' c q k v g cc)

theorem column (y : Cert.KernelIdeal.S4096x1024.Idx) : ∃ (i : Fin 4096) (h : Fin 8) (e : Fin 128), y = ix2 i (Cert.KernelIdeal.Hand.col1 h e) := by
  refine ⟨y 0, Cert.KernelIdeal.Hand.headAt (y 1), Cert.KernelIdeal.Hand.laneAt (y 1), ?_⟩
  have h : (y 1 : Fin 1024) = Cert.KernelIdeal.Hand.col1 (Cert.KernelIdeal.Hand.headAt (y 1)) (Cert.KernelIdeal.Hand.laneAt (y 1)) :=
    Fin.ext (by show (y 1).val = 128 * ((y 1).val / 128) + (y 1).val % 128; omega)
  funext a
  fin_cases a
  · rfl
  · exact h

open Cert.KernelIdeal.Hand in
theorem arrays_at (i : Fin 4096) (h : Fin 8) (e : Fin 128) :
    arrDQ m c (ix2 i (col1 h e)) = hDQ (ZQ m c) (GY m c) (AXS m c) (KXS m c) (DLT m c) h i e
    ∧ arrDK m c (ix2 i (col1 h e)) = hDK (ZQ m c) (GY m c) (AXS m c) (KXS m c) (DLT m c) h i e
    ∧ arrDV m c (ix2 i (col1 h e)) = hDV (ZQ m c) (GY m c) (AXS m c) (KXS m c) h i e :=
  ⟨congrArg₂ (fun a b => hDQ (ZQ m c) (GY m c) (AXS m c) (KXS m c) (DLT m c) a i b) (headAt_col1 h e) (laneAt_col1 h e),
    congrArg₂ (fun a b => hDK (ZQ m c) (GY m c) (AXS m c) (KXS m c) (DLT m c) a i b) (headAt_col1 h e) (laneAt_col1 h e),
    congrArg₂ (fun a b => hDV (ZQ m c) (GY m c) (AXS m c) (KXS m c) a i b) (headAt_col1 h e) (laneAt_col1 h e)⟩

open Cert.KernelIdeal.Hand in
theorem sums_at (b : Fin 4) (h x : Fin 8) (j : Fin 1024) :
    arrDC m c (ix3 b ⟨8 * h.val + x.val, by omega⟩ j) = hDC (ZQ m c) (GY m c) (AXS m c) (KXS m c) (DLT m c) h (keyOf b j) :=
  congrArg (fun a => hDC (ZQ m c) (GY m c) (AXS m c) (KXS m c) (DLT m c) a (keyOf b j)) (Fin.ext (by show (8 * h.val + x.val) / 8 = h.val; omega))

include A B

theorem meet_dq : Cert.KernelIdeal.Hand.arrDQ m c = Cert.ReferenceIdeal.Hand.ODQ m' c := by
  funext y
  obtain ⟨i, h, e, rfl⟩ := column y
  exact ((arrays_at i h e).1.trans (Cert.KernelIdeal.Hand.dq_real A h i e)).trans (Cert.ReferenceIdeal.Hand.dq_real B h i e).symm

theorem meet_dk : Cert.KernelIdeal.Hand.arrDK m c = Cert.ReferenceIdeal.Hand.ODK m' c := by
  funext y
  obtain ⟨i, h, e, rfl⟩ := column y
  exact ((arrays_at i h e).2.1.trans (Cert.KernelIdeal.Hand.dk_real A h i e)).trans (Cert.ReferenceIdeal.Hand.dk_real B h i e).symm

theorem meet_dv : Cert.KernelIdeal.Hand.arrDV m c = Cert.ReferenceIdeal.Hand.ODV m' c := by
  funext y
  obtain ⟨i, h, e, rfl⟩ := column y
  exact ((arrays_at i h e).2.2.trans (Cert.KernelIdeal.Hand.dv_real A h i e)).trans (Cert.ReferenceIdeal.Hand.dv_real B h i e).symm

theorem meet_dc : Cert.KernelIdeal.Hand.arrDC m c = Cert.ReferenceIdeal.Hand.ODC m' c := by
  funext y
  obtain ⟨b, h, x, j, rfl⟩ : ∃ (b : Fin 4) (h x : Fin 8) (j : Fin 1024), y = ix3 b ⟨8 * h.val + x.val, by omega⟩ j := by
    have hy : (y 1).val < 64 := (y 1).isLt
    refine ⟨y 0, ⟨(y 1).val / 8, by omega⟩, ⟨(y 1).val % 8, by omega⟩, y 2, ?_⟩
    funext a
    fin_cases a
    · rfl
    · exact Fin.ext (by show (y 1).val = 8 * ((y 1).val / 8) + (y 1).val % 8; omega)
    · rfl
  exact ((sums_at b h x j).trans (Cert.KernelIdeal.Hand.dc_real A h _)).trans (Cert.ReferenceIdeal.Hand.dc_real B h b x j).symm

omit A B in
/-- Finite arguments the two programs share, as one set of reals. -/
theorem shared [hp : Cert.Pre_finite.Facts] (hpre : Cert.Pre_KernelIdeal_finite m)
    (h0 : Cert.ReferenceIdeal.Hand.AQ m' c = Cert.KernelIdeal.Hand.AQ m c) (h1 : Cert.ReferenceIdeal.Hand.AK m' c = Cert.KernelIdeal.Hand.AK m c)
    (h2 : Cert.ReferenceIdeal.Hand.AV m' c = Cert.KernelIdeal.Hand.AV m c) (h3 : Cert.ReferenceIdeal.Hand.AC m' c = Cert.KernelIdeal.Hand.AC m c)
    (h4 : Cert.ReferenceIdeal.Hand.AG m' c = Cert.KernelIdeal.Hand.AG m c) :
    ∃ q k v g cc, Cert.KernelIdeal.Hand.Reals m c q k v g cc ∧ Cert.ReferenceIdeal.Hand.Reals m' c q k v g cc := by
  obtain ⟨f0, f1, f2, f3, f4⟩ := Cert.Pre_finite.Hand.real_args _ _ _ _ _ (hpre c)
  rw [← Cert.KernelIdeal.Gen.V_main_arg0 m c] at f0
  rw [← Cert.KernelIdeal.Gen.V_main_arg1 m c] at f1
  rw [← Cert.KernelIdeal.Gen.V_main_arg2 m c] at f2
  rw [← Cert.KernelIdeal.Gen.V_main_arg3 m c] at f3
  rw [← Cert.KernelIdeal.Gen.V_main_arg4 m c] at f4
  choose r0 e0 using f0
  choose r1 e1 using f1
  choose r2 e2 using f2
  choose r3 e3 using f3
  choose r4 e4 using f4
  refine ⟨fun h i e => r0 (ix2 i (Cert.KernelIdeal.Hand.col1 h e)), fun h i e => r1 (ix2 i (Cert.KernelIdeal.Hand.col1 h e)),
    fun h i e => r2 (ix2 i (Cert.KernelIdeal.Hand.col1 h e)), fun h i e => r4 (ix2 i (Cert.KernelIdeal.Hand.col1 h e)), fun h i => r3 (ix2 h i),
    ⟨fun h i e => e0 _, fun h i e => e1 _, fun h i e => e2 _, fun h i e => e4 _, fun h i => e3 _⟩,
    ⟨fun h i e => (congrFun h0 _).trans (e0 _), fun h i e => (congrFun h1 _).trans (e1 _), fun h i e => (congrFun h2 _).trans (e2 _),
      fun h i e => (congrFun h4 _).trans (e4 _), fun h i => (congrFun h3 _).trans (e3 _)⟩⟩

end Cert.Attention

end
-- ==== Proof.NormValue.lean ====
module

public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Pipeline

/-! # The payloads at an index -/

theorem dxn_at (d : FVec Ideal S512x1024 .f32) (a0 : FVec Ideal S512x1024 .bf16) (w0 : FVec Ideal S1024x1024 .bf16) (a1 : FVec Ideal S512x1024 .bf16)
    (w1 : FVec Ideal S1024x1024 .bf16) (a2 : FVec Ideal S512x1024 .bf16) (w2 : FVec Ideal S1024x1024 .bf16) (a3 : FVec Ideal S512x128 .bf16)
    (w3 : FVec Ideal S128x1024 .bf16) (i : Fin 512) (k : Fin 1024) : k0_pay6 d a0 w0 a1 w1 a2 w2 a3 w3 (ix2 i k)
      = d (ix2 i k) + (∑ l : Fin 1024, a0 (ix2 i l) * w0 (ix2 l k)) + (∑ l : Fin 1024, a1 (ix2 i l) * w1 (ix2 l k))
        + (∑ l : Fin 1024, a2 (ix2 i l) * w2 (ix2 l k)) + ∑ l : Fin 128, a3 (ix2 i l) * w3 (ix2 l k) := by pointwise [k0_pay6]

/-- The reciprocal of a row's root mean square. -/
def rms (s : EReal) : EReal := Ideal.rsqrt (Ideal.div s (Ideal.ofBits .f32 0x44800000#32) + Ideal.ofBits .f32 0x358637BD#32)

theorem square_at (x : FVec Ideal S512x1024 .f32) (i : Fin 512) : k0_pay7 x (ix1 i) = ∑ l : Fin 1024, x (ix2 i l) * x (ix2 i l) := by pointwise [k0_pay7]

theorem rms_at (s : FVec Ideal S512 .f32) (i : Fin 512) (u : Fin 1) : k0_pay1 s (ix2 i u) = rms (s (ix1 i)) := by
  pointwise [k0_pay1]
  rfl

theorem hat_at (x : FVec Ideal S512x1024 .f32) (s : FVec Ideal S512 .f32) (i : Fin 512) (k : Fin 1024) : k0_pay2 x s (ix2 i k) = x (ix2 i k) * rms (s (ix1 i)) := by
  pointwise [k0_pay2]
  rw [rms_at]

theorem gain_at (d : FVec Ideal S512x1024 .f32) (x : FVec Ideal S512x1024 .f32) (s : FVec Ideal S512 .f32) (g : FVec Ideal S1x1024 .f32) (u : Fin 1) (k : Fin 1024) :
    k0_pay3 d x s g (ix2 u k) = g (ix2 u k) + ∑ i : Fin 512, d (ix2 i k) * (x (ix2 i k) * rms (s (ix1 i))) := by
  pointwise [k0_pay3]
  simp only [hat_at]

theorem dx_at (d : FVec Ideal S512x1024 .f32) (x : FVec Ideal S512x1024 .f32) (s : FVec Ideal S512 .f32) (h : FVec Ideal S512x1024 .f32) (g : FVec Ideal S1x1024 .f32)
    (i : Fin 512) (k : Fin 1024) : k0_pay4 d x s h g (ix2 i k)
      = h (ix2 i k) + rms (s (ix1 i)) * (d (ix2 i k) * g (ix2 0 k) - x (ix2 i k) * rms (s (ix1 i))
        * Ideal.div (∑ l : Fin 1024, d (ix2 i l) * g (ix2 0 l) * (x (ix2 i l) * rms (s (ix1 i)))) (Ideal.ofBits .f32 0x44800000#32)) := by
  pointwise [k0_pay4]
  simp only [hat_at, rms_at]

theorem zero_at (y : S1x1024.Idx) : k0_pay5 (F := Ideal) y = 0 := by pointwise [k0_pay5]

variable (m : (ℓ : Loc nD τ sig) → Buf (Elt Ideal) ℓ) (c : Dev nD)

/-! # The arguments' arrays, and the results row by row -/

abbrev AX : FVec Ideal S4096x1024 .f32 := m ((c.tc : Thread nD τ).loc main_arg0)
abbrev AN : FVec Ideal S4096x1024 .f32 := m ((c.tc : Thread nD τ).loc main_arg1)
abbrev AA : FVec Ideal S4096x1024 .f32 := m ((c.tc : Thread nD τ).loc main_arg2)
abbrev AB : FVec Ideal S4096x1024 .f32 := m ((c.tc : Thread nD τ).loc main_arg3)
abbrev AL : FVec Ideal S4096x1024 .f32 := m ((c.tc : Thread nD τ).loc main_arg4)
abbrev AF : FVec Ideal S4096x128 .f32 := m ((c.tc : Thread nD τ).loc main_arg5)
abbrev AW : FVec Ideal S1024x3200 .f32 := m ((c.tc : Thread nD τ).loc main_arg6)
abbrev AH : FVec Ideal S4096x1024 .f32 := m ((c.tc : Thread nD τ).loc main_arg7)
abbrev AG : FVec Ideal S1x1024 .f32 := m ((c.tc : Thread nD τ).loc main_arg8)

/-- The gradient at the normalised input. -/
def kN (r : Fin 4096) (k : Fin 1024) : EReal :=
  AN m c (ix2 r k) + (∑ l : Fin 1024, AA m c (ix2 r l) * AW m c (ix2 k ⟨l.val, by omega⟩))
    + (∑ l : Fin 1024, AB m c (ix2 r l) * AW m c (ix2 k ⟨1024 + l.val, by omega⟩))
    + (∑ l : Fin 1024, AL m c (ix2 r l) * AW m c (ix2 k ⟨2048 + l.val, by omega⟩))
    + ∑ l : Fin 128, AF m c (ix2 r l) * AW m c (ix2 k ⟨3072 + l.val, by omega⟩)

/-- The reciprocal root mean square of a row of the input. -/
def kR (r : Fin 4096) : EReal := rms (∑ l : Fin 1024, AX m c (ix2 r l) * AX m c (ix2 r l))

def kX (r : Fin 4096) (k : Fin 1024) : EReal :=
  AH m c (ix2 r k) + kR m c r * (kN m c r k * AG m c (ix2 0 k) - AX m c (ix2 r k) * kR m c r
    * Ideal.div (∑ l : Fin 1024, kN m c r l * AG m c (ix2 0 l) * (AX m c (ix2 r l) * kR m c r)) (Ideal.ofBits .f32 0x44800000#32))

def kG (k : Fin 1024) : EReal := ∑ r : Fin 4096, kN m c r k * (AX m c (ix2 r k) * kR m c r)

/-! # The blocks of a point -/

/-- Row `i` of the point's block is row `512 t + i` of the array. -/
def row (t : Fin cfg0.N) (i : Fin 512) : Fin 4096 := ⟨t.val * 512 + i.val, by have := lt_of_lt_of_eq t.isLt N_0; omega⟩

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![t.val, 0] ∧ win0_8.index t = ![0, 0]
    ∧ win0_10.index t = ![t.val, 0] ∧ win0_11.index t = ![0, 0] :=
  (by decide +kernel : ∀ t : Fin grid0.N, _)

variable (t : Fin cfg0.N) (i : Fin 512)

abbrev bX : FVec Ideal S512x1024 .f32 := iblk m c 0 t
abbrev bN : FVec Ideal S512x1024 .f32 := iblk m c 1 t
abbrev bA : FVec Ideal S512x1024 .bf16 := iblk m c 2 t
abbrev bB : FVec Ideal S512x1024 .bf16 := iblk m c 3 t
abbrev bL : FVec Ideal S512x1024 .bf16 := iblk m c 4 t
abbrev bF : FVec Ideal S512x128 .bf16 := iblk m c 5 t
abbrev bW : FVec Ideal S3200x1024 .bf16 := iblk m c 6 t
abbrev bH : FVec Ideal S512x1024 .f32 := iblk m c 7 t
abbrev bG : FVec Ideal S1x1024 .f32 := iblk m c 8 t

theorem bX_at (k : Fin 1024) : bX m c t (ix2 i k) = AX m c (ix2 (row t i) k) := by unfold row; blk_point [iblk, V, idx t]
theorem bN_at (k : Fin 1024) : bN m c t (ix2 i k) = AN m c (ix2 (row t i) k) := by unfold row; blk_point [iblk, V, idx t]
theorem bH_at (k : Fin 1024) : bH m c t (ix2 i k) = AH m c (ix2 (row t i) k) := by unfold row; blk_point [iblk, V, idx t]
theorem bG_at (u : Fin 1) (k : Fin 1024) : bG m c t (ix2 u k) = AG m c (ix2 0 k) := by blk_point [iblk, V, idx t]
theorem bA_at (k : Fin 1024) : bA m c t (ix2 i k) = AA m c (ix2 (row t i) k) := by unfold row; blk_point [iblk, idx t]
theorem bB_at (k : Fin 1024) : bB m c t (ix2 i k) = AB m c (ix2 (row t i) k) := by unfold row; blk_point [iblk, idx t]
theorem bL_at (k : Fin 1024) : bL m c t (ix2 i k) = AL m c (ix2 (row t i) k) := by unfold row; blk_point [iblk, idx t]
theorem bF_at (k : Fin 128) : bF m c t (ix2 i k) = AF m c (ix2 (row t i) k) := by unfold row; blk_point [iblk, idx t]
theorem bW_at (l : Fin 3200) (k : Fin 1024) : bW m c t (ix2 l k) = AW m c (ix2 k l) := by blk_point [iblk, idx t]

/-- The gradient at the normalised input, on the point's rows. -/
abbrev bD : FVec Ideal S512x1024 .f32 := k0_pay6 (iblk m c 1 t) (iblk m c 2 t)
        (View.ld (iblk m c 6 t) (Rect.unit ![0, 0] ![1024, 1024] inb_S3200x1024_S1024x1024_0_0)) (iblk m c 3 t)
        (View.ld (iblk m c 6 t) (Rect.unit ![1024, 0] ![1024, 1024] inb_S3200x1024_S1024x1024_1024_0)) (iblk m c 4 t)
        (View.ld (iblk m c 6 t) (Rect.unit ![2048, 0] ![1024, 1024] inb_S3200x1024_S1024x1024_2048_0)) (iblk m c 5 t)
        (View.ld (iblk m c 6 t) (Rect.unit ![3072, 0] ![128, 1024] inb_S3200x1024_S128x1024_3072_0))

abbrev ld0 (W : FVec Ideal S3200x1024 .bf16) : FVec Ideal S1024x1024 .bf16 := View.ld (Val := Elt Ideal) (e' := .bf16) W (Rect.unit ![0, 0] ![1024, 1024] inb_S3200x1024_S1024x1024_0_0)

theorem ld0_at (W : FVec Ideal S3200x1024 .bf16) (l k : Fin 1024) : ld0 W (ix2 l k) = W (ix2 ⟨l.val, by omega⟩ k) := congrArg W (funext fun a => Fin.ext (by fin_cases a <;> [(show _ + 1 * l.val = _; simp); (show 0 + 1 * k.val = _; simp)]))

abbrev ld1 (W : FVec Ideal S3200x1024 .bf16) : FVec Ideal S1024x1024 .bf16 := View.ld (Val := Elt Ideal) (e' := .bf16) W (Rect.unit ![1024, 0] ![1024, 1024] inb_S3200x1024_S1024x1024_1024_0)

theorem ld1_at (W : FVec Ideal S3200x1024 .bf16) (l k : Fin 1024) : ld1 W (ix2 l k) = W (ix2 ⟨1024 + l.val, by omega⟩ k) := congrArg W (funext fun a => Fin.ext (by fin_cases a <;> [(show _ + 1 * l.val = _; simp); (show 0 + 1 * k.val = _; simp)]))

abbrev ld2 (W : FVec Ideal S3200x1024 .bf16) : FVec Ideal S1024x1024 .bf16 := View.ld (Val := Elt Ideal) (e' := .bf16) W (Rect.unit ![2048, 0] ![1024, 1024] inb_S3200x1024_S1024x1024_2048_0)

theorem ld2_at (W : FVec Ideal S3200x1024 .bf16) (l k : Fin 1024) : ld2 W (ix2 l k) = W (ix2 ⟨2048 + l.val, by omega⟩ k) := congrArg W (funext fun a => Fin.ext (by fin_cases a <;> [(show _ + 1 * l.val = _; simp); (show 0 + 1 * k.val = _; simp)]))

abbrev ld3 (W : FVec Ideal S3200x1024 .bf16) : FVec Ideal S128x1024 .bf16 := View.ld (Val := Elt Ideal) (e' := .bf16) W (Rect.unit ![3072, 0] ![128, 1024] inb_S3200x1024_S128x1024_3072_0)

theorem ld3_at (W : FVec Ideal S3200x1024 .bf16) (l : Fin 128) (k : Fin 1024) : ld3 W (ix2 l k) = W (ix2 ⟨3072 + l.val, by omega⟩ k) := congrArg W (funext fun a => Fin.ext (by fin_cases a <;> [(show _ + 1 * l.val = _; simp); (show 0 + 1 * k.val = _; simp)]))

theorem bD_at (k : Fin 1024) : bD m c t (ix2 i k) = kN m c (row t i) k := by
  unfold kN
  refine (dxn_at _ _ _ _ _ _ _ _ _ i k).trans ?_
  refine congrArg₂ (· + ·) (congrArg₂ (· + ·) (congrArg₂ (· + ·) (congrArg₂ (· + ·) (bN_at m c t i k) ?_) ?_) ?_) ?_
  · exact Finset.sum_congr rfl fun l _ => congrArg₂ (· * ·) (bA_at m c t i l) ((ld0_at (bW m c t) l k).trans (bW_at m c t _ k))
  · exact Finset.sum_congr rfl fun l _ => congrArg₂ (· * ·) (bB_at m c t i l) ((ld1_at (bW m c t) l k).trans (bW_at m c t _ k))
  · exact Finset.sum_congr rfl fun l _ => congrArg₂ (· * ·) (bL_at m c t i l) ((ld2_at (bW m c t) l k).trans (bW_at m c t _ k))
  · exact Finset.sum_congr rfl fun l _ => congrArg₂ (· * ·) (bF_at m c t i l) ((ld3_at (bW m c t) l k).trans (bW_at m c t _ k))

/-- The sums of squares of the point's rows. -/
abbrev bS : FVec Ideal S512 .f32 := k0_pay7 (bX m c t)

theorem bR_at : rms (bS m c t (ix1 i)) = kR m c (row t i) := by
  unfold kR
  refine congrArg rms ((square_at _ _).trans (Finset.sum_congr rfl fun l _ => ?_))
  rw [bX_at]

/-! # The result arrays -/

theorem block_dx (y : S512x1024.Idx) : k0_pay4 (bD m c t) (bX m c t) (bS m c t) (bH m c t) (bG m c t) y = kX m c (row t (y 0)) (y 1) := by
  have hy : ∃ (i : Fin 512) (k : Fin 1024), y = ix2 i k := ⟨y 0, y 1, by funext a; fin_cases a <;> rfl⟩
  obtain ⟨i, k, rfl⟩ := hy
  show _ = kX m c (row t i) k
  rw [dx_at, bR_at, bH_at, bG_at, bX_at, bD_at]
  unfold kX
  simp only [bD_at, bG_at, bX_at]

theorem array_dx : (dats m 0 c).arrAt 10 (cfgs 0).N = (fun y : S4096x1024.Idx => kX m c (y 0) (y 1)) := by
  refine (dats m 0 c).arrAt_eq_of_covers 10 _ (by decide +kernel) fun t hf y => ?_
  blk_simp
  rw [after0_10]
  have hb : (outsAt0 m c t.val t.isLt).1 y = kX m c (row t (y 0)) (y 1) := by
    by_cases h : t.val % 8 = 0
    · rw [outsAt0_A m c t h]
      frame_out
      exact block_dx m c t y
    · rw [outsAt0_B m c t h]
      frame_out
      exact block_dx m c t y
  refine hb.trans ?_
  refine congrArg₂ (kX m c) (Fin.ext ?_) (Fin.ext ?_)
  · unfold row
    blk_simp [idx t]
  · blk_simp [idx t]

theorem block_gain (G : FVec Ideal S1x1024 .f32) (y : S1x1024.Idx) : k0_pay3 (bD m c t) (bX m c t) (bS m c t) G y
    = G y + ∑ i : Fin 512, kN m c (row t i) (y 1) * (AX m c (ix2 (row t i) (y 1)) * kR m c (row t i)) := by
  have hy : ∃ (u : Fin 1) (k : Fin 1024), y = ix2 u k := ⟨y 0, y 1, by funext a; fin_cases a <;> rfl⟩
  obtain ⟨u, k, rfl⟩ := hy
  rw [gain_at]
  refine congrArg₂ (· + ·) rfl (Finset.sum_congr rfl fun i _ => ?_)
  rw [bR_at, bX_at, bD_at]
  rfl

theorem array_gain : (dats m 0 c).arrAt 11 (cfgs 0).N = (fun y : S1x1024.Idx => kG m c (y 1)) := by
  refine (dats m 0 c).arrAt_eq_of_covers 11 _ (by decide +kernel) fun t hf y => ?_
  blk_simp
  rw [after0_11, Pipeline.eq_sum_fin_of_reset_step_apply_of_flush (fun n h => (outsAt0 m c n h).2) 8 (fun _ => 0)
    (fun p j => ∑ i : Fin 512, kN m c (row p i) (j 1) * (AX m c (ix2 (row p i) (j 1)) * kR m c (row p i)))
    (fun t h j => by
      have hb := block_gain m c t (k0_pay5 (F := Ideal)) j
      rw [zero_at] at hb
      rw [outsAt0_A m c t h]; frame_out; exact hb)
    (fun t h j => by
      rw [outsAt0_B m c t h]; frame_out
      exact block_gain m c t _ j)
    t ((flush0_11 t).mp hf) _, zero_add]
  have hN : t.val / 8 = 0 := by have := lt_of_lt_of_eq t.isLt N_0; omega
  have hk : (((win0_11.blk t).view.emb y 1 : Fin 1024)) = (y 1 : Fin 1024) := Fin.ext (by blk_simp [idx t])
  rw [hk]
  unfold kG
  refine Fin.sum_mul_add_congr fun s i hl => ?_
  have hr : row ⟨8 * (t.val / 8) + s.val, Pipeline.run_point_lt_of_flush t ((flush0_11 t).mp hf) s⟩ i = ⟨s.val * 512 + i.val, hl⟩ :=
    Fin.ext (by show (8 * (t.val / 8) + s.val) * 512 + i.val = s.val * 512 + i.val; rw [hN]; omega)
  rw [hr]

end Cert.Kernel2Ideal.Hand

end
-- ==== Proof.NormRef.lean ====
module

public import proofs.«01_k».proof.Proof.Gen.Reference2Ideal.Run
public import Idealize.ShloMosaic.Lib.Pipeline.ValueKit
public import Idealize.ShloMosaic.Lib.Claim

@[expose] public section

set_option maxRecDepth 16384

noncomputable section

namespace Cert.Reference2Ideal.Hand

open Cert.Reference2Ideal Cert.Reference2Ideal.Gen Cert.Reference2Ideal.Value
open Idealize.ShloMosaic Idealize.ShloMosaic.TcCoe Idealize.SL.Sem

/-! # The reference's results at an index -/

variable (X N A B L : FVec Ideal S4096x1024 .f32) (F : FVec Ideal S4096x128 .f32) (W : FVec Ideal S1024x3200 .f32) (H : FVec Ideal S4096x1024 .f32)
  (G : FVec Ideal S1x1024 .f32)

/-- A row's mean square, with the small number added. -/
def var : FVec Ideal S4096x1 .f32 := addf (Host.divf (broadcastInDim S4096x1 ![0] bcast_S4096_S4096x1_0 (Host.reduceAdd (mulf X X)
  (constant S_ .f32 0x00000000#32) reducesTo_S4096x1024_S4096_d1 h_S_)) (broadcastInDim S4096x1 ![] bcast_S_S4096x1 (constant S_ .f32 0x44800000#32)))
  (broadcastInDim S4096x1 ![] bcast_S_S4096x1 (constant S_ .f32 0x358637BD#32))

theorem var_at (r : Fin 4096) (u : Fin 1) : var X (ix2 r u)
    = Ideal.div (∑ l : Fin 1024, X (ix2 r l) * X (ix2 r l)) (Ideal.ofBits .f32 0x44800000#32) + Ideal.ofBits .f32 0x358637BD#32 := by
  pointwise [var]

def root : FVec Ideal S4096x1 .f32 := Host.rsqrt (var X)

theorem root_at (r : Fin 4096) (u : Fin 1) : root X (ix2 r u) = Ideal.rsqrt (var X (ix2 r u)) := by pointwise [root]

/-- The four parts' gradients side by side. -/
def parts : FVec Ideal S4096x3200 .f32 := addf (addf (addf (pad S4096x3200 ![0, 3072] ![0, 0] ![0, 0] F (constant S_ .f32 0x00000000#32) pads_S4096x128_S4096x3200_000_307200 h_S_)
  (pad S4096x3200 ![0, 2048] ![0, 128] ![0, 0] L (constant S_ .f32 0x00000000#32) pads_S4096x1024_S4096x3200_000_20481280 h_S_))
  (pad S4096x3200 ![0, 1024] ![0, 1152] ![0, 0] B (constant S_ .f32 0x00000000#32) pads_S4096x1024_S4096x3200_000_102411520 h_S_))
  (pad S4096x3200 ![0, 0] ![0, 2176] ![0, 0] A (constant S_ .f32 0x00000000#32) pads_S4096x1024_S4096x3200_000_021760 h_S_)

theorem parts_at (r : Fin 4096) (n : Fin 3200) : parts A B L F (ix2 r n)
    = ((((if h : 3072 ≤ n.val ∧ n.val - 3072 < 128 then F (ix2 r ⟨n.val - 3072, h.2⟩) else 0)
        + if h : 2048 ≤ n.val ∧ n.val - 2048 < 1024 then L (ix2 r ⟨n.val - 2048, h.2⟩) else 0)
        + if h : 1024 ≤ n.val ∧ n.val - 1024 < 1024 then B (ix2 r ⟨n.val - 1024, h.2⟩) else 0)
        + if h : n.val < 1024 then A (ix2 r ⟨n.val, h⟩) else 0) := by
  pointwise [parts]

theorem parts0 (r : Fin 4096) (l : Fin 1024) : parts A B L F (ix2 r ⟨l.val, by omega⟩) = A (ix2 r l) := by
  rw [parts_at, dif_neg (by rintro ⟨h, _⟩; simp only at h; omega), dif_neg (by rintro ⟨h, _⟩; simp only at h; omega),
    dif_neg (by rintro ⟨h, _⟩; simp only at h; omega), dif_pos (by simp only; omega), add_zero, add_zero, zero_add]

theorem parts1 (r : Fin 4096) (l : Fin 1024) : parts A B L F (ix2 r ⟨1024 + l.val, by omega⟩) = B (ix2 r l) := by
  rw [parts_at, dif_neg (by rintro ⟨h, _⟩; simp only at h; omega), dif_neg (by rintro ⟨h, _⟩; simp only at h; omega),
    dif_pos (by constructor <;> simp only <;> omega), dif_neg (by simp only; omega), add_zero, add_zero, zero_add]
  exact congrArg (fun z => B (ix2 r z)) (Fin.ext (Nat.add_sub_cancel_left _ _))

theorem parts2 (r : Fin 4096) (l : Fin 1024) : parts A B L F (ix2 r ⟨2048 + l.val, by omega⟩) = L (ix2 r l) := by
  rw [parts_at, dif_neg (by rintro ⟨h, _⟩; simp only at h; omega), dif_pos (by constructor <;> simp only <;> omega),
    dif_neg (by rintro ⟨_, h⟩; simp only at h; omega), dif_neg (by simp only; omega), add_zero, add_zero, zero_add]
  exact congrArg (fun z => L (ix2 r z)) (Fin.ext (Nat.add_sub_cancel_left _ _))

theorem parts3 (r : Fin 4096) (l : Fin 128) : parts A B L F (ix2 r ⟨3072 + l.val, by omega⟩) = F (ix2 r l) := by
  rw [parts_at, dif_pos (by constructor <;> simp only <;> omega), dif_neg (by rintro ⟨_, h⟩; simp only at h; omega),
    dif_neg (by rintro ⟨_, h⟩; simp only at h; omega), dif_neg (by simp only; omega), add_zero, add_zero, add_zero]
  exact congrArg (fun z => F (ix2 r z)) (Fin.ext (Nat.add_sub_cancel_left _ _))

theorem sum_parts (f : Fin 3200 → EReal) : ∑ n, f n = (∑ l : Fin 1024, f ⟨l.val, by omega⟩) + (∑ l : Fin 1024, f ⟨1024 + l.val, by omega⟩)
    + (∑ l : Fin 1024, f ⟨2048 + l.val, by omega⟩) + ∑ l : Fin 128, f ⟨3072 + l.val, by omega⟩ := by
  have h3 := Fin.sum_univ_add (a := 3072) (b := 128) f
  have h2 := Fin.sum_univ_add (a := 2048) (b := 1024) fun n : Fin 3072 => f (Fin.castAdd 128 n)
  have h1 := Fin.sum_univ_add (a := 1024) (b := 1024) fun n : Fin 2048 => f (Fin.castAdd 128 (Fin.castAdd 1024 n))
  exact h3.trans (congrArg₂ (· + ·) (h2.trans (congrArg₂ (· + ·) h1 rfl)) rfl)

def dxn : FVec Ideal S4096x1024 .f32 := addf N (Host.dotGeneral dot_S4096x3200_S1024x3200_S4096x1024_1_1_0_0_n_n none (parts A B L F) W)

theorem dxn_at (r : Fin 4096) (k : Fin 1024) : dxn N A B L F W (ix2 r k) = N (ix2 r k) + ∑ n : Fin 3200, parts A B L F (ix2 r n) * W (ix2 k n) := by
  pointwise [dxn]

theorem dxn_parts (r : Fin 4096) (k : Fin 1024) : dxn N A B L F W (ix2 r k)
    = N (ix2 r k) + (∑ l : Fin 1024, A (ix2 r l) * W (ix2 k ⟨l.val, by omega⟩))
      + (∑ l : Fin 1024, B (ix2 r l) * W (ix2 k ⟨1024 + l.val, by omega⟩))
      + (∑ l : Fin 1024, L (ix2 r l) * W (ix2 k ⟨2048 + l.val, by omega⟩))
      + ∑ l : Fin 128, F (ix2 r l) * W (ix2 k ⟨3072 + l.val, by omega⟩) := by
  rw [dxn_at, sum_parts]
  simp only [parts0, parts1, parts2, parts3, add_assoc]

/-- The gradient at the scaled input. -/
def dy (D : FVec Ideal S4096x1024 .f32) : FVec Ideal S4096x1024 .f32 := mulf D (broadcastInDim S4096x1024 ![0, 1] bcast_S1x1024_S4096x1024_0_1 G)

theorem dy_at (D : FVec Ideal S4096x1024 .f32) (r : Fin 4096) (k : Fin 1024) : dy G D (ix2 r k) = D (ix2 r k) * G (ix2 0 k) := by pointwise [dy]

/-- The mean square's gradient, spread over the row. -/
def dvar (Y : FVec Ideal S4096x1024 .f32) (V R : FVec Ideal S4096x1 .f32) : FVec Ideal S4096x1024 .f32 :=
  broadcastInDim S4096x1024 ![0] bcast_S4096_S4096x1024_0 (Host.reduceAdd (Host.divf (mulf (shapeCast _ (Host.reduceAdd (mulf X Y)
    (constant S_ .f32 0x00000000#32) reducesTo_S4096x1024_S4096_d1 h_S_) shapeCasts_S4096_S4096x1)
    (mulf (broadcastInDim S4096x1 ![] bcast_S_S4096x1 (constant S_ .f32 0xBF000000#32)) (Host.divf R V)))
    (broadcastInDim S4096x1 ![] bcast_S_S4096x1 (constant S_ .f32 0x44800000#32))) (constant S_ .f32 0x00000000#32) reducesTo_S4096x1_S4096_d1 h_S_)

theorem dvar_at (Y : FVec Ideal S4096x1024 .f32) (V R : FVec Ideal S4096x1 .f32) (r : Fin 4096) (k : Fin 1024) : dvar X Y V R (ix2 r k)
    = Ideal.div ((∑ l : Fin 1024, X (ix2 r l) * Y (ix2 r l)) * (Ideal.ofBits .f32 0xBF000000#32 * Ideal.div (R (ix2 r 0)) (V (ix2 r 0))))
      (Ideal.ofBits .f32 0x44800000#32) := by
  pointwise [dvar]
  exact Fintype.sum_unique _

def outX (Y Z : FVec Ideal S4096x1024 .f32) (R : FVec Ideal S4096x1 .f32) : FVec Ideal S4096x1024 .f32 :=
  addf (addf (addf H (mulf Y (broadcastInDim S4096x1024 ![0, 1] bcast_S4096x1_S4096x1024_0_1 R))) (mulf X Z)) (mulf Z X)

theorem outX_at (Y Z : FVec Ideal S4096x1024 .f32) (R : FVec Ideal S4096x1 .f32) (r : Fin 4096) (k : Fin 1024) : outX X H Y Z R (ix2 r k)
    = H (ix2 r k) + Y (ix2 r k) * R (ix2 r 0) + X (ix2 r k) * Z (ix2 r k) + Z (ix2 r k) * X (ix2 r k) := by pointwise [outX]

def outG (D : FVec Ideal S4096x1024 .f32) (R : FVec Ideal S4096x1 .f32) : FVec Ideal S1x1024 .f32 :=
  shapeCast _ (Host.reduceAdd (mulf (mulf X (broadcastInDim S4096x1024 ![0, 1] bcast_S4096x1_S4096x1024_0_1 R)) D)
    (constant S_ .f32 0x00000000#32) reducesTo_S4096x1024_S1024_d0 h_S_) shapeCasts_S1024_S1x1024

theorem outG_at (D : FVec Ideal S4096x1024 .f32) (R : FVec Ideal S4096x1 .f32) (u : Fin 1) (k : Fin 1024) : outG X D R (ix2 u k)
    = ∑ r : Fin 4096, X (ix2 r k) * R (ix2 r 0) * D (ix2 r k) := by pointwise [outG]

/-! # The run -/

variable (m : (ℓ : Loc nD τ sig) → Buf (Elt Ideal) ℓ) (ρ : Dev nD → PrngReg) (c : Dev nD)

abbrev AX : FVec Ideal S4096x1024 .f32 := m ((c.tc : Thread nD τ).loc main_arg0)
abbrev AN : FVec Ideal S4096x1024 .f32 := m ((c.tc : Thread nD τ).loc main_arg1)
abbrev AA : FVec Ideal S4096x1024 .f32 := m ((c.tc : Thread nD τ).loc main_arg2)
abbrev AB : FVec Ideal S4096x1024 .f32 := m ((c.tc : Thread nD τ).loc main_arg3)
abbrev AL : FVec Ideal S4096x1024 .f32 := m ((c.tc : Thread nD τ).loc main_arg4)
abbrev AF : FVec Ideal S4096x128 .f32 := m ((c.tc : Thread nD τ).loc main_arg5)
abbrev AW : FVec Ideal S1024x3200 .f32 := m ((c.tc : Thread nD τ).loc main_arg6)
abbrev AH : FVec Ideal S4096x1024 .f32 := m ((c.tc : Thread nD τ).loc main_arg7)
abbrev AG : FVec Ideal S1x1024 .f32 := m ((c.tc : Thread nD τ).loc main_arg8)

abbrev rN : FVec Ideal S4096x1024 .f32 := dxn (AN m c) (AA m c) (AB m c) (AL m c) (AF m c) (AW m c)
abbrev rR : FVec Ideal S4096x1 .f32 := root (AX m c)
abbrev rY : FVec Ideal S4096x1024 .f32 := dy (AG m c) (rN m c)
abbrev rZ : FVec Ideal S4096x1024 .f32 := dvar (AX m c) (rY m c) (var (AX m c)) (rR m c)
abbrev rX : FVec Ideal S4096x1024 .f32 := outX (AX m c) (AH m c) (rY m c) (rZ m c) (rR m c)
abbrev rG : FVec Ideal S1x1024 .f32 := outG (AX m c) (rN m c) (rR m c)

theorem out_dx : res_main_v48 m c = rX m c := by
  unfold res_main_v48 rX outX rZ dvar rY dy rN dxn parts rR root var
  rfl

theorem run_ref : θ_run defs (onTc (τ := τ) (main (F := Ideal))) ⟨m, fun _ => 0, ρ⟩ fun r => ∀ c : Dev nD,
      r.2.mem ((c.tc : Thread nD τ).loc main_v48) = rX m c
      ∧ r.2.mem ((c.tc : Thread nD τ).loc main_v31) = rG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (out_dx m c), (h c).2.1.trans (by unfold rG outG rN dxn parts rR root var; rfl), (h c).2.2⟩)
    (run m ρ)

end Cert.Reference2Ideal.Hand

end
-- ==== Proof.NormMeet.lean ====
module

public import proofs.«01_k».proof.Defs
public import proofs.«01_k».proof.Proof.Math
public import proofs.«01_k».proof.Proof.Meet
public import proofs.«01_k».proof.Proof.NormValue
public import proofs.«01_k».proof.Proof.NormRef

@[expose] public section

set_option maxRecDepth 16384

noncomputable section

/-! # The precondition -/

namespace Cert.Pre_finite2.Hand

open Cert.Pre_finite2 Idealize.ShloMosaic

theorem facts : Facts := ⟨by decide, by decide, by decide, by decide⟩

end Cert.Pre_finite2.Hand

namespace Cert.Norm

open Idealize.ShloMosaic Idealize.ShloMosaic.TcCoe Cert.Attention

/-! # The real numbers among the extended ones -/

def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum_mul {n : ℕ} {f g : Fin n → EReal} (hf : ∀ i, IsReal (f i)) (hg : ∀ i, IsReal (g i)) : IsReal (∑ i, f i * g i) := by
  choose a ha using hf
  choose b hb using hg
  exact ⟨_, sum_mul_coe a b ha hb⟩

theorem word_width : Ideal.ofBits FTy.f32 1149239296#32 = ((1024 : ℝ) : EReal) := by
  simp [Ideal.ofBits, Ideal.ieee, -EReal.coe_mul]; norm_num

theorem word_half : Ideal.ofBits FTy.f32 3204448256#32 = ((-(1 / 2) : ℝ) : EReal) := by
  simp [Ideal.ofBits, Ideal.ieee, -EReal.coe_mul]; norm_num

theorem word_small : Ideal.ofBits FTy.f32 897988541#32 = ((8796093 / 8796093022208 : ℝ) : EReal) := by
  simp [Ideal.ofBits, Ideal.ieee, -EReal.coe_mul]; norm_num

/-! # A row's gradient -/

section Row

variable (x n g : Fin 1024 → ℝ) (k : Fin 1024)

/-- The row's mean square, with the small number added. -/
def meanSq : ℝ := (∑ l, x l * x l) / 1024 + 8796093 / 8796093022208

theorem meanSq_pos : 0 < meanSq x := by
  have h : 0 ≤ ∑ l, x l * x l := Finset.sum_nonneg fun l _ => mul_self_nonneg (x l)
  unfold meanSq
  positivity

/-- Its reciprocal root. -/
def invRms : ℝ := (Real.sqrt (meanSq x))⁻¹

theorem invRms_sq : invRms x * invRms x = (meanSq x)⁻¹ := by
  unfold invRms
  rw [← mul_inv, Real.mul_self_sqrt (meanSq_pos x).le]

theorem meanSq_coe : Ideal.div (∑ l, (x l : EReal) * (x l : EReal)) (Ideal.ofBits .f32 0x44800000#32) + Ideal.ofBits .f32 0x358637BD#32 = (meanSq x : EReal) := by
  rw [sum_mul_coe x x (fun _ => rfl) (fun _ => rfl), word_width, word_small, div_coe_coe _ (by norm_num), ← EReal.coe_add]
  rfl

theorem invRms_coe : Ideal.rsqrt (meanSq x : EReal) = (invRms x : EReal) := by
  rw [Ideal.rsqrt_coe, if_neg (meanSq_pos x).le.not_gt, if_neg (meanSq_pos x).ne']
  rfl

/-- The row's gradient through the scaled normalisation. -/
def grad : ℝ := invRms x * (n k * g k - x k * invRms x * ((∑ l, n l * g l * (x l * invRms x)) / 1024))

theorem kernel_row : (invRms x : EReal) * ((n k : EReal) * (g k : EReal) - (x k : EReal) * (invRms x : EReal)
      * Ideal.div (∑ l, (n l : EReal) * (g l : EReal) * ((x l : EReal) * (invRms x : EReal))) (Ideal.ofBits .f32 0x44800000#32)) = (grad x n g k : EReal) := by
  rw [sum_mul_coe (fun l => n l * g l) (fun l => x l * invRms x) (fun l => (EReal.coe_mul _ _).symm) (fun l => (EReal.coe_mul _ _).symm),
    word_width, div_coe_coe _ (by norm_num), ← EReal.coe_mul, ← EReal.coe_mul, ← EReal.coe_mul, ← EReal.coe_sub, ← EReal.coe_mul]
  rfl

/-- The mean square's gradient, a row's worth of it. -/
def pull : ℝ := (∑ l, x l * (n l * g l)) * (-(1 / 2) * (invRms x / meanSq x)) / 1024

theorem pull_coe : Ideal.div ((∑ l, (x l : EReal) * ((n l : EReal) * (g l : EReal)))
      * (Ideal.ofBits .f32 0xBF000000#32 * Ideal.div (invRms x : EReal) (meanSq x : EReal))) (Ideal.ofBits .f32 0x44800000#32) = (pull x n g : EReal) := by
  rw [sum_mul_coe x (fun l => n l * g l) (fun l => rfl) (fun l => (EReal.coe_mul _ _).symm), word_width, word_half,
    div_coe_coe _ (meanSq_pos x).ne', ← EReal.coe_mul, ← EReal.coe_mul, div_coe_coe _ (by norm_num)]
  rfl

theorem grad_pull : grad x n g k = n k * g k * invRms x + x k * pull x n g + pull x n g * x k := by
  have h : ∑ l, n l * g l * (x l * invRms x) = (∑ l, x l * (n l * g l)) * invRms x := by
    rw [Finset.sum_mul]
    exact Finset.sum_congr rfl fun l _ => by ring
  have hd : invRms x / meanSq x = invRms x * (invRms x * invRms x) := by rw [invRms_sq, div_eq_mul_inv]
  unfold grad pull
  rw [h, hd]
  ring

end Row

/-! # The two programs' results are one -/

abbrev K.Mem := (ℓ : Loc Cert.Kernel2Ideal.nD Cert.Kernel2Ideal.τ Cert.Kernel2Ideal.sig) → Buf (Elt Ideal) ℓ

abbrev R.Mem := (ℓ : Loc Cert.Reference2Ideal.nD Cert.Reference2Ideal.τ Cert.Reference2Ideal.sig) → Buf (Elt Ideal) ℓ

variable {m : K.Mem} {m' : R.Mem} {c : Dev Cert.Kernel2Ideal.nD}

open Cert.Kernel2Ideal.Hand (AX AN AA AB AL AF AW AH AG kN kR kX kG)

/-- The arguments the two programs share. -/
structure Agree (m : K.Mem) (m' : R.Mem) (c : Dev Cert.Kernel2Ideal.nD) : Prop where
  x : Cert.Reference2Ideal.Hand.AX m' c = AX m c
  n : Cert.Reference2Ideal.Hand.AN m' c = AN m c
  a : Cert.Reference2Ideal.Hand.AA m' c = AA m c
  b : Cert.Reference2Ideal.Hand.AB m' c = AB m c
  l : Cert.Reference2Ideal.Hand.AL m' c = AL m c
  f : Cert.Reference2Ideal.Hand.AF m' c = AF m c
  w : Cert.Reference2Ideal.Hand.AW m' c = AW m c
  h : Cert.Reference2Ideal.Hand.AH m' c = AH m c
  g : Cert.Reference2Ideal.Hand.AG m' c = AG m c

section Shared

variable (E : Agree m m' c)

include E

theorem input_eq (r : Fin 4096) (k : Fin 1024) : Cert.Reference2Ideal.Hand.rN m' c (ix2 r k) = kN m c r k := by
  refine (Cert.Reference2Ideal.Hand.dxn_parts _ _ _ _ _ _ r k).trans ?_
  rw [E.n, E.a, E.b, E.l, E.f, E.w]
  rfl

theorem root_eq (r : Fin 4096) : Cert.Reference2Ideal.Hand.rR m' c (ix2 r 0) = kR m c r := by
  refine (Cert.Reference2Ideal.Hand.root_at _ r 0).trans ?_
  rw [Cert.Reference2Ideal.Hand.var_at, E.x]
  rfl

theorem meet_gain : (fun y : Cert.Kernel2Ideal.S1x1024.Idx => kG m c (y 1)) = Cert.Reference2Ideal.Hand.rG m' c := by
  funext y
  obtain ⟨u, k, rfl⟩ : ∃ (u : Fin 1) (k : Fin 1024), y = ix2 u k := ⟨y 0, y 1, by funext a; fin_cases a <;> rfl⟩
  refine Eq.trans ?_ (Cert.Reference2Ideal.Hand.outG_at _ _ _ u k).symm
  show kG m c k = _
  unfold kG
  refine Finset.sum_congr rfl fun r _ => ?_
  rw [input_eq E, root_eq E, E.x, mul_comm]

/-- Each result of the reference, over the input's gradient and the root the kernel has. -/
theorem outX_eq (r : Fin 4096) (k : Fin 1024) : Cert.Reference2Ideal.Hand.rX m' c (ix2 r k)
    = AH m c (ix2 r k) + kN m c r k * AG m c (ix2 0 k) * kR m c r
      + AX m c (ix2 r k) * Ideal.div ((∑ l : Fin 1024, AX m c (ix2 r l) * (kN m c r l * AG m c (ix2 0 l)))
        * (Ideal.ofBits .f32 0xBF000000#32 * Ideal.div (kR m c r) (Ideal.div (∑ l : Fin 1024, AX m c (ix2 r l) * AX m c (ix2 r l)) (Ideal.ofBits .f32 0x44800000#32) + Ideal.ofBits .f32 0x358637BD#32)))
        (Ideal.ofBits .f32 0x44800000#32)
      + Ideal.div ((∑ l : Fin 1024, AX m c (ix2 r l) * (kN m c r l * AG m c (ix2 0 l)))
        * (Ideal.ofBits .f32 0xBF000000#32 * Ideal.div (kR m c r) (Ideal.div (∑ l : Fin 1024, AX m c (ix2 r l) * AX m c (ix2 r l)) (Ideal.ofBits .f32 0x44800000#32) + Ideal.ofBits .f32 0x358637BD#32)))
        (Ideal.ofBits .f32 0x44800000#32) * AX m c (ix2 r k) := by
  refine (Cert.Reference2Ideal.Hand.outX_at _ _ _ _ _ r k).trans ?_
  have hy : ∀ l, Cert.Reference2Ideal.Hand.rY m' c (ix2 r l) = kN m c r l * AG m c (ix2 0 l) := fun l =>
    (Cert.Reference2Ideal.Hand.dy_at _ _ r l).trans (by rw [input_eq E, E.g])
  have hz : Cert.Reference2Ideal.Hand.rZ m' c (ix2 r k) = _ := Cert.Reference2Ideal.Hand.dvar_at _ _ _ _ r k
  rw [Cert.Reference2Ideal.Hand.var_at] at hz
  simp only [hy, root_eq E] at hz
  rw [hz, hy, root_eq E, E.x, E.h]

theorem meet_dx [hp : Cert.Pre_finite2.Facts] (hpre : Cert.Pre_Kernel2Ideal_finite2 m) :
    (fun y : Cert.Kernel2Ideal.S4096x1024.Idx => kX m c (y 0) (y 1)) = Cert.Reference2Ideal.Hand.rX m' c := by
  funext y
  obtain ⟨r, k, rfl⟩ : ∃ (r : Fin 4096) (k : Fin 1024), y = ix2 r k := ⟨y 0, y 1, by funext a; fin_cases a <;> rfl⟩
  refine Eq.trans ?_ (outX_eq E r k).symm
  show kX m c r k = _
  obtain ⟨p0, p1, p2, p3, p4, p5, p6, p7⟩ := hpre c
  have f0 : ∀ y, IsReal (AX m c y) := fun y => Cert.Pre_finite.Hand.finite_real _ (congrFun p0 y)
  have f1 : ∀ y, IsReal (AN m c y) := fun y => Cert.Pre_finite.Hand.finite_real _ (congrFun p1 y)
  have f2 : ∀ y, IsReal (AA m c y) := fun y => Cert.Pre_finite.Hand.finite_real _ (congrFun p2 y)
  have f3 : ∀ y, IsReal (AB m c y) := fun y => Cert.Pre_finite.Hand.finite_real _ (congrFun p3 y)
  have f4 : ∀ y, IsReal (AL m c y) := fun y => Cert.Pre_finite.Hand.finite_real _ (congrFun p4 y)
  have f5 : ∀ y, IsReal (AF m c y) := fun y => Cert.Pre_finite.Hand.finite_real _ (congrFun p5 y)
  have f6 : ∀ y, IsReal (AW m c y) := fun y => Cert.Pre_finite.Hand.finite_real _ (congrFun p6 y)
  have f7 : ∀ y, IsReal (AG m c y) := fun y => Cert.Pre_finite.Hand.finite_real _ (congrFun p7 y)
  have fn : ∀ l, IsReal (kN m c r l) := fun l => ((((f1 _).add (IsReal.sum_mul (fun _ => f2 _) fun _ => f6 _)).add
    (IsReal.sum_mul (fun _ => f3 _) fun _ => f6 _)).add (IsReal.sum_mul (fun _ => f4 _) fun _ => f6 _)).add (IsReal.sum_mul (fun _ => f5 _) fun _ => f6 _)
  choose x hx using fun l : Fin 1024 => f0 (ix2 r l)
  choose g hg using fun l : Fin 1024 => f7 (ix2 0 l)
  choose n hn using fn
  have hv : Ideal.div (∑ l : Fin 1024, AX m c (ix2 r l) * AX m c (ix2 r l)) (Ideal.ofBits .f32 0x44800000#32) + Ideal.ofBits .f32 0x358637BD#32 = (meanSq x : EReal) := by
    simp only [hx]
    exact meanSq_coe x
  have hr : kR m c r = (invRms x : EReal) := (congrArg Ideal.rsqrt hv).trans (invRms_coe x)
  unfold kX
  rw [hv, hr]
  simp only [hx, hn, hg]
  rw [kernel_row, pull_coe, grad_pull, EReal.coe_add, EReal.coe_add, EReal.coe_mul, EReal.coe_mul, EReal.coe_mul, EReal.coe_mul]
  simp only [add_assoc]

end Shared

end Cert.Norm

/-! # The claim -/

namespace Cert.Norm

open Idealize.ShloMosaic Idealize.ShloMosaic.TcCoe Idealize.SL.Sem

theorem algebraic_norm : Cert.algebraic_Kernel2Ideal_Reference2Ideal_pre_finite2 (hKernel2Ideal := Cert.Kernel2Ideal.Gen.facts)
    (hReference2Ideal := Cert.Reference2Ideal.Gen.facts) (hPre_finite2 := Cert.Pre_finite2.Hand.facts) := by
  intro m g m' g' hpre hagree
  have hE : ∀ c : Dev Cert.Kernel2Ideal.nD, Agree m m' c := fun c =>
    have h := hagree c
    ⟨h.1, h.2.1, h.2.2.1, h.2.2.2.1, h.2.2.2.2.1, h.2.2.2.2.2.1, h.2.2.2.2.2.2.1, h.2.2.2.2.2.2.2.1, h.2.2.2.2.2.2.2.2⟩
  refine ⟨fun c y => Cert.Kernel2Ideal.Hand.kX m c (y 0) (y 1), fun c y => Cert.Kernel2Ideal.Hand.kG m c (y 1), ?_, ?_⟩
  · exact (θ_run _ _ _).mono (fun _ h c => ⟨(h c).1.trans (Cert.Kernel2Ideal.Hand.array_dx m c), (h c).2.1.trans (Cert.Kernel2Ideal.Hand.array_gain m c),
      (h c).2.2⟩) (Cert.Kernel2Ideal.Value.run_blocks m g)
  · exact (θ_run _ _ _).mono (fun _ h c => ⟨(h c).1.trans (meet_dx (hp := Cert.Pre_finite2.Hand.facts) (hE c) hpre).symm,
      (h c).2.1.trans (meet_gain (hE c)).symm, (h c).2.2⟩) (Cert.Reference2Ideal.Hand.run_ref m' g')

end Cert.Norm

end
-- ==== Proof.GatedRow.lean ====
module

public import proofs.«01_k».proof.Proof.NormMeet

@[expose] public section

set_option maxRecDepth 16384

noncomputable section

/-! # The gradient of a gated norm, a row at a time

`v` is the row that is normed, `g` the row that gates it, `d` the gradient at the gated row and `k` the gain. -/

namespace Cert.Gated

open Idealize.ShloMosaic Cert.Attention Cert.Norm

/-! ## As the kernel computes it -/

/-- The logistic function, by the hyperbolic tangent. -/
def gate (x : EReal) : EReal := Ideal.ofBits .f32 0x3F000000#32 * Ideal.tanh (Ideal.ofBits .f32 0x3F000000#32 * x) + Ideal.ofBits .f32 0x3F000000#32

/-- The reciprocal of a row's root mean square. -/
def root (v : Fin 1024 → EReal) : EReal :=
  Ideal.rsqrt (Ideal.div (∑ l, v l * v l) (Ideal.ofBits .f32 0x44800000#32) + Ideal.ofBits .f32 0x358637BD#32)

variable (v g d k : Fin 1024 → EReal) (e : Fin 1024)

/-- The gradient at the normed row. -/
def normed : EReal := d e * (g e * gate (g e))

/-- The gradient at the row. -/
def ofRow : EReal :=
  root v * (normed g d e * k e - v e * root v * Ideal.div (∑ l, normed g d l * k l * (v l * root v)) (Ideal.ofBits .f32 0x44800000#32))

/-- The gradient at the gate. -/
def ofGate : EReal :=
  d e * (v e * root v * k e) * (gate (g e) * (Ideal.ofBits .f32 0x3F800000#32 + g e * (Ideal.ofBits .f32 0x3F800000#32 - gate (g e))))

/-- The row's share of the gain's gradient. -/
def ofGain : EReal := normed g d e * (v e * root v)

/-! ## As the derivative of the formula gives it -/

def refSig (x : EReal) : EReal := Ideal.div (Ideal.ofBits .f32 0x3F800000#32) (Ideal.ofBits .f32 0x3F800000#32 + Ideal.exp (-x))

def refNormed : EReal := d e * (g e * refSig (g e))

/-- The mean square's gradient, a row's worth of it. -/
def refPull : EReal :=
  Ideal.div ((∑ l, v l * (refNormed g d l * k l)) * (Ideal.ofBits .f32 0xBF000000#32
    * Ideal.div (root v) (Ideal.div (∑ l, v l * v l) (Ideal.ofBits .f32 0x44800000#32) + Ideal.ofBits .f32 0x358637BD#32))) (Ideal.ofBits .f32 0x44800000#32)

def refRow : EReal := refNormed g d e * k e * root v + v e * refPull v g d k + refPull v g d k * v e

def refGate : EReal :=
  v e * root v * k e * d e * refSig (g e) + g e * (v e * root v * k e * d e) * (refSig (g e) * (Ideal.ofBits .f32 0x3F800000#32 - refSig (g e)))

def refGain : EReal := v e * root v * refNormed g d e

/-! ## The two are one -/

theorem word_half : Ideal.ofBits FTy.f32 0x3F000000#32 = ((1 / 2 : ℝ) : EReal) := by
  simp [Ideal.ofBits, Ideal.ieee, -EReal.coe_mul]; norm_num

theorem word_one : Ideal.ofBits FTy.f32 0x3F800000#32 = ((1 : ℝ) : EReal) := by
  simp [Ideal.ofBits, Ideal.ieee, -EReal.coe_mul]; norm_num

def logistic (x : ℝ) : ℝ := 1 / (1 + Real.exp (-x))

theorem half_tanh (x : ℝ) : 1 / 2 * Real.tanh (1 / 2 * x) + 1 / 2 = logistic x := by
  have h : Real.exp (-x) = Real.exp (-(1 / 2 * x)) * Real.exp (-(1 / 2 * x)) := by rw [← Real.exp_add]; congr 1; ring
  have hp := Real.exp_pos (1 / 2 * x)
  have hn := Real.exp_pos (-(1 / 2 * x))
  have h1 : Real.exp (1 / 2 * x) * Real.exp (-(1 / 2 * x)) = 1 := by rw [← Real.exp_add, add_neg_cancel, Real.exp_zero]
  unfold logistic
  rw [Real.tanh_eq_sinh_div_cosh, Real.sinh_eq, Real.cosh_eq, h]
  generalize Real.exp (1 / 2 * x) = a at *
  generalize Real.exp (-(1 / 2 * x)) = b at *
  have ha : a + b ≠ 0 := (add_pos hp hn).ne'
  have hb : 1 + b * b ≠ 0 := (add_pos one_pos (mul_pos hn hn)).ne'
  field_simp
  linear_combination (2 * b) * h1

theorem gate_sig_coe (x : ℝ) : gate (x : EReal) = (logistic x : EReal) := by
  unfold gate
  rw [word_half, ← EReal.coe_mul, Ideal.tanh_coe, ← EReal.coe_mul, ← EReal.coe_add, half_tanh]

theorem refSig_coe (x : ℝ) : refSig (x : EReal) = (logistic x : EReal) := by
  unfold refSig
  rw [word_one, ← EReal.coe_neg, Ideal.exp_coe, ← EReal.coe_add, div_coe_coe _ (add_pos one_pos (Real.exp_pos _)).ne']
  rfl

theorem gate_sig_eq {x : EReal} (hx : IsReal x) : gate x = refSig x := by
  obtain ⟨a, rfl⟩ := hx
  rw [gate_sig_coe, refSig_coe]

variable {v g d k}

theorem normed_eq (hg : ∀ l, IsReal (g l)) : normed g d e = refNormed g d e := by
  unfold normed refNormed
  rw [gate_sig_eq (hg e)]

theorem gain_eq (hg : ∀ l, IsReal (g l)) : ofGain v g d e = refGain v g d e := by
  unfold ofGain refGain
  rw [normed_eq e hg, mul_comm]

theorem normed_real (hg : ∀ l, IsReal (g l)) (hd : ∀ l, IsReal (d l)) : IsReal (normed g d e) := by
  obtain ⟨a, ha⟩ := hg e
  obtain ⟨b, hb⟩ := hd e
  unfold normed
  rw [ha, hb, gate_sig_coe]
  exact ⟨b * (a * logistic a), by rw [EReal.coe_mul, EReal.coe_mul]⟩

theorem row_eq (hv : ∀ l, IsReal (v l)) (hg : ∀ l, IsReal (g l)) (hd : ∀ l, IsReal (d l)) (hk : ∀ l, IsReal (k l)) :
    ofRow v g d k e = refRow v g d k e := by
  unfold ofRow refRow refPull
  simp only [← normed_eq _ hg]
  choose x hx using hv
  choose n hn using fun l => normed_real (g := g) (d := d) l hg hd
  choose q hq using hk
  have hm : Ideal.div (∑ l, v l * v l) (Ideal.ofBits .f32 0x44800000#32) + Ideal.ofBits .f32 0x358637BD#32 = (meanSq x : EReal) := by
    simp only [hx]
    exact meanSq_coe x
  have hr : root v = (invRms x : EReal) := (congrArg Ideal.rsqrt hm).trans (invRms_coe x)
  rw [hm, hr]
  simp only [hx, hn, hq]
  rw [kernel_row, pull_coe, grad_pull, EReal.coe_add, EReal.coe_add, EReal.coe_mul, EReal.coe_mul, EReal.coe_mul, EReal.coe_mul]

theorem gate_eq (hv : ∀ l, IsReal (v l)) (hg : ∀ l, IsReal (g l)) (hd : ∀ l, IsReal (d l)) (hk : ∀ l, IsReal (k l)) :
    ofGate v g d k e = refGate v g d k e := by
  unfold ofGate refGate
  choose x hx using hv
  have hm : Ideal.div (∑ l, v l * v l) (Ideal.ofBits .f32 0x44800000#32) + Ideal.ofBits .f32 0x358637BD#32 = (meanSq x : EReal) := by
    simp only [hx]
    exact meanSq_coe x
  have hr : root v = (invRms x : EReal) := (congrArg Ideal.rsqrt hm).trans (invRms_coe x)
  obtain ⟨a, ha⟩ := hg e
  obtain ⟨b, hb⟩ := hd e
  obtain ⟨q, hq⟩ := hk e
  rw [hr, hx, ha, hb, hq, gate_sig_coe, refSig_coe, word_one]
  simp only [← EReal.coe_mul, ← EReal.coe_add, ← EReal.coe_sub]
  congr 1
  ring

end Cert.Gated

end
-- ==== Proof.Residual.lean ====
module

public import proofs.«01_k».proof.Proof.Gen.Kernel9Ideal.Value
public import Idealize.ShloMosaic.Lib.Pipeline.ValueKit
public import Idealize.ShloMosaic.Lib.Claim
public import proofs.«01_k».proof.Proof.Gen.Reference9Ideal.Run
public import proofs.«01_k».proof.Proof.GatedRow
public import proofs.«01_k».proof.Defs

@[expose] public section

set_option maxRecDepth 16384

noncomputable section

/-! # The residual stream after the attention: gated norms, their product with the weights, and the product's norm added

The logistic function by the hyperbolic tangent and by the exponential agree at the infinities too, so that the claim asks
nothing of the arguments. -/

namespace Cert.Gated

open Idealize.ShloMosaic

theorem div_one_top : Ideal.div ((1 : ℝ) : EReal) ⊤ = 0 := by
  unfold Ideal.div
  rw [if_neg EReal.top_ne_zero, EReal.inv_top, mul_zero]

theorem gate_all (x : EReal) : gate x = refSig x := by
  induction x with
  | coe a => rw [gate_sig_coe, refSig_coe]
  | top =>
    unfold gate refSig
    rw [word_half, word_one, EReal.coe_mul_top_of_pos (by norm_num), Ideal.tanh_top, EReal.neg_top, Ideal.exp_bot, mul_one, add_zero, ← EReal.coe_add,
      Cert.Attention.div_coe_coe _ one_ne_zero]
    norm_num
  | bot =>
    unfold gate refSig
    rw [word_half, word_one, EReal.coe_mul_bot_of_pos (by norm_num), Ideal.tanh_bot, EReal.neg_bot, Ideal.exp_top, EReal.coe_add_top, div_one_top,
      mul_neg, mul_one, ← EReal.coe_neg, ← EReal.coe_add, neg_add_cancel, EReal.coe_zero]

/-- A gated norm: the row `v`, normed and multiplied with the gain `k`, gated by the row `g`. -/
def gated (v k g : Fin 1024 → EReal) (e : Fin 1024) : EReal := v e * root v * k e * (g e * gate (g e))

/-- Two rows side by side. -/
def beside (a b : Fin 1024 → EReal) (n : Fin 2048) : EReal := if h : n.val < 1024 then a ⟨n.val, h⟩ else b ⟨n.val - 1024, by omega⟩

/-- The product of a row with the weights. -/
def mixed (y : Fin 2048 → EReal) (w : Fin 2048 → Fin 1024 → EReal) (e : Fin 1024) : EReal := ∑ l, y l * w l e

/-- A row, with the norm of another added. -/
def added (x p k : Fin 1024 → EReal) (e : Fin 1024) : EReal := x e + p e * root p * k e

end Cert.Gated

namespace Cert.Kernel9Ideal.Hand

open Cert.Kernel9Ideal Cert.Kernel9Ideal.Gen Cert.Kernel9Ideal.Value Cert.Gated
open Idealize.ShloMosaic Idealize.ShloMosaic.TcCoe Idealize.ShloMosaic.Pipeline

section payloads

variable (x z : FVec Ideal S256x1024 .f32) (g : FVec Ideal S1x1024 .f32) (i : Fin 256) (k : Fin 1024)

/-- A row of a block. -/
abbrev at_ (x : FVec Ideal S256x1024 .f32) (i : Fin 256) : Fin 1024 → EReal := fun l => x (ix2 i l)

theorem left_at : k0_pay2 (F := Ideal) x g z (ix2 i k) = gated (at_ x i) (fun l => g (ix2 0 l)) (at_ z i) k := by
  pointwise [k0_pay2]
  rfl

theorem normed_at : k0_pay3 (F := Ideal) x (ix2 i k) = x (ix2 i k) * root (at_ x i) := by
  pointwise [k0_pay3]
  rfl

theorem right_at : k0_pay4 (F := Ideal) (k0_pay3 (F := Ideal) x) g z (ix2 i k) = gated (at_ x i) (fun l => g (ix2 0 l)) (at_ z i) k := by
  pointwise [k0_pay4]
  rw [normed_at]
  rfl

theorem mix_at (y : FVec Ideal S256x2048 .bf16) (w : FVec Ideal S2048x1024 .bf16) : k0_pay5 (F := Ideal) y w (ix2 i k)
    = mixed (fun l => y (ix2 i l)) (fun l e => w (ix2 l e)) k := by
  pointwise [k0_pay5]
  rfl

theorem sum_at (y : FVec Ideal S256x2048 .bf16) (w : FVec Ideal S2048x1024 .bf16) : k0_pay6 (F := Ideal) y w x g (ix2 i k)
    = added (at_ x i) (at_ (k0_pay5 (F := Ideal) y w) i) (fun l => g (ix2 0 l)) k := by
  pointwise [k0_pay6]
  rfl

theorem cast_at : k0_pay1 (F := Ideal) x (ix2 i k) = x (ix2 i k) := by pointwise [k0_pay1]

/-- Two stores side by side, read back. -/
theorem two_stores (R L : FVec Ideal S256x1024 .bf16) (n : Fin 2048) :
    View.canon (Val := Elt Ideal) [(⟨Rect.unit ![0, 1024] ![256, 1024] inb_S256x2048_S256x1024_0_1024, R⟩ : View.Piece (Elt Ideal) S256x2048 .bf16),
      ⟨Rect.unit ![0, 0] ![256, 1024] inb_S256x2048_S256x1024_0_0, L⟩] (ix2 i n)
    = beside (fun l => L (ix2 i l)) (fun l => R (ix2 i l)) n := by
  unfold beside
  refine View.canon_eq_of_allAt _ _ _ ?_ (View.allAt_cons_unit _ _ _ _ _ ?_ (View.allAt_cons_unit _ _ _ _ _ ?_ (View.allAt_nil _ _)))
  · by_cases h : n.val < 1024
    · refine ⟨_, List.mem_cons_of_mem _ List.mem_cons_self, (Rect.mem_set_unit (inb := inb_S256x2048_S256x1024_0_0)).mpr fun a => ?_⟩
      fin_cases a
      · exact ⟨Nat.zero_le _, by show i.val < 0 + 256; omega⟩
      · exact ⟨Nat.zero_le _, by show n.val < 0 + 1024; omega⟩
    · refine ⟨_, List.mem_cons_self, (Rect.mem_set_unit (inb := inb_S256x2048_S256x1024_0_1024)).mpr fun a => ?_⟩
      fin_cases a
      · exact ⟨Nat.zero_le _, by show i.val < 0 + 256; omega⟩
      · exact ⟨by show 1024 ≤ n.val; omega, by show n.val < 1024 + 1024; omega⟩
  · intro x hx
    have h0 : i.val = 0 + (x 0).val := hx 0
    have h1 : n.val = 1024 + (x 1).val := hx 1
    rw [dif_neg (by omega)]
    refine congrArg R (funext fun a => Fin.ext ?_)
    fin_cases a
    · show (x 0).val = i.val
      omega
    · show (x 1).val = n.val - 1024
      omega
  · intro x hx
    have h0 : i.val = 0 + (x 0).val := hx 0
    have h1 : n.val = 0 + (x 1).val := hx 1
    have hl : (x 1).val < 1024 := (x 1).isLt
    rw [dif_pos (by omega)]
    refine congrArg L (funext fun a => Fin.ext ?_)
    fin_cases a
    · show (x 0).val = i.val
      omega
    · show (x 1).val = n.val
      omega

/-- The two stores, read back by a load of the whole. -/
theorem read_back {sig' : RefSig} {κ : Kind} {sp : Space} (v : View sig' κ sp S256x2048 .bf16) (R L : FVec Ideal S256x1024 .bf16) :
    v.readCov (Val := Elt Ideal) [(⟨Rect.unit ![0, 1024] ![256, 1024] inb_S256x2048_S256x1024_0_1024, R⟩ : View.Piece (Elt Ideal) S256x2048 .bf16),
      ⟨Rect.unit ![0, 0] ![256, 1024] inb_S256x2048_S256x1024_0_0, L⟩] (Rect.unit (s := S256x2048) ![0, 0] ![256, 2048] inb_S256x2048_S256x2048_0_0).toLoadRect
    = fun y : S256x2048.Idx => beside (fun l => L (ix2 (y 0) l)) (fun l => R (ix2 (y 0) l)) (y 1) := by
  rw [View.readCov_eq_canon']
  funext y
  obtain ⟨i, n, rfl⟩ : ∃ (i : Fin 256) (n : Fin 2048), y = ix2 i n := ⟨y 0, y 1, by funext a; fin_cases a <;> rfl⟩
  exact (congrArg (View.canon _) (Rect.emb_unit_full (s := S256x2048) inb_S256x2048_S256x2048_0_0 (ix2 i n))).trans (two_stores i R L n)

end payloads

variable (m : (ℓ : Loc nD τ sig) → Buf (Elt Ideal) ℓ) (c : Dev nD) (t : Fin cfg0.N) (i : Fin 256) (k : Fin 1024)

abbrev AX : FVec Ideal S4096x1024 .f32 := m ((c.tc : Thread nD τ).loc main_arg0)
abbrev AO : FVec Ideal S4096x1024 .f32 := m ((c.tc : Thread nD τ).loc main_arg1)
abbrev AH : FVec Ideal S4096x1024 .f32 := m ((c.tc : Thread nD τ).loc main_arg2)
abbrev AZ : FVec Ideal S4096x3200 .f32 := m ((c.tc : Thread nD τ).loc main_arg3)
abbrev AK : FVec Ideal S1x1024 .f32 := m ((c.tc : Thread nD τ).loc main_arg4)
abbrev AL : FVec Ideal S1x1024 .f32 := m ((c.tc : Thread nD τ).loc main_arg5)
abbrev AW : FVec Ideal S2048x1024 .f32 := m ((c.tc : Thread nD τ).loc main_arg6)
abbrev AP : FVec Ideal S1x1024 .f32 := m ((c.tc : Thread nD τ).loc main_arg7)

/-- The two gated norms of a row, side by side. -/
def yRow (r : Fin 4096) : Fin 2048 → EReal :=
  beside (gated (fun l => AO m c (ix2 r l)) (fun l => AK m c (ix2 0 l)) fun l => AZ m c (ix2 r ⟨l.val, by omega⟩))
    (gated (fun l => AH m c (ix2 r l)) (fun l => AL m c (ix2 0 l)) fun l => AZ m c (ix2 r ⟨2048 + l.val, by omega⟩))

/-- Their product with the weights. -/
def mixRow (r : Fin 4096) : Fin 1024 → EReal := mixed (yRow m c r) fun l e => AW m c (ix2 l e)

/-- The residual stream's row. -/
def sumRow (r : Fin 4096) : Fin 1024 → EReal := added (fun l => AX m c (ix2 r l)) (mixRow m c r) fun l => AP m c (ix2 0 l)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 2] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0] :=
  (by decide +kernel : ∀ t : Fin grid0.N, _)

/-- Row `i` of the point's block is row `256 t + i` of the array. -/
def row (t : Fin cfg0.N) (i : Fin 256) : Fin 4096 := ⟨t.val * 256 + i.val, by have := lt_of_lt_of_eq t.isLt N_0; omega⟩

abbrev bX : FVec Ideal S256x1024 .f32 := iblk m c 0 t
abbrev bO : FVec Ideal S256x1024 .f32 := iblk m c 1 t
abbrev bA : FVec Ideal S256x1024 .f32 := X0_2 m c t
abbrev bH : FVec Ideal S256x1024 .f32 := iblk m c 3 t
abbrev bL : FVec Ideal S256x1024 .f32 := X0_4 m c t
abbrev gK : FVec Ideal S1x1024 .f32 := iblk m c 5 t
abbrev gL : FVec Ideal S1x1024 .f32 := iblk m c 6 t
abbrev bW : FVec Ideal S2048x1024 .bf16 := iblk m c 7 t
abbrev gP : FVec Ideal S1x1024 .f32 := iblk m c 8 t

theorem bX_at : bX m c t (ix2 i k) = AX m c (ix2 (row t i) k) := by unfold row; blk_point [iblk, V, idx t]
theorem bO_at : bO m c t (ix2 i k) = AO m c (ix2 (row t i) k) := by unfold row; blk_point [iblk, V, idx t]
theorem bH_at : bH m c t (ix2 i k) = AH m c (ix2 (row t i) k) := by unfold row; blk_point [iblk, V, idx t]
theorem gK_at (u : Fin 1) : gK m c t (ix2 u k) = AK m c (ix2 0 k) := by blk_point [iblk, V, idx t]
theorem gL_at (u : Fin 1) : gL m c t (ix2 u k) = AL m c (ix2 0 k) := by blk_point [iblk, V, idx t]
theorem gP_at (u : Fin 1) : gP m c t (ix2 u k) = AP m c (ix2 0 k) := by blk_point [iblk, V, idx t]
theorem bW_at (l : Fin 2048) : bW m c t (ix2 l k) = AW m c (ix2 l k) := by blk_point [iblk, idx t]
theorem bA_at : bA m c t (ix2 i k) = AZ m c (ix2 (row t i) ⟨k.val, by omega⟩) := by
  unfold row bA X0_2 Window.fill
  rw [dif_pos (moved0_2 t _)]
  blk_point [iblk, V, idx t]
theorem bL_at : bL m c t (ix2 i k) = AZ m c (ix2 (row t i) ⟨2048 + k.val, by omega⟩) := by
  unfold row bL X0_4 Window.fill
  rw [dif_pos (moved0_4 t _)]
  blk_point [iblk, V, idx t]

/-- The two gated norms, as the point's two stores leave them. -/
def bY : FVec Ideal S256x2048 .bf16 := fun y => beside (fun l => k0_pay2 (F := Ideal) (bO m c t) (gK m c t) (bA m c t) (ix2 (y 0) l))
  (fun l => k0_pay4 (F := Ideal) (k0_pay3 (F := Ideal) (bH m c t)) (gL m c t) (bL m c t) (ix2 (y 0) l)) (y 1)

theorem bY_at (n : Fin 2048) : bY m c t (ix2 i n) = yRow m c (row t i) n := by
  show beside (fun l => k0_pay2 (F := Ideal) (bO m c t) (gK m c t) (bA m c t) (ix2 i l))
    (fun l => k0_pay4 (F := Ideal) (k0_pay3 (F := Ideal) (bH m c t)) (gL m c t) (bL m c t) (ix2 i l)) n = _
  have ho : at_ (bO m c t) i = fun l => AO m c (ix2 (row t i) l) := funext fun l => bO_at m c t i l
  have ha : at_ (bA m c t) i = fun l => AZ m c (ix2 (row t i) ⟨l.val, by omega⟩) := funext fun l => bA_at m c t i l
  have hh : at_ (bH m c t) i = fun l => AH m c (ix2 (row t i) l) := funext fun l => bH_at m c t i l
  have hl : at_ (bL m c t) i = fun l => AZ m c (ix2 (row t i) ⟨2048 + l.val, by omega⟩) := funext fun l => bL_at m c t i l
  unfold yRow
  simp only [left_at, right_at, gK_at, gL_at, ho, ha, hh, hl]

theorem block_mix : k0_pay5 (F := Ideal) (bY m c t) (bW m c t) (ix2 i k) = mixRow m c (row t i) k := by
  rw [mix_at]
  unfold mixRow
  simp only [bY_at, bW_at]

theorem block_sum : k0_pay6 (F := Ideal) (bY m c t) (bW m c t) (bX m c t) (gP m c t) (ix2 i k) = sumRow m c (row t i) k := by
  have hx : at_ (bX m c t) i = fun l => AX m c (ix2 (row t i) l) := funext fun l => bX_at m c t i l
  have hm : at_ (k0_pay5 (F := Ideal) (bY m c t) (bW m c t)) i = mixRow m c (row t i) := funext fun l => block_mix m c t i l
  rw [sum_at, hx, hm]
  unfold sumRow
  simp only [gP_at]

theorem array_y : (dats m 0 c).arrAt 9 (cfgs 0).N = (fun y : S4096x2048.Idx => yRow m c (y 0) (y 1)) := by
  refine (dats m 0 c).arrAt_eq_of_covers 9 _ (by decide +kernel) fun t hf y => ?_
  blk_simp
  rw [after0_9]
  have hb : (outsAt0 m c t).1 y = yRow m c (row t (y 0)) (y 1) := by
    unfold outsAt0; frame_out
    obtain ⟨i, n, rfl⟩ : ∃ (i : Fin 256) (n : Fin 2048), y = ix2 i n := ⟨y 0, y 1, by funext a; fin_cases a <;> rfl⟩
    exact (two_stores i _ _ n).trans (bY_at m c t i n)
  refine hb.trans (congrArg₂ (yRow m c) (Fin.ext ?_) (Fin.ext ?_))
  · unfold row
    blk_simp [idx t]
  · blk_simp [idx t]

theorem array_mix : (dats m 0 c).arrAt 10 (cfgs 0).N = (fun y : S4096x1024.Idx => mixRow m c (y 0) (y 1)) := by
  refine (dats m 0 c).arrAt_eq_of_covers 10 _ (by decide +kernel) fun t hf y => ?_
  blk_simp
  rw [after0_10]
  have hb : (outsAt0 m c t).2.1 y = mixRow m c (row t (y 0)) (y 1) := by
    unfold outsAt0; frame_out
    obtain ⟨i, k, rfl⟩ : ∃ (i : Fin 256) (k : Fin 1024), y = ix2 i k := ⟨y 0, y 1, by funext a; fin_cases a <;> rfl⟩
    rw [read_back]
    exact block_mix m c t i k
  refine hb.trans (congrArg₂ (mixRow m c) (Fin.ext ?_) (Fin.ext ?_))
  · unfold row
    blk_simp [idx t]
  · blk_simp [idx t]

theorem array_sum : (dats m 0 c).arrAt 11 (cfgs 0).N = (fun y : S4096x1024.Idx => sumRow m c (y 0) (y 1)) := by
  refine (dats m 0 c).arrAt_eq_of_covers 11 _ (by decide +kernel) fun t hf y => ?_
  blk_simp
  rw [after0_11]
  have hb : (outsAt0 m c t).2.2.1 y = sumRow m c (row t (y 0)) (y 1) := by
    unfold outsAt0; frame_out
    obtain ⟨i, k, rfl⟩ : ∃ (i : Fin 256) (k : Fin 1024), y = ix2 i k := ⟨y 0, y 1, by funext a; fin_cases a <;> rfl⟩
    rw [read_back]
    exact block_sum m c t i k
  refine hb.trans (congrArg₂ (sumRow m c) (Fin.ext ?_) (Fin.ext ?_))
  · unfold row
    blk_simp [idx t]
  · blk_simp [idx t]

theorem array_cast : (dats m 0 c).arrAt 12 (cfgs 0).N = (fun y : S4096x1024.Idx => sumRow m c (y 0) (y 1)) := by
  refine (dats m 0 c).arrAt_eq_of_covers 12 _ (by decide +kernel) fun t hf y => ?_
  blk_simp
  rw [after0_12]
  have hb : (outsAt0 m c t).2.2.2 y = sumRow m c (row t (y 0)) (y 1) := by
    unfold outsAt0; frame_out
    obtain ⟨i, k, rfl⟩ : ∃ (i : Fin 256) (k : Fin 1024), y = ix2 i k := ⟨y 0, y 1, by funext a; fin_cases a <;> rfl⟩
    rw [read_back]
    exact (cast_at _ i k).trans (block_sum m c t i k)
  refine hb.trans (congrArg₂ (sumRow m c) (Fin.ext ?_) (Fin.ext ?_))
  · unfold row
    blk_simp [idx t]
  · blk_simp [idx t]

end Cert.Kernel9Ideal.Hand

/-! # The reference's -/

namespace Cert.Reference9Ideal.Hand

open Cert.Reference9Ideal Cert.Reference9Ideal.Gen Cert.Reference9Ideal.Value Cert.Gated
open Idealize.ShloMosaic Idealize.ShloMosaic.TcCoe

variable (x p z : FVec Ideal S4096x1024 .f32) (g : FVec Ideal S1x1024 .f32) (Z : FVec Ideal S4096x3200 .f32) (u : FVec Ideal S4096x2048 .f32)
  (w : FVec Ideal S2048x1024 .f32) (r : Fin 4096) (k : Fin 1024)

/-- A row of an array. -/
abbrev at_ (x : FVec Ideal S4096x1024 .f32) (r : Fin 4096) : Fin 1024 → EReal := fun l => x (ix2 r l)

def nrm : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0
    (Host.reduceAdd (mulf x x) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32)))))) (broadcastInDim S4096x1024 ![0, 1] bcast_S1x1024_S4096x1024_0_1 g)

theorem nrm_at : nrm x g (ix2 r k) = x (ix2 r k) * root (at_ x r) * g (ix2 0 k) := by
  pointwise [nrm]
  rfl

def logis : FVec Ideal S4096x1024 .f32 := Host.divf (broadcastInDim S4096x1024 ![] bcast_S_S4096x1024 (constant S_ .f32 0x3F800000#32))
  (addf (broadcastInDim S4096x1024 ![] bcast_S_S4096x1024 (constant S_ .f32 0x3F800000#32)) (Host.exp (Host.negf z)))

theorem logis_at : logis z (ix2 r k) = refSig (z (ix2 r k)) := by
  pointwise [logis]
  unfold refSig
  rw [word_one, EReal.coe_one]

def half : FVec Ideal S4096x1024 .f32 := mulf (nrm x g) (mulf z (logis z))

theorem half_at : half x z g (ix2 r k) = gated (at_ x r) (fun l => g (ix2 0 l)) (at_ z r) k := by
  pointwise [half]
  rw [nrm_at, logis_at, ← gate_all]
  rfl

def first : FVec Ideal S4096x1024 .f32 := extractStridedSlice S4096x1024 ![0, 0] Z slices_S4096x3200_S4096x1024_0_0
def third : FVec Ideal S4096x1024 .f32 := extractStridedSlice S4096x1024 ![0, 2048] Z slices_S4096x3200_S4096x1024_0_2048
theorem first_at : first Z (ix2 r k) = Z (ix2 r ⟨k.val, by omega⟩) := by pointwise [first]
theorem third_at : third Z (ix2 r k) = Z (ix2 r ⟨2048 + k.val, by omega⟩) := by pointwise [third]

def pair : FVec Ideal S4096x2048 .f32 := concatenate S4096x2048 1 [⟨S4096x1024, x⟩, ⟨S4096x1024, p⟩] concatenates_S4096x1024_S4096x1024_S4096x2048_d1

theorem pair_at (n : Fin 2048) : pair x p (ix2 r n) = beside (at_ x r) (at_ p r) n := by
  pointwise [pair]
  rfl

def prod : FVec Ideal S4096x1024 .f32 := Host.dotGeneral dot_S4096x2048_S2048x1024_S4096x1024_1_0_0_1_n_n none u w

theorem prod_at : prod u w (ix2 r k) = mixed (fun l => u (ix2 r l)) (fun l e => w (ix2 l e)) k := by
  pointwise [prod]
  rfl

def sum : FVec Ideal S4096x1024 .f32 := addf x (nrm p g)

theorem sum_at : sum x p g (ix2 r k) = added (at_ x r) (at_ p r) (fun l => g (ix2 0 l)) k := by
  pointwise [sum]
  rw [nrm_at]
  rfl

def cast16 : FVec Ideal S4096x1024 .bf16 := truncf .bf16 x bitsLt_bf16_f32
theorem cast16_at : cast16 x (ix2 r k) = x (ix2 r k) := by pointwise [cast16]
def pair16 : FVec Ideal S4096x2048 .bf16 := truncf .bf16 u bitsLt_bf16_f32
theorem pair16_at (n : Fin 2048) : pair16 u (ix2 r n) = u (ix2 r n) := by pointwise [pair16]

end Cert.Reference9Ideal.Hand

/-! # The claim -/

namespace Cert.Residual

open Idealize.ShloMosaic Idealize.ShloMosaic.TcCoe Idealize.SL.Sem
open Cert.Kernel9Ideal.Hand (AX AO AH AZ AK AL AW AP yRow mixRow sumRow)
open Cert.Reference9Ideal.Hand (half first third pair prod sum cast16 pair16)

variable (m : (ℓ : Loc Cert.Kernel9Ideal.nD Cert.Kernel9Ideal.τ Cert.Kernel9Ideal.sig) → Buf (Elt Ideal) ℓ) (c : Dev Cert.Kernel9Ideal.nD) (r : Fin 4096)

/-- The reference's gated norms, over the kernel's arguments. -/
abbrev both := pair (half (AO m c) (first (AZ m c)) (AK m c)) (half (AH m c) (third (AZ m c)) (AL m c))

theorem both_at (n : Fin 2048) : both m c (ix2 r n) = yRow m c r n := by
  refine (Cert.Reference9Ideal.Hand.pair_at _ _ r n).trans ?_
  unfold yRow
  exact congrArg₂ (fun a b => Cert.Gated.beside a b n)
    (funext fun l => (Cert.Reference9Ideal.Hand.half_at _ _ _ r l).trans
      (congrArg (fun z => Cert.Gated.gated _ _ z l) (funext fun e => Cert.Reference9Ideal.Hand.first_at (AZ m c) r e)))
    (funext fun l => (Cert.Reference9Ideal.Hand.half_at _ _ _ r l).trans
      (congrArg (fun z => Cert.Gated.gated _ _ z l) (funext fun e => Cert.Reference9Ideal.Hand.third_at (AZ m c) r e)))

theorem prod_at (k : Fin 1024) : prod (both m c) (AW m c) (ix2 r k) = mixRow m c r k := by
  refine (Cert.Reference9Ideal.Hand.prod_at _ _ r k).trans ?_
  exact congrArg (fun y => Cert.Gated.mixed y _ k) (funext (both_at m c r))

theorem sum_at (k : Fin 1024) : sum (AX m c) (prod (both m c) (AW m c)) (AP m c) (ix2 r k) = sumRow m c r k := by
  refine (Cert.Reference9Ideal.Hand.sum_at _ _ _ r k).trans ?_
  exact congrArg (fun p => Cert.Gated.added _ p _ k) (funext (prod_at m c r))

theorem algebraic_residual : Cert.algebraic_Kernel9Ideal_Reference9Ideal (hKernel9Ideal := Cert.Kernel9Ideal.Gen.facts)
    (hReference9Ideal := Cert.Reference9Ideal.Gen.facts) := by
  intro m g m' g' _ hagree
  refine ⟨fun c y => yRow m c (y 0) (y 1), fun c y => mixRow m c (y 0) (y 1), fun c y => sumRow m c (y 0) (y 1), fun c y => sumRow m c (y 0) (y 1), ?_, ?_⟩
  · exact (θ_run _ _ _).mono (fun _ h c => ⟨(h c).1.trans (Cert.Kernel9Ideal.Hand.array_y m c), (h c).2.1.trans (Cert.Kernel9Ideal.Hand.array_mix m c),
      (h c).2.2.1.trans (Cert.Kernel9Ideal.Hand.array_sum m c), (h c).2.2.2.1.trans (Cert.Kernel9Ideal.Hand.array_cast m c), (h c).2.2.2.2⟩)
      (Cert.Kernel9Ideal.Value.run_blocks m g)
  · refine (θ_run _ _ _).mono (fun _ h c => ?_) (Cert.Reference9Ideal.Value.run m' g')
    obtain ⟨a0, a1, a2, a3, a4, a5, a6, a7⟩ := hagree c
    refine ⟨(h c).1.trans ?_, (h c).2.1.trans ?_, (h c).2.2.1.trans ?_, (h c).2.2.2.1.trans ?_, (h c).2.2.2.2⟩
    · rw [a1, a2, a3, a4, a5]
      funext y
      obtain ⟨r, e, rfl⟩ : ∃ (r : Fin 4096) (e : Fin 2048), y = ix2 r e := ⟨y 0, y 1, by funext a; fin_cases a <;> rfl⟩
      exact (Cert.Reference9Ideal.Hand.pair16_at (both m c) r e).trans (both_at m c r e)
    · rw [a1, a2, a3, a4, a5, a6]
      funext y
      obtain ⟨r, e, rfl⟩ : ∃ (r : Fin 4096) (e : Fin 1024), y = ix2 r e := ⟨y 0, y 1, by funext a; fin_cases a <;> rfl⟩
      exact prod_at m c r e
    · unfold Cert.Reference9Ideal.Value.res_main_v44
      rw [a0, a1, a2, a3, a4, a5, a6, a7]
      funext y
      obtain ⟨r, e, rfl⟩ : ∃ (r : Fin 4096) (e : Fin 1024), y = ix2 r e := ⟨y 0, y 1, by funext a; fin_cases a <;> rfl⟩
      exact sum_at m c r e
    · unfold Cert.Reference9Ideal.Value.res_main_v46
      rw [a0, a1, a2, a3, a4, a5, a6, a7]
      funext y
      obtain ⟨r, e, rfl⟩ : ∃ (r : Fin 4096) (e : Fin 1024), y = ix2 r e := ⟨y 0, y 1, by funext a; fin_cases a <;> rfl⟩
      exact (Cert.Reference9Ideal.Hand.cast16_at (sum (AX m c) (prod (both m c) (AW m c)) (AP m c)) r e).trans (sum_at m c r e)

end Cert.Residual

end
-- ==== Proof.GatedValue.lean ====
module

public import proofs.«01_k».proof.Proof.Gen.Kernel7Ideal.Value
public import proofs.«01_k».proof.Proof.GatedRow

@[expose] public section

set_option maxRecDepth 16384

noncomputable section

namespace Cert.Kernel7Ideal.Hand

open Cert.Kernel7Ideal Cert.Kernel7Ideal.Gen Cert.Gated
open Idealize.ShloMosaic Idealize.ShloMosaic.TcCoe Idealize.ShloMosaic.Pipeline

/-! # The payloads at an index

The first branch's (`k0_pay8` to `k0_pay17`) and the second's (`k0_pay1` to `k0_pay4`, `k0_pay28` to `k0_pay32`). -/

section Payloads

variable (x g : FVec Ideal S256x1024 .f32) (a : FVec Ideal S256x1024 .bf16) (w : FVec Ideal S2048x1024 .bf16) (q : FVec Ideal S1x1024 .f32)
  (i : Fin 256) (k : Fin 1024)

theorem left_at : k0_pay8 (F := Ideal) a w (ix2 i k) = ∑ l : Fin 1024, a (ix2 i l) * w (ix2 ⟨k.val, by omega⟩ l) := by
  pointwise [k0_pay8, k0_pay7]

theorem right_at : k0_pay28 (F := Ideal) (k0_pay7 (F := Ideal) a w) (ix2 i k) = ∑ l : Fin 1024, a (ix2 i l) * w (ix2 ⟨1024 + k.val, by omega⟩ l) := by
  pointwise [k0_pay28, k0_pay7]

theorem root_at (u : Fin 1) : k0_pay9 (F := Ideal) x (ix2 i u) = root fun l => x (ix2 i l) := by
  pointwise [k0_pay9]
  rfl

theorem hat_at : k0_pay10 (F := Ideal) x (ix2 i k) = x (ix2 i k) * root fun l => x (ix2 i l) := by
  pointwise [k0_pay10]
  rw [root_at]

theorem sig_at : k0_pay11 (F := Ideal) g (ix2 i k) = gate (g (ix2 i k)) := by
  pointwise [k0_pay11]
  rfl

theorem slope_at : k0_pay12 (F := Ideal) g (ix2 i k) = gate (g (ix2 i k)) * (Ideal.ofBits .f32 0x3F800000#32
    + g (ix2 i k) * (Ideal.ofBits .f32 0x3F800000#32 - gate (g (ix2 i k)))) := by
  pointwise [k0_pay12]
  simp only [sig_at]

theorem normed_at : k0_pay13 (F := Ideal) a w g (ix2 i k) = k0_pay8 (F := Ideal) a w (ix2 i k) * (g (ix2 i k) * gate (g (ix2 i k))) := by
  pointwise [k0_pay13]
  simp only [sig_at]

theorem row_at (r : FVec Ideal S256x1 .f32) (h d : FVec Ideal S256x1024 .f32) : k0_pay15 (F := Ideal) q r h d (ix2 i k)
    = r (ix2 i 0) * (d (ix2 i k) * q (ix2 0 k) - h (ix2 i k) * Ideal.div (∑ l : Fin 1024, d (ix2 i l) * q (ix2 0 l) * h (ix2 i l)) (Ideal.ofBits .f32 0x44800000#32)) := by
  pointwise [k0_pay15, k0_pay14]

theorem gate_at (d h s : FVec Ideal S256x1024 .f32) : k0_pay16 (F := Ideal) d q h s (ix2 i k) = d (ix2 i k) * (h (ix2 i k) * q (ix2 0 k)) * s (ix2 i k) := by
  pointwise [k0_pay16]

theorem gain_at (h d : FVec Ideal S256x1024 .f32) (u : Fin 1) : k0_pay17 (F := Ideal) h d q (ix2 u k)
    = q (ix2 u k) + ∑ i : Fin 256, d (ix2 i k) * h (ix2 i k) := by
  pointwise [k0_pay17]

theorem zero_at (y : S1x1024.Idx) : k0_pay5 (F := Ideal) y = 0 := by pointwise [k0_pay5]

theorem root_at' (u : Fin 1) : k0_pay29 (F := Ideal) x (ix2 i u) = root fun l => x (ix2 i l) := by
  pointwise [k0_pay29]
  rfl

theorem hat_at' : k0_pay30 (F := Ideal) x (ix2 i k) = x (ix2 i k) * root fun l => x (ix2 i l) := by
  pointwise [k0_pay30]
  rw [root_at']

theorem sig_at' : k0_pay31 (F := Ideal) g (ix2 i k) = gate (g (ix2 i k)) := by
  pointwise [k0_pay31]
  rfl

theorem silu_at : k0_pay32 (F := Ideal) g (ix2 i k) = g (ix2 i k) * gate (g (ix2 i k)) := by
  pointwise [k0_pay32]
  rw [sig_at']

theorem row_at' (r : FVec Ideal S256x1 .f32) (d h s : FVec Ideal S256x1024 .f32) : k0_pay2 (F := Ideal) d q r h s (ix2 i k)
    = r (ix2 i 0) * (d (ix2 i k) * s (ix2 i k) * q (ix2 0 k) - h (ix2 i k)
      * Ideal.div (∑ l : Fin 1024, d (ix2 i l) * s (ix2 i l) * q (ix2 0 l) * h (ix2 i l)) (Ideal.ofBits .f32 0x44800000#32)) := by
  pointwise [k0_pay2, k0_pay1]

theorem gate_at' (d h s : FVec Ideal S256x1024 .f32) : k0_pay3 (F := Ideal) g d q h s (ix2 i k)
    = d (ix2 i k) * (h (ix2 i k) * q (ix2 0 k)) * (s (ix2 i k) * (Ideal.ofBits .f32 0x3F800000#32 + g (ix2 i k) * (Ideal.ofBits .f32 0x3F800000#32 - s (ix2 i k)))) := by
  pointwise [k0_pay3]

theorem gain_at' (d h s : FVec Ideal S256x1024 .f32) (u : Fin 1) : k0_pay4 (F := Ideal) d h s q (ix2 u k)
    = q (ix2 u k) + ∑ i : Fin 256, d (ix2 i k) * s (ix2 i k) * h (ix2 i k) := by
  pointwise [k0_pay4, k0_pay1]

theorem zero_at' (y : S1x1024.Idx) : k0_pay6 (F := Ideal) y = 0 := by pointwise [k0_pay6]

end Payloads

/-! # The arguments' rows -/

variable (m : (ℓ : Loc nD τ sig) → Buf (Elt Ideal) ℓ) (c : Dev nD)

abbrev AO : FVec Ideal S4096x1024 .f32 := m ((c.tc : Thread nD τ).loc main_arg0)
abbrev AH : FVec Ideal S4096x1024 .f32 := m ((c.tc : Thread nD τ).loc main_arg1)
abbrev AZ : FVec Ideal S4096x3200 .f32 := m ((c.tc : Thread nD τ).loc main_arg2)
abbrev AD : FVec Ideal S4096x1024 .f32 := m ((c.tc : Thread nD τ).loc main_arg3)
abbrev AW : FVec Ideal S2048x1024 .f32 := m ((c.tc : Thread nD τ).loc main_arg4)
abbrev AK : FVec Ideal S1x1024 .f32 := m ((c.tc : Thread nD τ).loc main_arg5)
abbrev AL : FVec Ideal S1x1024 .f32 := m ((c.tc : Thread nD τ).loc main_arg6)

variable (r : Fin 4096) (k : Fin 1024)

/-- A row of the first branch's normed array, of the second's, and of what gates each. -/
def o (k : Fin 1024) : EReal := AO m c (ix2 r k)
def h (k : Fin 1024) : EReal := AH m c (ix2 r k)
def ga (k : Fin 1024) : EReal := AZ m c (ix2 r ⟨k.val, by omega⟩)
def gl (k : Fin 1024) : EReal := AZ m c (ix2 r ⟨2048 + k.val, by omega⟩)

/-- A row of the gradient at each branch's gated array. -/
def da (k : Fin 1024) : EReal := ∑ l : Fin 1024, AD m c (ix2 r l) * AW m c (ix2 ⟨k.val, by omega⟩ l)
def dl (k : Fin 1024) : EReal := ∑ l : Fin 1024, AD m c (ix2 r l) * AW m c (ix2 ⟨1024 + k.val, by omega⟩ l)

/-- The gains. -/
def ka : EReal := AK m c (ix2 0 k)
def kl : EReal := AL m c (ix2 0 k)

/-! # The blocks of a point -/

/-- Row `i` of the point's block is row `256 t + i` of the array. -/
def row (t : Fin cfg0.N) (i : Fin 256) : Fin 4096 := ⟨t.val * 256 + i.val, by have := lt_of_lt_of_eq t.isLt N_0; omega⟩

theorem idx : ∀ t : Fin cfg0.N, win0_0.index t = ![t.val, 0] ∧ win0_1.index t = ![t.val, 0] ∧ win0_2.index t = ![t.val, 0] ∧ win0_3.index t = ![t.val, 2]
    ∧ win0_4.index t = ![t.val, 0] ∧ win0_5.index t = ![0, 0] ∧ win0_6.index t = ![0, 0] ∧ win0_7.index t = ![0, 0] ∧ win0_8.index t = ![t.val, 0]
    ∧ win0_10.index t = ![t.val, 0] ∧ win0_11.index t = ![t.val, 0] ∧ win0_12.index t = ![t.val, 0] ∧ win0_13.index t = ![0, 0] ∧ win0_14.index t = ![0, 0] :=
  (by decide +kernel : ∀ t : Fin grid0.N, _)

variable (t : Fin cfg0.N) (i : Fin 256)

abbrev bO : FVec Ideal S256x1024 .f32 := iblk m c 0 t
abbrev bGA : FVec Ideal S256x1024 .f32 := X0_1 m c t
abbrev bH : FVec Ideal S256x1024 .f32 := iblk m c 2 t
abbrev bGL : FVec Ideal S256x1024 .f32 := X0_3 m c t
abbrev bD : FVec Ideal S256x1024 .bf16 := iblk m c 4 t
abbrev bW : FVec Ideal S2048x1024 .bf16 := iblk m c 5 t
abbrev bK : FVec Ideal S1x1024 .f32 := iblk m c 6 t
abbrev bL : FVec Ideal S1x1024 .f32 := iblk m c 7 t

theorem bO_at : bO m c t (ix2 i k) = o m c (row t i) k := by unfold o row; blk_point [iblk, V, idx t]
theorem bH_at : bH m c t (ix2 i k) = h m c (row t i) k := by unfold h row; blk_point [iblk, V, idx t]
theorem bK_at (u : Fin 1) : bK m c t (ix2 u k) = ka m c k := by unfold ka; blk_point [iblk, V, idx t]
theorem bL_at (u : Fin 1) : bL m c t (ix2 u k) = kl m c k := by unfold kl; blk_point [iblk, V, idx t]
theorem bD_at : bD m c t (ix2 i k) = AD m c (ix2 (row t i) k) := by unfold row; blk_point [iblk, idx t]
theorem bW_at (n : Fin 2048) : bW m c t (ix2 n k) = AW m c (ix2 n k) := by blk_point [iblk, idx t]

theorem bGA_at : bGA m c t (ix2 i k) = ga m c (row t i) k := by
  unfold bGA X0_1 Window.fill ga row
  rw [dif_pos (moved0_1 t _)]
  blk_point [iblk, V, idx t]

theorem bGL_at : bGL m c t (ix2 i k) = gl m c (row t i) k := by
  unfold bGL X0_3 Window.fill gl row
  rw [dif_pos (moved0_3 t _)]
  blk_point [iblk, V, idx t]

theorem bDA_at : k0_pay8 (F := Ideal) (bD m c t) (bW m c t) (ix2 i k) = da m c (row t i) k := by
  rw [left_at]
  exact Finset.sum_congr rfl fun l _ => congrArg₂ (· * ·) (bD_at m c l t i) (bW_at m c l t _)

theorem bDL_at : k0_pay28 (F := Ideal) (k0_pay7 (F := Ideal) (bD m c t) (bW m c t)) (ix2 i k) = dl m c (row t i) k := by
  rw [right_at]
  exact Finset.sum_congr rfl fun l _ => congrArg₂ (· * ·) (bD_at m c l t i) (bW_at m c l t _)

theorem bO_row : (fun l => bO m c t (ix2 i l)) = o m c (row t i) := funext fun l => bO_at m c l t i
theorem bH_row : (fun l => bH m c t (ix2 i l)) = h m c (row t i) := funext fun l => bH_at m c l t i

theorem bNA_at : k0_pay13 (F := Ideal) (bD m c t) (bW m c t) (bGA m c t) (ix2 i k) = normed (ga m c (row t i)) (da m c (row t i)) k := by
  rw [normed_at, bDA_at, bGA_at]
  rfl

theorem block_do : k0_pay15 (F := Ideal) (bK m c t) (k0_pay9 (F := Ideal) (bO m c t)) (k0_pay10 (F := Ideal) (bO m c t))
    (k0_pay13 (F := Ideal) (bD m c t) (bW m c t) (bGA m c t)) (ix2 i k)
    = ofRow (o m c (row t i)) (ga m c (row t i)) (da m c (row t i)) (ka m c) k := by
  rw [row_at, root_at]
  simp only [bNA_at, hat_at, bO_at, bK_at]
  rfl

theorem block_dga : k0_pay16 (F := Ideal) (k0_pay8 (F := Ideal) (bD m c t) (bW m c t)) (bK m c t) (k0_pay10 (F := Ideal) (bO m c t))
    (k0_pay12 (F := Ideal) (bGA m c t)) (ix2 i k)
    = ofGate (o m c (row t i)) (ga m c (row t i)) (da m c (row t i)) (ka m c) k := by
  rw [gate_at, slope_at]
  simp only [bDA_at, hat_at, bO_at, bK_at, bGA_at]
  rfl

theorem block_gka (G : FVec Ideal S1x1024 .f32) (y : S1x1024.Idx) : k0_pay17 (F := Ideal) (k0_pay10 (F := Ideal) (bO m c t))
    (k0_pay13 (F := Ideal) (bD m c t) (bW m c t) (bGA m c t)) G y
    = G y + ∑ i : Fin 256, ofGain (o m c (row t i)) (ga m c (row t i)) (da m c (row t i)) (y 1) := by
  obtain ⟨u, k, rfl⟩ : ∃ (u : Fin 1) (k : Fin 1024), y = ix2 u k := ⟨y 0, y 1, by funext a; fin_cases a <;> rfl⟩
  rw [gain_at]
  simp only [bNA_at, hat_at, bO_at]
  rfl

theorem block_dh : k0_pay2 (F := Ideal) (k0_pay28 (F := Ideal) (k0_pay7 (F := Ideal) (bD m c t) (bW m c t))) (bL m c t) (k0_pay29 (F := Ideal) (bH m c t))
    (k0_pay30 (F := Ideal) (bH m c t)) (k0_pay32 (F := Ideal) (bGL m c t)) (ix2 i k)
    = ofRow (h m c (row t i)) (gl m c (row t i)) (dl m c (row t i)) (kl m c) k := by
  rw [row_at', root_at']
  simp only [bDL_at, silu_at, hat_at', bH_at, bL_at, bGL_at]
  rfl

theorem block_dgl : k0_pay3 (F := Ideal) (bGL m c t) (k0_pay28 (F := Ideal) (k0_pay7 (F := Ideal) (bD m c t) (bW m c t))) (bL m c t)
    (k0_pay30 (F := Ideal) (bH m c t)) (k0_pay31 (F := Ideal) (bGL m c t)) (ix2 i k)
    = ofGate (h m c (row t i)) (gl m c (row t i)) (dl m c (row t i)) (kl m c) k := by
  rw [gate_at']
  simp only [bDL_at, hat_at', sig_at', bH_at, bL_at, bGL_at]
  rfl

theorem block_gkl (G : FVec Ideal S1x1024 .f32) (y : S1x1024.Idx) : k0_pay4 (F := Ideal) (k0_pay28 (F := Ideal) (k0_pay7 (F := Ideal) (bD m c t) (bW m c t)))
    (k0_pay30 (F := Ideal) (bH m c t)) (k0_pay32 (F := Ideal) (bGL m c t)) G y
    = G y + ∑ i : Fin 256, ofGain (h m c (row t i)) (gl m c (row t i)) (dl m c (row t i)) (y 1) := by
  obtain ⟨u, k, rfl⟩ : ∃ (u : Fin 1) (k : Fin 1024), y = ix2 u k := ⟨y 0, y 1, by funext a; fin_cases a <;> rfl⟩
  rw [gain_at']
  simp only [bDL_at, silu_at, hat_at', bH_at, bGL_at]
  rfl

/-! # The result arrays -/

theorem array_do : (dats m 0 c).arrAt 8 (cfgs 0).N = (fun y : S4096x1024.Idx => ofRow (o m c (y 0)) (ga m c (y 0)) (da m c (y 0)) (ka m c) (y 1)) := by
  refine (dats m 0 c).arrAt_eq_of_covers 8 _ (by decide +kernel) fun t hf y => ?_
  blk_simp
  rw [after0_8]
  obtain ⟨i, k, rfl⟩ : ∃ (i : Fin 256) (k : Fin 1024), y = ix2 i k := ⟨y 0, y 1, by funext a; fin_cases a <;> rfl⟩
  have hb : (outsAt0 m c t.val t.isLt).1 (ix2 i k) = ofRow (o m c (row t i)) (ga m c (row t i)) (da m c (row t i)) (ka m c) k := by
    by_cases h : t.val % 16 = 0
    · rw [outsAt0_A m c t h]; frame_out
      exact block_do m c k t i
    · rw [outsAt0_B m c t h]; frame_out
      exact block_do m c k t i
  refine hb.trans (congrArg₂ (fun a b => ofRow (o m c a) (ga m c a) (da m c a) (ka m c) b) (Fin.ext ?_) (Fin.ext ?_))
  · unfold row
    blk_simp [idx t]
  · blk_simp [idx t]

theorem array_dga : (dats m 0 c).arrAt 10 (cfgs 0).N = (fun y : S4096x1024.Idx => ofGate (o m c (y 0)) (ga m c (y 0)) (da m c (y 0)) (ka m c) (y 1)) := by
  refine (dats m 0 c).arrAt_eq_of_covers 10 _ (by decide +kernel) fun t hf y => ?_
  blk_simp
  rw [after0_10]
  obtain ⟨i, k, rfl⟩ : ∃ (i : Fin 256) (k : Fin 1024), y = ix2 i k := ⟨y 0, y 1, by funext a; fin_cases a <;> rfl⟩
  have hb : (outsAt0 m c t.val t.isLt).2.2.1 (ix2 i k) = ofGate (o m c (row t i)) (ga m c (row t i)) (da m c (row t i)) (ka m c) k := by
    by_cases h : t.val % 16 = 0
    · rw [outsAt0_A m c t h]; frame_out
      exact block_dga m c k t i
    · rw [outsAt0_B m c t h]; frame_out
      exact block_dga m c k t i
  refine hb.trans (congrArg₂ (fun a b => ofGate (o m c a) (ga m c a) (da m c a) (ka m c) b) (Fin.ext ?_) (Fin.ext ?_))
  · unfold row
    blk_simp [idx t]
  · blk_simp [idx t]

theorem array_dh : (dats m 0 c).arrAt 11 (cfgs 0).N = (fun y : S4096x1024.Idx => ofRow (h m c (y 0)) (gl m c (y 0)) (dl m c (y 0)) (kl m c) (y 1)) := by
  refine (dats m 0 c).arrAt_eq_of_covers 11 _ (by decide +kernel) fun t hf y => ?_
  blk_simp
  rw [after0_11]
  obtain ⟨i, k, rfl⟩ : ∃ (i : Fin 256) (k : Fin 1024), y = ix2 i k := ⟨y 0, y 1, by funext a; fin_cases a <;> rfl⟩
  have hb : (outsAt0 m c t.val t.isLt).2.2.2.1 (ix2 i k) = ofRow (h m c (row t i)) (gl m c (row t i)) (dl m c (row t i)) (kl m c) k := by
    by_cases h : t.val % 16 = 0
    · rw [outsAt0_A m c t h]; frame_out
      exact block_dh m c k t i
    · rw [outsAt0_B m c t h]; frame_out
      exact block_dh m c k t i
  refine hb.trans (congrArg₂ (fun a b => ofRow (h m c a) (gl m c a) (dl m c a) (kl m c) b) (Fin.ext ?_) (Fin.ext ?_))
  · unfold row
    blk_simp [idx t]
  · blk_simp [idx t]

theorem array_dgl : (dats m 0 c).arrAt 12 (cfgs 0).N = (fun y : S4096x1024.Idx => ofGate (h m c (y 0)) (gl m c (y 0)) (dl m c (y 0)) (kl m c) (y 1)) := by
  refine (dats m 0 c).arrAt_eq_of_covers 12 _ (by decide +kernel) fun t hf y => ?_
  blk_simp
  rw [after0_12]
  obtain ⟨i, k, rfl⟩ : ∃ (i : Fin 256) (k : Fin 1024), y = ix2 i k := ⟨y 0, y 1, by funext a; fin_cases a <;> rfl⟩
  have hb : (outsAt0 m c t.val t.isLt).2.2.2.2.1 (ix2 i k) = ofGate (h m c (row t i)) (gl m c (row t i)) (dl m c (row t i)) (kl m c) k := by
    by_cases h : t.val % 16 = 0
    · rw [outsAt0_A m c t h]; frame_out
      exact block_dgl m c k t i
    · rw [outsAt0_B m c t h]; frame_out
      exact block_dgl m c k t i
  refine hb.trans (congrArg₂ (fun a b => ofGate (h m c a) (gl m c a) (dl m c a) (kl m c) b) (Fin.ext ?_) (Fin.ext ?_))
  · unfold row
    blk_simp [idx t]
  · blk_simp [idx t]

theorem row_of_flush (hN : t.val / 16 = 0) (s : Fin 16) (i : Fin 256) (hs) (hl) : row ⟨16 * (t.val / 16) + s.val, hs⟩ i = ⟨s.val * 256 + i.val, hl⟩ :=
  Fin.ext (by show (16 * (t.val / 16) + s.val) * 256 + i.val = s.val * 256 + i.val; rw [hN]; omega)

theorem array_gka : (dats m 0 c).arrAt 13 (cfgs 0).N
    = (fun y : S1x1024.Idx => ∑ r : Fin 4096, ofGain (o m c r) (ga m c r) (da m c r) (y 1)) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.1) 16 (fun _ => 0)
    (fun p j => ∑ i : Fin 256, ofGain (o m c (row p i)) (ga m c (row p i)) (da m c (row p i)) (j 1))
    (fun t h j => by
      have hb := block_gka m c t (k0_pay5 (F := Ideal)) j
      rw [zero_at] at hb
      rw [outsAt0_A m c t h]; frame_out; exact hb)
    (fun t h j => by
      rw [outsAt0_B m c t h]; frame_out
      exact block_gka m c t _ j)
    t ((flush0_13 t).mp hf) _, zero_add]
  have hk : (((win0_13.blk t).view.emb y 1 : Fin 1024)) = (y 1 : Fin 1024) := Fin.ext (by blk_simp [idx t])
  rw [hk]
  refine Fin.sum_mul_add_congr fun s i hl => ?_
  rw [row_of_flush t (by have := lt_of_lt_of_eq t.isLt N_0; omega) s i _ hl]

theorem array_gkl : (dats m 0 c).arrAt 14 (cfgs 0).N
    = (fun y : S1x1024.Idx => ∑ r : Fin 4096, ofGain (h m c r) (gl m c r) (dl m c r) (y 1)) := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.2) 16 (fun _ => 0)
    (fun p j => ∑ i : Fin 256, ofGain (h m c (row p i)) (gl m c (row p i)) (dl m c (row p i)) (j 1))
    (fun t h j => by
      have hb := block_gkl m c t (k0_pay6 (F := Ideal)) j
      rw [zero_at'] at hb
      rw [outsAt0_A m c t h]; frame_out; exact hb)
    (fun t h j => by
      rw [outsAt0_B m c t h]; frame_out
      exact block_gkl m c t _ j)
    t ((flush0_14 t).mp hf) _, zero_add]
  have hk : (((win0_14.blk t).view.emb y 1 : Fin 1024)) = (y 1 : Fin 1024) := Fin.ext (by blk_simp [idx t])
  rw [hk]
  refine Fin.sum_mul_add_congr fun s i hl => ?_
  rw [row_of_flush t (by have := lt_of_lt_of_eq t.isLt N_0; omega) s i _ hl]

end Cert.Kernel7Ideal.Hand

end
-- ==== Proof.GatedRef.lean ====
module

public import proofs.«01_k».proof.Proof.Gen.Reference7Ideal.Run
public import proofs.«01_k».proof.Proof.GatedRow

@[expose] public section

set_option maxRecDepth 16384

noncomputable section

namespace Cert.Reference7Ideal.Hand

open Cert.Reference7Ideal Cert.Reference7Ideal.Gen Cert.Reference7Ideal.Value Cert.Gated
open Idealize.ShloMosaic Idealize.ShloMosaic.TcCoe Idealize.SL.Sem

/-! # The reference's pieces at an index

`X` is a branch's normed array, `E` the array that gates it, `D` the gradient at the gated array and `K` the gain. -/

variable (X E D : FVec Ideal S4096x1024 .f32) (K : FVec Ideal S1x1024 .f32) (r : Fin 4096) (k : Fin 1024)

/-- A row of an array. -/
abbrev at_ (A : FVec Ideal S4096x1024 .f32) (l : Fin 1024) : EReal := A (ix2 r l)

def both (A : FVec Ideal S4096x1024 .f32) (W : FVec Ideal S2048x1024 .f32) : FVec Ideal S4096x2048 .f32 :=
  Host.dotGeneral dot_S4096x1024_S2048x1024_S4096x2048_1_1_0_0_n_n none A W

def left (A : FVec Ideal S4096x1024 .f32) (W : FVec Ideal S2048x1024 .f32) : FVec Ideal S4096x1024 .f32 :=
  extractStridedSlice S4096x1024 ![0, 0] (both A W) slices_S4096x2048_S4096x1024_0_0

def right (A : FVec Ideal S4096x1024 .f32) (W : FVec Ideal S2048x1024 .f32) : FVec Ideal S4096x1024 .f32 :=
  extractStridedSlice S4096x1024 ![0, 1024] (both A W) slices_S4096x2048_S4096x1024_0_1024

theorem left_at (A : FVec Ideal S4096x1024 .f32) (W : FVec Ideal S2048x1024 .f32) : left A W (ix2 r k)
    = ∑ l : Fin 1024, A (ix2 r l) * W (ix2 ⟨k.val, by omega⟩ l) := by
  pointwise [left, both]

theorem right_at (A : FVec Ideal S4096x1024 .f32) (W : FVec Ideal S2048x1024 .f32) : right A W (ix2 r k)
    = ∑ l : Fin 1024, A (ix2 r l) * W (ix2 ⟨1024 + k.val, by omega⟩ l) := by
  pointwise [right, both]

def first (Z : FVec Ideal S4096x3200 .f32) : FVec Ideal S4096x1024 .f32 := extractStridedSlice S4096x1024 ![0, 0] Z slices_S4096x3200_S4096x1024_0_0

def third (Z : FVec Ideal S4096x3200 .f32) : FVec Ideal S4096x1024 .f32 := extractStridedSlice S4096x1024 ![0, 2048] Z slices_S4096x3200_S4096x1024_0_2048

theorem first_at (Z : FVec Ideal S4096x3200 .f32) : first Z (ix2 r k) = Z (ix2 r ⟨k.val, by omega⟩) := by pointwise [first]

theorem third_at (Z : FVec Ideal S4096x3200 .f32) : third Z (ix2 r k) = Z (ix2 r ⟨2048 + k.val, by omega⟩) := by pointwise [third]

def logis : FVec Ideal S4096x1024 .f32 := Host.divf (broadcastInDim S4096x1024 ![] bcast_S_S4096x1024 (constant S_ .f32 0x3F800000#32))
  (addf (broadcastInDim S4096x1024 ![] bcast_S_S4096x1024 (constant S_ .f32 0x3F800000#32)) (Host.exp (Host.negf E)))

theorem logis_at : logis E (ix2 r k) = refSig (E (ix2 r k)) := by
  pointwise [logis]
  unfold refSig
  rw [word_one, EReal.coe_one]

/-- A row's mean square, with the small number added. -/
def var : FVec Ideal S4096x1 .f32 := addf (Host.divf (broadcastInDim S4096x1 ![0] bcast_S4096_S4096x1_0 (Host.reduceAdd (mulf X X)
  (constant S_ .f32 0x00000000#32) reducesTo_S4096x1024_S4096_d1 h_S_)) (broadcastInDim S4096x1 ![] bcast_S_S4096x1 (constant S_ .f32 0x44800000#32)))
  (broadcastInDim S4096x1 ![] bcast_S_S4096x1 (constant S_ .f32 0x358637BD#32))

theorem var_at (u : Fin 1) : var X (ix2 r u)
    = Ideal.div (∑ l : Fin 1024, X (ix2 r l) * X (ix2 r l)) (Ideal.ofBits .f32 0x44800000#32) + Ideal.ofBits .f32 0x358637BD#32 := by
  pointwise [var]

def rroot : FVec Ideal S4096x1 .f32 := Host.rsqrt (var X)

theorem rroot_at (u : Fin 1) : rroot X (ix2 r u) = root (at_ r X) := by
  have h : rroot X (ix2 r u) = Ideal.rsqrt (var X (ix2 r u)) := by pointwise [rroot]
  rw [h, var_at]
  rfl

/-- The gradient at the normed array, and that before the gain. -/
def dn : FVec Ideal S4096x1024 .f32 := mulf D (mulf E (logis E))

theorem dn_at : dn E D (ix2 r k) = refNormed (at_ r E) (at_ r D) k := by
  pointwise [dn]
  rw [logis_at]
  rfl

def dy : FVec Ideal S4096x1024 .f32 := mulf (dn E D) (broadcastInDim S4096x1024 ![0, 1] bcast_S1x1024_S4096x1024_0_1 K)

theorem dy_at : dy E D K (ix2 r k) = refNormed (at_ r E) (at_ r D) k * K (ix2 0 k) := by
  pointwise [dy]
  rw [dn_at]

/-- The mean square's gradient, spread over the row. -/
def dvar (Y : FVec Ideal S4096x1024 .f32) (V R : FVec Ideal S4096x1 .f32) : FVec Ideal S4096x1024 .f32 :=
  broadcastInDim S4096x1024 ![0] bcast_S4096_S4096x1024_0 (Host.reduceAdd (Host.divf (mulf (shapeCast _ (Host.reduceAdd (mulf X Y)
    (constant S_ .f32 0x00000000#32) reducesTo_S4096x1024_S4096_d1 h_S_) shapeCasts_S4096_S4096x1)
    (mulf (broadcastInDim S4096x1 ![] bcast_S_S4096x1 (constant S_ .f32 0xBF000000#32)) (Host.divf R V)))
    (broadcastInDim S4096x1 ![] bcast_S_S4096x1 (constant S_ .f32 0x44800000#32))) (constant S_ .f32 0x00000000#32) reducesTo_S4096x1_S4096_d1 h_S_)

theorem dvar_at (Y : FVec Ideal S4096x1024 .f32) (V R : FVec Ideal S4096x1 .f32) : dvar X Y V R (ix2 r k)
    = Ideal.div ((∑ l : Fin 1024, X (ix2 r l) * Y (ix2 r l)) * (Ideal.ofBits .f32 0xBF000000#32 * Ideal.div (R (ix2 r 0)) (V (ix2 r 0))))
      (Ideal.ofBits .f32 0x44800000#32) := by
  pointwise [dvar]
  exact Fintype.sum_unique _

def outX (Y Z : FVec Ideal S4096x1024 .f32) (R : FVec Ideal S4096x1 .f32) : FVec Ideal S4096x1024 .f32 :=
  addf (addf (mulf Y (broadcastInDim S4096x1024 ![0, 1] bcast_S4096x1_S4096x1024_0_1 R)) (mulf X Z)) (mulf Z X)

theorem outX_at (Y Z : FVec Ideal S4096x1024 .f32) (R : FVec Ideal S4096x1 .f32) : outX X Y Z R (ix2 r k)
    = Y (ix2 r k) * R (ix2 r 0) + X (ix2 r k) * Z (ix2 r k) + Z (ix2 r k) * X (ix2 r k) := by pointwise [outX]

/-- The gradient at the array the norm reads. -/
def dx : FVec Ideal S4096x1024 .f32 := outX X (dy E D K) (dvar X (dy E D K) (var X) (rroot X)) (rroot X)

theorem dx_at : dx X E D K (ix2 r k) = refRow (at_ r X) (at_ r E) (at_ r D) (fun l => K (ix2 0 l)) k := by
  rw [dx, outX_at, dvar_at, rroot_at, var_at]
  simp only [dy_at]
  rfl

/-- The gradient at the array that gates. -/
def before : FVec Ideal S4096x1024 .f32 := mulf (mulf (mulf X (broadcastInDim S4096x1024 ![0, 1] bcast_S4096x1_S4096x1024_0_1 (rroot X)))
  (broadcastInDim S4096x1024 ![0, 1] bcast_S1x1024_S4096x1024_0_1 K)) D

theorem before_at : before X D K (ix2 r k) = X (ix2 r k) * root (at_ r X) * K (ix2 0 k) * D (ix2 r k) := by
  pointwise [before]
  rw [rroot_at]

def dgate : FVec Ideal S4096x1024 .f32 := addf (mulf (before X D K) (logis E)) (mulf (mulf E (before X D K))
  (mulf (logis E) (subf (broadcastInDim S4096x1024 ![] bcast_S_S4096x1024 (constant S_ .f32 0x3F800000#32)) (logis E))))

theorem dgate_at : dgate X E D K (ix2 r k) = refGate (at_ r X) (at_ r E) (at_ r D) (fun l => K (ix2 0 l)) k := by
  pointwise [dgate]
  rw [before_at, logis_at]
  unfold refGate
  rw [word_one, EReal.coe_one]

/-- The gain's gradient. -/
def dgain : FVec Ideal S1x1024 .f32 := shapeCast _ (Host.reduceAdd (mulf (mulf X (broadcastInDim S4096x1024 ![0, 1] bcast_S4096x1_S4096x1024_0_1 (rroot X))) (dn E D))
    (constant S_ .f32 0x00000000#32) reducesTo_S4096x1024_S1024_d0 h_S_) shapeCasts_S1024_S1x1024

theorem dgain_at (u : Fin 1) : dgain X E D (ix2 u k) = ∑ r : Fin 4096, refGain (at_ r X) (at_ r E) (at_ r D) k := by
  pointwise [dgain]
  simp only [rroot_at, dn_at]
  rfl

/-- An array cast, which changes nothing. -/
def cast_ (A : FVec Ideal S4096x1024 .f32) : FVec Ideal S4096x1024 .bf16 := truncf .bf16 A bitsLt_bf16_f32

theorem cast_at (A : FVec Ideal S4096x1024 .f32) : cast_ A (ix2 r k) = A (ix2 r k) := by pointwise [cast_]

/-! # The run -/

variable (m : (ℓ : Loc nD τ sig) → Buf (Elt Ideal) ℓ) (ρ : Dev nD → PrngReg) (c : Dev nD)

abbrev AO : FVec Ideal S4096x1024 .f32 := m ((c.tc : Thread nD τ).loc main_arg0)
abbrev AH : FVec Ideal S4096x1024 .f32 := m ((c.tc : Thread nD τ).loc main_arg1)
abbrev AZ : FVec Ideal S4096x3200 .f32 := m ((c.tc : Thread nD τ).loc main_arg2)
abbrev AD : FVec Ideal S4096x1024 .f32 := m ((c.tc : Thread nD τ).loc main_arg3)
abbrev AW : FVec Ideal S2048x1024 .f32 := m ((c.tc : Thread nD τ).loc main_arg4)
abbrev AK : FVec Ideal S1x1024 .f32 := m ((c.tc : Thread nD τ).loc main_arg5)
abbrev AL : FVec Ideal S1x1024 .f32 := m ((c.tc : Thread nD τ).loc main_arg6)

theorem out_do : res_main_v85 m c = cast_ (dx (AO m c) (first (AZ m c)) (left (AD m c) (AW m c)) (AK m c)) := by
  unfold res_main_v85 cast_ dx outX dvar dy dn logis rroot var first left both
  rfl

theorem out_dh : res_main_v62 m c = dx (AH m c) (third (AZ m c)) (right (AD m c) (AW m c)) (AL m c) := by
  unfold res_main_v62 dx outX dvar dy dn logis rroot var third right both
  rfl

theorem run_ref : θ_run defs (onTc (τ := τ) (main (F := Ideal))) ⟨m, fun _ => 0, ρ⟩ fun r => ∀ c : Dev nD,
      r.2.mem ((c.tc : Thread nD τ).loc main_v85) = cast_ (dx (AO m c) (first (AZ m c)) (left (AD m c) (AW m c)) (AK m c))
      ∧ r.2.mem ((c.tc : Thread nD τ).loc main_v86) = cast_ (dgate (AO m c) (first (AZ m c)) (left (AD m c) (AW m c)) (AK m c))
      ∧ r.2.mem ((c.tc : Thread nD τ).loc main_v62) = dx (AH m c) (third (AZ m c)) (right (AD m c) (AW m c)) (AL m c)
      ∧ r.2.mem ((c.tc : Thread nD τ).loc main_v87) = cast_ (dgate (AH m c) (third (AZ m c)) (right (AD m c) (AW m c)) (AL m c))
      ∧ r.2.mem ((c.tc : Thread nD τ).loc main_v68) = dgain (AO m c) (first (AZ m c)) (left (AD m c) (AW m c))
      ∧ r.2.mem ((c.tc : Thread nD τ).loc main_v46) = dgain (AH m c) (third (AZ m c)) (right (AD m c) (AW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (out_do m c), (h c).2.1.trans (by unfold cast_ dgate before logis rroot var first left both; rfl),
    (h c).2.2.1.trans (out_dh m c), (h c).2.2.2.1.trans (by unfold cast_ dgate before logis rroot var third right both; rfl),
    (h c).2.2.2.2.1.trans (by unfold dgain dn logis rroot var first left both; rfl),
    (h c).2.2.2.2.2.1.trans (by unfold dgain dn logis rroot var third right both; rfl), (h c).2.2.2.2.2.2⟩)
    (run m ρ)

end Cert.Reference7Ideal.Hand

end
-- ==== Proof.Gated.lean ====
module

public import proofs.«01_k».proof.Defs
public import proofs.«01_k».proof.Proof.GatedValue
public import proofs.«01_k».proof.Proof.GatedRef

@[expose] public section

set_option maxRecDepth 16384

noncomputable section

/-! # The precondition -/

namespace Cert.Pre_finite7.Hand

open Cert.Pre_finite7 Idealize.ShloMosaic

theorem facts : Facts := ⟨by decide, by decide, by decide, by decide⟩

end Cert.Pre_finite7.Hand

/-! # The claim -/

namespace Cert.Gated

open Idealize.ShloMosaic Idealize.ShloMosaic.TcCoe Idealize.SL.Sem Cert.Norm Cert.Kernel7Ideal.Hand
open Cert.Reference7Ideal.Hand (at_ left right first third cast_ dx dgate dgain)

abbrev Mem := (ℓ : Loc Cert.Kernel7Ideal.nD Cert.Kernel7Ideal.τ Cert.Kernel7Ideal.sig) → Buf (Elt Ideal) ℓ

/-- Every row either program reads holds real numbers. -/
structure Reals (m : Mem) (c : Dev Cert.Kernel7Ideal.nD) (r : Fin 4096) : Prop where
  o : ∀ l, IsReal (o m c r l)
  h : ∀ l, IsReal (h m c r l)
  ga : ∀ l, IsReal (ga m c r l)
  gl : ∀ l, IsReal (gl m c r l)
  da : ∀ l, IsReal (da m c r l)
  dl : ∀ l, IsReal (dl m c r l)
  ka : ∀ l, IsReal (ka m c l)
  kl : ∀ l, IsReal (kl m c l)

theorem reals [hp : Cert.Pre_finite7.Facts] {m : Mem} (hpre : Cert.Pre_Kernel7Ideal_finite7 m) (c : Dev Cert.Kernel7Ideal.nD) (r : Fin 4096) :
    Reals m c r := by
  obtain ⟨p0, p1, p2, p3, p4, p5, p6⟩ := hpre c
  have f := Cert.Pre_finite.Hand.finite_real
  exact ⟨fun l => f _ (congrFun p0 _), fun l => f _ (congrFun p1 _), fun l => f _ (congrFun p2 _), fun l => f _ (congrFun p2 _),
    fun l => IsReal.sum_mul (fun _ => f _ (congrFun p3 _)) fun _ => f _ (congrFun p4 _),
    fun l => IsReal.sum_mul (fun _ => f _ (congrFun p3 _)) fun _ => f _ (congrFun p4 _),
    fun l => f _ (congrFun p5 _), fun l => f _ (congrFun p6 _)⟩

section Rows

variable (m : Mem) (c : Dev Cert.Kernel7Ideal.nD) (r : Fin 4096)

theorem left_row : at_ r (left (AD m c) (AW m c)) = da m c r := funext fun k => Cert.Reference7Ideal.Hand.left_at r k _ _
theorem right_row : at_ r (right (AD m c) (AW m c)) = dl m c r := funext fun k => Cert.Reference7Ideal.Hand.right_at r k _ _
theorem first_row : at_ r (first (AZ m c)) = ga m c r := funext fun k => Cert.Reference7Ideal.Hand.first_at r k _
theorem third_row : at_ r (third (AZ m c)) = gl m c r := funext fun k => Cert.Reference7Ideal.Hand.third_at r k _

/-- The gains' gradients. -/
def gainA : Cert.Kernel7Ideal.S1x1024.Idx → EReal := fun y => ∑ r : Fin 4096, ofGain (o m c r) (ga m c r) (da m c r) (y 1)
def gainL : Cert.Kernel7Ideal.S1x1024.Idx → EReal := fun y => ∑ r : Fin 4096, ofGain (h m c r) (gl m c r) (dl m c r) (y 1)

end Rows

theorem ix2_of (y : Cert.Kernel7Ideal.S4096x1024.Idx) : ∃ (r : Fin 4096) (k : Fin 1024), y = ix2 r k := ⟨y 0, y 1, by funext a; fin_cases a <;> rfl⟩

theorem ix2_of' (y : Cert.Kernel7Ideal.S1x1024.Idx) : ∃ (u : Fin 1) (k : Fin 1024), y = ix2 u k := ⟨y 0, y 1, by funext a; fin_cases a <;> rfl⟩

theorem algebraic_gated : Cert.algebraic_Kernel7Ideal_Reference7Ideal_pre_finite7 (hKernel7Ideal := Cert.Kernel7Ideal.Gen.facts)
    (hReference7Ideal := Cert.Reference7Ideal.Gen.facts) (hPre_finite7 := Cert.Pre_finite7.Hand.facts) := by
  intro m g m' g' hpre hagree
  have R := fun c r => reals (hp := Cert.Pre_finite7.Hand.facts) hpre c r
  refine ⟨fun c y => ofRow (o m c (y 0)) (ga m c (y 0)) (da m c (y 0)) (ka m c) (y 1), fun c y => ofGate (o m c (y 0)) (ga m c (y 0)) (da m c (y 0)) (ka m c) (y 1),
    fun c y => ofRow (h m c (y 0)) (gl m c (y 0)) (dl m c (y 0)) (kl m c) (y 1), fun c y => ofGate (h m c (y 0)) (gl m c (y 0)) (dl m c (y 0)) (kl m c) (y 1),
    fun c => gainA m c, fun c => gainL m c, ?_, ?_⟩
  · refine (θ_run _ _ _).mono (fun _ H c => ?_) (Cert.Kernel7Ideal.Value.run_blocks m g)
    obtain ⟨h8, _, h10, h11, h12, h13, h14, hargs⟩ := H c
    exact ⟨h8.trans (array_do m c), h10.trans (array_dga m c), h11.trans (array_dh m c), h12.trans (array_dgl m c), h13.trans (array_gka m c),
      h14.trans (array_gkl m c), hargs⟩
  · refine (θ_run _ _ _).mono (fun _ H c => ?_) (Cert.Reference7Ideal.Hand.run_ref m' g')
    obtain ⟨h0, h1, h2, h3, h4, h5, hargs⟩ := H c
    have a0 : Cert.Reference7Ideal.Hand.AO m' c = AO m c := (hagree c).1
    have a1 : Cert.Reference7Ideal.Hand.AH m' c = AH m c := (hagree c).2.1
    have a2 : Cert.Reference7Ideal.Hand.AZ m' c = AZ m c := (hagree c).2.2.1
    have a3 : Cert.Reference7Ideal.Hand.AD m' c = AD m c := (hagree c).2.2.2.1
    have a4 : Cert.Reference7Ideal.Hand.AW m' c = AW m c := (hagree c).2.2.2.2.1
    have a5 : Cert.Reference7Ideal.Hand.AK m' c = AK m c := (hagree c).2.2.2.2.2.1
    have a6 : Cert.Reference7Ideal.Hand.AL m' c = AL m c := (hagree c).2.2.2.2.2.2
    refine ⟨h0.trans ?_, h1.trans ?_, h2.trans ?_, h3.trans ?_, h4.trans ?_, h5.trans ?_, hargs⟩
    · rw [a0, a2, a3, a4, a5]
      funext y
      obtain ⟨r, k, rfl⟩ := ix2_of y
      refine (Cert.Reference7Ideal.Hand.cast_at r k _).trans ((Cert.Reference7Ideal.Hand.dx_at _ _ _ _ r k).trans ?_)
      refine Eq.trans ?_ (row_eq k (R c r).o (R c r).ga (R c r).da (R c r).ka).symm
      rw [← left_row, ← first_row]
      rfl
    · rw [a0, a2, a3, a4, a5]
      funext y
      obtain ⟨r, k, rfl⟩ := ix2_of y
      refine (Cert.Reference7Ideal.Hand.cast_at r k _).trans ((Cert.Reference7Ideal.Hand.dgate_at _ _ _ _ r k).trans ?_)
      refine Eq.trans ?_ (gate_eq k (R c r).o (R c r).ga (R c r).da (R c r).ka).symm
      rw [← left_row, ← first_row]
      rfl
    · rw [a1, a2, a3, a4, a6]
      funext y
      obtain ⟨r, k, rfl⟩ := ix2_of y
      refine (Cert.Reference7Ideal.Hand.dx_at _ _ _ _ r k).trans ?_
      refine Eq.trans ?_ (row_eq k (R c r).h (R c r).gl (R c r).dl (R c r).kl).symm
      rw [← right_row, ← third_row]
      rfl
    · rw [a1, a2, a3, a4, a6]
      funext y
      obtain ⟨r, k, rfl⟩ := ix2_of y
      refine (Cert.Reference7Ideal.Hand.cast_at r k _).trans ((Cert.Reference7Ideal.Hand.dgate_at _ _ _ _ r k).trans ?_)
      refine Eq.trans ?_ (gate_eq k (R c r).h (R c r).gl (R c r).dl (R c r).kl).symm
      rw [← right_row, ← third_row]
      rfl
    · rw [a0, a2, a3, a4]
      funext y
      obtain ⟨u, k, rfl⟩ := ix2_of' y
      refine (Cert.Reference7Ideal.Hand.dgain_at _ _ _ k u).trans (Finset.sum_congr rfl fun r _ => ?_)
      refine Eq.trans ?_ (gain_eq (v := o m c r) (d := da m c r) k (R c r).ga).symm
      rw [← left_row, ← first_row]
      rfl
    · rw [a1, a2, a3, a4]
      funext y
      obtain ⟨u, k, rfl⟩ := ix2_of' y
      refine (Cert.Reference7Ideal.Hand.dgain_at _ _ _ k u).trans (Finset.sum_congr rfl fun r _ => ?_)
      refine Eq.trans ?_ (gain_eq (v := h m c r) (d := dl m c r) k (R c r).gl).symm
      rw [← right_row, ← third_row]
      rfl

end Cert.Gated

end
-- ==== Proof.HeadRow.lean ====
module

public import proofs.«01_k».proof.Proof.Residual

@[expose] public section

set_option maxRecDepth 16384

noncomputable section

/-! # The last block's head, a row at a time

`x` is the stream, `t` the target, `P` the embedding's projection that is normed with gain `k`, and `G` the projection that, with the bias `b`,
gates it. -/

namespace Cert.Head

open Idealize.ShloMosaic Cert.Attention Cert.Norm Cert.Gated

/-! ## As the kernel computes it -/

variable (x t P G k b : Fin 1024 → EReal) (e : Fin 1024)

/-- The normed row, and that with the gain. -/
def hat : EReal := P e * root P
def scaled : EReal := hat P e * k e

/-- The gate's value. -/
def opened : EReal := gate (G e + b e)

/-- How far the result is from the target, and the gradient there. -/
def diff : EReal := x e + opened G b e * scaled P k e - t e
def err : EReal := diff x t P G k b e * Ideal.ofBits .f32 0x3A800000#32

/-- The gradients at the gate's argument and at the normed row. -/
def ofOpen : EReal := err x t P G k b e * scaled P k e * opened G b e * (Ideal.ofBits .f32 0x3F800000#32 - opened G b e)
def ofScaled : EReal := err x t P G k b e * opened G b e

/-- The row's share of the gain's gradient, and of the loss. -/
def ofGain : EReal := ofScaled x t P G k b e * hat P e
def ofLoss : EReal := Ideal.div (∑ l, diff x t P G k b l * diff x t P G k b l) (Ideal.ofBits .f32 0x44800000#32)

/-- The gradient at a normed row `v`, where that at the scaled row is `d`. -/
def back (v d q : Fin 1024 → EReal) (e : Fin 1024) : EReal :=
  root v * (d e * q e - hat v e * Ideal.div (∑ l, d l * q l * hat v l) (Ideal.ofBits .f32 0x44800000#32))

/-! ## As the derivative of the formula gives it -/

def refOpened : EReal := refSig (G e + b e)
def refDiff : EReal := x e + refOpened G b e * scaled P k e - t e
def refErr : EReal := Ideal.div (Ideal.ofBits .f32 0x3F000000#32 * Ideal.ofBits .f32 0x3F800000#32) (Ideal.ofBits .f32 0x44800000#32)
  * (Ideal.ofBits .f32 0x40000000#32 * refDiff x t P G k b e)
def refOpen : EReal := refErr x t P G k b e * scaled P k e * (refOpened G b e * (Ideal.ofBits .f32 0x3F800000#32 - refOpened G b e))
def refScaled : EReal := refOpened G b e * refErr x t P G k b e
def refGain : EReal := hat P e * refScaled x t P G k b e
def refLoss : EReal := Ideal.div (∑ l, refDiff x t P G k b l * refDiff x t P G k b l) (Ideal.ofBits .f32 0x44800000#32)

/-- The mean square's gradient, a row's worth of it. -/
def refPull (v d q : Fin 1024 → EReal) : EReal :=
  Ideal.div ((∑ l, v l * (d l * q l)) * (Ideal.ofBits .f32 0xBF000000#32
    * Ideal.div (root v) (Ideal.div (∑ l, v l * v l) (Ideal.ofBits .f32 0x44800000#32) + Ideal.ofBits .f32 0x358637BD#32))) (Ideal.ofBits .f32 0x44800000#32)

def refBack (v d q : Fin 1024 → EReal) (e : Fin 1024) : EReal := d e * q e * root v + v e * refPull v d q + refPull v d q * v e

/-! ## The two are one -/

theorem word_two : Ideal.ofBits FTy.f32 0x40000000#32 = ((2 : ℝ) : EReal) := by
  simp [Ideal.ofBits, Ideal.ieee, -EReal.coe_mul]; norm_num

theorem word_part : Ideal.ofBits FTy.f32 0x3A800000#32 = ((1 / 1024 : ℝ) : EReal) := by
  simp [Ideal.ofBits, Ideal.ieee, -EReal.coe_mul]; norm_num

theorem opened_eq : refOpened G b e = opened G b e := (gate_all _).symm

theorem diff_eq : refDiff x t P G k b e = diff x t P G k b e := by
  unfold refDiff diff
  rw [opened_eq]

theorem err_eq : refErr x t P G k b e = err x t P G k b e := by
  unfold refErr err
  rw [diff_eq, word_part, word_two, Gated.word_half, word_one, word_width, ← EReal.coe_mul, div_coe_coe _ (by norm_num), ← mul_assoc, ← EReal.coe_mul, mul_comm]
  congr 2
  norm_num

theorem open_eq : refOpen x t P G k b e = ofOpen x t P G k b e := by
  unfold refOpen ofOpen
  rw [err_eq, opened_eq, ← mul_assoc]

theorem scaled_eq : refScaled x t P G k b e = ofScaled x t P G k b e := by
  unfold refScaled ofScaled
  rw [err_eq, opened_eq, mul_comm]

theorem gain_eq : refGain x t P G k b e = ofGain x t P G k b e := by
  unfold refGain ofGain
  rw [scaled_eq, mul_comm]

theorem loss_eq : refLoss x t P G k b = ofLoss x t P G k b := by
  unfold refLoss ofLoss
  simp only [diff_eq]

/-- Half of a sum is the sum of the halves. -/
theorem half_sum {ι : Type} (s : Finset ι) (f : ι → EReal) :
    Ideal.ofBits FTy.f32 0x3F000000#32 * ∑ i ∈ s, f i = ∑ i ∈ s, Ideal.ofBits FTy.f32 0x3F000000#32 * f i := by
  classical
  induction s using Finset.induction_on with
  | empty => simp
  | insert a s ha ih =>
    rw [Finset.sum_insert ha, Finset.sum_insert ha, ← ih, Gated.word_half]
    exact EReal.left_distrib_of_nonneg_of_ne_top (by norm_num) (EReal.coe_ne_top _) _ _

/-! ## Real rows -/

theorem _root_.Cert.Norm.IsReal.mul {x y : EReal} (hx : IsReal x) (hy : IsReal y) : IsReal (x * y) := by
  obtain ⟨a, rfl⟩ := hx
  obtain ⟨b, rfl⟩ := hy
  exact ⟨a * b, (EReal.coe_mul _ _).symm⟩

theorem _root_.Cert.Norm.IsReal.sub {x y : EReal} (hx : IsReal x) (hy : IsReal y) : IsReal (x - y) := by
  obtain ⟨a, rfl⟩ := hx
  obtain ⟨b, rfl⟩ := hy
  exact ⟨a - b, (EReal.coe_sub _ _).symm⟩

theorem gate_real {y : EReal} (hy : IsReal y) : IsReal (gate y) := by
  obtain ⟨a, rfl⟩ := hy
  exact ⟨_, gate_sig_coe a⟩

theorem meanSq_real {v : Fin 1024 → EReal} {y : Fin 1024 → ℝ} (hy : ∀ l, v l = (y l : EReal)) :
    Ideal.div (∑ l, v l * v l) (Ideal.ofBits .f32 0x44800000#32) + Ideal.ofBits .f32 0x358637BD#32 = (meanSq y : EReal) := by
  simp only [hy]
  exact meanSq_coe y

theorem root_coe {v : Fin 1024 → EReal} {y : Fin 1024 → ℝ} (hy : ∀ l, v l = (y l : EReal)) : root v = (invRms y : EReal) :=
  (congrArg Ideal.rsqrt (meanSq_real hy)).trans (invRms_coe y)

theorem back_eq {v d q : Fin 1024 → EReal} (hv : ∀ l, IsReal (v l)) (hd : ∀ l, IsReal (d l)) (hq : ∀ l, IsReal (q l)) :
    refBack v d q e = back v d q e := by
  unfold back refBack refPull hat
  choose y hy using hv
  choose n hn using hd
  choose g hg using hq
  rw [meanSq_real hy, root_coe hy]
  simp only [hy, hn, hg]
  rw [kernel_row, pull_coe, grad_pull, EReal.coe_add, EReal.coe_add, EReal.coe_mul, EReal.coe_mul, EReal.coe_mul, EReal.coe_mul]

variable {x t P G k b}

theorem hat_real (hP : ∀ l, IsReal (P l)) : IsReal (hat P e) := by
  have h := hP
  choose y hy using h
  exact (hP e).mul ⟨_, root_coe hy⟩

theorem opened_real (hG : ∀ l, IsReal (G l)) (hb : ∀ l, IsReal (b l)) : IsReal (opened G b e) := gate_real ((hG e).add (hb e))

theorem err_real (hx : ∀ l, IsReal (x l)) (ht : ∀ l, IsReal (t l)) (hP : ∀ l, IsReal (P l)) (hG : ∀ l, IsReal (G l)) (hk : ∀ l, IsReal (k l))
    (hb : ∀ l, IsReal (b l)) : IsReal (err x t P G k b e) :=
  (((hx e).add ((opened_real e hG hb).mul ((hat_real e hP).mul (hk e)))).sub (ht e)).mul ⟨_, word_part⟩

theorem scaled_real (hx : ∀ l, IsReal (x l)) (ht : ∀ l, IsReal (t l)) (hP : ∀ l, IsReal (P l)) (hG : ∀ l, IsReal (G l)) (hk : ∀ l, IsReal (k l))
    (hb : ∀ l, IsReal (b l)) : IsReal (ofScaled x t P G k b e) := (err_real e hx ht hP hG hk hb).mul (opened_real e hG hb)

theorem open_real (hx : ∀ l, IsReal (x l)) (ht : ∀ l, IsReal (t l)) (hP : ∀ l, IsReal (P l)) (hG : ∀ l, IsReal (G l)) (hk : ∀ l, IsReal (k l))
    (hb : ∀ l, IsReal (b l)) : IsReal (ofOpen x t P G k b e) :=
  (((err_real e hx ht hP hG hk hb).mul ((hat_real e hP).mul (hk e))).mul (opened_real e hG hb)).mul (IsReal.sub ⟨_, word_one⟩ (opened_real e hG hb))

end Cert.Head

end
-- ==== Proof.HeadValue.lean ====
module

public import proofs.«01_k».proof.Proof.Gen.Kernel10Ideal.Value
public import proofs.«01_k».proof.Proof.HeadRow

@[expose] public section

set_option maxRecDepth 16384

noncomputable section

namespace Cert.Kernel10Ideal.Hand

open Cert.Kernel10Ideal Cert.Kernel10Ideal.Gen Cert.Gated Cert.Head
open Idealize.ShloMosaic Idealize.ShloMosaic.TcCoe Idealize.ShloMosaic.Pipeline

/-! # The payloads at an index -/

section Payloads

variable (x y s z : FVec Ideal S256x1024 .f32) (a : FVec Ideal S256x256 .f32) (w : FVec Ideal S256x1024 .bf16) (v : FVec Ideal S1024x1024 .bf16)
  (q : FVec Ideal S1x1024 .f32) (i : Fin 256) (k : Fin 1024)

theorem embed_at : k0_pay7 (F := Ideal) a w (ix2 i k) = ∑ l : Fin 256, a (ix2 i l) * w (ix2 l k) := by
  pointwise [k0_pay7]

theorem root_at (u : Fin 1) : k0_pay8 (F := Ideal) a w (ix2 i u) = root fun l => k0_pay7 (F := Ideal) a w (ix2 i l) := by
  pointwise [k0_pay8]
  rfl

theorem hat_at : k0_pay9 (F := Ideal) a w (ix2 i k) = hat (fun l => k0_pay7 (F := Ideal) a w (ix2 i l)) k := by
  pointwise [k0_pay9]
  rw [root_at]
  rfl

theorem scaled_at : k0_pay10 (F := Ideal) a w q (ix2 i k) = hat (fun l => k0_pay7 (F := Ideal) a w (ix2 i l)) k * q (ix2 0 k) := by
  pointwise [k0_pay10]
  rw [hat_at]

theorem opened_at : k0_pay11 (F := Ideal) x v q (ix2 i k) = gate ((∑ l : Fin 1024, x (ix2 i l) * v (ix2 l k)) + q (ix2 0 k)) := by
  pointwise [k0_pay11]
  rfl

theorem diff_at : k0_pay12 (F := Ideal) x y s z (ix2 i k) = x (ix2 i k) + s (ix2 i k) * y (ix2 i k) - z (ix2 i k) := by
  pointwise [k0_pay12]

theorem loss_at (f : FVec Ideal S1x1 .f32) (u u' : Fin 1) : k0_pay13 (F := Ideal) x y s z f (ix2 u u')
    = f (ix2 u u') + Ideal.ofBits .f32 0x3F000000#32 * ∑ i : Fin 256, Ideal.div (∑ l : Fin 1024, k0_pay12 (F := Ideal) x y s z (ix2 i l)
      * k0_pay12 (F := Ideal) x y s z (ix2 i l)) (Ideal.ofBits .f32 0x44800000#32) := by
  pointwise [k0_pay13]

theorem err_at : k0_pay14 (F := Ideal) x y s z (ix2 i k) = k0_pay12 (F := Ideal) x y s z (ix2 i k) * Ideal.ofBits .f32 0x3A800000#32 := by
  pointwise [k0_pay14]

theorem open_at : k0_pay15 (F := Ideal) x y s z (ix2 i k) = k0_pay14 (F := Ideal) x y s z (ix2 i k) * y (ix2 i k) * s (ix2 i k)
    * (Ideal.ofBits .f32 0x3F800000#32 - s (ix2 i k)) := by
  pointwise [k0_pay15]

theorem open_cast_at : k0_pay16 (F := Ideal) x y s z (ix2 i k) = k0_pay15 (F := Ideal) x y s z (ix2 i k) := by
  pointwise [k0_pay16]

theorem bias_at (u : Fin 1) : k0_pay17 (F := Ideal) x y s z q (ix2 u k) = q (ix2 u k) + ∑ i : Fin 256, k0_pay15 (F := Ideal) x y s z (ix2 i k) := by
  pointwise [k0_pay17]

theorem dscaled_at : k0_pay18 (F := Ideal) x y s z (ix2 i k) = k0_pay14 (F := Ideal) x y s z (ix2 i k) * s (ix2 i k) := by
  pointwise [k0_pay18]

theorem gain_at (h : FVec Ideal S256x1024 .f32) (u : Fin 1) : k0_pay21 (F := Ideal) (k0_pay19 (F := Ideal) q) (k0_pay20 (F := Ideal) x h y s z) (ix2 u k)
    = q (ix2 u k) + ∑ i : Fin 256, k0_pay18 (F := Ideal) x y s z (ix2 i k) * h (ix2 i k) := by
  pointwise [k0_pay21, k0_pay19, k0_pay20]

theorem back_at (r : FVec Ideal S256x1 .f32) (h d : FVec Ideal S256x1024 .f32) : k0_pay22 (F := Ideal) r h d q (ix2 i k)
    = r (ix2 i 0) * (d (ix2 i k) * q (ix2 0 k) - h (ix2 i k) * Ideal.div (∑ l : Fin 1024, d (ix2 i l) * q (ix2 0 l) * h (ix2 i l)) (Ideal.ofBits .f32 0x44800000#32)) := by
  pointwise [k0_pay22]

theorem stream_at (d : FVec Ideal S256x1024 .bf16) : k0_pay23 (F := Ideal) x d v (ix2 i k) = x (ix2 i k) + ∑ l : Fin 1024, d (ix2 i l) * v (ix2 k l) := by
  pointwise [k0_pay23]

theorem root_at' (u : Fin 1) : k0_pay24 (F := Ideal) x (ix2 i u) = root fun l => x (ix2 i l) := by
  pointwise [k0_pay24]
  rfl

theorem hat_at' : k0_pay25 (F := Ideal) x (ix2 i k) = hat (fun l => x (ix2 i l)) k := by
  pointwise [k0_pay25]
  rw [root_at']
  rfl

theorem gain_at' (d h : FVec Ideal S256x1024 .f32) (u : Fin 1) : k0_pay1 (F := Ideal) d h q (ix2 u k)
    = q (ix2 u k) + ∑ i : Fin 256, d (ix2 i k) * h (ix2 i k) := by
  pointwise [k0_pay1]

theorem back_at' (r : FVec Ideal S256x1 .f32) (h d : FVec Ideal S256x1024 .f32) : k0_pay2 (F := Ideal) d r h q (ix2 i k)
    = r (ix2 i 0) * (d (ix2 i k) * q (ix2 0 k) - h (ix2 i k) * Ideal.div (∑ l : Fin 1024, d (ix2 i l) * q (ix2 0 l) * h (ix2 i l)) (Ideal.ofBits .f32 0x44800000#32)) := by
  pointwise [k0_pay2]

theorem zero_loss (j : S1x1.Idx) : k0_pay3 (F := Ideal) j = 0 := by pointwise [k0_pay3]
theorem zero_gk (j : S1x1024.Idx) : k0_pay4 (F := Ideal) j = 0 := by pointwise [k0_pay4]
theorem zero_gb (j : S1x1024.Idx) : k0_pay5 (F := Ideal) j = 0 := by pointwise [k0_pay5]
theorem zero_gg (j : S1x1024.Idx) : k0_pay6 (F := Ideal) j = 0 := by pointwise [k0_pay6]

end Payloads

/-! # The arguments' rows -/

variable (m : (ℓ : Loc nD τ sig) → Buf (Elt Ideal) ℓ) (c : Dev nD)

abbrev AX : FVec Ideal S4096x1024 .f32 := m ((c.tc : Thread nD τ).loc main_arg0)
abbrev AP : FVec Ideal S4096x256 .f32 := m ((c.tc : Thread nD τ).loc main_arg1)
abbrev AT : FVec Ideal S4096x1024 .f32 := m ((c.tc : Thread nD τ).loc main_arg2)
abbrev AM : FVec Ideal S4096x1024 .f32 := m ((c.tc : Thread nD τ).loc main_arg3)
abbrev AW : FVec Ideal S1024x1024 .f32 := m ((c.tc : Thread nD τ).loc main_arg4)
abbrev AE : FVec Ideal S256x1024 .f32 := m ((c.tc : Thread nD τ).loc main_arg5)
abbrev AK : FVec Ideal S1x1024 .f32 := m ((c.tc : Thread nD τ).loc main_arg6)
abbrev AB : FVec Ideal S1x1024 .f32 := m ((c.tc : Thread nD τ).loc main_arg7)
abbrev AQ : FVec Ideal S1x1024 .f32 := m ((c.tc : Thread nD τ).loc main_arg8)

variable (r : Fin 4096) (k : Fin 1024)

/-- A row of the stream, of the target and of the mixed array. -/
def rX (k : Fin 1024) : EReal := AX m c (ix2 r k)
def rT (k : Fin 1024) : EReal := AT m c (ix2 r k)
def rM (k : Fin 1024) : EReal := AM m c (ix2 r k)

/-- A row of the embedding's projection and of the stream's. -/
def rP (k : Fin 1024) : EReal := ∑ l : Fin 256, AP m c (ix2 r l) * AE m c (ix2 l k)
def rG (k : Fin 1024) : EReal := ∑ l : Fin 1024, AX m c (ix2 r l) * AW m c (ix2 l k)

/-- The embedding's gain, the bias and the mixed array's gain. -/
def rK : EReal := AK m c (ix2 0 k)
def rB : EReal := AB m c (ix2 0 k)
def rQ : EReal := AQ m c (ix2 0 k)

/-! # The results' rows -/

def vLoss : EReal := ofLoss (rX m c r) (rT m c r) (rP m c r) (rG m c r) (rK m c) (rB m c)
def vOpen : EReal := ofOpen (rX m c r) (rT m c r) (rP m c r) (rG m c r) (rK m c) (rB m c) k
def vScaled : EReal := ofScaled (rX m c r) (rT m c r) (rP m c r) (rG m c r) (rK m c) (rB m c) k
def vEmbed : EReal := back (rP m c r) (vScaled m c r) (rK m c) k
def vStream : EReal := err (rX m c r) (rT m c r) (rP m c r) (rG m c r) (rK m c) (rB m c) k + ∑ l : Fin 1024, vOpen m c r l * AW m c (ix2 k l)
def vMixed : EReal := back (rM m c r) (vStream m c r) (rQ m c) k
def vGain : EReal := ofGain (rX m c r) (rT m c r) (rP m c r) (rG m c r) (rK m c) (rB m c) k
def vPost : EReal := vStream m c r k * hat (rM m c r) k

/-! # The blocks of a point -/

/-- Row `i` of the point's block is row `256 t + i` of the array. -/
def row (t : Fin cfg0.N) (i : Fin 256) : Fin 4096 := ⟨t.val * 256 + i.val, by have := lt_of_lt_of_eq t.isLt N_0; omega⟩

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val, 0] ∧ win0_11.index t = ![t.val, 0] ∧ win0_12.index t = ![t.val, 0]
    ∧ win0_13.index t = ![t.val, 0] ∧ win0_14.index t = ![0, 0] ∧ win0_15.index t = ![0, 0] ∧ win0_16.index t = ![0, 0] :=
  (by decide +kernel : ∀ t : Fin grid0.N, _)

variable (t : Fin cfg0.N) (i : Fin 256)

abbrev bX : FVec Ideal S256x1024 .f32 := iblk m c 0 t
abbrev bP : FVec Ideal S256x256 .f32 := iblk m c 1 t
abbrev bT : FVec Ideal S256x1024 .f32 := iblk m c 2 t
abbrev bM : FVec Ideal S256x1024 .f32 := iblk m c 3 t
abbrev bW : FVec Ideal S1024x1024 .bf16 := iblk m c 4 t
abbrev bE : FVec Ideal S256x1024 .bf16 := iblk m c 5 t
abbrev bK : FVec Ideal S1x1024 .f32 := iblk m c 6 t
abbrev bB : FVec Ideal S1x1024 .f32 := iblk m c 7 t
abbrev bQ : FVec Ideal S1x1024 .f32 := iblk m c 8 t

theorem bX_at : bX m c t (ix2 i k) = rX m c (row t i) k := by unfold rX row; blk_point [iblk, V, idx t]
theorem bP_at (l : Fin 256) : bP m c t (ix2 i l) = AP m c (ix2 (row t i) l) := by unfold row; blk_point [iblk, V, idx t]
theorem bT_at : bT m c t (ix2 i k) = rT m c (row t i) k := by unfold rT row; blk_point [iblk, V, idx t]
theorem bM_at : bM m c t (ix2 i k) = rM m c (row t i) k := by unfold rM row; blk_point [iblk, V, idx t]
theorem bK_at (u : Fin 1) : bK m c t (ix2 u k) = rK m c k := by unfold rK; blk_point [iblk, V, idx t]
theorem bB_at (u : Fin 1) : bB m c t (ix2 u k) = rB m c k := by unfold rB; blk_point [iblk, V, idx t]
theorem bQ_at (u : Fin 1) : bQ m c t (ix2 u k) = rQ m c k := by unfold rQ; blk_point [iblk, V, idx t]
theorem bW_at (n : Fin 1024) : bW m c t (ix2 n k) = AW m c (ix2 n k) := by blk_point [iblk, idx t]
theorem bE_at (n : Fin 256) : bE m c t (ix2 n k) = AE m c (ix2 n k) := by blk_point [iblk, idx t]

/-- The values a point computes from its blocks. -/
abbrev pP : FVec Ideal S256x1024 .f32 := k0_pay7 (F := Ideal) (bP m c t) (bE m c t)
abbrev pR : FVec Ideal S256x1 .f32 := k0_pay8 (F := Ideal) (bP m c t) (bE m c t)
abbrev pH : FVec Ideal S256x1024 .f32 := k0_pay9 (F := Ideal) (bP m c t) (bE m c t)
abbrev pY : FVec Ideal S256x1024 .f32 := k0_pay10 (F := Ideal) (bP m c t) (bE m c t) (bK m c t)
abbrev pS : FVec Ideal S256x1024 .f32 := k0_pay11 (F := Ideal) (bX m c t) (bW m c t) (bB m c t)
abbrev pD : FVec Ideal S256x1024 .f32 := k0_pay18 (F := Ideal) (bX m c t) (pY m c t) (pS m c t) (bT m c t)
abbrev pO : FVec Ideal S256x1024 .bf16 := k0_pay16 (F := Ideal) (bX m c t) (pY m c t) (pS m c t) (bT m c t)
abbrev pV : FVec Ideal S256x1024 .f32 := k0_pay23 (F := Ideal) (k0_pay14 (F := Ideal) (bX m c t) (pY m c t) (pS m c t) (bT m c t)) (pO m c t) (bW m c t)

theorem pP_row : (fun l => pP m c t (ix2 i l)) = rP m c (row t i) := funext fun k =>
  (embed_at _ _ _ _).trans (Finset.sum_congr rfl fun l _ => congrArg₂ (· * ·) (bP_at m c t i l) (bE_at m c k t l))

theorem bM_row : (fun l => bM m c t (ix2 i l)) = rM m c (row t i) := funext fun l => bM_at m c l t i

theorem pR_at (u : Fin 1) : pR m c t (ix2 i u) = root (rP m c (row t i)) := (root_at _ _ _ _).trans (congrArg root (pP_row m c t i))

theorem pH_at : pH m c t (ix2 i k) = hat (rP m c (row t i)) k := (hat_at _ _ _ _).trans (congrArg (fun v => hat v k) (pP_row m c t i))

theorem pY_at : pY m c t (ix2 i k) = scaled (rP m c (row t i)) (rK m c) k := by
  refine (scaled_at _ _ _ _ _).trans ?_
  rw [bK_at]
  exact congrArg (fun v => hat v k * rK m c k) (pP_row m c t i)

theorem pS_at : pS m c t (ix2 i k) = opened (rG m c (row t i)) (rB m c) k := by
  refine (opened_at _ _ _ _ _).trans ?_
  rw [bB_at]
  exact congrArg (fun a => gate (a + rB m c k)) (Finset.sum_congr rfl fun l _ => congrArg₂ (· * ·) (bX_at m c l t i) (bW_at m c k t l))

theorem diff_row : k0_pay12 (F := Ideal) (bX m c t) (pY m c t) (pS m c t) (bT m c t) (ix2 i k)
    = diff (rX m c (row t i)) (rT m c (row t i)) (rP m c (row t i)) (rG m c (row t i)) (rK m c) (rB m c) k := by
  rw [diff_at, bX_at, pY_at, pS_at, bT_at]
  rfl

theorem err_row : k0_pay14 (F := Ideal) (bX m c t) (pY m c t) (pS m c t) (bT m c t) (ix2 i k)
    = err (rX m c (row t i)) (rT m c (row t i)) (rP m c (row t i)) (rG m c (row t i)) (rK m c) (rB m c) k := by
  rw [err_at, diff_row]
  rfl

theorem open_row : k0_pay15 (F := Ideal) (bX m c t) (pY m c t) (pS m c t) (bT m c t) (ix2 i k) = vOpen m c (row t i) k := by
  rw [open_at, err_row, pY_at, pS_at]
  rfl

theorem pO_at : pO m c t (ix2 i k) = vOpen m c (row t i) k := (open_cast_at _ _ _ _ _ _).trans (open_row m c k t i)

theorem pD_at : pD m c t (ix2 i k) = vScaled m c (row t i) k := by
  refine (dscaled_at _ _ _ _ _ _).trans ?_
  rw [err_row, pS_at]
  rfl

theorem pV_at : pV m c t (ix2 i k) = vStream m c (row t i) k := by
  refine (stream_at _ _ _ _ _).trans ?_
  rw [err_row]
  exact congrArg (fun a => _ + a) (Finset.sum_congr rfl fun l _ => congrArg₂ (· * ·) (pO_at m c l t i) (bW_at m c l t k))

theorem block_embed : k0_pay22 (F := Ideal) (pR m c t) (pH m c t) (pD m c t) (bK m c t) (ix2 i k) = vEmbed m c (row t i) k := by
  rw [back_at, pR_at]
  simp only [pD_at, pH_at, bK_at]
  rfl

theorem block_mixed : k0_pay2 (F := Ideal) (pV m c t) (k0_pay24 (F := Ideal) (bM m c t)) (k0_pay25 (F := Ideal) (bM m c t)) (bQ m c t) (ix2 i k)
    = vMixed m c (row t i) k := by
  rw [back_at', root_at']
  simp only [pV_at, hat_at', bM_row, bQ_at]
  rfl

theorem ix_of (y : S1x1024.Idx) : ∃ (u : Fin 1) (k : Fin 1024), y = ix2 u k := ⟨y 0, y 1, by funext a; fin_cases a <;> rfl⟩

theorem block_gain (g : FVec Ideal S1x1024 .f32) (y : S1x1024.Idx) : k0_pay21 (F := Ideal) (k0_pay19 (F := Ideal) g)
    (k0_pay20 (F := Ideal) (bX m c t) (pH m c t) (pY m c t) (pS m c t) (bT m c t)) y = g y + ∑ i : Fin 256, vGain m c (row t i) (y 1) := by
  obtain ⟨u, k, rfl⟩ := ix_of y
  rw [gain_at]
  simp only [pD_at, pH_at]
  rfl

theorem block_bias (g : FVec Ideal S1x1024 .f32) (y : S1x1024.Idx) : k0_pay17 (F := Ideal) (bX m c t) (pY m c t) (pS m c t) (bT m c t) g y
    = g y + ∑ i : Fin 256, vOpen m c (row t i) (y 1) := by
  obtain ⟨u, k, rfl⟩ := ix_of y
  rw [bias_at]
  simp only [open_row]
  rfl

theorem block_post (g : FVec Ideal S1x1024 .f32) (y : S1x1024.Idx) : k0_pay1 (F := Ideal) (pV m c t) (k0_pay25 (F := Ideal) (bM m c t)) g y
    = g y + ∑ i : Fin 256, vPost m c (row t i) (y 1) := by
  obtain ⟨u, k, rfl⟩ := ix_of y
  rw [gain_at']
  simp only [pV_at, hat_at', bM_row]
  rfl

theorem block_loss (f : FVec Ideal S1x1 .f32) (y : S1x1.Idx) : k0_pay13 (F := Ideal) (bX m c t) (pY m c t) (pS m c t) (bT m c t) f y
    = f y + ∑ i : Fin 256, Ideal.ofBits .f32 0x3F000000#32 * vLoss m c (row t i) := by
  obtain ⟨u, u', rfl⟩ : ∃ (u u' : Fin 1), y = ix2 u u' := ⟨y 0, y 1, by funext a; fin_cases a <;> rfl⟩
  rw [loss_at, half_sum]
  simp only [diff_row]
  rfl

/-! # The result arrays -/

theorem array_open : (dats m 0 c).arrAt 10 (cfgs 0).N = (fun y : S4096x1024.Idx => vOpen m c (y 0) (y 1)) := by
  refine (dats m 0 c).arrAt_eq_of_covers 10 _ (by decide +kernel) fun t hf y => ?_
  blk_simp
  rw [after0_10]
  obtain ⟨i, k, rfl⟩ : ∃ (i : Fin 256) (k : Fin 1024), y = ix2 i k := ⟨y 0, y 1, by funext a; fin_cases a <;> rfl⟩
  have hb : (outsAt0 m c t.val t.isLt).2.1 (ix2 i k) = vOpen m c (row t i) k := by
    by_cases h : t.val % 16 = 0
    · rw [outsAt0_A m c t h]; frame_out
      exact pO_at m c k t i
    · rw [outsAt0_B m c t h]; frame_out
      exact pO_at m c k t i
  refine hb.trans (congrArg₂ (vOpen m c) (Fin.ext ?_) (Fin.ext ?_))
  · unfold row
    blk_simp [idx t]
  · blk_simp [idx t]

theorem array_embed : (dats m 0 c).arrAt 11 (cfgs 0).N = (fun y : S4096x1024.Idx => vEmbed m c (y 0) (y 1)) := by
  refine (dats m 0 c).arrAt_eq_of_covers 11 _ (by decide +kernel) fun t hf y => ?_
  blk_simp
  rw [after0_11]
  obtain ⟨i, k, rfl⟩ : ∃ (i : Fin 256) (k : Fin 1024), y = ix2 i k := ⟨y 0, y 1, by funext a; fin_cases a <;> rfl⟩
  have hb : (outsAt0 m c t.val t.isLt).2.2.1 (ix2 i k) = vEmbed m c (row t i) k := by
    by_cases h : t.val % 16 = 0
    · rw [outsAt0_A m c t h]; frame_out
      exact block_embed m c k t i
    · rw [outsAt0_B m c t h]; frame_out
      exact block_embed m c k t i
  refine hb.trans (congrArg₂ (vEmbed m c) (Fin.ext ?_) (Fin.ext ?_))
  · unfold row
    blk_simp [idx t]
  · blk_simp [idx t]

theorem array_stream : (dats m 0 c).arrAt 12 (cfgs 0).N = (fun y : S4096x1024.Idx => vStream m c (y 0) (y 1)) := by
  refine (dats m 0 c).arrAt_eq_of_covers 12 _ (by decide +kernel) fun t hf y => ?_
  blk_simp
  rw [after0_12]
  obtain ⟨i, k, rfl⟩ : ∃ (i : Fin 256) (k : Fin 1024), y = ix2 i k := ⟨y 0, y 1, by funext a; fin_cases a <;> rfl⟩
  have hb : (outsAt0 m c t.val t.isLt).2.2.2.1 (ix2 i k) = vStream m c (row t i) k := by
    by_cases h : t.val % 16 = 0
    · rw [outsAt0_A m c t h]; frame_out
      exact pV_at m c k t i
    · rw [outsAt0_B m c t h]; frame_out
      exact pV_at m c k t i
  refine hb.trans (congrArg₂ (vStream m c) (Fin.ext ?_) (Fin.ext ?_))
  · unfold row
    blk_simp [idx t]
  · blk_simp [idx t]

theorem array_mixed : (dats m 0 c).arrAt 13 (cfgs 0).N = (fun y : S4096x1024.Idx => vMixed m c (y 0) (y 1)) := by
  refine (dats m 0 c).arrAt_eq_of_covers 13 _ (by decide +kernel) fun t hf y => ?_
  blk_simp
  rw [after0_13]
  obtain ⟨i, k, rfl⟩ : ∃ (i : Fin 256) (k : Fin 1024), y = ix2 i k := ⟨y 0, y 1, by funext a; fin_cases a <;> rfl⟩
  have hb : (outsAt0 m c t.val t.isLt).2.2.2.2.1 (ix2 i k) = vMixed m c (row t i) k := by
    by_cases h : t.val % 16 = 0
    · rw [outsAt0_A m c t h]; frame_out
      exact block_mixed m c k t i
    · rw [outsAt0_B m c t h]; frame_out
      exact block_mixed m c k t i
  refine hb.trans (congrArg₂ (vMixed m c) (Fin.ext ?_) (Fin.ext ?_))
  · unfold row
    blk_simp [idx t]
  · blk_simp [idx t]

theorem row_of_flush (hN : t.val / 16 = 0) (s : Fin 16) (i : Fin 256) (hs) (hl) : row ⟨16 * (t.val / 16) + s.val, hs⟩ i = ⟨s.val * 256 + i.val, hl⟩ :=
  Fin.ext (by show (16 * (t.val / 16) + s.val) * 256 + i.val = s.val * 256 + i.val; rw [hN]; omega)

theorem array_loss : (dats m 0 c).arrAt 9 (cfgs 0).N = (fun y : S1x1.Idx => ∑ r : Fin 4096, Ideal.ofBits .f32 0x3F000000#32 * vLoss m c r) := by
  refine (dats m 0 c).arrAt_eq_of_covers 9 _ (by decide +kernel) fun t hf y => ?_
  blk_simp
  rw [after0_9, Pipeline.eq_sum_fin_of_reset_step_apply_of_flush (fun n h => (outsAt0 m c n h).1) 16 (fun _ => 0)
    (fun p j => ∑ i : Fin 256, Ideal.ofBits .f32 0x3F000000#32 * vLoss m c (row p i))
    (fun t h j => by
      have hb := block_loss m c t (k0_pay3 (F := Ideal)) j
      rw [zero_loss] at hb
      rw [outsAt0_A m c t h]; frame_out; exact hb)
    (fun t h j => by
      rw [outsAt0_B m c t h]; frame_out
      exact block_loss m c t _ j)
    t ((flush0_9 t).mp hf) _, zero_add]
  refine Fin.sum_mul_add_congr fun s i hl => ?_
  rw [row_of_flush t (by have := lt_of_lt_of_eq t.isLt N_0; omega) s i _ hl]

theorem array_gain : (dats m 0 c).arrAt 14 (cfgs 0).N = (fun y : S1x1024.Idx => ∑ r : Fin 4096, vGain m c r (y 1)) := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.1) 16 (fun _ => 0)
    (fun p j => ∑ i : Fin 256, vGain m c (row p i) (j 1))
    (fun t h j => by
      have hb := block_gain m c t (k0_pay4 (F := Ideal)) j
      rw [zero_gk] at hb
      rw [outsAt0_A m c t h]; frame_out; exact hb)
    (fun t h j => by
      rw [outsAt0_B m c t h]; frame_out
      exact block_gain m c t _ j)
    t ((flush0_14 t).mp hf) _, zero_add]
  have hk : (((win0_14.blk t).view.emb y 1 : Fin 1024)) = (y 1 : Fin 1024) := Fin.ext (by blk_simp [idx t])
  rw [hk]
  refine Fin.sum_mul_add_congr fun s i hl => ?_
  rw [row_of_flush t (by have := lt_of_lt_of_eq t.isLt N_0; omega) s i _ hl]

theorem array_bias : (dats m 0 c).arrAt 15 (cfgs 0).N = (fun y : S1x1024.Idx => ∑ r : Fin 4096, vOpen m c r (y 1)) := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.2.1) 16 (fun _ => 0)
    (fun p j => ∑ i : Fin 256, vOpen m c (row p i) (j 1))
    (fun t h j => by
      have hb := block_bias m c t (k0_pay5 (F := Ideal)) j
      rw [zero_gb] at hb
      rw [outsAt0_A m c t h]; frame_out; exact hb)
    (fun t h j => by
      rw [outsAt0_B m c t h]; frame_out
      exact block_bias m c t _ j)
    t ((flush0_15 t).mp hf) _, zero_add]
  have hk : (((win0_15.blk t).view.emb y 1 : Fin 1024)) = (y 1 : Fin 1024) := Fin.ext (by blk_simp [idx t])
  rw [hk]
  refine Fin.sum_mul_add_congr fun s i hl => ?_
  rw [row_of_flush t (by have := lt_of_lt_of_eq t.isLt N_0; omega) s i _ hl]

theorem array_post : (dats m 0 c).arrAt 16 (cfgs 0).N = (fun y : S1x1024.Idx => ∑ r : Fin 4096, vPost m c r (y 1)) := by
  refine (dats m 0 c).arrAt_eq_of_covers 16 _ (by decide +kernel) fun t hf y => ?_
  blk_simp
  rw [after0_16, Pipeline.eq_sum_fin_of_reset_step_apply_of_flush (fun n h => (outsAt0 m c n h).2.2.2.2.2.2.2) 16 (fun _ => 0)
    (fun p j => ∑ i : Fin 256, vPost m c (row p i) (j 1))
    (fun t h j => by
      have hb := block_post m c t (k0_pay6 (F := Ideal)) j
      rw [zero_gg] at hb
      rw [outsAt0_A m c t h]; frame_out; exact hb)
    (fun t h j => by
      rw [outsAt0_B m c t h]; frame_out
      exact block_post m c t _ j)
    t ((flush0_16 t).mp hf) _, zero_add]
  have hk : (((win0_16.blk t).view.emb y 1 : Fin 1024)) = (y 1 : Fin 1024) := Fin.ext (by blk_simp [idx t])
  rw [hk]
  refine Fin.sum_mul_add_congr fun s i hl => ?_
  rw [row_of_flush t (by have := lt_of_lt_of_eq t.isLt N_0; omega) s i _ hl]

end Cert.Kernel10Ideal.Hand

end
-- ==== Proof.HeadRef.lean ====
module

public import proofs.«01_k».proof.Proof.Gen.Reference10Ideal.Run
public import proofs.«01_k».proof.Proof.HeadRow

@[expose] public section

set_option maxRecDepth 16384

noncomputable section

namespace Cert.Reference10Ideal.Hand

open Cert.Reference10Ideal Cert.Reference10Ideal.Gen Cert.Reference10Ideal.Value Cert.Gated Cert.Head
open Idealize.ShloMosaic Idealize.ShloMosaic.TcCoe Idealize.SL.Sem

/-! # The reference's pieces at an index -/

variable (X T P G D Y : FVec Ideal S4096x1024 .f32) (K B : FVec Ideal S1x1024 .f32) (r : Fin 4096) (k : Fin 1024)

/-- A row of an array, and an array's only row. -/
abbrev at_ (A : FVec Ideal S4096x1024 .f32) (l : Fin 1024) : EReal := A (ix2 r l)
abbrev one_ (A : FVec Ideal S1x1024 .f32) (l : Fin 1024) : EReal := A (ix2 0 l)

def embed (A : FVec Ideal S4096x256 .f32) (W : FVec Ideal S256x1024 .f32) : FVec Ideal S4096x1024 .f32 :=
  Host.dotGeneral dot_S4096x256_S256x1024_S4096x1024_1_0_0_1_n_n none A W

theorem embed_at (A : FVec Ideal S4096x256 .f32) (W : FVec Ideal S256x1024 .f32) : embed A W (ix2 r k) = ∑ l : Fin 256, A (ix2 r l) * W (ix2 l k) := by
  pointwise [embed]

def project (W : FVec Ideal S1024x1024 .f32) : FVec Ideal S4096x1024 .f32 := Host.dotGeneral dot_S4096x1024_S1024x1024_S4096x1024_1_0_0_1_n_n none X W

theorem project_at (W : FVec Ideal S1024x1024 .f32) : project X W (ix2 r k) = ∑ l : Fin 1024, X (ix2 r l) * W (ix2 l k) := by
  pointwise [project]

/-- The gate's value. -/
def logis : FVec Ideal S4096x1024 .f32 := Host.divf (broadcastInDim S4096x1024 ![] bcast_S_S4096x1024 (constant S_ .f32 0x3F800000#32))
  (addf (broadcastInDim S4096x1024 ![] bcast_S_S4096x1024 (constant S_ .f32 0x3F800000#32))
    (Host.exp (Host.negf (addf G (broadcastInDim S4096x1024 ![0, 1] bcast_S1x1024_S4096x1024_0_1 B)))))

theorem logis_at : logis G B (ix2 r k) = refOpened (at_ r G) (one_ B) k := by
  pointwise [logis]
  unfold refOpened refSig
  rw [word_one, EReal.coe_one]

/-- A row's mean square, with the small number added. -/
def var : FVec Ideal S4096x1 .f32 := addf (Host.divf (broadcastInDim S4096x1 ![0] bcast_S4096_S4096x1_0 (Host.reduceAdd (mulf P P)
  (constant S_ .f32 0x00000000#32) reducesTo_S4096x1024_S4096_d1 h_S_)) (broadcastInDim S4096x1 ![] bcast_S_S4096x1 (constant S_ .f32 0x44800000#32)))
  (broadcastInDim S4096x1 ![] bcast_S_S4096x1 (constant S_ .f32 0x358637BD#32))

theorem var_at (u : Fin 1) : var P (ix2 r u)
    = Ideal.div (∑ l : Fin 1024, P (ix2 r l) * P (ix2 r l)) (Ideal.ofBits .f32 0x44800000#32) + Ideal.ofBits .f32 0x358637BD#32 := by
  pointwise [var]

def rroot : FVec Ideal S4096x1 .f32 := Host.rsqrt (var P)

theorem rroot_at (u : Fin 1) : rroot P (ix2 r u) = root (at_ r P) := by
  have h : rroot P (ix2 r u) = Ideal.rsqrt (var P (ix2 r u)) := by pointwise [rroot]
  rw [h, var_at]
  rfl

/-- The normed array, and that with the gain. -/
def rhat : FVec Ideal S4096x1024 .f32 := mulf P (broadcastInDim S4096x1024 ![0, 1] bcast_S4096x1_S4096x1024_0_1 (rroot P))

theorem rhat_at : rhat P (ix2 r k) = hat (at_ r P) k := by
  pointwise [rhat]
  rw [rroot_at]
  rfl

def gained : FVec Ideal S4096x1024 .f32 := mulf D (broadcastInDim S4096x1024 ![0, 1] bcast_S1x1024_S4096x1024_0_1 K)

theorem gained_at : gained D K (ix2 r k) = D (ix2 r k) * K (ix2 0 k) := by pointwise [gained]

theorem scaled_at : gained (rhat P) K (ix2 r k) = scaled (at_ r P) (one_ K) k := by
  rw [gained_at, rhat_at]
  rfl

/-- How far the result is from the target. -/
def off : FVec Ideal S4096x1024 .f32 := subf (addf X (mulf (logis G B) (gained (rhat P) K))) T

theorem off_at : off X T P G K B (ix2 r k) = refDiff (at_ r X) (at_ r T) (at_ r P) (at_ r G) (one_ K) (one_ B) k := by
  pointwise [off]
  rw [logis_at, scaled_at]
  rfl

/-- The loss. -/
def total : FVec Ideal S1x1 .f32 := shapeCast _ (mulf (constant S_ .f32 0x3F000000#32) (Host.reduceAdd (Host.divf (Host.reduceAdd (mulf D D)
  (constant S_ .f32 0x00000000#32) reducesTo_S4096x1024_S4096_d1 h_S_) (broadcastInDim S4096 ![] bcast_S_S4096 (constant S_ .f32 0x44800000#32)))
  (constant S_ .f32 0x00000000#32) reducesTo_S4096_S_d0 h_S_)) shapeCasts_S_S1x1

theorem total_at (u v : Fin 1) : total D (ix2 u v) = Ideal.ofBits .f32 0x3F000000#32
    * ∑ r : Fin 4096, Ideal.div (∑ l : Fin 1024, D (ix2 r l) * D (ix2 r l)) (Ideal.ofBits .f32 0x44800000#32) := by
  pointwise [total]

/-- The gradient at the result. -/
def slope : FVec Ideal S4096x1024 .f32 := mulf (broadcastInDim S4096x1024 ![0] bcast_S4096_S4096x1024_0 (Host.divf (broadcastInDim S4096 ![] bcast_S_S4096
  (mulf (constant S_ .f32 0x3F000000#32) (constant S_ .f32 0x3F800000#32))) (broadcastInDim S4096 ![] bcast_S_S4096 (constant S_ .f32 0x44800000#32))))
  (mulf (broadcastInDim S4096x1024 ![] bcast_S_S4096x1024 (constant S_ .f32 0x40000000#32)) D)

theorem slope_at : slope D (ix2 r k) = Ideal.div (Ideal.ofBits .f32 0x3F000000#32 * Ideal.ofBits .f32 0x3F800000#32) (Ideal.ofBits .f32 0x44800000#32)
    * (Ideal.ofBits .f32 0x40000000#32 * D (ix2 r k)) := by
  pointwise [slope]
  try rw [word_one, EReal.coe_one]

def dres : FVec Ideal S4096x1024 .f32 := slope (off X T P G K B)

theorem dres_at : dres X T P G K B (ix2 r k) = refErr (at_ r X) (at_ r T) (at_ r P) (at_ r G) (one_ K) (one_ B) k := by
  rw [dres, slope_at, off_at]
  rfl

/-- The gradients at the gate's argument and at the scaled array. -/
def dopen : FVec Ideal S4096x1024 .f32 := mulf (mulf (dres X T P G K B) (gained (rhat P) K))
  (mulf (logis G B) (subf (broadcastInDim S4096x1024 ![] bcast_S_S4096x1024 (constant S_ .f32 0x3F800000#32)) (logis G B)))

theorem dopen_at : dopen X T P G K B (ix2 r k) = refOpen (at_ r X) (at_ r T) (at_ r P) (at_ r G) (one_ K) (one_ B) k := by
  pointwise [dopen]
  rw [dres_at, scaled_at, logis_at]
  unfold refOpen
  rw [word_one, EReal.coe_one]

def dscaled : FVec Ideal S4096x1024 .f32 := mulf (logis G B) (dres X T P G K B)

theorem dscaled_at : dscaled X T P G K B (ix2 r k) = refScaled (at_ r X) (at_ r T) (at_ r P) (at_ r G) (one_ K) (one_ B) k := by
  pointwise [dscaled]
  rw [dres_at, logis_at]
  rfl

/-- The mean square's gradient, spread over the row. -/
def dvar (V R : FVec Ideal S4096x1 .f32) : FVec Ideal S4096x1024 .f32 :=
  broadcastInDim S4096x1024 ![0] bcast_S4096_S4096x1024_0 (Host.reduceAdd (Host.divf (mulf (shapeCast _ (Host.reduceAdd (mulf X Y)
    (constant S_ .f32 0x00000000#32) reducesTo_S4096x1024_S4096_d1 h_S_) shapeCasts_S4096_S4096x1)
    (mulf (broadcastInDim S4096x1 ![] bcast_S_S4096x1 (constant S_ .f32 0xBF000000#32)) (Host.divf R V)))
    (broadcastInDim S4096x1 ![] bcast_S_S4096x1 (constant S_ .f32 0x44800000#32))) (constant S_ .f32 0x00000000#32) reducesTo_S4096x1_S4096_d1 h_S_)

theorem dvar_at (V R : FVec Ideal S4096x1 .f32) : dvar X Y V R (ix2 r k)
    = Ideal.div ((∑ l : Fin 1024, X (ix2 r l) * Y (ix2 r l)) * (Ideal.ofBits .f32 0xBF000000#32 * Ideal.div (R (ix2 r 0)) (V (ix2 r 0))))
      (Ideal.ofBits .f32 0x44800000#32) := by
  pointwise [dvar]
  exact Fintype.sum_unique _

def outX (Z : FVec Ideal S4096x1024 .f32) (R : FVec Ideal S4096x1 .f32) : FVec Ideal S4096x1024 .f32 :=
  addf (addf (mulf Y (broadcastInDim S4096x1024 ![0, 1] bcast_S4096x1_S4096x1024_0_1 R)) (mulf X Z)) (mulf Z X)

theorem outX_at (Z : FVec Ideal S4096x1024 .f32) (R : FVec Ideal S4096x1 .f32) : outX X Y Z R (ix2 r k)
    = Y (ix2 r k) * R (ix2 r 0) + X (ix2 r k) * Z (ix2 r k) + Z (ix2 r k) * X (ix2 r k) := by pointwise [outX]

/-- The gradient at the array `X` a norm reads, where `D` is that at its scaled result. -/
def dnorm : FVec Ideal S4096x1024 .f32 := outX X (gained D K) (dvar X (gained D K) (var X) (rroot X)) (rroot X)

theorem dnorm_at : dnorm X D K (ix2 r k) = refBack (at_ r X) (at_ r D) (one_ K) k := by
  rw [dnorm, outX_at, dvar_at, rroot_at, var_at]
  simp only [gained_at]
  rfl

/-- The gradient at the stream. -/
def dstream (D : FVec Ideal S4096x1024 .f32) (O : FVec Ideal S4096x1024 .f32) (W : FVec Ideal S1024x1024 .f32) : FVec Ideal S4096x1024 .f32 :=
  addf D (Host.dotGeneral dot_S4096x1024_S1024x1024_S4096x1024_1_1_0_0_n_n none O W)

theorem dstream_at (O : FVec Ideal S4096x1024 .f32) (W : FVec Ideal S1024x1024 .f32) : dstream D O W (ix2 r k)
    = D (ix2 r k) + ∑ l : Fin 1024, O (ix2 r l) * W (ix2 k l) := by pointwise [dstream]

/-- The sum of an array's rows. -/
def down : FVec Ideal S1x1024 .f32 := shapeCast _ (Host.reduceAdd D (constant S_ .f32 0x00000000#32) reducesTo_S4096x1024_S1024_d0 h_S_) shapeCasts_S1024_S1x1024

theorem down_at (u : Fin 1) : down D (ix2 u k) = ∑ r : Fin 4096, D (ix2 r k) := by pointwise [down]

theorem mulf_at : (mulf X D : FVec Ideal S4096x1024 .f32) (ix2 r k) = X (ix2 r k) * D (ix2 r k) := by pointwise []

/-- An array cast, which changes nothing. -/
def cast_ (A : FVec Ideal S4096x1024 .f32) : FVec Ideal S4096x1024 .bf16 := truncf .bf16 A bitsLt_bf16_f32

theorem cast_at (A : FVec Ideal S4096x1024 .f32) : cast_ A (ix2 r k) = A (ix2 r k) := by pointwise [cast_]

/-! # The run -/

variable (m : (ℓ : Loc nD τ sig) → Buf (Elt Ideal) ℓ) (ρ : Dev nD → PrngReg) (c : Dev nD)

abbrev AX : FVec Ideal S4096x1024 .f32 := m ((c.tc : Thread nD τ).loc main_arg0)
abbrev AP : FVec Ideal S4096x256 .f32 := m ((c.tc : Thread nD τ).loc main_arg1)
abbrev AT : FVec Ideal S4096x1024 .f32 := m ((c.tc : Thread nD τ).loc main_arg2)
abbrev AM : FVec Ideal S4096x1024 .f32 := m ((c.tc : Thread nD τ).loc main_arg3)
abbrev AW : FVec Ideal S1024x1024 .f32 := m ((c.tc : Thread nD τ).loc main_arg4)
abbrev AE : FVec Ideal S256x1024 .f32 := m ((c.tc : Thread nD τ).loc main_arg5)
abbrev AK : FVec Ideal S1x1024 .f32 := m ((c.tc : Thread nD τ).loc main_arg6)
abbrev AB : FVec Ideal S1x1024 .f32 := m ((c.tc : Thread nD τ).loc main_arg7)
abbrev AQ : FVec Ideal S1x1024 .f32 := m ((c.tc : Thread nD τ).loc main_arg8)

section Results

variable (X T M : FVec Ideal S4096x1024 .f32) (A : FVec Ideal S4096x256 .f32) (W : FVec Ideal S1024x1024 .f32) (E : FVec Ideal S256x1024 .f32)
  (K B Q : FVec Ideal S1x1024 .f32)

def gLoss : FVec Ideal S1x1 .f32 := total (off X T (embed A E) (project X W) K B)
def gOpen : FVec Ideal S4096x1024 .f32 := dopen X T (embed A E) (project X W) K B
def gScaled : FVec Ideal S4096x1024 .f32 := dscaled X T (embed A E) (project X W) K B
def gEmbed : FVec Ideal S4096x1024 .f32 := dnorm (embed A E) (gScaled X T A W E K B) K
def gStream : FVec Ideal S4096x1024 .f32 := dstream (dres X T (embed A E) (project X W) K B) (gOpen X T A W E K B) W
def gMixed : FVec Ideal S4096x1024 .f32 := dnorm M (gStream X T A W E K B) Q
def gGain : FVec Ideal S1x1024 .f32 := down (mulf (rhat (embed A E)) (gScaled X T A W E K B))
def gBias : FVec Ideal S1x1024 .f32 := down (gOpen X T A W E K B)
def gPost : FVec Ideal S1x1024 .f32 := down (mulf (rhat M) (gStream X T A W E K B))

end Results

theorem out_embed : res_main_v107 m c = cast_ (gEmbed (AX m c) (AT m c) (AP m c) (AW m c) (AE m c) (AK m c) (AB m c)) := by
  unfold res_main_v107 cast_ gEmbed gScaled dscaled dres slope off dnorm outX dvar gained rhat rroot var logis embed project
  rfl

theorem out_stream : res_main_v70 m c = gStream (AX m c) (AT m c) (AP m c) (AW m c) (AE m c) (AK m c) (AB m c) := by
  unfold res_main_v70 gStream gOpen dstream dopen dres slope off gained rhat rroot var logis embed project
  rfl

theorem out_mixed : res_main_v108 m c = cast_ (gMixed (AX m c) (AT m c) (AM m c) (AP m c) (AW m c) (AE m c) (AK m c) (AB m c) (AQ m c)) := by
  unfold res_main_v108 cast_ gMixed gStream gOpen dstream dopen dres slope off dnorm outX dvar gained rhat rroot var logis embed project
  rfl

theorem out_bias : res_main_v68 m c = gBias (AX m c) (AT m c) (AP m c) (AW m c) (AE m c) (AK m c) (AB m c) := by
  unfold res_main_v68 gBias down gOpen dopen dres slope off gained rhat rroot var logis embed project
  rfl

theorem out_post : res_main_v88 m c = gPost (AX m c) (AT m c) (AM m c) (AP m c) (AW m c) (AE m c) (AK m c) (AB m c) := by
  unfold res_main_v88 gPost down gStream gOpen dstream dopen dres slope off gained rhat rroot var logis embed project
  rfl

theorem run_ref : θ_run defs (onTc (τ := τ) (main (F := Ideal))) ⟨m, fun _ => 0, ρ⟩ fun r => ∀ c : Dev nD,
      r.2.mem ((c.tc : Thread nD τ).loc main_v105) = gLoss (AX m c) (AT m c) (AP m c) (AW m c) (AE m c) (AK m c) (AB m c)
      ∧ r.2.mem ((c.tc : Thread nD τ).loc main_v106) = cast_ (gOpen (AX m c) (AT m c) (AP m c) (AW m c) (AE m c) (AK m c) (AB m c))
      ∧ r.2.mem ((c.tc : Thread nD τ).loc main_v107) = cast_ (gEmbed (AX m c) (AT m c) (AP m c) (AW m c) (AE m c) (AK m c) (AB m c))
      ∧ r.2.mem ((c.tc : Thread nD τ).loc main_v70) = gStream (AX m c) (AT m c) (AP m c) (AW m c) (AE m c) (AK m c) (AB m c)
      ∧ r.2.mem ((c.tc : Thread nD τ).loc main_v108) = cast_ (gMixed (AX m c) (AT m c) (AM m c) (AP m c) (AW m c) (AE m c) (AK m c) (AB m c) (AQ m c))
      ∧ r.2.mem ((c.tc : Thread nD τ).loc main_v49) = gGain (AX m c) (AT m c) (AP m c) (AW m c) (AE m c) (AK m c) (AB m c)
      ∧ r.2.mem ((c.tc : Thread nD τ).loc main_v68) = gBias (AX m c) (AT m c) (AP m c) (AW m c) (AE m c) (AK m c) (AB m c)
      ∧ r.2.mem ((c.tc : Thread nD τ).loc main_v88) = gPost (AX m c) (AT m c) (AM m c) (AP m c) (AW m c) (AE m c) (AK m c) (AB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (by unfold gLoss total off gained rhat rroot var logis embed project; rfl),
    (h c).2.1.trans (by unfold cast_ gOpen dopen dres slope off gained rhat rroot var logis embed project; rfl),
    (h c).2.2.1.trans (out_embed m c), (h c).2.2.2.1.trans (out_stream m c), (h c).2.2.2.2.1.trans (out_mixed m c),
    (h c).2.2.2.2.2.1.trans (by unfold gGain down gScaled dscaled dres slope off gained rhat rroot var logis embed project; rfl),
    (h c).2.2.2.2.2.2.1.trans (out_bias m c), (h c).2.2.2.2.2.2.2.1.trans (out_post m c), (h c).2.2.2.2.2.2.2.2⟩)
    (run m ρ)

end Cert.Reference10Ideal.Hand

end
-- ==== Proof.Head.lean ====
module

public import proofs.«01_k».proof.Defs
public import proofs.«01_k».proof.Proof.HeadValue
public import proofs.«01_k».proof.Proof.HeadRef

@[expose] public section

set_option maxRecDepth 16384

noncomputable section

/-! # The precondition -/

namespace Cert.Pre_finite10.Hand

open Cert.Pre_finite10 Idealize.ShloMosaic

theorem facts : Facts := ⟨by decide, by decide, by decide, by decide, by decide⟩

end Cert.Pre_finite10.Hand

/-! # The claim -/

namespace Cert.Head

open Idealize.ShloMosaic Idealize.ShloMosaic.TcCoe Idealize.SL.Sem Cert.Norm Cert.Kernel10Ideal.Hand
open Cert.Reference10Ideal.Hand (at_ one_ embed project gLoss gOpen gScaled gEmbed gStream gMixed gGain gBias gPost)

abbrev Mem := (ℓ : Loc Cert.Kernel10Ideal.nD Cert.Kernel10Ideal.τ Cert.Kernel10Ideal.sig) → Buf (Elt Ideal) ℓ

/-- Every row either program reads holds real numbers. -/
structure Reals (m : Mem) (c : Dev Cert.Kernel10Ideal.nD) (r : Fin 4096) : Prop where
  x : ∀ l, IsReal (rX m c r l)
  t : ∀ l, IsReal (rT m c r l)
  n : ∀ l, IsReal (rM m c r l)
  p : ∀ l, IsReal (rP m c r l)
  g : ∀ l, IsReal (rG m c r l)
  k : ∀ l, IsReal (rK m c l)
  b : ∀ l, IsReal (rB m c l)
  q : ∀ l, IsReal (rQ m c l)
  w : ∀ y, IsReal (AW m c y)

theorem reals [hp : Cert.Pre_finite10.Facts] {m : Mem} (hpre : Cert.Pre_Kernel10Ideal_finite10 m) (c : Dev Cert.Kernel10Ideal.nD) (r : Fin 4096) :
    Reals m c r := by
  obtain ⟨p0, p1, p2, p3, p4, p5, p6, p7, p8⟩ := hpre c
  have f := Cert.Pre_finite.Hand.finite_real
  exact ⟨fun l => f _ (congrFun p0 _), fun l => f _ (congrFun p2 _), fun l => f _ (congrFun p3 _),
    fun l => IsReal.sum_mul (fun _ => f _ (congrFun p1 _)) fun _ => f _ (congrFun p5 _),
    fun l => IsReal.sum_mul (fun _ => f _ (congrFun p0 _)) fun _ => f _ (congrFun p4 _),
    fun l => f _ (congrFun p6 _), fun l => f _ (congrFun p7 _), fun l => f _ (congrFun p8 _), fun y => f _ (congrFun p4 y)⟩

section Rows

variable (m : Mem) (c : Dev Cert.Kernel10Ideal.nD) (r : Fin 4096) (k : Fin 1024)

theorem embed_row : at_ r (embed (AP m c) (AE m c)) = rP m c r := funext fun k => Cert.Reference10Ideal.Hand.embed_at r k _ _
theorem project_row : at_ r (project (AX m c) (AW m c)) = rG m c r := funext fun k => Cert.Reference10Ideal.Hand.project_at _ r k _

theorem open_row : at_ r (gOpen (AX m c) (AT m c) (AP m c) (AW m c) (AE m c) (AK m c) (AB m c)) = vOpen m c r := funext fun k => by
  refine (Cert.Reference10Ideal.Hand.dopen_at _ _ _ _ _ _ r k).trans ?_
  rw [embed_row, project_row]
  exact open_eq _ _ _ _ _ _ _

theorem scaled_row : at_ r (gScaled (AX m c) (AT m c) (AP m c) (AW m c) (AE m c) (AK m c) (AB m c)) = vScaled m c r := funext fun k => by
  refine (Cert.Reference10Ideal.Hand.dscaled_at _ _ _ _ _ _ r k).trans ?_
  rw [embed_row, project_row]
  exact scaled_eq _ _ _ _ _ _ _

theorem stream_row : at_ r (gStream (AX m c) (AT m c) (AP m c) (AW m c) (AE m c) (AK m c) (AB m c)) = vStream m c r := funext fun k => by
  refine (Cert.Reference10Ideal.Hand.dstream_at _ r k _ _).trans ?_
  refine congrArg₂ (· + ·) ?_ (Finset.sum_congr rfl fun l _ => congrArg (· * _) (congrFun (open_row m c r) l))
  refine (Cert.Reference10Ideal.Hand.dres_at _ _ _ _ _ _ r k).trans ?_
  rw [embed_row, project_row]
  exact err_eq _ _ _ _ _ _ _

variable {m c r}

theorem vScaled_real (R : Reals m c r) (l : Fin 1024) : IsReal (vScaled m c r l) := scaled_real l R.x R.t R.p R.g R.k R.b

theorem vStream_real (R : Reals m c r) (l : Fin 1024) : IsReal (vStream m c r l) :=
  (err_real l R.x R.t R.p R.g R.k R.b).add (IsReal.sum_mul (fun n => open_real n R.x R.t R.p R.g R.k R.b) fun n => R.w _)

theorem embed_eq (R : Reals m c r) : gEmbed (AX m c) (AT m c) (AP m c) (AW m c) (AE m c) (AK m c) (AB m c) (ix2 r k) = vEmbed m c r k := by
  refine (Cert.Reference10Ideal.Hand.dnorm_at _ _ _ r k).trans ?_
  rw [embed_row, scaled_row]
  exact back_eq k R.p (vScaled_real R) R.k

theorem mixed_eq (R : Reals m c r) : gMixed (AX m c) (AT m c) (AM m c) (AP m c) (AW m c) (AE m c) (AK m c) (AB m c) (AQ m c) (ix2 r k) = vMixed m c r k := by
  refine (Cert.Reference10Ideal.Hand.dnorm_at _ _ _ r k).trans ?_
  rw [stream_row]
  exact back_eq k R.n (vStream_real R) R.q

variable (m c)

/-- The loss, and the gradients that sum the rows. -/
def loss : Cert.Kernel10Ideal.S1x1.Idx → EReal := fun y => ∑ r : Fin 4096, Ideal.ofBits .f32 0x3F000000#32 * vLoss m c r
def gain : Cert.Kernel10Ideal.S1x1024.Idx → EReal := fun y => ∑ r : Fin 4096, vGain m c r (y 1)
def bias : Cert.Kernel10Ideal.S1x1024.Idx → EReal := fun y => ∑ r : Fin 4096, vOpen m c r (y 1)
def post : Cert.Kernel10Ideal.S1x1024.Idx → EReal := fun y => ∑ r : Fin 4096, vPost m c r (y 1)

theorem loss_meet : gLoss (AX m c) (AT m c) (AP m c) (AW m c) (AE m c) (AK m c) (AB m c) = loss m c := by
  funext y
  obtain ⟨u, v, rfl⟩ : ∃ (u v : Fin 1), y = ix2 u v := ⟨y 0, y 1, by funext a; fin_cases a <;> rfl⟩
  refine (Cert.Reference10Ideal.Hand.total_at _ u v).trans ((half_sum _ _).trans (Finset.sum_congr rfl fun r _ => congrArg (fun a => _ * a) ?_))
  simp only [Cert.Reference10Ideal.Hand.off_at]
  rw [embed_row, project_row]
  exact loss_eq _ _ _ _ _ _

theorem gain_meet : gGain (AX m c) (AT m c) (AP m c) (AW m c) (AE m c) (AK m c) (AB m c) = gain m c := by
  funext y
  obtain ⟨u, k, rfl⟩ := ix_of y
  refine (Cert.Reference10Ideal.Hand.down_at _ k u).trans (Finset.sum_congr rfl fun r _ => ?_)
  refine (Cert.Reference10Ideal.Hand.mulf_at _ _ r k).trans ?_
  rw [Cert.Reference10Ideal.Hand.rhat_at, embed_row]
  exact (congrArg (fun a => _ * a) (congrFun (scaled_row m c r) k)).trans (mul_comm _ _)

theorem bias_meet : gBias (AX m c) (AT m c) (AP m c) (AW m c) (AE m c) (AK m c) (AB m c) = bias m c := by
  funext y
  obtain ⟨u, k, rfl⟩ := ix_of y
  exact (Cert.Reference10Ideal.Hand.down_at _ k u).trans (Finset.sum_congr rfl fun r _ => congrFun (open_row m c r) k)

theorem post_meet : gPost (AX m c) (AT m c) (AM m c) (AP m c) (AW m c) (AE m c) (AK m c) (AB m c) = post m c := by
  funext y
  obtain ⟨u, k, rfl⟩ := ix_of y
  refine (Cert.Reference10Ideal.Hand.down_at _ k u).trans (Finset.sum_congr rfl fun r _ => ?_)
  refine (Cert.Reference10Ideal.Hand.mulf_at _ _ r k).trans ?_
  rw [Cert.Reference10Ideal.Hand.rhat_at]
  exact (congrArg (fun a => _ * a) (congrFun (stream_row m c r) k)).trans (mul_comm _ _)

end Rows

theorem ix2_of (y : Cert.Kernel10Ideal.S4096x1024.Idx) : ∃ (r : Fin 4096) (k : Fin 1024), y = ix2 r k := ⟨y 0, y 1, by funext a; fin_cases a <;> rfl⟩

theorem algebraic_head : Cert.algebraic_Kernel10Ideal_Reference10Ideal_pre_finite10 (hKernel10Ideal := Cert.Kernel10Ideal.Gen.facts)
    (hReference10Ideal := Cert.Reference10Ideal.Gen.facts) (hPre_finite10 := Cert.Pre_finite10.Hand.facts) := by
  intro m g m' g' hpre hagree
  have R := fun c r => reals (hp := Cert.Pre_finite10.Hand.facts) hpre c r
  refine ⟨fun c => loss m c, fun c y => vOpen m c (y 0) (y 1), fun c y => vEmbed m c (y 0) (y 1), fun c y => vStream m c (y 0) (y 1),
    fun c y => vMixed m c (y 0) (y 1), fun c => gain m c, fun c => bias m c, fun c => post m c, ?_, ?_⟩
  · refine (θ_run _ _ _).mono (fun _ H c => ?_) (Cert.Kernel10Ideal.Value.run_blocks m g)
    obtain ⟨h9, h10, h11, h12, h13, h14, h15, h16, hargs⟩ := H c
    exact ⟨h9.trans (array_loss m c), h10.trans (array_open m c), h11.trans (array_embed m c), h12.trans (array_stream m c), h13.trans (array_mixed m c),
      h14.trans (array_gain m c), h15.trans (array_bias m c), h16.trans (array_post m c), hargs⟩
  · refine (θ_run _ _ _).mono (fun _ H c => ?_) (Cert.Reference10Ideal.Hand.run_ref m' g')
    obtain ⟨h0, h1, h2, h3, h4, h5, h6, h7, hargs⟩ := H c
    obtain ⟨e0, e1, e2, e3, e4, e5, e6, e7, e8⟩ := hagree c
    have a0 : Cert.Reference10Ideal.Hand.AX m' c = AX m c := e0
    have a1 : Cert.Reference10Ideal.Hand.AP m' c = AP m c := e1
    have a2 : Cert.Reference10Ideal.Hand.AT m' c = AT m c := e2
    have a3 : Cert.Reference10Ideal.Hand.AM m' c = AM m c := e3
    have a4 : Cert.Reference10Ideal.Hand.AW m' c = AW m c := e4
    have a5 : Cert.Reference10Ideal.Hand.AE m' c = AE m c := e5
    have a6 : Cert.Reference10Ideal.Hand.AK m' c = AK m c := e6
    have a7 : Cert.Reference10Ideal.Hand.AB m' c = AB m c := e7
    have a8 : Cert.Reference10Ideal.Hand.AQ m' c = AQ m c := e8
    refine ⟨h0.trans ?_, h1.trans ?_, h2.trans ?_, h3.trans ?_, h4.trans ?_, h5.trans ?_, h6.trans ?_, h7.trans ?_, hargs⟩
    · rw [a0, a1, a2, a4, a5, a6, a7]
      exact loss_meet m c
    · rw [a0, a1, a2, a4, a5, a6, a7]
      funext y
      obtain ⟨r, k, rfl⟩ := ix2_of y
      exact (Cert.Reference10Ideal.Hand.cast_at r k _).trans (congrFun (open_row m c r) k)
    · rw [a0, a1, a2, a4, a5, a6, a7]
      funext y
      obtain ⟨r, k, rfl⟩ := ix2_of y
      exact (Cert.Reference10Ideal.Hand.cast_at r k _).trans (embed_eq k (R c r))
    · rw [a0, a1, a2, a4, a5, a6, a7]
      funext y
      obtain ⟨r, k, rfl⟩ := ix2_of y
      exact congrFun (stream_row m c r) k
    · rw [a0, a1, a2, a3, a4, a5, a6, a7, a8]
      funext y
      obtain ⟨r, k, rfl⟩ := ix2_of y
      exact (Cert.Reference10Ideal.Hand.cast_at r k _).trans (mixed_eq k (R c r))
    · rw [a0, a1, a2, a4, a5, a6, a7]
      exact gain_meet m c
    · rw [a0, a1, a2, a4, a5, a6, a7]
      exact bias_meet m c
    · rw [a0, a1, a2, a3, a4, a5, a6, a7]
      exact post_meet m c

end Cert.Head

end
-- ==== Proof.Twin.lean ====
/-
  The second to twelfth kernel programs and their idealized forms are one text. They call the same functions at the same
  points, so a run of one, over the machine's floats, is a run of the other.
-/
module

public import proofs.«01_k».proof.Defs
public import proofs.«01_k».proof.Proof.Gen.Kernel2
public import proofs.«01_k».proof.Proof.Gen.Kernel2Ideal
public import proofs.«01_k».proof.Proof.Gen.Kernel3
public import proofs.«01_k».proof.Proof.Gen.Kernel3Ideal
public import proofs.«01_k».proof.Proof.Gen.Kernel4
public import proofs.«01_k».proof.Proof.Gen.Kernel4Ideal
public import proofs.«01_k».proof.Proof.Gen.Kernel5
public import proofs.«01_k».proof.Proof.Gen.Kernel5Ideal
public import proofs.«01_k».proof.Proof.Gen.Kernel6
public import proofs.«01_k».proof.Proof.Gen.Kernel6Ideal
public import proofs.«01_k».proof.Proof.Gen.Kernel7
public import proofs.«01_k».proof.Proof.Gen.Kernel7Ideal
public import proofs.«01_k».proof.Proof.Gen.Kernel8
public import proofs.«01_k».proof.Proof.Gen.Kernel8Ideal
public import proofs.«01_k».proof.Proof.Gen.Kernel9
public import proofs.«01_k».proof.Proof.Gen.Kernel9Ideal
public import proofs.«01_k».proof.Proof.Gen.Kernel10
public import proofs.«01_k».proof.Proof.Gen.Kernel10Ideal
public import proofs.«01_k».proof.Proof.Gen.Kernel11
public import proofs.«01_k».proof.Proof.Gen.Kernel11Ideal
public import proofs.«01_k».proof.Proof.Gen.Kernel12
public import proofs.«01_k».proof.Proof.Gen.Kernel12Ideal
public import Idealize.ShloMosaic.Lib.Claim

@[expose] public section

set_option maxRecDepth 16384

namespace Cert.Twin

open Idealize.ShloMosaic Idealize.ShloMosaic.TcCoe Idealize.SL.Sem

theorem bodies2 : Cert.Kernel2.defs₀ (F := Bits) = Cert.Kernel2Ideal.defs₀ (F := Bits) := by
  unfold Cert.Kernel2.defs₀ Cert.Kernel2Ideal.defs₀
  congr 1
  funext l a
  match l, a with
  | 0, (t, s) => rfl

theorem defs2 : Cert.Kernel2.defs (F := Bits) = Cert.Kernel2Ideal.defs (F := Bits) :=
  congrArg (Pipeline.defs (Cert.Kernel2.pcfgs (F := Bits))) bodies2

theorem bodies3 : Cert.Kernel3.defs₀ (F := Bits) = Cert.Kernel3Ideal.defs₀ (F := Bits) := by
  unfold Cert.Kernel3.defs₀ Cert.Kernel3Ideal.defs₀
  congr 1
  funext l a
  match l, a with
  | 0, (t, s) => rfl

theorem defs3 : Cert.Kernel3.defs (F := Bits) = Cert.Kernel3Ideal.defs (F := Bits) :=
  congrArg (Pipeline.defs (Cert.Kernel3.pcfgs (F := Bits))) bodies3

theorem bodies4 : Cert.Kernel4.defs₀ (F := Bits) = Cert.Kernel4Ideal.defs₀ (F := Bits) := by
  unfold Cert.Kernel4.defs₀ Cert.Kernel4Ideal.defs₀
  congr 1
  funext l a
  match l, a with
  | 0, (t, s) => rfl

theorem defs4 : Cert.Kernel4.defs (F := Bits) = Cert.Kernel4Ideal.defs (F := Bits) :=
  congrArg (Pipeline.defs (Cert.Kernel4.pcfgs (F := Bits))) bodies4

theorem bodies5 : Cert.Kernel5.defs₀ (F := Bits) = Cert.Kernel5Ideal.defs₀ (F := Bits) := by
  unfold Cert.Kernel5.defs₀ Cert.Kernel5Ideal.defs₀
  congr 1
  funext l a
  match l, a with
  | 0, (t, s) => rfl

theorem defs5 : Cert.Kernel5.defs (F := Bits) = Cert.Kernel5Ideal.defs (F := Bits) :=
  congrArg (Pipeline.defs (Cert.Kernel5.pcfgs (F := Bits))) bodies5

theorem bodies6 : Cert.Kernel6.defs₀ (F := Bits) = Cert.Kernel6Ideal.defs₀ (F := Bits) := by
  unfold Cert.Kernel6.defs₀ Cert.Kernel6Ideal.defs₀
  congr 1
  funext l a
  match l, a with
  | 0, (t, s) => rfl

theorem defs6 : Cert.Kernel6.defs (F := Bits) = Cert.Kernel6Ideal.defs (F := Bits) :=
  congrArg (Pipeline.defs (Cert.Kernel6.pcfgs (F := Bits))) bodies6

theorem bodies7 : Cert.Kernel7.defs₀ (F := Bits) = Cert.Kernel7Ideal.defs₀ (F := Bits) := by
  unfold Cert.Kernel7.defs₀ Cert.Kernel7Ideal.defs₀
  congr 1
  funext l a
  match l, a with
  | 0, (t, s) => rfl

theorem defs7 : Cert.Kernel7.defs (F := Bits) = Cert.Kernel7Ideal.defs (F := Bits) :=
  congrArg (Pipeline.defs (Cert.Kernel7.pcfgs (F := Bits))) bodies7

theorem bodies8 : Cert.Kernel8.defs₀ (F := Bits) = Cert.Kernel8Ideal.defs₀ (F := Bits) := by
  unfold Cert.Kernel8.defs₀ Cert.Kernel8Ideal.defs₀
  congr 1
  funext l a
  match l, a with
  | 0, (t, s) => rfl

theorem defs8 : Cert.Kernel8.defs (F := Bits) = Cert.Kernel8Ideal.defs (F := Bits) :=
  congrArg (Pipeline.defs (Cert.Kernel8.pcfgs (F := Bits))) bodies8

theorem bodies9 : Cert.Kernel9.defs₀ (F := Bits) = Cert.Kernel9Ideal.defs₀ (F := Bits) := by
  unfold Cert.Kernel9.defs₀ Cert.Kernel9Ideal.defs₀
  congr 1
  funext l a
  match l, a with
  | 0, (t, s) => rfl

theorem defs9 : Cert.Kernel9.defs (F := Bits) = Cert.Kernel9Ideal.defs (F := Bits) :=
  congrArg (Pipeline.defs (Cert.Kernel9.pcfgs (F := Bits))) bodies9

theorem bodies10 : Cert.Kernel10.defs₀ (F := Bits) = Cert.Kernel10Ideal.defs₀ (F := Bits) := by
  unfold Cert.Kernel10.defs₀ Cert.Kernel10Ideal.defs₀
  congr 1
  funext l a
  match l, a with
  | 0, (t, s) => rfl

theorem defs10 : Cert.Kernel10.defs (F := Bits) = Cert.Kernel10Ideal.defs (F := Bits) :=
  congrArg (Pipeline.defs (Cert.Kernel10.pcfgs (F := Bits))) bodies10

theorem bodies11 : Cert.Kernel11.defs₀ (F := Bits) = Cert.Kernel11Ideal.defs₀ (F := Bits) := by
  unfold Cert.Kernel11.defs₀ Cert.Kernel11Ideal.defs₀
  congr 1
  funext l a
  match l, a with
  | 0, (t, s) => rfl

theorem defs11 : Cert.Kernel11.defs (F := Bits) = Cert.Kernel11Ideal.defs (F := Bits) :=
  congrArg (Pipeline.defs (Cert.Kernel11.pcfgs (F := Bits))) bodies11

theorem bodies12 : Cert.Kernel12.defs₀ (F := Bits) = Cert.Kernel12Ideal.defs₀ (F := Bits) := by
  unfold Cert.Kernel12.defs₀ Cert.Kernel12Ideal.defs₀
  congr 1
  funext l a
  match l, a with
  | 0, (t, s) => rfl

theorem defs12 : Cert.Kernel12.defs (F := Bits) = Cert.Kernel12Ideal.defs (F := Bits) :=
  congrArg (Pipeline.defs (Cert.Kernel12.pcfgs (F := Bits))) bodies12

end Cert.Twin

end
-- ==== Proof.Product.lean ====
module

public import proofs.«01_k».proof.Proof.Gen.Kernel3Ideal.Value
public import Idealize.ShloMosaic.Lib.Pipeline.ValueKit
public import Idealize.ShloMosaic.Lib.Claim
public import proofs.«01_k».proof.Proof.Gen.Reference3Ideal.Run
public import proofs.«01_k».proof.Defs

@[expose] public section

set_option maxRecDepth 16384

noncomputable section

/-! # The kernel's product of the transposed left argument and the right, the rows in two halves -/

namespace Cert.Kernel3Ideal.Hand

open Cert.Kernel3Ideal Cert.Kernel3Ideal.Gen Cert.Kernel3Ideal.Value
open Idealize.ShloMosaic Idealize.ShloMosaic.TcCoe Idealize.ShloMosaic.Pipeline

theorem first_at (a b : FVec Ideal S2048x1024 .bf16) (j k : Fin 1024) : k0_pay2 (F := Ideal) a b (ix2 j k) = ∑ l : Fin 2048, a (ix2 l j) * b (ix2 l k) := by
  pointwise [k0_pay2, k0_pay1]

theorem next_at (a b : FVec Ideal S2048x1024 .bf16) (s : FVec Ideal S1024x1024 .f32) (j k : Fin 1024) :
    k0_pay3 (F := Ideal) a b s (ix2 j k) = s (ix2 j k) + ∑ l : Fin 2048, a (ix2 l j) * b (ix2 l k) := by
  pointwise [k0_pay3, k0_pay1]

theorem last_at (s : FVec Ideal S1024x1024 .f32) (y : S1024x1024.Idx) : k0_pay4 (F := Ideal) s y = s y := by pointwise [k0_pay4]

variable (m : (ℓ : Loc nD τ sig) → Buf (Elt Ideal) ℓ) (c : Dev nD) (t : Fin cfg0.N) (i : Fin 2048)

abbrev A0 : FVec Ideal S4096x1024 .f32 := m ((c.tc : Thread nD τ).loc main_arg0)
abbrev A1 : FVec Ideal S4096x1024 .f32 := m ((c.tc : Thread nD τ).loc main_arg1)

/-- The product. -/
def prod (j k : Fin 1024) : EReal := ∑ r : Fin 4096, A0 m c (ix2 r j) * A1 m c (ix2 r k)

theorem idx : ∀ t : Fin cfg0.N, win0_0.index t = ![t.val, 0] ∧ win0_1.index t = ![t.val, 0] ∧ win0_2.index t = ![0, 0] :=
  (by decide +kernel : ∀ t : Fin grid0.N, _)

/-- Row `i` of the point's block is row `2048 t + i` of the array. -/
def row (t : Fin cfg0.N) (i : Fin 2048) : Fin 4096 := ⟨t.val * 2048 + i.val, by have := lt_of_lt_of_eq t.isLt N_0; omega⟩

abbrev b0 : FVec Ideal S2048x1024 .bf16 := iblk m c 0 t
abbrev b1 : FVec Ideal S2048x1024 .bf16 := iblk m c 1 t

theorem b0_at (k : Fin 1024) : b0 m c t (ix2 i k) = A0 m c (ix2 (row t i) k) := by unfold row; blk_point [iblk, idx t]
theorem b1_at (k : Fin 1024) : b1 m c t (ix2 i k) = A1 m c (ix2 (row t i) k) := by unfold row; blk_point [iblk, idx t]

/-- A point's share of the product. -/
def half (t : Fin cfg0.N) (y : S1024x1024.Idx) : EReal := ∑ i : Fin 2048, A0 m c (ix2 (row t i) (y 0)) * A1 m c (ix2 (row t i) (y 1))

theorem first_block (y : S1024x1024.Idx) : k0_pay2 (F := Ideal) (b0 m c t) (b1 m c t) y = half m c t y := by
  obtain ⟨j, k, rfl⟩ : ∃ j k : Fin 1024, y = ix2 j k := ⟨y 0, y 1, by funext a; fin_cases a <;> rfl⟩
  exact (first_at _ _ j k).trans (Finset.sum_congr rfl fun i _ => congrArg₂ (· * ·) (b0_at m c t i j) (b1_at m c t i k))

theorem next_block (s : FVec Ideal S1024x1024 .f32) (y : S1024x1024.Idx) : k0_pay3 (F := Ideal) (b0 m c t) (b1 m c t) s y = s y + half m c t y := by
  obtain ⟨j, k, rfl⟩ : ∃ j k : Fin 1024, y = ix2 j k := ⟨y 0, y 1, by funext a; fin_cases a <;> rfl⟩
  exact (next_at _ _ s j k).trans (congrArg₂ (· + ·) rfl (Finset.sum_congr rfl fun i _ => congrArg₂ (· * ·) (b0_at m c t i j) (b1_at m c t i k)))

theorem first_half (h : t.val % 2 = 0) : (outsAt0 m c t.val t.isLt).2 = half m c t := by
  rw [outsAt0_A m c t h (by omega) (by omega)]
  frame_out
  funext y
  exact first_block m c t y

theorem array_prod : (dats m 0 c).arrAt 2 (cfgs 0).N = (fun y : S1024x1024.Idx => prod m c (y 0) (y 1)) := by
  refine (dats m 0 c).arrAt_eq_of_covers 2 _ (by decide +kernel) fun t hf y => ?_
  blk_simp
  have h1 : t.val % 2 = 1 := (flush0_2 t).mp hf
  have hN : t.val < 2 := lt_of_lt_of_eq t.isLt N_0
  have hl : t.val - 1 < cfg0.N := Nat.lt_of_le_of_lt (Nat.sub_le _ _) t.isLt
  have hs := first_half m c ⟨t.val - 1, hl⟩ (by show (t.val - 1) % 2 = 0; omega)
  dsimp only at hs
  rw [after0_2, outsAt0_B m c t (by omega) h1 h1, hs]
  frame_out
  refine (last_at _ _).trans ((next_block m c t _ y).trans ?_)
  have e0 : (((win0_2.blk t).view.emb y 0 : Fin 1024)) = (y 0 : Fin 1024) := Fin.ext (by blk_simp [idx t])
  have e1 : (((win0_2.blk t).view.emb y 1 : Fin 1024)) = (y 1 : Fin 1024) := Fin.ext (by blk_simp [idx t])
  show _ = prod m c ((win0_2.blk t).view.emb y 0) ((win0_2.blk t).view.emb y 1)
  rw [e0, e1]
  refine Eq.trans ?_ (Fin.sum_univ_add (a := 2048) (b := 2048) fun r : Fin 4096 => A0 m c (ix2 r (y 0)) * A1 m c (ix2 r (y 1))).symm
  have hc : half m c ⟨t.val - 1, hl⟩ y = ∑ i : Fin 2048, A0 m c (ix2 (Fin.castAdd 2048 i : Fin 4096) (y 0)) * A1 m c (ix2 (Fin.castAdd 2048 i : Fin 4096) (y 1)) :=
    Finset.sum_congr rfl fun i _ => congrArg (fun r => A0 m c (ix2 r (y 0)) * A1 m c (ix2 r (y 1)))
      (Fin.ext (by show (t.val - 1) * 2048 + i.val = i.val; omega) : row ⟨t.val - 1, hl⟩ i = (Fin.castAdd 2048 i : Fin 4096))
  have hn : half m c t y = ∑ i : Fin 2048, A0 m c (ix2 (Fin.natAdd 2048 i : Fin 4096) (y 0)) * A1 m c (ix2 (Fin.natAdd 2048 i : Fin 4096) (y 1)) :=
    Finset.sum_congr rfl fun i _ => congrArg (fun r => A0 m c (ix2 r (y 0)) * A1 m c (ix2 r (y 1)))
      (Fin.ext (by show t.val * 2048 + i.val = 2048 + i.val; omega) : row t i = (Fin.natAdd 2048 i : Fin 4096))
  exact congrArg₂ (· + ·) ((congrFun ((Memref.isWhole_whole cc0_scratch0).read_unread _) y).trans hc) hn

end Cert.Kernel3Ideal.Hand

/-! # The reference's -/

namespace Cert.Reference3Ideal.Hand

open Cert.Reference3Ideal Cert.Reference3Ideal.Gen Cert.Reference3Ideal.Value
open Idealize.ShloMosaic Idealize.ShloMosaic.TcCoe

/-- The reference's result, over its two arguments. -/
def out (a b : FVec Ideal S4096x1024 .f32) : FVec Ideal S1024x1024 .bf16 :=
  truncf .bf16 (transpose S1024x1024 [1, 0] (transpose S1024x1024 [1, 0] (Host.dotGeneral dot_S4096x1024_S4096x1024_S1024x1024_0_0_1_1_n_n none a b)
    transposes_S1024x1024_S1024x1024_1_0) transposes_S1024x1024_S1024x1024_1_0) bitsLt_bf16_f32

theorem out_at (a b : FVec Ideal S4096x1024 .f32) (j k : Fin 1024) : out a b (ix2 j k) = ∑ r : Fin 4096, a (ix2 r j) * b (ix2 r k) := by
  pointwise [out]

end Cert.Reference3Ideal.Hand

/-! # The claim -/

namespace Cert.Product

open Idealize.ShloMosaic Idealize.ShloMosaic.TcCoe Idealize.SL.Sem

theorem algebraic_prod : Cert.algebraic_Kernel3Ideal_Reference3Ideal (hKernel3Ideal := Cert.Kernel3Ideal.Gen.facts)
    (hReference3Ideal := Cert.Reference3Ideal.Gen.facts) := by
  intro m g m' g' _ hagree
  refine ⟨fun c y => Cert.Kernel3Ideal.Hand.prod m c (y 0) (y 1), ?_, ?_⟩
  · exact (θ_run _ _ _).mono (fun _ h c => ⟨(h c).1.trans (Cert.Kernel3Ideal.Hand.array_prod m c), (h c).2⟩) (Cert.Kernel3Ideal.Value.run_blocks m g)
  · refine (θ_run _ _ _).mono (fun _ h c => ⟨(h c).1.trans ?_, (h c).2⟩) (Cert.Reference3Ideal.Value.run m' g')
    rw [(hagree c).1, (hagree c).2]
    funext y
    obtain ⟨j, k, rfl⟩ : ∃ j k : Fin 1024, y = ix2 j k := ⟨y 0, y 1, by funext a; fin_cases a <;> rfl⟩
    exact Cert.Reference3Ideal.Hand.out_at _ _ j k

end Cert.Product

end
-- ==== Proof.ProductOut.lean ====
module

public import proofs.«01_k».proof.Proof.Gen.Kernel4Ideal.Value
public import Idealize.ShloMosaic.Lib.Pipeline.ValueKit
public import Idealize.ShloMosaic.Lib.Claim
public import proofs.«01_k».proof.Proof.Gen.Reference4Ideal.Run
public import proofs.«01_k».proof.Defs

@[expose] public section

set_option maxRecDepth 16384

noncomputable section

/-! # The kernel's product of the transposed left argument and the right, two column blocks of the left by two halves of the rows -/

namespace Cert.Kernel4Ideal.Hand

open Cert.Kernel4Ideal Cert.Kernel4Ideal.Gen Cert.Kernel4Ideal.Value
open Idealize.ShloMosaic Idealize.ShloMosaic.TcCoe Idealize.ShloMosaic.Pipeline

theorem first_at (a b : FVec Ideal S2048x1024 .bf16) (j k : Fin 1024) : k0_pay2 (F := Ideal) a b (ix2 j k) = ∑ l : Fin 2048, a (ix2 l j) * b (ix2 l k) := by
  pointwise [k0_pay2, k0_pay1]

theorem next_at (a b : FVec Ideal S2048x1024 .bf16) (s : FVec Ideal S1024x1024 .f32) (j k : Fin 1024) :
    k0_pay3 (F := Ideal) a b s (ix2 j k) = s (ix2 j k) + ∑ l : Fin 2048, a (ix2 l j) * b (ix2 l k) := by
  pointwise [k0_pay3, k0_pay1]

theorem last_at (s : FVec Ideal S1024x1024 .f32) (y : S1024x1024.Idx) : k0_pay4 (F := Ideal) s y = s y := by pointwise [k0_pay4]

variable (m : (ℓ : Loc nD τ sig) → Buf (Elt Ideal) ℓ) (c : Dev nD) (t : Fin cfg0.N) (i : Fin 2048)

abbrev A0 : FVec Ideal S4096x2048 .f32 := m ((c.tc : Thread nD τ).loc main_arg0)
abbrev A1 : FVec Ideal S4096x1024 .f32 := m ((c.tc : Thread nD τ).loc main_arg1)

/-- The product. -/
def prod (j : Fin 2048) (k : Fin 1024) : EReal := ∑ r : Fin 4096, A0 m c (ix2 r j) * A1 m c (ix2 r k)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- Row `i` of the point's blocks, in the arrays: the rows' half is the point's parity. -/
def row (t : Fin cfg0.N) (i : Fin 2048) : Fin 4096 := ⟨t.val % 2 * 2048 + i.val, by omega⟩

/-- Column `j` of the point's left block, in the array. -/
def col (t : Fin cfg0.N) (j : Fin 1024) : Fin 2048 := ⟨t.val / 2 * 1024 + j.val, by have := lt_of_lt_of_eq t.isLt N_0; omega⟩

abbrev b0 : FVec Ideal S2048x1024 .bf16 := iblk m c 0 t
abbrev b1 : FVec Ideal S2048x1024 .bf16 := iblk m c 1 t

theorem b0_at (k : Fin 1024) : b0 m c t (ix2 i k) = A0 m c (ix2 (row t i) (col t k)) := by unfold row col; blk_point [iblk, idx t]
theorem b1_at (k : Fin 1024) : b1 m c t (ix2 i k) = A1 m c (ix2 (row t i) k) := by unfold row; blk_point [iblk, idx t]

/-- A point's share of the product. -/
def half (t : Fin cfg0.N) (y : S1024x1024.Idx) : EReal := ∑ i : Fin 2048, A0 m c (ix2 (row t i) (col t (y 0))) * A1 m c (ix2 (row t i) (y 1))

theorem first_block (y : S1024x1024.Idx) : k0_pay2 (F := Ideal) (b0 m c t) (b1 m c t) y = half m c t y := by
  obtain ⟨j, k, rfl⟩ : ∃ j k : Fin 1024, y = ix2 j k := ⟨y 0, y 1, by funext a; fin_cases a <;> rfl⟩
  exact (first_at _ _ j k).trans (Finset.sum_congr rfl fun i _ => congrArg₂ (· * ·) (b0_at m c t i j) (b1_at m c t i k))

theorem next_block (s : FVec Ideal S1024x1024 .f32) (y : S1024x1024.Idx) : k0_pay3 (F := Ideal) (b0 m c t) (b1 m c t) s y = s y + half m c t y := by
  obtain ⟨j, k, rfl⟩ : ∃ j k : Fin 1024, y = ix2 j k := ⟨y 0, y 1, by funext a; fin_cases a <;> rfl⟩
  exact (next_at _ _ s j k).trans (congrArg₂ (· + ·) rfl (Finset.sum_congr rfl fun i _ => congrArg₂ (· * ·) (b0_at m c t i j) (b1_at m c t i k)))

theorem first_half (h : t.val % 2 = 0) : (outsAt0 m c t.val t.isLt).2 = half m c t := by
  rw [outsAt0_A m c t h (by omega) (by omega)]
  frame_out
  funext y
  exact first_block m c t y

theorem array_prod : (dats m 0 c).arrAt 2 (cfgs 0).N = (fun y : S2048x1024.Idx => prod m c (y 0) (y 1)) := by
  refine (dats m 0 c).arrAt_eq_of_covers 2 _ (by decide +kernel) fun t hf y => ?_
  blk_simp
  have h1 : t.val % 2 = 1 := (flush0_2 t).mp hf
  have hN : t.val < 4 := lt_of_lt_of_eq t.isLt N_0
  have hl : t.val - 1 < cfg0.N := Nat.lt_of_le_of_lt (Nat.sub_le _ _) t.isLt
  have hs := first_half m c ⟨t.val - 1, hl⟩ (by show (t.val - 1) % 2 = 0; omega)
  dsimp only at hs
  rw [after0_2, outsAt0_B m c t (by omega) h1 h1, hs]
  frame_out
  refine (last_at _ _).trans ((next_block m c t _ y).trans ?_)
  have e0 : (((win0_2.blk t).view.emb y 0 : Fin 2048)) = col t (y 0 : Fin 1024) := Fin.ext (by unfold col; blk_simp [idx t])
  have e1 : (((win0_2.blk t).view.emb y 1 : Fin 1024)) = (y 1 : Fin 1024) := Fin.ext (by blk_simp [idx t])
  show _ = prod m c ((win0_2.blk t).view.emb y 0) ((win0_2.blk t).view.emb y 1)
  rw [e0, e1]
  refine Eq.trans ?_ (Fin.sum_univ_add (a := 2048) (b := 2048) fun r : Fin 4096 => A0 m c (ix2 r (col t (y 0))) * A1 m c (ix2 r (y 1))).symm
  have hc : half m c ⟨t.val - 1, hl⟩ y = ∑ i : Fin 2048, A0 m c (ix2 (Fin.castAdd 2048 i : Fin 4096) (col t (y 0))) * A1 m c (ix2 (Fin.castAdd 2048 i : Fin 4096) (y 1)) :=
    Finset.sum_congr rfl fun i _ => congrArg₂ (fun r k => A0 m c (ix2 r k) * A1 m c (ix2 r (y 1)))
      (Fin.ext (by show (t.val - 1) % 2 * 2048 + i.val = i.val; omega) : row ⟨t.val - 1, hl⟩ i = (Fin.castAdd 2048 i : Fin 4096))
      (Fin.ext (by show (t.val - 1) / 2 * 1024 + (y 0).val = t.val / 2 * 1024 + (y 0).val; omega) : col ⟨t.val - 1, hl⟩ (y 0) = col t (y 0))
  have hn : half m c t y = ∑ i : Fin 2048, A0 m c (ix2 (Fin.natAdd 2048 i : Fin 4096) (col t (y 0))) * A1 m c (ix2 (Fin.natAdd 2048 i : Fin 4096) (y 1)) :=
    Finset.sum_congr rfl fun i _ => congrArg (fun r => A0 m c (ix2 r (col t (y 0))) * A1 m c (ix2 r (y 1)))
      (Fin.ext (by show t.val % 2 * 2048 + i.val = 2048 + i.val; omega) : row t i = (Fin.natAdd 2048 i : Fin 4096))
  exact congrArg₂ (· + ·) ((congrFun ((Memref.isWhole_whole cc0_scratch0).read_unread _) y).trans hc) hn

end Cert.Kernel4Ideal.Hand

/-! # The reference's -/

namespace Cert.Reference4Ideal.Hand

open Cert.Reference4Ideal Cert.Reference4Ideal.Gen Cert.Reference4Ideal.Value
open Idealize.ShloMosaic Idealize.ShloMosaic.TcCoe

/-- The reference's result, over its two arguments. -/
def out (a : FVec Ideal S4096x2048 .f32) (b : FVec Ideal S4096x1024 .f32) : FVec Ideal S2048x1024 .bf16 :=
  truncf .bf16 (transpose S2048x1024 [1, 0] (Host.dotGeneral dot_S4096x1024_S4096x2048_S1024x2048_0_0_1_1_n_n none b a)
    transposes_S1024x2048_S2048x1024_1_0) bitsLt_bf16_f32

theorem out_at (a : FVec Ideal S4096x2048 .f32) (b : FVec Ideal S4096x1024 .f32) (j : Fin 2048) (k : Fin 1024) :
    out a b (ix2 j k) = ∑ r : Fin 4096, a (ix2 r j) * b (ix2 r k) := by
  pointwise [out]
  exact Finset.sum_congr rfl fun r _ => mul_comm _ _

end Cert.Reference4Ideal.Hand

/-! # The claim -/

namespace Cert.ProductOut

open Idealize.ShloMosaic Idealize.ShloMosaic.TcCoe Idealize.SL.Sem

theorem algebraic_out : Cert.algebraic_Kernel4Ideal_Reference4Ideal (hKernel4Ideal := Cert.Kernel4Ideal.Gen.facts)
    (hReference4Ideal := Cert.Reference4Ideal.Gen.facts) := by
  intro m g m' g' _ hagree
  refine ⟨fun c y => Cert.Kernel4Ideal.Hand.prod m c (y 0) (y 1), ?_, ?_⟩
  · exact (θ_run _ _ _).mono (fun _ h c => ⟨(h c).1.trans (Cert.Kernel4Ideal.Hand.array_prod m c), (h c).2⟩) (Cert.Kernel4Ideal.Value.run_blocks m g)
  · refine (θ_run _ _ _).mono (fun _ h c => ⟨(h c).1.trans ?_, (h c).2⟩) (Cert.Reference4Ideal.Value.run m' g')
    rw [(hagree c).1, (hagree c).2]
    funext y
    obtain ⟨j, k, rfl⟩ : ∃ (j : Fin 2048) (k : Fin 1024), y = ix2 j k := ⟨y 0, y 1, by funext a; fin_cases a <;> rfl⟩
    exact Cert.Reference4Ideal.Hand.out_at _ _ j k

end Cert.ProductOut

end
-- ==== Proof.ProductEmbed.lean ====
module

public import proofs.«01_k».proof.Proof.Gen.Kernel11Ideal.Value
public import Idealize.ShloMosaic.Lib.Pipeline.ValueKit
public import Idealize.ShloMosaic.Lib.Claim
public import proofs.«01_k».proof.Proof.Gen.Reference11Ideal.Run
public import proofs.«01_k».proof.Defs

@[expose] public section

set_option maxRecDepth 16384

noncomputable section

/-! # The kernel's product of the transposed left argument, 256 columns wide, and the right, the rows in two halves -/

namespace Cert.Kernel11Ideal.Hand

open Cert.Kernel11Ideal Cert.Kernel11Ideal.Gen Cert.Kernel11Ideal.Value
open Idealize.ShloMosaic Idealize.ShloMosaic.TcCoe Idealize.ShloMosaic.Pipeline

theorem first_at (a : FVec Ideal S2048x256 .f32) (b : FVec Ideal S2048x1024 .bf16) (j : Fin 256) (k : Fin 1024) : k0_pay2 (F := Ideal) a b (ix2 j k) = ∑ l : Fin 2048, a (ix2 l j) * b (ix2 l k) := by
  pointwise [k0_pay2, k0_pay1]

theorem next_at (a : FVec Ideal S2048x256 .f32) (b : FVec Ideal S2048x1024 .bf16) (s : FVec Ideal S256x1024 .f32) (j : Fin 256) (k : Fin 1024) :
    k0_pay3 (F := Ideal) a b s (ix2 j k) = s (ix2 j k) + ∑ l : Fin 2048, a (ix2 l j) * b (ix2 l k) := by
  pointwise [k0_pay3, k0_pay1]

theorem last_at (s : FVec Ideal S256x1024 .f32) (y : S256x1024.Idx) : k0_pay4 (F := Ideal) s y = s y := by pointwise [k0_pay4]

variable (m : (ℓ : Loc nD τ sig) → Buf (Elt Ideal) ℓ) (c : Dev nD) (t : Fin cfg0.N) (i : Fin 2048)

abbrev A0 : FVec Ideal S4096x256 .f32 := m ((c.tc : Thread nD τ).loc main_arg0)
abbrev A1 : FVec Ideal S4096x1024 .f32 := m ((c.tc : Thread nD τ).loc main_arg1)

/-- The product. -/
def prod (j : Fin 256) (k : Fin 1024) : EReal := ∑ r : Fin 4096, A0 m c (ix2 r j) * A1 m c (ix2 r k)

theorem idx : ∀ t : Fin cfg0.N, win0_0.index t = ![t.val, 0] ∧ win0_1.index t = ![t.val, 0] ∧ win0_2.index t = ![0, 0] :=
  (by decide +kernel : ∀ t : Fin grid0.N, _)

/-- Row `i` of the point's block is row `2048 t + i` of the array. -/
def row (t : Fin cfg0.N) (i : Fin 2048) : Fin 4096 := ⟨t.val * 2048 + i.val, by have := lt_of_lt_of_eq t.isLt N_0; omega⟩

abbrev b0 : FVec Ideal S2048x256 .f32 := iblk m c 0 t
abbrev b1 : FVec Ideal S2048x1024 .bf16 := iblk m c 1 t

theorem b0_at (k : Fin 256) : b0 m c t (ix2 i k) = A0 m c (ix2 (row t i) k) := by unfold row; blk_point [iblk, idx t]
theorem b1_at (k : Fin 1024) : b1 m c t (ix2 i k) = A1 m c (ix2 (row t i) k) := by unfold row; blk_point [iblk, idx t]

/-- A point's share of the product. -/
def half (t : Fin cfg0.N) (y : S256x1024.Idx) : EReal := ∑ i : Fin 2048, A0 m c (ix2 (row t i) (y 0)) * A1 m c (ix2 (row t i) (y 1))

theorem first_block (y : S256x1024.Idx) : k0_pay2 (F := Ideal) (b0 m c t) (b1 m c t) y = half m c t y := by
  obtain ⟨j, k, rfl⟩ : ∃ (j : Fin 256) (k : Fin 1024), y = ix2 j k := ⟨y 0, y 1, by funext a; fin_cases a <;> rfl⟩
  exact (first_at _ _ j k).trans (Finset.sum_congr rfl fun i _ => congrArg₂ (· * ·) (b0_at m c t i j) (b1_at m c t i k))

theorem next_block (s : FVec Ideal S256x1024 .f32) (y : S256x1024.Idx) : k0_pay3 (F := Ideal) (b0 m c t) (b1 m c t) s y = s y + half m c t y := by
  obtain ⟨j, k, rfl⟩ : ∃ (j : Fin 256) (k : Fin 1024), y = ix2 j k := ⟨y 0, y 1, by funext a; fin_cases a <;> rfl⟩
  exact (next_at _ _ s j k).trans (congrArg₂ (· + ·) rfl (Finset.sum_congr rfl fun i _ => congrArg₂ (· * ·) (b0_at m c t i j) (b1_at m c t i k)))

theorem first_half (h : t.val % 2 = 0) : (outsAt0 m c t.val t.isLt).2 = half m c t := by
  rw [outsAt0_A m c t h (by omega) (by omega)]
  frame_out
  funext y
  exact first_block m c t y

theorem array_prod : (dats m 0 c).arrAt 2 (cfgs 0).N = (fun y : S256x1024.Idx => prod m c (y 0) (y 1)) := by
  refine (dats m 0 c).arrAt_eq_of_covers 2 _ (by decide +kernel) fun t hf y => ?_
  blk_simp
  have h1 : t.val % 2 = 1 := (flush0_2 t).mp hf
  have hN : t.val < 2 := lt_of_lt_of_eq t.isLt N_0
  have hl : t.val - 1 < cfg0.N := Nat.lt_of_le_of_lt (Nat.sub_le _ _) t.isLt
  have hs := first_half m c ⟨t.val - 1, hl⟩ (by show (t.val - 1) % 2 = 0; omega)
  dsimp only at hs
  rw [after0_2, outsAt0_B m c t (by omega) h1 h1, hs]
  frame_out
  refine (last_at _ _).trans ((next_block m c t _ y).trans ?_)
  have e0 : (((win0_2.blk t).view.emb y 0 : Fin 256)) = (y 0 : Fin 256) := Fin.ext (by blk_simp [idx t])
  have e1 : (((win0_2.blk t).view.emb y 1 : Fin 1024)) = (y 1 : Fin 1024) := Fin.ext (by blk_simp [idx t])
  show _ = prod m c ((win0_2.blk t).view.emb y 0) ((win0_2.blk t).view.emb y 1)
  rw [e0, e1]
  refine Eq.trans ?_ (Fin.sum_univ_add (a := 2048) (b := 2048) fun r : Fin 4096 => A0 m c (ix2 r (y 0)) * A1 m c (ix2 r (y 1))).symm
  have hc : half m c ⟨t.val - 1, hl⟩ y = ∑ i : Fin 2048, A0 m c (ix2 (Fin.castAdd 2048 i : Fin 4096) (y 0)) * A1 m c (ix2 (Fin.castAdd 2048 i : Fin 4096) (y 1)) :=
    Finset.sum_congr rfl fun i _ => congrArg (fun r => A0 m c (ix2 r (y 0)) * A1 m c (ix2 r (y 1)))
      (Fin.ext (by show (t.val - 1) * 2048 + i.val = i.val; omega) : row ⟨t.val - 1, hl⟩ i = (Fin.castAdd 2048 i : Fin 4096))
  have hn : half m c t y = ∑ i : Fin 2048, A0 m c (ix2 (Fin.natAdd 2048 i : Fin 4096) (y 0)) * A1 m c (ix2 (Fin.natAdd 2048 i : Fin 4096) (y 1)) :=
    Finset.sum_congr rfl fun i _ => congrArg (fun r => A0 m c (ix2 r (y 0)) * A1 m c (ix2 r (y 1)))
      (Fin.ext (by show t.val * 2048 + i.val = 2048 + i.val; omega) : row t i = (Fin.natAdd 2048 i : Fin 4096))
  exact congrArg₂ (· + ·) ((congrFun ((Memref.isWhole_whole cc0_scratch0).read_unread _) y).trans hc) hn

end Cert.Kernel11Ideal.Hand

/-! # The reference's -/

namespace Cert.Reference11Ideal.Hand

open Cert.Reference11Ideal Cert.Reference11Ideal.Gen Cert.Reference11Ideal.Value
open Idealize.ShloMosaic Idealize.ShloMosaic.TcCoe

/-- The reference's result, over its two arguments. -/
def out (a : FVec Ideal S4096x256 .f32) (b : FVec Ideal S4096x1024 .f32) : FVec Ideal S256x1024 .bf16 :=
  truncf .bf16 (transpose S256x1024 [1, 0] (Host.dotGeneral dot_S4096x1024_S4096x256_S1024x256_0_0_1_1_n_n none b a)
    transposes_S1024x256_S256x1024_1_0) bitsLt_bf16_f32

theorem out_at (a : FVec Ideal S4096x256 .f32) (b : FVec Ideal S4096x1024 .f32) (j : Fin 256) (k : Fin 1024) : out a b (ix2 j k) = ∑ r : Fin 4096, a (ix2 r j) * b (ix2 r k) := by
  pointwise [out]
  exact Finset.sum_congr rfl fun r _ => mul_comm _ _

end Cert.Reference11Ideal.Hand

/-! # The claim -/

namespace Cert.ProductEmbed

open Idealize.ShloMosaic Idealize.ShloMosaic.TcCoe Idealize.SL.Sem

theorem algebraic_embed : Cert.algebraic_Kernel11Ideal_Reference11Ideal (hKernel11Ideal := Cert.Kernel11Ideal.Gen.facts)
    (hReference11Ideal := Cert.Reference11Ideal.Gen.facts) := by
  intro m g m' g' _ hagree
  refine ⟨fun c y => Cert.Kernel11Ideal.Hand.prod m c (y 0) (y 1), ?_, ?_⟩
  · exact (θ_run _ _ _).mono (fun _ h c => ⟨(h c).1.trans (Cert.Kernel11Ideal.Hand.array_prod m c), (h c).2⟩) (Cert.Kernel11Ideal.Value.run_blocks m g)
  · refine (θ_run _ _ _).mono (fun _ h c => ⟨(h c).1.trans ?_, (h c).2⟩) (Cert.Reference11Ideal.Value.run m' g')
    rw [(hagree c).1, (hagree c).2]
    funext y
    obtain ⟨j, k, rfl⟩ : ∃ (j : Fin 256) (k : Fin 1024), y = ix2 j k := ⟨y 0, y 1, by funext a; fin_cases a <;> rfl⟩
    exact Cert.Reference11Ideal.Hand.out_at _ _ j k

end Cert.ProductEmbed

end
-- ==== Proof.ProductForget.lean ====
module

public import proofs.«01_k».proof.Proof.Gen.Kernel12Ideal.Value
public import Idealize.ShloMosaic.Lib.Pipeline.ValueKit
public import Idealize.ShloMosaic.Lib.Claim
public import proofs.«01_k».proof.Proof.Gen.Reference12Ideal.Run
public import proofs.«01_k».proof.Defs

@[expose] public section

set_option maxRecDepth 16384

noncomputable section

/-! # The kernel's product of the transposed left argument, 128 columns wide, and the right, the rows in two halves -/

namespace Cert.Kernel12Ideal.Hand

open Cert.Kernel12Ideal Cert.Kernel12Ideal.Gen Cert.Kernel12Ideal.Value
open Idealize.ShloMosaic Idealize.ShloMosaic.TcCoe Idealize.ShloMosaic.Pipeline

theorem first_at (a : FVec Ideal S2048x128 .bf16) (b : FVec Ideal S2048x1024 .bf16) (j : Fin 128) (k : Fin 1024) : k0_pay2 (F := Ideal) a b (ix2 j k) = ∑ l : Fin 2048, a (ix2 l j) * b (ix2 l k) := by
  pointwise [k0_pay2, k0_pay1]

theorem next_at (a : FVec Ideal S2048x128 .bf16) (b : FVec Ideal S2048x1024 .bf16) (s : FVec Ideal S128x1024 .f32) (j : Fin 128) (k : Fin 1024) :
    k0_pay3 (F := Ideal) a b s (ix2 j k) = s (ix2 j k) + ∑ l : Fin 2048, a (ix2 l j) * b (ix2 l k) := by
  pointwise [k0_pay3, k0_pay1]

variable (m : (ℓ : Loc nD τ sig) → Buf (Elt Ideal) ℓ) (c : Dev nD) (t : Fin cfg0.N) (i : Fin 2048)

abbrev A0 : FVec Ideal S4096x128 .f32 := m ((c.tc : Thread nD τ).loc main_arg0)
abbrev A1 : FVec Ideal S4096x1024 .f32 := m ((c.tc : Thread nD τ).loc main_arg1)

/-- The product. -/
def prod (j : Fin 128) (k : Fin 1024) : EReal := ∑ r : Fin 4096, A0 m c (ix2 r j) * A1 m c (ix2 r k)

theorem idx : ∀ t : Fin cfg0.N, win0_0.index t = ![t.val, 0] ∧ win0_1.index t = ![t.val, 0] ∧ win0_2.index t = ![0, 0] :=
  (by decide +kernel : ∀ t : Fin grid0.N, _)

/-- Row `i` of the point's block is row `2048 t + i` of the array. -/
def row (t : Fin cfg0.N) (i : Fin 2048) : Fin 4096 := ⟨t.val * 2048 + i.val, by have := lt_of_lt_of_eq t.isLt N_0; omega⟩

abbrev b0 : FVec Ideal S2048x128 .bf16 := iblk m c 0 t
abbrev b1 : FVec Ideal S2048x1024 .bf16 := iblk m c 1 t

theorem b0_at (k : Fin 128) : b0 m c t (ix2 i k) = A0 m c (ix2 (row t i) k) := by unfold row; blk_point [iblk, idx t]
theorem b1_at (k : Fin 1024) : b1 m c t (ix2 i k) = A1 m c (ix2 (row t i) k) := by unfold row; blk_point [iblk, idx t]

/-- A point's share of the product. -/
def half (t : Fin cfg0.N) (y : S128x1024.Idx) : EReal := ∑ i : Fin 2048, A0 m c (ix2 (row t i) (y 0)) * A1 m c (ix2 (row t i) (y 1))

theorem first_block (y : S128x1024.Idx) : k0_pay2 (F := Ideal) (b0 m c t) (b1 m c t) y = half m c t y := by
  obtain ⟨j, k, rfl⟩ : ∃ (j : Fin 128) (k : Fin 1024), y = ix2 j k := ⟨y 0, y 1, by funext a; fin_cases a <;> rfl⟩
  exact (first_at _ _ j k).trans (Finset.sum_congr rfl fun i _ => congrArg₂ (· * ·) (b0_at m c t i j) (b1_at m c t i k))

theorem next_block (s : FVec Ideal S128x1024 .f32) (y : S128x1024.Idx) : k0_pay3 (F := Ideal) (b0 m c t) (b1 m c t) s y = s y + half m c t y := by
  obtain ⟨j, k, rfl⟩ : ∃ (j : Fin 128) (k : Fin 1024), y = ix2 j k := ⟨y 0, y 1, by funext a; fin_cases a <;> rfl⟩
  exact (next_at _ _ s j k).trans (congrArg₂ (· + ·) rfl (Finset.sum_congr rfl fun i _ => congrArg₂ (· * ·) (b0_at m c t i j) (b1_at m c t i k)))

theorem first_half (h : t.val % 2 = 0) : (outsAt0 m c t.val t.isLt).2 = half m c t := by
  rw [outsAt0_A m c t h (by omega) (by omega)]
  frame_out
  funext y
  exact first_block m c t y

theorem array_prod : (dats m 0 c).arrAt 2 (cfgs 0).N = (fun y : S128x1024.Idx => prod m c (y 0) (y 1)) := by
  refine (dats m 0 c).arrAt_eq_of_covers 2 _ (by decide +kernel) fun t hf y => ?_
  blk_simp
  have h1 : t.val % 2 = 1 := (flush0_2 t).mp hf
  have hN : t.val < 2 := lt_of_lt_of_eq t.isLt N_0
  have hl : t.val - 1 < cfg0.N := Nat.lt_of_le_of_lt (Nat.sub_le _ _) t.isLt
  have hs := first_half m c ⟨t.val - 1, hl⟩ (by show (t.val - 1) % 2 = 0; omega)
  dsimp only at hs
  rw [after0_2, outsAt0_B m c t (by omega) h1 h1, hs]
  frame_out
  refine (next_block m c t _ y).trans ?_
  have e0 : (((win0_2.blk t).view.emb y 0 : Fin 128)) = (y 0 : Fin 128) := Fin.ext (by blk_simp [idx t])
  have e1 : (((win0_2.blk t).view.emb y 1 : Fin 1024)) = (y 1 : Fin 1024) := Fin.ext (by blk_simp [idx t])
  show _ = prod m c ((win0_2.blk t).view.emb y 0) ((win0_2.blk t).view.emb y 1)
  rw [e0, e1]
  refine Eq.trans ?_ (Fin.sum_univ_add (a := 2048) (b := 2048) fun r : Fin 4096 => A0 m c (ix2 r (y 0)) * A1 m c (ix2 r (y 1))).symm
  have hc : half m c ⟨t.val - 1, hl⟩ y = ∑ i : Fin 2048, A0 m c (ix2 (Fin.castAdd 2048 i : Fin 4096) (y 0)) * A1 m c (ix2 (Fin.castAdd 2048 i : Fin 4096) (y 1)) :=
    Finset.sum_congr rfl fun i _ => congrArg (fun r => A0 m c (ix2 r (y 0)) * A1 m c (ix2 r (y 1)))
      (Fin.ext (by show (t.val - 1) * 2048 + i.val = i.val; omega) : row ⟨t.val - 1, hl⟩ i = (Fin.castAdd 2048 i : Fin 4096))
  have hn : half m c t y = ∑ i : Fin 2048, A0 m c (ix2 (Fin.natAdd 2048 i : Fin 4096) (y 0)) * A1 m c (ix2 (Fin.natAdd 2048 i : Fin 4096) (y 1)) :=
    Finset.sum_congr rfl fun i _ => congrArg (fun r => A0 m c (ix2 r (y 0)) * A1 m c (ix2 r (y 1)))
      (Fin.ext (by show t.val * 2048 + i.val = 2048 + i.val; omega) : row t i = (Fin.natAdd 2048 i : Fin 4096))
  exact congrArg₂ (· + ·) ((congrFun ((Memref.isWhole_whole cc0_scratch0).read_unread _) y).trans hc) hn

end Cert.Kernel12Ideal.Hand

/-! # The reference's -/

namespace Cert.Reference12Ideal.Hand

open Cert.Reference12Ideal Cert.Reference12Ideal.Gen Cert.Reference12Ideal.Value
open Idealize.ShloMosaic Idealize.ShloMosaic.TcCoe

/-- The reference's result, over its two arguments. -/
def out (a : FVec Ideal S4096x128 .f32) (b : FVec Ideal S4096x1024 .f32) : FVec Ideal S128x1024 .f32 :=
  transpose S128x1024 [1, 0] (transpose S1024x128 [1, 0] (Host.dotGeneral dot_S4096x128_S4096x1024_S128x1024_0_0_1_1_n_n none a b)
    transposes_S128x1024_S1024x128_1_0) transposes_S1024x128_S128x1024_1_0

theorem out_at (a : FVec Ideal S4096x128 .f32) (b : FVec Ideal S4096x1024 .f32) (j : Fin 128) (k : Fin 1024) : out a b (ix2 j k) = ∑ r : Fin 4096, a (ix2 r j) * b (ix2 r k) := by
  pointwise [out]

end Cert.Reference12Ideal.Hand

/-! # The claim -/

namespace Cert.ProductForget

open Idealize.ShloMosaic Idealize.ShloMosaic.TcCoe Idealize.SL.Sem

theorem algebraic_forget : Cert.algebraic_Kernel12Ideal_Reference12Ideal (hKernel12Ideal := Cert.Kernel12Ideal.Gen.facts)
    (hReference12Ideal := Cert.Reference12Ideal.Gen.facts) := by
  intro m g m' g' _ hagree
  refine ⟨fun c y => Cert.Kernel12Ideal.Hand.prod m c (y 0) (y 1), ?_, ?_⟩
  · exact (θ_run _ _ _).mono (fun _ h c => ⟨(h c).1.trans (Cert.Kernel12Ideal.Hand.array_prod m c), (h c).2⟩) (Cert.Kernel12Ideal.Value.run_blocks m g)
  · refine (θ_run _ _ _).mono (fun _ h c => ⟨(h c).1.trans ?_, (h c).2⟩) (Cert.Reference12Ideal.Value.run m' g')
    rw [(hagree c).1, (hagree c).2]
    funext y
    obtain ⟨j, k, rfl⟩ : ∃ (j : Fin 128) (k : Fin 1024), y = ix2 j k := ⟨y 0, y 1, by funext a; fin_cases a <;> rfl⟩
    exact Cert.Reference12Ideal.Hand.out_at _ _ j k

end Cert.ProductForget

end
-- ==== Proof.Joined.lean ====
module

public import proofs.«01_k».proof.Proof.Gen.Kernel5Ideal.Value
public import Idealize.ShloMosaic.Lib.Pipeline.ValueKit
public import Idealize.ShloMosaic.Lib.Claim
public import proofs.«01_k».proof.Proof.Gen.Reference5Ideal.Run
public import proofs.«01_k».proof.Defs

@[expose] public section

set_option maxRecDepth 16384

noncomputable section

/-! # The kernel's sum of three products, each with its own rows of the transposed weights -/

namespace Cert.Kernel5Ideal.Hand

open Cert.Kernel5Ideal Cert.Kernel5Ideal.Gen Cert.Kernel5Ideal.Value
open Idealize.ShloMosaic Idealize.ShloMosaic.TcCoe Idealize.ShloMosaic.Pipeline

theorem sum_at (a0 : FVec Ideal S512x1024 .bf16) (w0 : FVec Ideal S1024x1024 .bf16) (a1 : FVec Ideal S512x1024 .bf16) (w1 : FVec Ideal S1024x1024 .bf16)
    (a2 : FVec Ideal S512x1024 .bf16) (w2 : FVec Ideal S1024x1024 .bf16) (i : Fin 512) (k : Fin 1024) : k0_pay1 (F := Ideal) a0 w0 a1 w1 a2 w2 (ix2 i k)
      = (∑ l : Fin 1024, a0 (ix2 i l) * w0 (ix2 l k)) + (∑ l : Fin 1024, a1 (ix2 i l) * w1 (ix2 l k)) + ∑ l : Fin 1024, a2 (ix2 i l) * w2 (ix2 l k) := by
  pointwise [k0_pay1]

variable (m : (ℓ : Loc nD τ sig) → Buf (Elt Ideal) ℓ) (c : Dev nD) (t : Fin cfg0.N) (i : Fin 512)

abbrev AQ : FVec Ideal S4096x1024 .f32 := m ((c.tc : Thread nD τ).loc main_arg0)
abbrev AK : FVec Ideal S4096x1024 .f32 := m ((c.tc : Thread nD τ).loc main_arg1)
abbrev AV : FVec Ideal S4096x1024 .f32 := m ((c.tc : Thread nD τ).loc main_arg2)
abbrev AW : FVec Ideal S1024x6152 .f32 := m ((c.tc : Thread nD τ).loc main_arg3)

/-- The gradient at the projections' shared input. -/
def back (r : Fin 4096) (k : Fin 1024) : EReal :=
  (∑ l : Fin 1024, AQ m c (ix2 r l) * AW m c (ix2 k ⟨l.val, by omega⟩)) + (∑ l : Fin 1024, AK m c (ix2 r l) * AW m c (ix2 k ⟨1024 + l.val, by omega⟩))
    + ∑ l : Fin 1024, AV m c (ix2 r l) * AW m c (ix2 k ⟨2048 + l.val, by omega⟩)

theorem idx : ∀ t : Fin cfg0.N, win0_0.index t = ![t.val, 0] ∧ win0_1.index t = ![t.val, 0] ∧ win0_2.index t = ![t.val, 0] ∧ win0_3.index t = ![0, 0]
    ∧ win0_5.index t = ![t.val, 0] :=
  (by decide +kernel : ∀ t : Fin grid0.N, _)

/-- Row `i` of the point's block is row `512 t + i` of the array. -/
def row (t : Fin cfg0.N) (i : Fin 512) : Fin 4096 := ⟨t.val * 512 + i.val, by have := lt_of_lt_of_eq t.isLt N_0; omega⟩

abbrev bQ : FVec Ideal S512x1024 .bf16 := iblk m c 0 t
abbrev bK : FVec Ideal S512x1024 .bf16 := iblk m c 1 t
abbrev bV : FVec Ideal S512x1024 .bf16 := iblk m c 2 t
abbrev bW : FVec Ideal S3072x1024 .bf16 := X0_3 m c t

theorem bQ_at (k : Fin 1024) : bQ m c t (ix2 i k) = AQ m c (ix2 (row t i) k) := by unfold row; blk_point [iblk, idx t]
theorem bK_at (k : Fin 1024) : bK m c t (ix2 i k) = AK m c (ix2 (row t i) k) := by unfold row; blk_point [iblk, idx t]
theorem bV_at (k : Fin 1024) : bV m c t (ix2 i k) = AV m c (ix2 (row t i) k) := by unfold row; blk_point [iblk, idx t]
theorem bW_at (l : Fin 3072) (k : Fin 1024) : bW m c t (ix2 l k) = AW m c (ix2 k ⟨l.val, by omega⟩) := by
  unfold bW X0_3 Window.fill
  rw [dif_pos (moved0_3 t _)]
  blk_point [iblk, idx t]

/-- The weights' three runs of rows. -/
abbrev ld0 (W : FVec Ideal S3072x1024 .bf16) : FVec Ideal S1024x1024 .bf16 := View.ld (Val := Elt Ideal) (e' := .bf16) W (Rect.unit ![0, 0] ![1024, 1024] inb_S3072x1024_S1024x1024_0_0)

abbrev ld1 (W : FVec Ideal S3072x1024 .bf16) : FVec Ideal S1024x1024 .bf16 := View.ld (Val := Elt Ideal) (e' := .bf16) W (Rect.unit ![1024, 0] ![1024, 1024] inb_S3072x1024_S1024x1024_1024_0)

abbrev ld2 (W : FVec Ideal S3072x1024 .bf16) : FVec Ideal S1024x1024 .bf16 := View.ld (Val := Elt Ideal) (e' := .bf16) W (Rect.unit ![2048, 0] ![1024, 1024] inb_S3072x1024_S1024x1024_2048_0)

theorem ld0_at (W : FVec Ideal S3072x1024 .bf16) (l k : Fin 1024) : ld0 W (ix2 l k) = W (ix2 ⟨l.val, by omega⟩ k) :=
  congrArg W (funext fun a => Fin.ext (by fin_cases a <;> [(show _ + 1 * l.val = _; simp); (show 0 + 1 * k.val = _; simp)]))

theorem ld1_at (W : FVec Ideal S3072x1024 .bf16) (l k : Fin 1024) : ld1 W (ix2 l k) = W (ix2 ⟨1024 + l.val, by omega⟩ k) :=
  congrArg W (funext fun a => Fin.ext (by fin_cases a <;> [(show _ + 1 * l.val = _; simp); (show 0 + 1 * k.val = _; simp)]))

theorem ld2_at (W : FVec Ideal S3072x1024 .bf16) (l k : Fin 1024) : ld2 W (ix2 l k) = W (ix2 ⟨2048 + l.val, by omega⟩ k) :=
  congrArg W (funext fun a => Fin.ext (by fin_cases a <;> [(show _ + 1 * l.val = _; simp); (show 0 + 1 * k.val = _; simp)]))

theorem block_back (y : S512x1024.Idx) :
    k0_pay1 (F := Ideal) (bQ m c t) (ld0 (bW m c t)) (bK m c t) (ld1 (bW m c t)) (bV m c t) (ld2 (bW m c t)) y = back m c (row t (y 0)) (y 1) := by
  obtain ⟨i, k, rfl⟩ : ∃ (i : Fin 512) (k : Fin 1024), y = ix2 i k := ⟨y 0, y 1, by funext a; fin_cases a <;> rfl⟩
  refine (sum_at _ _ _ _ _ _ i k).trans (congrArg₂ (· + ·) (congrArg₂ (· + ·) ?_ ?_) ?_)
  · exact Finset.sum_congr rfl fun l _ => congrArg₂ (· * ·) (bQ_at m c t i l) ((ld0_at (bW m c t) l k).trans (bW_at m c t _ k))
  · exact Finset.sum_congr rfl fun l _ => congrArg₂ (· * ·) (bK_at m c t i l) ((ld1_at (bW m c t) l k).trans (bW_at m c t _ k))
  · exact Finset.sum_congr rfl fun l _ => congrArg₂ (· * ·) (bV_at m c t i l) ((ld2_at (bW m c t) l k).trans (bW_at m c t _ k))

theorem array_back : (dats m 0 c).arrAt 5 (cfgs 0).N = (fun y : S4096x1024.Idx => back m c (y 0) (y 1)) := by
  refine (dats m 0 c).arrAt_eq_of_covers 5 _ (by decide +kernel) fun t hf y => ?_
  blk_simp
  rw [after0_5]
  have hb : outsAt0 m c t y = back m c (row t (y 0)) (y 1) := by
    unfold outsAt0; frame_out
    exact block_back m c t y
  refine hb.trans (congrArg₂ (back m c) (Fin.ext ?_) (Fin.ext ?_))
  · unfold row
    blk_simp [idx t]
  · blk_simp [idx t]

end Cert.Kernel5Ideal.Hand

/-! # The reference's -/

namespace Cert.Reference5Ideal.Hand

open Cert.Reference5Ideal Cert.Reference5Ideal.Gen Cert.Reference5Ideal.Value
open Idealize.ShloMosaic Idealize.ShloMosaic.TcCoe

/-- The reference's result, over its arguments. -/
def out (q k v : FVec Ideal S4096x1024 .f32) (w : FVec Ideal S1024x6152 .f32) : FVec Ideal S4096x1024 .f32 :=
  addf (addf (Host.dotGeneral dot_S4096x1024_S1024x1024_S4096x1024_1_1_0_0_n_n none v (extractStridedSlice S1024x1024 ![0, 2048] w slices_S1024x6152_S1024x1024_0_2048))
    (Host.dotGeneral dot_S4096x1024_S1024x1024_S4096x1024_1_1_0_0_n_n none k (extractStridedSlice S1024x1024 ![0, 1024] w slices_S1024x6152_S1024x1024_0_1024)))
    (Host.dotGeneral dot_S4096x1024_S1024x1024_S4096x1024_1_1_0_0_n_n none q (extractStridedSlice S1024x1024 ![0, 0] w slices_S1024x6152_S1024x1024_0_0))

theorem out_at (q k v : FVec Ideal S4096x1024 .f32) (w : FVec Ideal S1024x6152 .f32) (r : Fin 4096) (e : Fin 1024) : out q k v w (ix2 r e)
    = (∑ l : Fin 1024, v (ix2 r l) * w (ix2 e ⟨2048 + l.val, by omega⟩)) + (∑ l : Fin 1024, k (ix2 r l) * w (ix2 e ⟨1024 + l.val, by omega⟩))
      + ∑ l : Fin 1024, q (ix2 r l) * w (ix2 e ⟨l.val, by omega⟩) := by
  pointwise [out]

end Cert.Reference5Ideal.Hand

/-! # The claim -/

namespace Cert.Joined

open Idealize.ShloMosaic Idealize.ShloMosaic.TcCoe Idealize.SL.Sem

theorem algebraic_back : Cert.algebraic_Kernel5Ideal_Reference5Ideal (hKernel5Ideal := Cert.Kernel5Ideal.Gen.facts)
    (hReference5Ideal := Cert.Reference5Ideal.Gen.facts) := by
  intro m g m' g' _ hagree
  refine ⟨fun c y => Cert.Kernel5Ideal.Hand.back m c (y 0) (y 1), ?_, ?_⟩
  · exact (θ_run _ _ _).mono (fun _ h c => ⟨(h c).1.trans (Cert.Kernel5Ideal.Hand.array_back m c), (h c).2⟩) (Cert.Kernel5Ideal.Value.run_blocks m g)
  · refine (θ_run _ _ _).mono (fun _ h c => ⟨(h c).1.trans ?_, (h c).2⟩) (Cert.Reference5Ideal.Value.run m' g')
    rw [(hagree c).1, (hagree c).2.1, (hagree c).2.2.1, (hagree c).2.2.2]
    funext y
    obtain ⟨r, e, rfl⟩ : ∃ (r : Fin 4096) (e : Fin 1024), y = ix2 r e := ⟨y 0, y 1, by funext a; fin_cases a <;> rfl⟩
    refine (Cert.Reference5Ideal.Hand.out_at _ _ _ _ r e).trans ?_
    show _ = Cert.Kernel5Ideal.Hand.back m c r e
    unfold Cert.Kernel5Ideal.Hand.back
    exact (add_comm _ _).trans ((congrArg₂ (· + ·) rfl (add_comm _ _)).trans (add_assoc _ _ _).symm)

end Cert.Joined

end
-- ==== Proof.lean ====
/-
  The proof of `Cert.Claim`. The frames of the two kernel programs are read off the runs of `Proof/Ends.lean` and
  `Proof/Bits/Ends.lean`; the reference runs on the host alone. The equality of the two programs' results is
  `Proof/Meet.lean`'s.
-/
module

public import proofs.«01_k».proof.Defs
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Prenorm
public import proofs.«01_k».proof.Proof.Rest
public import proofs.«01_k».proof.Proof.Residual
public import proofs.«01_k».proof.Proof.Gated
public import proofs.«01_k».proof.Proof.Head
public import proofs.«01_k».proof.Proof.Ends
public import proofs.«01_k».proof.Proof.Bits.Ends
public import proofs.«01_k».proof.Proof.Meet
public import proofs.«01_k».proof.Proof.Twin
public import proofs.«01_k».proof.Proof.NormMeet
public import proofs.«01_k».proof.Proof.Product
public import proofs.«01_k».proof.Proof.ProductOut
public import proofs.«01_k».proof.Proof.ProductEmbed
public import proofs.«01_k».proof.Proof.ProductForget
public import proofs.«01_k».proof.Proof.Joined
public import Idealize.ShloMosaic.Lib.Claim
public import Idealize.ShloMosaic.Adequacy
public import Idealize.ShloMosaic.Init

@[expose] public section

namespace Cert.Proof

open Idealize.ShloMosaic Idealize.ShloMosaic.TcCoe Idealize.SL.Sem

theorem frame_P : Cert.quiescent_Kernel (hKernel := Cert.Kernel.Gen.facts) := fun m g _ =>
  (θ_run _ _ _).mono (fun _ h => ⟨fun c => (h.1 c).2.2.2.2, h.2⟩) (Cert.Kernel.Hand.run_main m g)

theorem frame_PI : Cert.quiescent_KernelIdeal (hKernelIdeal := Cert.KernelIdeal.Gen.facts) := fun m g _ =>
  (θ_run _ _ _).mono (fun _ h => ⟨fun c => (h.1 c).2.2.2.2, h.2⟩) (Cert.KernelIdeal.Hand.run_main m g)

theorem frame_R : Cert.quiescent_ReferenceIdeal (hReferenceIdeal := Cert.ReferenceIdeal.Gen.facts) := fun m g _ =>
  (θ_run _ _ _).mono (fun r h => ⟨fun c => (h c).2.2.2.2, sem_eq_zero_of_no_sems (by decide) r.2⟩)
    (Cert.ReferenceIdeal.Value.run (F := Ideal) m g)

theorem preserves_P : Cert.preserves_Kernel_KernelIdeal :=
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

theorem algebraic_PI_RI : Cert.algebraic_KernelIdeal_ReferenceIdeal_pre_finite (hKernelIdeal := Cert.KernelIdeal.Gen.facts)
    (hReferenceIdeal := Cert.ReferenceIdeal.Gen.facts) (hPre_finite := Cert.Pre_finite.Hand.facts) := by
  intro m g m' g' hpre hagree
  have hboth : ∀ c : Dev Cert.KernelIdeal.nD, ∃ q k v g cc, Cert.KernelIdeal.Hand.Reals m c q k v g cc ∧ Cert.ReferenceIdeal.Hand.Reals m' c q k v g cc := fun c =>
    Cert.Attention.shared (hp := Cert.Pre_finite.Hand.facts) hpre
      ((Cert.ReferenceIdeal.Hand.arg0 m' c).trans ((hagree c).1.trans (Cert.KernelIdeal.Gen.V_main_arg0 m c).symm))
      ((Cert.ReferenceIdeal.Hand.arg1 m' c).trans ((hagree c).2.1.trans (Cert.KernelIdeal.Gen.V_main_arg1 m c).symm))
      ((Cert.ReferenceIdeal.Hand.arg2 m' c).trans ((hagree c).2.2.1.trans (Cert.KernelIdeal.Gen.V_main_arg2 m c).symm))
      ((Cert.ReferenceIdeal.Hand.arg3 m' c).trans ((hagree c).2.2.2.1.trans (Cert.KernelIdeal.Gen.V_main_arg3 m c).symm))
      ((Cert.ReferenceIdeal.Hand.arg4 m' c).trans ((hagree c).2.2.2.2.trans (Cert.KernelIdeal.Gen.V_main_arg4 m c).symm))
  refine ⟨fun c => Cert.KernelIdeal.Hand.arrDQ m c, fun c => Cert.KernelIdeal.Hand.arrDK m c, fun c => Cert.KernelIdeal.Hand.arrDV m c,
    fun c => Cert.KernelIdeal.Hand.arrDC m c, ?_, ?_⟩
  · exact (θ_run _ _ _).mono (fun _ h c => ⟨(h.1 c).1.trans (Cert.KernelIdeal.Hand.array_dq m c), (h.1 c).2.1.trans (Cert.KernelIdeal.Hand.array_dk m c),
      (h.1 c).2.2.1.trans (Cert.KernelIdeal.Hand.array_dv m c), (h.1 c).2.2.2.1.trans (Cert.KernelIdeal.Hand.array_dc m c), (h.1 c).2.2.2.2⟩)
      (Cert.KernelIdeal.Hand.run_main m g)
  · refine (θ_run _ _ _).mono (fun _ h c => ?_) (Cert.ReferenceIdeal.Hand.run_ref m' g')
    obtain ⟨q, k, v, d, cc, A, B⟩ := hboth c
    exact ⟨(h c).1.trans (Cert.Attention.meet_dq A B).symm, (h c).2.1.trans (Cert.Attention.meet_dk A B).symm,
      (h c).2.2.1.trans (Cert.Attention.meet_dv A B).symm, (h c).2.2.2.1.trans (Cert.Attention.meet_dc A B).symm, (h c).2.2.2.2⟩

/-! ## The gradient through the normalisation -/

theorem frame_P2 : Cert.quiescent_Kernel2 (hKernel2 := Cert.Kernel2.Gen.facts) := by
  intro m g _
  have h := Cert.Kernel2Ideal.Gen.frame (F := Bits) m g
  rw [← Cert.Twin.defs2] at h
  exact h

theorem frame_PI2 : Cert.quiescent_Kernel2Ideal (hKernel2Ideal := Cert.Kernel2Ideal.Gen.facts) := fun m g _ =>
  Cert.Kernel2Ideal.Gen.frame (F := Ideal) m g

theorem frame_R2 : Cert.quiescent_Reference2Ideal (hReference2Ideal := Cert.Reference2Ideal.Gen.facts) := fun m g _ =>
  (θ_run _ _ _).mono (fun r h => ⟨fun c => (h c).2.2, sem_eq_zero_of_no_sems (by decide) r.2⟩)
    (Cert.Reference2Ideal.Value.run (F := Ideal) m g)

/-! ## The product over the rows -/

theorem frame_P3 : Cert.quiescent_Kernel3 (hKernel3 := Cert.Kernel3.Gen.facts) := by
  intro m g _
  have h := Cert.Kernel3Ideal.Gen.frame (F := Bits) m g
  rw [← Cert.Twin.defs3] at h
  exact h

theorem frame_PI3 : Cert.quiescent_Kernel3Ideal (hKernel3Ideal := Cert.Kernel3Ideal.Gen.facts) := fun m g _ =>
  Cert.Kernel3Ideal.Gen.frame (F := Ideal) m g

theorem frame_R3 : Cert.quiescent_Reference3Ideal (hReference3Ideal := Cert.Reference3Ideal.Gen.facts) := fun m g _ =>
  (θ_run _ _ _).mono (fun r h => ⟨fun c => (h c).2, sem_eq_zero_of_no_sems (by decide) r.2⟩)
    (Cert.Reference3Ideal.Value.run (F := Ideal) m g)

/-! ## The same product, the left array twice as wide -/

theorem frame_P4 : Cert.quiescent_Kernel4 (hKernel4 := Cert.Kernel4.Gen.facts) := by
  intro m g _
  have h := Cert.Kernel4Ideal.Gen.frame (F := Bits) m g
  rw [← Cert.Twin.defs4] at h
  exact h

theorem frame_PI4 : Cert.quiescent_Kernel4Ideal (hKernel4Ideal := Cert.Kernel4Ideal.Gen.facts) := fun m g _ =>
  Cert.Kernel4Ideal.Gen.frame (F := Ideal) m g

theorem frame_R4 : Cert.quiescent_Reference4Ideal (hReference4Ideal := Cert.Reference4Ideal.Gen.facts) := fun m g _ =>
  (θ_run _ _ _).mono (fun r h => ⟨fun c => (h c).2, sem_eq_zero_of_no_sems (by decide) r.2⟩)
    (Cert.Reference4Ideal.Value.run (F := Ideal) m g)

/-! ## The sum of three products -/

theorem frame_P5 : Cert.quiescent_Kernel5 (hKernel5 := Cert.Kernel5.Gen.facts) := by
  intro m g _
  have h := Cert.Kernel5Ideal.Gen.frame (F := Bits) m g
  rw [← Cert.Twin.defs5] at h
  exact h

theorem frame_PI5 : Cert.quiescent_Kernel5Ideal (hKernel5Ideal := Cert.Kernel5Ideal.Gen.facts) := fun m g _ =>
  Cert.Kernel5Ideal.Gen.frame (F := Ideal) m g

theorem frame_R5 : Cert.quiescent_Reference5Ideal (hReference5Ideal := Cert.Reference5Ideal.Gen.facts) := fun m g _ =>
  (θ_run _ _ _).mono (fun r h => ⟨fun c => (h c).2, sem_eq_zero_of_no_sems (by decide) r.2⟩)
    (Cert.Reference5Ideal.Value.run (F := Ideal) m g)

theorem frame_P6 : Cert.quiescent_Kernel6 (hKernel6 := Cert.Kernel6.Gen.facts) := by
  intro m g _
  have h := Cert.Kernel6Ideal.Gen.frame (F := Bits) m g
  rw [← Cert.Twin.defs6] at h
  exact h

theorem frame_PI6 : Cert.quiescent_Kernel6Ideal (hKernel6Ideal := Cert.Kernel6Ideal.Gen.facts) := fun m g _ =>
  Cert.Kernel6Ideal.Gen.frame (F := Ideal) m g

theorem frame_R6 : Cert.quiescent_Reference6Ideal (hReference6Ideal := Cert.Reference6Ideal.Gen.facts) := fun m g _ =>
  (θ_run _ _ _).mono (fun r h => ⟨fun c => (h c).2.2, sem_eq_zero_of_no_sems (by decide) r.2⟩)
    (Cert.Reference6Ideal.Value.run (F := Ideal) m g)

theorem frame_P7 : Cert.quiescent_Kernel7 (hKernel7 := Cert.Kernel7.Gen.facts) := by
  intro m g _
  have h := Cert.Kernel7Ideal.Gen.frame (F := Bits) m g
  rw [← Cert.Twin.defs7] at h
  exact h

theorem frame_PI7 : Cert.quiescent_Kernel7Ideal (hKernel7Ideal := Cert.Kernel7Ideal.Gen.facts) := fun m g _ =>
  Cert.Kernel7Ideal.Gen.frame (F := Ideal) m g

theorem frame_R7 : Cert.quiescent_Reference7Ideal (hReference7Ideal := Cert.Reference7Ideal.Gen.facts) := fun m g _ =>
  (θ_run _ _ _).mono (fun r h => ⟨fun c => (h c).2.2.2.2.2.2, sem_eq_zero_of_no_sems (by decide) r.2⟩)
    (Cert.Reference7Ideal.Value.run (F := Ideal) m g)

theorem frame_P8 : Cert.quiescent_Kernel8 (hKernel8 := Cert.Kernel8.Gen.facts) := by
  intro m g _
  have h := Cert.Kernel8Ideal.Gen.frame (F := Bits) m g
  rw [← Cert.Twin.defs8] at h
  exact h

theorem frame_PI8 : Cert.quiescent_Kernel8Ideal (hKernel8Ideal := Cert.Kernel8Ideal.Gen.facts) := fun m g _ =>
  Cert.Kernel8Ideal.Gen.frame (F := Ideal) m g

theorem frame_R8 : Cert.quiescent_Reference8Ideal (hReference8Ideal := Cert.Reference8Ideal.Gen.facts) := fun m g _ =>
  (θ_run _ _ _).mono (fun r h => ⟨fun c => (h c).2, sem_eq_zero_of_no_sems (by decide) r.2⟩)
    (Cert.Reference8Ideal.Value.run (F := Ideal) m g)

theorem frame_P9 : Cert.quiescent_Kernel9 (hKernel9 := Cert.Kernel9.Gen.facts) := by
  intro m g _
  have h := Cert.Kernel9Ideal.Gen.frame (F := Bits) m g
  rw [← Cert.Twin.defs9] at h
  exact h

theorem frame_PI9 : Cert.quiescent_Kernel9Ideal (hKernel9Ideal := Cert.Kernel9Ideal.Gen.facts) := fun m g _ =>
  Cert.Kernel9Ideal.Gen.frame (F := Ideal) m g

theorem frame_R9 : Cert.quiescent_Reference9Ideal (hReference9Ideal := Cert.Reference9Ideal.Gen.facts) := fun m g _ =>
  (θ_run _ _ _).mono (fun r h => ⟨fun c => (h c).2.2.2.2, sem_eq_zero_of_no_sems (by decide) r.2⟩)
    (Cert.Reference9Ideal.Value.run (F := Ideal) m g)

theorem frame_P10 : Cert.quiescent_Kernel10 (hKernel10 := Cert.Kernel10.Gen.facts) := by
  intro m g _
  have h := Cert.Kernel10Ideal.Gen.frame (F := Bits) m g
  rw [← Cert.Twin.defs10] at h
  exact h

theorem frame_PI10 : Cert.quiescent_Kernel10Ideal (hKernel10Ideal := Cert.Kernel10Ideal.Gen.facts) := fun m g _ =>
  Cert.Kernel10Ideal.Gen.frame (F := Ideal) m g

theorem frame_R10 : Cert.quiescent_Reference10Ideal (hReference10Ideal := Cert.Reference10Ideal.Gen.facts) := fun m g _ =>
  (θ_run _ _ _).mono (fun r h => ⟨fun c => (h c).2.2.2.2.2.2.2.2, sem_eq_zero_of_no_sems (by decide) r.2⟩)
    (Cert.Reference10Ideal.Value.run (F := Ideal) m g)

theorem frame_P11 : Cert.quiescent_Kernel11 (hKernel11 := Cert.Kernel11.Gen.facts) := by
  intro m g _
  have h := Cert.Kernel11Ideal.Gen.frame (F := Bits) m g
  rw [← Cert.Twin.defs11] at h
  exact h

theorem frame_PI11 : Cert.quiescent_Kernel11Ideal (hKernel11Ideal := Cert.Kernel11Ideal.Gen.facts) := fun m g _ =>
  Cert.Kernel11Ideal.Gen.frame (F := Ideal) m g

theorem frame_R11 : Cert.quiescent_Reference11Ideal (hReference11Ideal := Cert.Reference11Ideal.Gen.facts) := fun m g _ =>
  (θ_run _ _ _).mono (fun r h => ⟨fun c => (h c).2, sem_eq_zero_of_no_sems (by decide) r.2⟩)
    (Cert.Reference11Ideal.Value.run (F := Ideal) m g)

theorem frame_P12 : Cert.quiescent_Kernel12 (hKernel12 := Cert.Kernel12.Gen.facts) := by
  intro m g _
  have h := Cert.Kernel12Ideal.Gen.frame (F := Bits) m g
  rw [← Cert.Twin.defs12] at h
  exact h

theorem frame_PI12 : Cert.quiescent_Kernel12Ideal (hKernel12Ideal := Cert.Kernel12Ideal.Gen.facts) := fun m g _ =>
  Cert.Kernel12Ideal.Gen.frame (F := Ideal) m g

theorem frame_R12 : Cert.quiescent_Reference12Ideal (hReference12Ideal := Cert.Reference12Ideal.Gen.facts) := fun m g _ =>
  (θ_run _ _ _).mono (fun r h => ⟨fun c => (h c).2, sem_eq_zero_of_no_sems (by decide) r.2⟩)
    (Cert.Reference12Ideal.Value.run (F := Ideal) m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Pre_finite.Hand.facts, Cert.Pre_finite2.Hand.facts, Cert.Pre_finite7.Hand.facts, Cert.Pre_finite10.Hand.facts,
    frame_P, frame_PI, fun m g _ => frame_PI m g trivial, frame_R, fun m g _ => frame_R m g trivial,
    frame_P2, frame_PI2, fun m g _ => frame_PI2 m g trivial, frame_R2, fun m g _ => frame_R2 m g trivial,
    frame_P3, frame_PI3, frame_R3, frame_P4, frame_PI4, frame_R4, frame_P5, frame_PI5, frame_R5,
    frame_P6, frame_PI6, frame_R6, frame_P7, frame_PI7, fun m g _ => frame_PI7 m g trivial, frame_R7, fun m g _ => frame_R7 m g trivial,
    frame_P8, frame_PI8, frame_R8, frame_P9, frame_PI9, frame_R9,
    frame_P10, frame_PI10, fun m g _ => frame_PI10 m g trivial, frame_R10, fun m g _ => frame_R10 m g trivial,
    frame_P11, frame_PI11, frame_R11, frame_P12, frame_PI12, frame_R12,
    preserves_P, algebraic_PI_RI, trivial, Cert.Norm.algebraic_norm, trivial, Cert.Product.algebraic_prod,
    trivial, Cert.ProductOut.algebraic_out, trivial, Cert.Joined.algebraic_back,
    trivial, Cert.Prenorm.algebraic_prenorm, trivial, Cert.Gated.algebraic_gated,
    trivial, Cert.Rest.algebraic_rest, trivial, Cert.Residual.algebraic_residual,
    trivial, Cert.Head.algebraic_head,
    trivial, Cert.ProductEmbed.algebraic_embed, trivial, Cert.ProductForget.algebraic_forget⟩

end Cert.Proof

end
